-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite3 [hPre_all_finite3 : Cert.Pre_all_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite3 [hPre_all_finite3 : Cert.Pre_all_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_all_finite3 [hKernel3Ideal : Cert.Kernel3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_all_finite3 [hReference3Ideal : Cert.Reference3Ideal.Facts] [hPre_all_finite3 : Cert.Pre_all_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)) (v3 : (c : Dev Cert.KernelIdeal.nD) → Buf (Elt Ideal) ((c.tc : Thread Cert.KernelIdeal.nD Cert.KernelIdeal.τ).loc Cert.KernelIdeal.main_v68_3)) (v4 : (c : Dev Cert.KernelIdeal.nD) → Buf (Elt Ideal) ((c.tc : Thread Cert.KernelIdeal.nD Cert.KernelIdeal.τ).loc Cert.KernelIdeal.main_v68_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_v68_3) = v3 c
          ∧ r.2.mem ((c.tc : Thread Cert.KernelIdeal.nD Cert.KernelIdeal.τ).loc Cert.KernelIdeal.main_v68_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)) (v4 : (c : Dev Cert.Kernel2Ideal.nD) → Buf (Elt Ideal) ((c.tc : Thread Cert.Kernel2Ideal.nD Cert.Kernel2Ideal.τ).loc Cert.Kernel2Ideal.main_v1_4)) (v5 : (c : Dev Cert.Kernel2Ideal.nD) → Buf (Elt Ideal) ((c.tc : Thread Cert.Kernel2Ideal.nD Cert.Kernel2Ideal.τ).loc Cert.Kernel2Ideal.main_v1_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_v1_4) = v4 c
          ∧ r.2.mem ((c.tc : Thread Cert.Kernel2Ideal.nD Cert.Kernel2Ideal.τ).loc Cert.Kernel2Ideal.main_v1_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v135) = v0 c
          ∧ r.2.mem ((c.tc : Thread Cert.Reference2Ideal.nD Cert.Reference2Ideal.τ).loc Cert.Reference2Ideal.main_v136) = v1 c
          ∧ r.2.mem ((c.tc : Thread Cert.Reference2Ideal.nD Cert.Reference2Ideal.τ).loc Cert.Reference2Ideal.main_v128) = v2 c
          ∧ r.2.mem ((c.tc : Thread Cert.Reference2Ideal.nD Cert.Reference2Ideal.τ).loc Cert.Reference2Ideal.main_v91) = v3 c
          ∧ r.2.mem ((c.tc : Thread Cert.Reference2Ideal.nD Cert.Reference2Ideal.τ).loc Cert.Reference2Ideal.main_v101) = v4 c
          ∧ r.2.mem ((c.tc : Thread Cert.Reference2Ideal.nD Cert.Reference2Ideal.τ).loc Cert.Reference2Ideal.main_v64) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_all_finite3 [hKernel3Ideal : Cert.Kernel3Ideal.Facts] [hReference3Ideal : Cert.Reference3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_all_finite : Cert.Pre_all_finite.Facts) (hPre_all_finite2 : Cert.Pre_all_finite2.Facts) (hPre_all_finite3 : Cert.Pre_all_finite3.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel3 (hKernel3 := hKernel3)
    ∧ quiescent_Kernel3Ideal (hKernel3Ideal := hKernel3Ideal)
    ∧ quiescent_Kernel3Ideal_pre_all_finite3 (hKernel3Ideal := hKernel3Ideal) (hPre_all_finite3 := hPre_all_finite3)
    ∧ quiescent_Reference3Ideal (hReference3Ideal := hReference3Ideal)
    ∧ quiescent_Reference3Ideal_pre_all_finite3 (hReference3Ideal := hReference3Ideal) (hPre_all_finite3 := hPre_all_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel3_Kernel3Ideal
    ∧ algebraic_Kernel3Ideal_Reference3Ideal_pre_all_finite3 (hKernel3Ideal := hKernel3Ideal) (hReference3Ideal := hReference3Ideal) (hPre_all_finite3 := hPre_all_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_all_finite.lean ====
abbrev S8192x1024 : Shape := ⟨2, ![8192, 1024]⟩
abbrev S2x16x4096 : Shape := ⟨3, ![2, 16, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x16x4096 : S_.BroadcastsInDim S2x16x4096 (![] : Fin 0 → Fin S2x16x4096.rank)
  reducesTo_S2x16x4096_S_d0_1_2 : S2x16x4096.ReducesTo [0, 1, 2] S_

variable [Facts]

def fn_part1 {F : FTy → Type} [FloatOps F] (main_arg4 : FVec F S8192x1024 .f32) (main_v13 : IVec S_ 1) (main_v16 : IVec S2x16x4096 1) : IVec S_ 1 :=
  let main_c_5 : IVec S_ 1 := constantI S_ 1 1#1
  let main_v17 : IVec S_ 1 := (fun x v => Host.reduce IntOp.andi x v reducesTo_S2x16x4096_S_d0_1_2 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S2x16x4096 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2x16x4096 .f32 := Host.absf main_arg3
  let main_cst_4 : FVec F S_ .f32 := constant S_ .f32 0x7F800000#32
  let main_v15 : FVec F S2x16x4096 .f32 := broadcastInDim S2x16x4096 ![] bcast_S_S2x16x4096 main_cst_4
  let main_v16 : IVec S2x16x4096 1 := cmpf .olt main_v14 main_v15
  fn_part1 (F := F) main_arg4 main_v13 main_v16
-- ==== Pre_all_finite2.lean ====
abbrev S8192x2816 : Shape := ⟨2, ![8192, 2816]⟩
abbrev S8192x1024 : Shape := ⟨2, ![8192, 1024]⟩
abbrev S2816x1024 : Shape := ⟨2, ![2816, 1024]⟩
abbrev S3x2816 : Shape := ⟨2, ![3, 2816]⟩
abbrev S1x2816 : Shape := ⟨2, ![1, 2816]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_

variable [Facts]

def fn_part2 {F : FTy → Type} [FloatOps F] (main_arg7 : FVec F S1x2816 .f32) (main_v33 : IVec S_ 1) : IVec S_ 1 :=
  let main_v34 : FVec F S1x2816 .f32 := Host.absf main_arg7
  let main_cst_12 : FVec F S_ .f32 := constant S_ .f32 0x7F800000#32
  let main_v35 : FVec F S1x2816 .f32 := broadcastInDim S1x2816 ![] bcast_S_S1x2816 main_cst_12
  let main_v36 : IVec S1x2816 1 := cmpf .olt main_v34 main_v35
  let main_c_13 : IVec S_ 1 := constantI S_ 1 1#1
  let main_v37 : IVec S_ 1 := (fun x v => Host.reduce IntOp.andi x v reducesTo_S1x2816_S_d0_1 h_S_) main_v36 main_c_13
  let main_v38 : IVec S_ 1 := andi main_v33 main_v37
  main_v38

def fn_part1 {F : FTy → Type} [FloatOps F] (main_arg4 : FVec F S3x2816 .f32) (main_arg5 : FVec F S3x2816 .f32) (main_arg6 : FVec F S1x2816 .f32) (main_arg7 : FVec F S1x2816 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S3x2816 .f32 := Host.absf main_arg4
  let main_cst_6 : FVec F S_ .f32 := constant S_ .f32 0x7F800000#32
  let main_v20 : FVec F S3x2816 .f32 := broadcastInDim S3x2816 ![] bcast_S_S3x2816 main_cst_6
  let main_v21 : IVec S3x2816 1 := cmpf .olt main_v19 main_v20
  let main_c_7 : IVec S_ 1 := constantI S_ 1 1#1
  let main_v22 : IVec S_ 1 := (fun x v => Host.reduce IntOp.andi x v reducesTo_S3x2816_S_d0_1 h_S_) main_v21 main_c_7
  let main_v23 : IVec S_ 1 := andi main_v18 main_v22
  let main_v24 : FVec F S3x2816 .f32 := Host.absf main_arg5
  let main_cst_8 : FVec F S_ .f32 := constant S_ .f32 0x7F800000#32
  let main_v25 : FVec F S3x2816 .f32 := broadcastInDim S3x2816 ![] bcast_S_S3x2816 main_cst_8
  let main_v26 : IVec S3x2816 1 := cmpf .olt main_v24 main_v25
  let main_c_9 : IVec S_ 1 := constantI S_ 1 1#1
  let main_v27 : IVec S_ 1 := (fun x v => Host.reduce IntOp.andi x v reducesTo_S3x2816_S_d0_1 h_S_) main_v26 main_c_9
  let main_v28 : IVec S_ 1 := andi main_v23 main_v27
  let main_v29 : FVec F S1x2816 .f32 := Host.absf main_arg6
  let main_cst_10 : FVec F S_ .f32 := constant S_ .f32 0x7F800000#32
  let main_v30 : FVec F S1x2816 .f32 := broadcastInDim S1x2816 ![] bcast_S_S1x2816 main_cst_10
  let main_v31 : IVec S1x2816 1 := cmpf .olt main_v29 main_v30
  let main_c_11 : IVec S_ 1 := constantI S_ 1 1#1
  let main_v32 : IVec S_ 1 := (fun x v => Host.reduce IntOp.andi x v reducesTo_S1x2816_S_d0_1 h_S_) main_v31 main_c_11
  let main_v33 : IVec S_ 1 := andi main_v28 main_v32
  fn_part2 (F := F) main_arg7 main_v33

def fn {F : FTy → Type} [FloatOps F] (main_arg0 : FVec F S8192x2816 .f32) (main_arg1 : FVec F S8192x2816 .f32) (main_arg2 : FVec F S8192x1024 .f32) (main_arg3 : FVec F S2816x1024 .f32) (main_arg4 : FVec F S3x2816 .f32) (main_arg5 : FVec F S3x2816 .f32) (main_arg6 : FVec F S1x2816 .f32) (main_arg7 : FVec F S1x2816 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_arg6 main_arg7 main_v13 main_v16
-- ==== Pre_all_finite3.lean ====
abbrev S8192x2816 : Shape := ⟨2, ![8192, 2816]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1x2816 .f32) (main_arg5 : FVec F S1x2816 .f32) (main_arg6 : FVec F S2816x1024 .f32) (main_arg7 : FVec F S8192x1024 .f32) (main_v13 : IVec S_ 1) (main_v16 : IVec S3x2816 1) : IVec S_ 1 :=
  let main_c_5 : IVec S_ 1 := constantI S_ 1 1#1
  let main_v17 : IVec S_ 1 := (fun x v => Host.reduce IntOp.andi x v reducesTo_S3x2816_S_d0_1 h_S_) main_v16 main_c_5
  let main_v18 : IVec S_ 1 := andi main_v13 main_v17
  let main_v19 : FVec F S1x2816 .f32 := Host.absf main_arg4
  let main_cst_6 : FVec F S_ .f32 := constant S_ .f32 0x7F800000#32
  let main_v20 : FVec F S1x2816 .f32 := broadcastInDim S1x2816 ![] bcast_S_S1x2816 main_cst_6
  let main_v21 : IVec S1x2816 1 := cmpf .olt main_v19 main_v20
  let main_c_7 : IVec S_ 1 := constantI S_ 1 1#1
  let main_v22 : IVec S_ 1 := (fun x v => Host.reduce IntOp.andi x v reducesTo_S1x2816_S_d0_1 h_S_) main_v21 main_c_7
  let main_v23 : IVec S_ 1 := andi main_v18 main_v22
  let main_v24 : FVec F S1x2816 .f32 := Host.absf main_arg5
  let main_cst_8 : FVec F S_ .f32 := constant S_ .f32 0x7F800000#32
  let main_v25 : FVec F S1x2816 .f32 := broadcastInDim S1x2816 ![] bcast_S_S1x2816 main_cst_8
  let main_v26 : IVec S1x2816 1 := cmpf .olt main_v24 main_v25
  let main_c_9 : IVec S_ 1 := constantI S_ 1 1#1
  let main_v27 : IVec S_ 1 := (fun x v => Host.reduce IntOp.andi x v reducesTo_S1x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_v33

def fn {F : FTy → Type} [FloatOps F] (main_arg0 : FVec F S8192x2816 .f32) (main_arg1 : FVec F S8192x2816 .f32) (main_arg2 : FVec F S3x2816 .f32) (main_arg3 : FVec F S3x2816 .f32) (main_arg4 : FVec F S1x2816 .f32) (main_arg5 : FVec F S1x2816 .f32) (main_arg6 : FVec F S2816x1024 .f32) (main_arg7 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S3x2816 .f32 := Host.absf main_arg2
  let main_cst_2 : FVec F S_ .f32 := constant S_ .f32 0x7F800000#32
  let main_v10 : FVec F S3x2816 .f32 := broadcastInDim S3x2816 ![] bcast_S_S3x2816 main_cst_2
  let main_v11 : IVec S3x2816 1 := cmpf .olt main_v9 main_v10
  let main_c_3 : IVec S_ 1 := constantI S_ 1 1#1
  let main_v12 : IVec S_ 1 := (fun x v => Host.reduce IntOp.andi x v reducesTo_S3x2816_S_d0_1 h_S_) main_v11 main_c_3
  let main_v13 : IVec S_ 1 := andi main_v8 main_v12
  let main_v14 : FVec F S3x2816 .f32 := Host.absf main_arg3
  let main_cst_4 : FVec F S_ .f32 := constant S_ .f32 0x7F800000#32
  let main_v15 : FVec F S3x2816 .f32 := broadcastInDim S3x2816 ![] bcast_S_S3x2816 main_cst_4
  let main_v16 : IVec S3x2816 1 := cmpf .olt main_v14 main_v15
  fn_part1 (F := F) main_arg4 main_arg5 main_arg6 main_arg7 main_v13 main_v16
-- ==== Kernel.lean ====
abbrev S8192x1024 : Shape := ⟨2, ![8192, 1024]⟩
abbrev S2x16x4096 : Shape := ⟨3, ![2, 16, 4096]⟩
abbrev S2x4096x16x64 : Shape := ⟨4, ![2, 4096, 16, 64]⟩
abbrev S2x16x4096x64 : Shape := ⟨4, ![2, 16, 4096, 64]⟩
abbrev S4096 : Shape := ⟨1, ![4096]⟩
abbrev S2x16x4096x4096 : Shape := ⟨4, ![2, 16, 4096, 4096]⟩
abbrev S_ : Shape := ⟨0, ![]⟩
abbrev S2x16x4096x1 : Shape := ⟨4, ![2, 16, 4096, 1]⟩
abbrev S2x16x1x4096 : Shape := ⟨4, ![2, 16, 1, 4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S2x8x2x4096 : Shape := ⟨4, ![2, 8, 2, 4096]⟩
abbrev S2x8x4096x2 : Shape := ⟨4, ![2, 8, 4096, 2]⟩
abbrev S2x4096x16 : Shape := ⟨3, ![2, 4096, 16]⟩
abbrev S8192x16x1 : Shape := ⟨3, ![8192, 16, 1]⟩
abbrev S8192x16x3 : Shape := ⟨3, ![8192, 16, 3]⟩
abbrev S8192x16x58 : Shape := ⟨3, ![8192, 16, 58]⟩
abbrev S8192x16x64 : Shape := ⟨3, ![8192, 16, 64]⟩
abbrev S8192x16x128 : Shape := ⟨3, ![8192, 16, 128]⟩
abbrev S8192x2048 : Shape := ⟨2, ![8192, 2048]⟩
abbrev S2x8x8x512x2 : Shape := ⟨5, ![2, 8, 8, 512, 2]⟩
abbrev S2x8x8x2x512 : Shape := ⟨5, ![2, 8, 8, 2, 512]⟩
abbrev S512x256 : Shape := ⟨2, ![512, 256]⟩
abbrev S512x128 : Shape := ⟨2, ![512, 128]⟩
abbrev S4096x256 : Shape := ⟨2, ![4096, 256]⟩
abbrev S4096x128 : Shape := ⟨2, ![4096, 128]⟩
abbrev S1x1x8x2x512 : Shape := ⟨5, ![1, 1, 8, 2, 512]⟩
abbrev S1x1x4096x2 : Shape := ⟨4, ![1, 1, 4096, 2]⟩
abbrev S1x1x512x2 : Shape := ⟨4, ![1, 1, 512, 2]⟩
abbrev S8x2x512 : Shape := ⟨3, ![8, 2, 512]⟩
abbrev S512x512 : Shape := ⟨2, ![512, 512]⟩
abbrev S8x128 : Shape := ⟨2, ![8, 128]⟩
abbrev S8x512 : Shape := ⟨2, ![8, 512]⟩
abbrev S1x512 : Shape := ⟨2, ![1, 512]⟩
abbrev S1x1x512 : Shape := ⟨3, ![1, 1, 512]⟩
abbrev S1x1x1x1x512 : Shape := ⟨5, ![1, 1, 1, 1, 512]⟩
abbrev S512x1 : Shape := ⟨2, ![512, 1]⟩
abbrev S1x1x512x1 : Shape := ⟨4, ![1, 1, 512, 1]⟩
abbrev S1x1x4096x1 : Shape := ⟨4, ![1, 1, 4096, 1]⟩

abbrev nBuf : Space → Nat
  | .hbm => 88
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2x16x4096, .f32⟩
  | .hbm, ⟨4, _⟩ => ⟨S8192x1024, .f32⟩
  | .hbm, ⟨5, _⟩ => ⟨S2x4096x16x64, .f32⟩
  | .hbm, ⟨6, _⟩ => ⟨S2x16x4096x64, .f32⟩
  | .hbm, ⟨7, _⟩ => ⟨S2x4096x16x64, .f32⟩
  | .hbm, ⟨8, _⟩ => ⟨S2x16x4096x64, .f32⟩
  | .hbm, ⟨9, _⟩ => ⟨S2x4096x16x64, .f32⟩
  | .hbm, ⟨10, _⟩ => ⟨S2x16x4096x64, .f32⟩
  | .hbm, ⟨11, _⟩ => ⟨S4096, .i32⟩
  | .hbm, ⟨12, _⟩ => ⟨S2x16x4096x4096, .f32⟩
  | .hbm, ⟨13, _⟩ => ⟨S_, .f32⟩
  | .hbm, ⟨14, _⟩ => ⟨S2x16x4096x4096, .f32⟩
  | .hbm, ⟨15, _⟩ => ⟨S2x16x4096x4096, .f32⟩
  | .hbm, ⟨16, _⟩ => ⟨S2x16x4096x1, .f32⟩
  | .hbm, ⟨17, _⟩ => ⟨S2x16x4096x4096, .f32⟩
  | .hbm, ⟨18, _⟩ => ⟨S2x16x4096x4096, .f32⟩
  | .hbm, ⟨19, _⟩ => ⟨S2x16x1x4096, .f32⟩
  | .hbm, ⟨20, _⟩ => ⟨S2x16x4096x4096, .f32⟩
  | .hbm, ⟨21, _⟩ => ⟨S2x16x4096x4096, .f32⟩
  | .hbm, ⟨22, _⟩ => ⟨S4096x1, .i32⟩
  | .hbm, ⟨23, _⟩ => ⟨S1x4096, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S1x1x4096x4096, .i1⟩
  | .hbm, ⟨28, _⟩ => ⟨S_, .f32⟩
  | .hbm, ⟨29, _⟩ => ⟨S_, .f32⟩
  | .hbm, ⟨30, _⟩ => ⟨S2x16x4096x4096, .i1⟩
  | .hbm, ⟨31, _⟩ => ⟨S2x16x4096x4096, .f32⟩
  | .hbm, ⟨32, _⟩ => ⟨S2x16x4096x4096, .f32⟩
  | .hbm, ⟨33, _⟩ => ⟨S_, .f32⟩
  | .hbm, ⟨34, _⟩ => ⟨S2x16x4096, .f32⟩
  | .hbm, ⟨35, _⟩ => ⟨S2x16x4096x1, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S2x16x4096, .f32⟩
  | .hbm, ⟨41, _⟩ => ⟨S2x16x4096x1, .f32⟩
  | .hbm, ⟨42, _⟩ => ⟨S2x16x4096x4096, .f32⟩
  | .hbm, ⟨43, _⟩ => ⟨S2x16x4096x4096, .f32⟩
  | .hbm, ⟨44, _⟩ => ⟨S2x16x4096x64, .f32⟩
  | .hbm, ⟨45, _⟩ => ⟨S2x4096x16x64, .f32⟩
  | .hbm, ⟨46, _⟩ => ⟨S8192x1024, .f32⟩
  | .hbm, ⟨47, _⟩ => ⟨S2x16x4096x1, .f32⟩
  | .hbm, ⟨48, _⟩ => ⟨S2x16x4096x1, .f32⟩
  | .hbm, ⟨49, _⟩ => ⟨S2x8x2x4096, .f32⟩
  | .hbm, ⟨50, _⟩ => ⟨S2x8x4096x2, .f32⟩
  | .hbm, ⟨51, _⟩ => ⟨S2x4096x16, .f32⟩
  | .hbm, ⟨52, _⟩ => ⟨S8192x16x1, .f32⟩
  | .hbm, ⟨53, _⟩ => ⟨S8192x16x1, .bf16⟩
  | .hbm, ⟨54, _⟩ => ⟨S8192x16x1, .f32⟩
  | .hbm, ⟨55, _⟩ => ⟨S8192x16x1, .f32⟩
  | .hbm, ⟨56, _⟩ => ⟨S8192x16x1, .bf16⟩
  | .hbm, ⟨57, _⟩ => ⟨S8192x16x1, .f32⟩
  | .hbm, ⟨58, _⟩ => ⟨S8192x16x1, .f32⟩
  | .hbm, ⟨59, _⟩ => ⟨S8192x16x1, .bf16⟩
  | .hbm, ⟨60, _⟩ => ⟨S_, .bf16⟩
  | .hbm, ⟨61, _⟩ => ⟨S8192x16x3, .bf16⟩
  | .hbm, ⟨62, _⟩ => ⟨S_, .bf16⟩
  | .hbm, ⟨63, _⟩ => ⟨S8192x16x58, .bf16⟩
  | .hbm, ⟨64, _⟩ => ⟨S8192x1024, .bf16⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S8192x16x64, .bf16⟩
  | .hbm, ⟨71, _⟩ => ⟨S8192x16x128, .bf16⟩
  | .hbm, ⟨72, _⟩ => ⟨S8192x2048, .bf16⟩
  | .hbm, ⟨73, _⟩ => ⟨S8192x1024, .bf16⟩
  | .hbm, ⟨74, _⟩ => ⟨S8192x16x64, .bf16⟩
  | .hbm, ⟨75, _⟩ => ⟨S8192x16x1, .bf16⟩
  | .hbm, ⟨76, _⟩ => ⟨S8192x16x1, .bf16⟩
  | .hbm, ⟨77, _⟩ => ⟨S8192x16x1, .bf16⟩
  | .hbm, ⟨78, _⟩ => ⟨S8192x16x128, .bf16⟩
  | .hbm, ⟨79, _⟩ => ⟨S8192x2048, .bf16⟩
  | .hbm, ⟨80, _⟩ => ⟨S8192x1024, .bf16⟩
  | .hbm, ⟨81, _⟩ => ⟨S2x8x8x512x2, .f32⟩
  | .hbm, ⟨82, _⟩ => ⟨S2x8x8x2x512, .f32⟩
  | .hbm, ⟨83, _⟩ => ⟨S8192x1024, .f32⟩
  | .hbm, ⟨84, _⟩ => ⟨S2x8x4096x2, .f32⟩
  | .hbm, ⟨85, _⟩ => ⟨S8192x1024, .f32⟩
  | .hbm, ⟨86, _⟩ => ⟨S8192x1024, .f32⟩
  | .hbm, ⟨87, _⟩ => ⟨S2x8x4096x2, .f32⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S4096x256, .bf16⟩
  | .local _ .vmem, ⟨5, _⟩ => ⟨S4096x256, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1x1x8x2x512, .f32⟩
  | .local _ .vmem, ⟨11, _⟩ => ⟨S1x1x8x2x512, .f32⟩
  | .local _ .vmem, ⟨12, _⟩ => ⟨S4096x128, .f32⟩
  | .local _ .vmem, ⟨13, _⟩ => ⟨S4096x128, .f32⟩
  | .local _ .vmem, ⟨14, _⟩ => ⟨S1x1x4096x2, .f32⟩
  | .local _ .vmem, ⟨15, _⟩ => ⟨S1x1x4096x2, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1x1x512x2, .f32⟩
  | .local _ .vmem, ⟨21, _⟩ => ⟨S1x1x512x2, .f32⟩
  | .local _ .vmem, ⟨22, _⟩ => ⟨S4096x256, .f32⟩
  | .local _ .vmem, ⟨23, _⟩ => ⟨S8x2x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68_0 : Ref sig .tc := ⟨.hbm, 83, rfl⟩
abbrev main_v68_1 : Ref sig .tc := ⟨.hbm, 84, rfl⟩
abbrev main_v68_2 : Ref sig .tc := ⟨.hbm, 85, rfl⟩
abbrev main_v68_3 : Ref sig .tc := ⟨.hbm, 86, rfl⟩
abbrev main_v68_4 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c512_i32 : BitVec 32 := 512#32
  let v15 : BitVec 32 := Scalar.muli arg2 c512_i32
  v15
def k0_off1 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v17 : Index := Scalar.indexCast v16
  let c0_3 : Index := 0#32
  ![v17.toNat, 0]
def k0_off2 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v21 : Index := Scalar.indexCast v16
  let c0_6 : Index := 0#32
  ![v21.toNat, 0]
def k0_off3 (i : grid0.Coords) : Fin 5 → Nat :=
  let c0_10 : Index := 0#32
  let c0_11 : Index := 0#32
  let arg2 : BitVec 32 := BitVec.ofNat 32 (i 2).val
  let v30 : Index := Scalar.indexCast arg2
  let c0_12 : Index := 0#32
  let c0_13 : Index := 0#32
  ![0, 0, v30.toNat, 0, 0]
def k0_off4 (i : grid0.Coords) : Fin 3 → Nat :=
  let arg2 : BitVec 32 := BitVec.ofNat 32 (i 2).val
  let v40 : Index := Scalar.indexCast arg2
  let c0_16 : Index := 0#32
  let c0_17 : Index := 0#32
  ![v40.toNat, 0, 0]
def k0_off5 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v59 : Index := Scalar.indexCast v16
  let c128_23 : Index := 128#32
  ![v59.toNat, 128]
def k0_off6 (i : grid0.Coords) : Fin 5 → Nat :=
  let c0_27 : Index := 0#32
  let c0_28 : Index := 0#32
  let arg2 : BitVec 32 := BitVec.ofNat 32 (i 2).val
  let v68 : Index := Scalar.indexCast arg2
  let c1 : Index := 1#32
  let c0_29 : Index := 0#32
  ![0, 0, v68.toNat, 1, 0]
def k0_off7 (i : grid0.Coords) : Fin 3 → Nat :=
  let arg2 : BitVec 32 := BitVec.ofNat 32 (i 2).val
  let v78 : Index := Scalar.indexCast arg2
  let c1_32 : Index := 1#32
  let c0_33 : Index := 0#32
  ![v78.toNat, 1, 0]
@[reducible] def k0_t1_loop (i : grid0.Coords) : Scf.Loop 32 :=
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let c1_i32_39 : BitVec 32 := 1#32
  ⟨v95, v100, c1_i32_39⟩
def k0_mult2 (i : grid0.Coords) (k0_t1 : Fin (k0_t1_loop i).trips) : BitVec 32 :=
  let arg2 : BitVec 32 := BitVec.ofNat 32 (i 2).val
  let c1_i32 : BitVec 32 := 1#32
  let v95 : BitVec 32 := Scalar.addi arg2 c1_i32
  let c1_i32_39 : BitVec 32 := 1#32
  let arg16 : BitVec 32 := Scf.iv v95 c1_i32_39 k0_t1
  let c512_i32_57 : BitVec 32 := 512#32
  let v122 : BitVec 32 := Scalar.muli arg16 c512_i32_57
  v122
def k0_off8 (i : grid0.Coords) (k0_t1 : Fin (k0_t1_loop i).trips) : Fin 2 → Nat :=
  let arg2 : BitVec 32 := BitVec.ofNat 32 (i 2).val
  let c1_i32 : BitVec 32 := 1#32
  let v95 : BitVec 32 := Scalar.addi arg2 c1_i32
  let c1_i32_39 : BitVec 32 := 1#32
  let arg16 : BitVec 32 := Scf.iv v95 c1_i32_39 k0_t1
  let c512_i32_57 : BitVec 32 := 512#32
  let v122 : BitVec 32 := Scalar.muli arg16 c512_i32_57
  let v123 : BitVec 32 := v122
  let v124 : Index := Scalar.indexCast v123
  let c0_58 : Index := 0#32
  ![v124.toNat, 0]
def k0_off9 (i : grid0.Coords) (k0_t1 : Fin (k0_t1_loop i).trips) : Fin 2 → Nat :=
  let arg2 : BitVec 32 := BitVec.ofNat 32 (i 2).val
  let c1_i32 : BitVec 32 := 1#32
  let v95 : BitVec 32 := Scalar.addi arg2 c1_i32
  let c1_i32_39 : BitVec 32 := 1#32
  let arg16 : BitVec 32 := Scf.iv v95 c1_i32_39 k0_t1
  let c512_i32_57 : BitVec 32 := 512#32
  let v122 : BitVec 32 := Scalar.muli arg16 c512_i32_57
  let v123 : BitVec 32 := v122
  let v128 : Index := Scalar.indexCast v123
  let c0_61 : Index := 0#32
  ![v128.toNat, 0]
def k0_off10 (i : grid0.Coords) (k0_t1 : Fin (k0_t1_loop i).trips) : Fin 5 → Nat :=
  let c0_64 : Index := 0#32
  let c0_65 : Index := 0#32
  let arg2 : BitVec 32 := BitVec.ofNat 32 (i 2).val
  let c1_i32 : BitVec 32 := 1#32
  let v95 : BitVec 32 := Scalar.addi arg2 c1_i32
  let c1_i32_39 : BitVec 32 := 1#32
  let arg16 : BitVec 32 := Scf.iv v95 c1_i32_39 k0_t1
  let v135 : Index := Scalar.indexCast arg16
  let c0_66 : Index := 0#32
  let c0_67 : Index := 0#32
  ![0, 0, v135.toNat, 0, 0]
def k0_off11 (i : grid0.Coords) (k0_t1 : Fin (k0_t1_loop i).trips) : Fin 3 → Nat :=
  let arg2 : BitVec 32 := BitVec.ofNat 32 (i 2).val
  let c1_i32 : BitVec 32 := 1#32
  let v95 : BitVec 32 := Scalar.addi arg2 c1_i32
  let c1_i32_39 : BitVec 32 := 1#32
  let arg16 : BitVec 32 := Scf.iv v95 c1_i32_39 k0_t1
  let v145 : Index := Scalar.indexCast arg16
  let c0_70 : Index := 0#32
  let c0_71 : Index := 0#32
  ![v145.toNat, 0, 0]
def k0_off12 (i : grid0.Coords) (k0_t1 : Fin (k0_t1_loop i).trips) : Fin 2 → Nat :=
  let arg2 : BitVec 32 := BitVec.ofNat 32 (i 2).val
  let c1_i32 : BitVec 32 := 1#32
  let v95 : BitVec 32 := Scalar.addi arg2 c1_i32
  let c1_i32_39 : BitVec 32 := 1#32
  let arg16 : BitVec 32 := Scf.iv v95 c1_i32_39 k0_t1
  let c512_i32_57 : BitVec 32 := 512#32
  let v122 : BitVec 32 := Scalar.muli arg16 c512_i32_57
  let v123 : BitVec 32 := v122
  let v164 : Index := Scalar.indexCast v123
  let c128_78 : Index := 128#32
  ![v164.toNat, 128]
def k0_off13 (i : grid0.Coords) (k0_t1 : Fin (k0_t1_loop i).trips) : Fin 5 → Nat :=
  let c0_81 : Index := 0#32
  let c0_82 : Index := 0#32
  let arg2 : BitVec 32 := BitVec.ofNat 32 (i 2).val
  let c1_i32 : BitVec 32 := 1#32
  let v95 : BitVec 32 := Scalar.addi arg2 c1_i32
  let c1_i32_39 : BitVec 32 := 1#32
  let arg16 : BitVec 32 := Scf.iv v95 c1_i32_39 k0_t1
  let v171 : Index := Scalar.indexCast arg16
  let c1_83 : Index := 1#32
  let c0_84 : Index := 0#32
  ![0, 0, v171.toNat, 1, 0]
def k0_off14 (i : grid0.Coords) (k0_t1 : Fin (k0_t1_loop i).trips) : Fin 3 → Nat :=
  let arg2 : BitVec 32 := BitVec.ofNat 32 (i 2).val
  let c1_i32 : BitVec 32 := 1#32
  let v95 : BitVec 32 := Scalar.addi arg2 c1_i32
  let c1_i32_39 : BitVec 32 := 1#32
  let arg16 : BitVec 32 := Scf.iv v95 c1_i32_39 k0_t1
  let v181 : Index := Scalar.indexCast arg16
  let c1_87 : Index := 1#32
  let c0_88 : Index := 0#32
  ![v181.toNat, 1, 0]
@[reducible] def k0_t2_loop (i : grid0.Coords) : Scf.Loop 32 :=
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let v97 : BitVec 32 := Scalar.addi v95 v96
  let c1_i32_40 : BitVec 32 := 1#32
  ⟨v100, v97, c1_i32_40⟩
def k0_mult3 (i : grid0.Coords) (k0_t2 : Fin (k0_t2_loop i).trips) : BitVec 32 :=
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let c1_i32_40 : BitVec 32 := 1#32
  let arg16 : BitVec 32 := Scf.iv v100 c1_i32_40 k0_t2
  let c512_i32_57 : BitVec 32 := 512#32
  let v122 : BitVec 32 := Scalar.muli arg16 c512_i32_57
  v122
def k0_off15 (i : grid0.Coords) (k0_t2 : Fin (k0_t2_loop i).trips) : Fin 2 → Nat :=
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let c1_i32_40 : BitVec 32 := 1#32
  let arg16 : BitVec 32 := Scf.iv v100 c1_i32_40 k0_t2
  let c512_i32_57 : BitVec 32 := 512#32
  let v122 : BitVec 32 := Scalar.muli arg16 c512_i32_57
  let v123 : BitVec 32 := v122
  let v124 : Index := Scalar.indexCast v123
  let c0_58 : Index := 0#32
  ![v124.toNat, 0]
def k0_off16 (i : grid0.Coords) (k0_t2 : Fin (k0_t2_loop i).trips) : Fin 2 → Nat :=
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let c1_i32_40 : BitVec 32 := 1#32
  let arg16 : BitVec 32 := Scf.iv v100 c1_i32_40 k0_t2
  let c512_i32_57 : BitVec 32 := 512#32
  let v122 : BitVec 32 := Scalar.muli arg16 c512_i32_57
  let v123 : BitVec 32 := v122
  let v128 : Index := Scalar.indexCast v123
  let c0_61 : Index := 0#32
  ![v128.toNat, 0]
def k0_off17 (i : grid0.Coords) (k0_t2 : Fin (k0_t2_loop i).trips) : Fin 5 → Nat :=
  let c0_64 : Index := 0#32
  let c0_65 : Index := 0#32
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let c1_i32_40 : BitVec 32 := 1#32
  let arg16 : BitVec 32 := Scf.iv v100 c1_i32_40 k0_t2
  let v135 : Index := Scalar.indexCast arg16
  let c0_66 : Index := 0#32
  let c0_67 : Index := 0#32
  ![0, 0, v135.toNat, 0, 0]
def k0_off18 (i : grid0.Coords) (k0_t2 : Fin (k0_t2_loop i).trips) : Fin 3 → Nat :=
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let c1_i32_40 : BitVec 32 := 1#32
  let arg16 : BitVec 32 := Scf.iv v100 c1_i32_40 k0_t2
  let v145 : Index := Scalar.indexCast arg16
  let c0_70 : Index := 0#32
  let c0_71 : Index := 0#32
  ![v145.toNat, 0, 0]
def k0_off19 (i : grid0.Coords) (k0_t2 : Fin (k0_t2_loop i).trips) : Fin 2 → Nat :=
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let c1_i32_40 : BitVec 32 := 1#32
  let arg16 : BitVec 32 := Scf.iv v100 c1_i32_40 k0_t2
  let c512_i32_57 : BitVec 32 := 512#32
  let v122 : BitVec 32 := Scalar.muli arg16 c512_i32_57
  let v123 : BitVec 32 := v122
  let v164 : Index := Scalar.indexCast v123
  let c128_78 : Index := 128#32
  ![v164.toNat, 128]
def k0_off20 (i : grid0.Coords) (k0_t2 : Fin (k0_t2_loop i).trips) : Fin 5 → Nat :=
  let c0_81 : Index := 0#32
  let c0_82 : Index := 0#32
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let c1_i32_40 : BitVec 32 := 1#32
  let arg16 : BitVec 32 := Scf.iv v100 c1_i32_40 k0_t2
  let v171 : Index := Scalar.indexCast arg16
  let c1_83 : Index := 1#32
  let c0_84 : Index := 0#32
  ![0, 0, v171.toNat, 1, 0]
def k0_off21 (i : grid0.Coords) (k0_t2 : Fin (k0_t2_loop i).trips) : Fin 3 → Nat :=
  let arg2 : BitVec 32 := BitVec.ofNat 32 (i 2).val
  let c1_i32 : BitVec 32 := 1#32
  let v95 : BitVec 32 := Scalar.addi arg2 c1_i32
  let c8_i32 : BitVec 32 := 8#32
  let v96 : BitVec 32 := Scalar.subi c8_i32 v95
  let c1_i32_38 : BitVec 32 := 1#32
  let v98 : BitVec 32 := Scalar.divsi v96 c1_i32_38
  let v99 : BitVec 32 := Scalar.muli v98 c1_i32_38
  let v100 : BitVec 32 := Scalar.addi v95 v99
  let c1_i32_40 : BitVec 32 := 1#32
  let arg16 : BitVec 32 := Scf.iv v100 c1_i32_40 k0_t2
  let v181 : Index := Scalar.indexCast arg16
  let c1_87 : Index := 1#32
  let c0_88 : Index := 0#32
  ![v181.toNat, 1, 0]
def k0_cond2 (i : grid0.Coords) : BitVec 1 :=
  let arg2 : BitVec 32 := BitVec.ofNat 32 (i 2).val
  let c7_i32 : BitVec 32 := 7#32
  let v119 : BitVec 1 := Scalar.cmpi .eq arg2 c7_i32
  let v120 : BitVec 32 := Scalar.extui v119
  let c0_i32_56 : BitVec 32 := 0#32
  let v121 : BitVec 1 := Scalar.cmpi .ne v120 c0_i32_56
  v121

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x4096x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x512x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S2x16x4096 : Shape := ⟨3, ![2, 16, 4096]⟩
abbrev S4096 : Shape := ⟨1, ![4096]⟩
abbrev S2x4096x16x64 : Shape := ⟨4, ![2, 4096, 16, 64]⟩
abbrev S2x16x4096x64 : Shape := ⟨4, ![2, 16, 4096, 64]⟩
abbrev S2x16x4096x4096 : Shape := ⟨4, ![2, 16, 4096, 4096]⟩
abbrev S_ : Shape := ⟨0, ![]⟩
abbrev S2x16x4096x1 : Shape := ⟨4, ![2, 16, 4096, 1]⟩
abbrev S2x16x1x4096 : Shape := ⟨4, ![2, 16, 1, 4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S2x16x64x4096 : Shape := ⟨4, ![2, 16, 64, 4096]⟩
abbrev S2x8x2x4096 : Shape := ⟨4, ![2, 8, 2, 4096]⟩
abbrev S2x8x4096x2 : Shape := ⟨4, ![2, 8, 4096, 2]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2x16x4096, .f32⟩
  | .hbm, ⟨4, _⟩ => ⟨S8192x1024, .f32⟩
  | .hbm, ⟨5, _⟩ => ⟨S4096, .i32⟩
  | .hbm, ⟨6, _⟩ => ⟨S2x4096x16x64, .f32⟩
  | .hbm, ⟨7, _⟩ => ⟨S2x16x4096x64, .f32⟩
  | .hbm, ⟨8, _⟩ => ⟨S2x4096x16x64, .f32⟩
  | .hbm, ⟨9, _⟩ => ⟨S2x16x4096x64, .f32⟩
  | .hbm, ⟨10, _⟩ => ⟨S2x16x4096x4096, .f32⟩
  | .hbm, ⟨11, _⟩ => ⟨S_, .f32⟩
  | .hbm, ⟨12, _⟩ => ⟨S2x16x4096x4096, .f32⟩
  | .hbm, ⟨13, _⟩ => ⟨S2x16x4096x4096, .f32⟩
  | .hbm, ⟨14, _⟩ => ⟨S2x16x4096x1, .f32⟩
  | .hbm, ⟨15, _⟩ => ⟨S2x16x4096x4096, .f32⟩
  | .hbm, ⟨16, _⟩ => ⟨S2x16x4096x4096, .f32⟩
  | .hbm, ⟨17, _⟩ => ⟨S2x16x1x4096, .f32⟩
  | .hbm, ⟨18, _⟩ => ⟨S2x16x4096x4096, .f32⟩
  | .hbm, ⟨19, _⟩ => ⟨S2x16x4096x4096, .f32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S1x1x4096x4096, .i1⟩
  | .hbm, ⟨26, _⟩ => ⟨S_, .f32⟩
  | .hbm, ⟨27, _⟩ => ⟨S_, .f32⟩
  | .hbm, ⟨28, _⟩ => ⟨S2x16x4096x4096, .i1⟩
  | .hbm, ⟨29, _⟩ => ⟨S2x16x4096x4096, .f32⟩
  | .hbm, ⟨30, _⟩ => ⟨S2x16x4096x4096, .f32⟩
  | .hbm, ⟨31, _⟩ => ⟨S_, .f32⟩
  | .hbm, ⟨32, _⟩ => ⟨S2x16x4096x4096, .f32⟩
  | .hbm, ⟨33, _⟩ => ⟨S_, .f32⟩
  | .hbm, ⟨34, _⟩ => ⟨S2x16x4096, .f32⟩
  | .hbm, ⟨35, _⟩ => ⟨S2x16x4096x1, .f32⟩
  | .hbm, ⟨36, _⟩ => ⟨S2x16x4096x4096, .f32⟩
  | .hbm, ⟨37, _⟩ => ⟨S2x16x4096x4096, .i1⟩
  | .hbm, ⟨38, _⟩ => ⟨S2x16x4096x4096, .f32⟩
  | .hbm, ⟨39, _⟩ => ⟨S_, .f32⟩
  | .hbm, ⟨40, _⟩ => ⟨S2x16x4096, .f32⟩
  | .hbm, ⟨41, _⟩ => ⟨S_, .f32⟩
  | .hbm, ⟨42, _⟩ => ⟨S2x16x4096, .f32⟩
  | .hbm, ⟨43, _⟩ => ⟨S2x16x4096, .f32⟩
  | .hbm, ⟨44, _⟩ => ⟨S_, .f32⟩
  | .hbm, ⟨45, _⟩ => ⟨S2x16x4096, .f32⟩
  | .hbm, ⟨46, _⟩ => ⟨S2x16x4096, .i1⟩
  | .hbm, ⟨47, _⟩ => ⟨S_, .f32⟩
  | .hbm, ⟨48, _⟩ => ⟨S2x16x4096, .f32⟩
  | .hbm, ⟨49, _⟩ => ⟨S2x16x4096, .i1⟩
  | .hbm, ⟨50, _⟩ => ⟨S_, .f32⟩
  | .hbm, ⟨51, _⟩ => ⟨S2x16x4096, .f32⟩
  | .hbm, ⟨52, _⟩ => ⟨S_, .f32⟩
  | .hbm, ⟨53, _⟩ => ⟨S2x16x4096, .f32⟩
  | .hbm, ⟨54, _⟩ => ⟨S_, .f32⟩
  | .hbm, ⟨55, _⟩ => ⟨S2x16x4096, .f32⟩
  | .hbm, ⟨56, _⟩ => ⟨S2x16x4096, .f32⟩
  | .hbm, ⟨57, _⟩ => ⟨S2x16x4096, .f32⟩
  | .hbm, ⟨58, _⟩ => ⟨S2x16x4096x1, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S_, .f32⟩
  | .hbm, ⟨63, _⟩ => ⟨S2x16x4096, .f32⟩
  | .hbm, ⟨64, _⟩ => ⟨S2x16x4096x1, .f32⟩
  | .hbm, ⟨65, _⟩ => ⟨S2x16x4096x4096, .f32⟩
  | .hbm, ⟨66, _⟩ => ⟨S2x16x4096x4096, .f32⟩
  | .hbm, ⟨67, _⟩ => ⟨S2x16x4096x1, .f32⟩
  | .hbm, ⟨68, _⟩ => ⟨S_, .f32⟩
  | .hbm, ⟨69, _⟩ => ⟨S2x16x4096x1, .f32⟩
  | .hbm, ⟨70, _⟩ => ⟨S2x16x4096x1, .f32⟩
  | .hbm, ⟨71, _⟩ => ⟨S2x4096x16x64, .f32⟩
  | .hbm, ⟨72, _⟩ => ⟨S2x16x4096x64, .f32⟩
  | .hbm, ⟨73, _⟩ => ⟨S2x16x4096x64, .f32⟩
  | .hbm, ⟨74, _⟩ => ⟨S2x4096x16x64, .f32⟩
  | .hbm, ⟨75, _⟩ => ⟨S8192x1024, .f32⟩
  | .hbm, ⟨76, _⟩ => ⟨S2x4096x16x64, .f32⟩
  | .hbm, ⟨77, _⟩ => ⟨S2x16x4096x64, .f32⟩
  | .hbm, ⟨78, _⟩ => ⟨S2x16x64x4096, .f32⟩
  | .hbm, ⟨79, _⟩ => ⟨S2x16x4096x64, .f32⟩
  | .hbm, ⟨80, _⟩ => ⟨S2x16x4096x4096, .f32⟩
  | .hbm, ⟨81, _⟩ => ⟨S2x4096x16x64, .f32⟩
  | .hbm, ⟨82, _⟩ => ⟨S8192x1024, .f32⟩
  | .hbm, ⟨83, _⟩ => ⟨S2x16x4096x4096, .f32⟩
  | .hbm, ⟨84, _⟩ => ⟨S2x16x4096x4096, .f32⟩
  | .hbm, ⟨85, _⟩ => ⟨S2x16x4096x4096, .f32⟩
  | .hbm, ⟨86, _⟩ => ⟨S_, .f32⟩
  | .hbm, ⟨87, _⟩ => ⟨S2x16x4096, .f32⟩
  | .hbm, ⟨88, _⟩ => ⟨S2x16x4096x1, .f32⟩
  | .hbm, ⟨89, _⟩ => ⟨S2x16x4096x1, .f32⟩
  | .hbm, ⟨90, _⟩ => ⟨S2x16x4096x4096, .f32⟩
  | .hbm, ⟨91, _⟩ => ⟨S2x16x4096x4096, .f32⟩
  | .hbm, ⟨92, _⟩ => ⟨S_, .f32⟩
  | .hbm, ⟨93, _⟩ => ⟨S2x16x4096, .f32⟩
  | .hbm, ⟨94, _⟩ => ⟨S2x16x4096x4096, .f32⟩
  | .hbm, ⟨95, _⟩ => ⟨S2x16x4096x4096, .f32⟩
  | .hbm, ⟨96, _⟩ => ⟨S2x16x4096x4096, .f32⟩
  | .hbm, ⟨97, _⟩ => ⟨S_, .f32⟩
  | .hbm, ⟨98, _⟩ => ⟨S2x16x4096x4096, .f32⟩
  | .hbm, ⟨99, _⟩ => ⟨S2x16x4096x4096, .f32⟩
  | .hbm, ⟨100, _⟩ => ⟨S2x16x4096x4096, .f32⟩
  | .hbm, ⟨101, _⟩ => ⟨S_, .f32⟩
  | .hbm, ⟨102, _⟩ => ⟨S2x16x4096, .f32⟩
  | .hbm, ⟨103, _⟩ => ⟨S2x16x1x4096, .f32⟩
  | .hbm, ⟨104, _⟩ => ⟨S_, .f32⟩
  | .hbm, ⟨105, _⟩ => ⟨S2x16x4096, .f32⟩
  | .hbm, ⟨106, _⟩ => ⟨S_, .f32⟩
  | .hbm, ⟨107, _⟩ => ⟨S2x16x4096, .f32⟩
  | .hbm, ⟨108, _⟩ => ⟨S2x16x4096x1, .f32⟩
  | .hbm, ⟨109, _⟩ => ⟨S_, .f32⟩
  | .hbm, ⟨110, _⟩ => ⟨S2x16x4096, .f32⟩
  | .hbm, ⟨111, _⟩ => ⟨S_, .f32⟩
  | .hbm, ⟨112, _⟩ => ⟨S2x16x4096x4096, .f32⟩
  | .hbm, ⟨113, _⟩ => ⟨S2x16x4096x4096, .f32⟩
  | .hbm, ⟨114, _⟩ => ⟨S2x16x4096x64, .f32⟩
  | .hbm, ⟨115, _⟩ => ⟨S2x16x4096x64, .f32⟩
  | .hbm, ⟨116, _⟩ => ⟨S2x4096x16x64, .f32⟩
  | .hbm, ⟨117, _⟩ => ⟨S8192x1024, .f32⟩
  | .hbm, ⟨118, _⟩ => ⟨S2x4096x16x64, .f32⟩
  | .hbm, ⟨119, _⟩ => ⟨S8192x1024, .f32⟩
  | .hbm, ⟨120, _⟩ => ⟨S2x8x2x4096, .f32⟩
  | .hbm, ⟨121, _⟩ => ⟨S2x8x4096x2, .f32⟩
  | .hbm, ⟨122, _⟩ => ⟨S2x8x2x4096, .f32⟩
  | .hbm, ⟨123, _⟩ => ⟨S2x8x4096x2, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S3x2816 : Shape := ⟨2, ![3, 2816]⟩
abbrev S1x2816 : Shape := ⟨2, ![1, 2816]⟩
abbrev S8x2816 : Shape := ⟨2, ![8, 2816]⟩
abbrev S256x2816 : Shape := ⟨2, ![256, 2816]⟩
abbrev S256x1024 : Shape := ⟨2, ![256, 1024]⟩
abbrev S8x1024 : Shape := ⟨2, ![8, 1024]⟩
abbrev S264x1024 : Shape := ⟨2, ![264, 1024]⟩
abbrev S264x2816 : Shape := ⟨2, ![264, 2816]⟩
abbrev S272x2816 : Shape := ⟨2, ![272, 2816]⟩
abbrev S2816 : Shape := ⟨1, ![2816]⟩

abbrev nBuf : Space → Nat
  | .hbm => 15
  | .vmem => 29
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S2816x1024, .f32⟩
  | .hbm, ⟨4, _⟩ => ⟨S3x2816, .f32⟩
  | .hbm, ⟨5, _⟩ => ⟨S3x2816, .f32⟩
  | .hbm, ⟨6, _⟩ => ⟨S1x2816, .f32⟩
  | .hbm, ⟨7, _⟩ => ⟨S1x2816, .f32⟩
  | .hbm, ⟨8, _⟩ => ⟨S2816x1024, .bf16⟩
  | .hbm, ⟨9, _⟩ => ⟨S8192x2816, .bf16⟩
  | .hbm, ⟨10, _⟩ => ⟨S8192x2816, .bf16⟩
  | .hbm, ⟨11, _⟩ => ⟨S3x2816, .f32⟩
  | .hbm, ⟨12, _⟩ => ⟨S3x2816, .f32⟩
  | .hbm, ⟨13, _⟩ => ⟨S1x2816, .f32⟩
  | .hbm, ⟨14, _⟩ => ⟨S1x2816, .f32⟩
  | .local _ .vmem, ⟨0, _⟩ => ⟨S8x2816, .f32⟩
  | .local _ .vmem, ⟨1, _⟩ => ⟨S8x2816, .f32⟩
  | .local _ .vmem, ⟨2, _⟩ => ⟨S256x2816, .f32⟩
  | .local _ .vmem, ⟨3, _⟩ => ⟨S256x2816, .f32⟩
  | .local _ .vmem, ⟨4, _⟩ => ⟨S8x2816, .f32⟩
  | .local _ .vmem, ⟨5, _⟩ => ⟨S8x2816, .f32⟩
  | .local _ .vmem, ⟨6, _⟩ => ⟨S8x2816, .f32⟩
  | .local _ .vmem, ⟨7, _⟩ => ⟨S8x2816, .f32⟩
  | .local _ .vmem, ⟨8, _⟩ => ⟨S256x2816, .f32⟩
  | .local _ .vmem, ⟨9, _⟩ => ⟨S256x2816, .f32⟩
  | .local _ .vmem, ⟨10, _⟩ => ⟨S8x2816, .f32⟩
  | .local _ .vmem, ⟨11, _⟩ => ⟨S8x2816, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S8x1024, .f32⟩
  | .local _ .vmem, ⟨16, _⟩ => ⟨S2816x1024, .bf16⟩
  | .local _ .vmem, ⟨17, _⟩ => ⟨S3x2816, .f32⟩
  | .local _ .vmem, ⟨18, _⟩ => ⟨S3x2816, .f32⟩
  | .local _ .vmem, ⟨19, _⟩ => ⟨S1x2816, .f32⟩
  | .local _ .vmem, ⟨20, _⟩ => ⟨S1x2816, .f32⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S3x2816, .f32⟩
  | .local _ .vmem, ⟨26, _⟩ => ⟨S3x2816, .f32⟩
  | .local _ .vmem, ⟨27, _⟩ => ⟨S1x2816, .f32⟩
  | .local _ .vmem, ⟨28, _⟩ => ⟨S1x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S3x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S1x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]
-- ==== Reference2Ideal.lean ====
abbrev S8192x2816 : Shape := ⟨2, ![8192, 2816]⟩
abbrev S8192x1024 : Shape := ⟨2, ![8192, 1024]⟩
abbrev S2816x1024 : Shape := ⟨2, ![2816, 1024]⟩
abbrev S3x2816 : Shape := ⟨2, ![3, 2816]⟩
abbrev S1x2816 : Shape := ⟨2, ![1, 2816]⟩
abbrev S2x4096x2816 : Shape := ⟨3, ![2, 4096, 2816]⟩
abbrev S_ : Shape := ⟨0, ![]⟩
abbrev S2x2x2816 : Shape := ⟨3, ![2, 2, 2816]⟩
abbrev S2x4098x2816 : Shape := ⟨3, ![2, 4098, 2816]⟩
abbrev S2816 : Shape := ⟨1, ![2816]⟩
abbrev S1x1x2816 : Shape := ⟨3, ![1, 1, 2816]⟩
abbrev S2x4096x1024 : Shape := ⟨3, ![2, 4096, 1024]⟩

abbrev nBuf : Space → Nat
  | .hbm => 190
  | .vmem => 0
  | .smem => 0
  | _ => 0

abbrev hbmTy0_0 (i : Nat) : BufTy := match i % 128 with
  | 0 => ⟨S8192x2816, .f32⟩
  | 1 => ⟨S8192x2816, .f32⟩
  | 2 => ⟨S8192x1024, .f32⟩
  | 3 => ⟨S2816x1024, .f32⟩
  | 4 => ⟨S3x2816, .f32⟩
  | 5 => ⟨S3x2816, .f32⟩
  | 6 => ⟨S1x2816, .f32⟩
  | 7 => ⟨S1x2816, .f32⟩
  | 8 => ⟨S2x4096x2816, .f32⟩
  | 9 => ⟨S_, .f32⟩
  | 10 => ⟨S2x2x2816, .f32⟩
  | 11 => ⟨S2x4098x2816, .f32⟩
  | 12 => ⟨S_, .f32⟩
  | 13 => ⟨S2x2x2816, .f32⟩
  | 14 => ⟨S2x4096x2816, .f32⟩
  | 15 => ⟨S1x2816, .f32⟩
  | 16 => ⟨S2816, .f32⟩
  | 17 => ⟨S1x1x2816, .f32⟩
  | 18 => ⟨S2x4096x2816, .f32⟩
  | 19 => ⟨S2x4096x2816, .f32⟩
  | 20 => ⟨S2x4096x2816, .f32⟩
  | 21 => ⟨S1x2816, .f32⟩
  | 22 => ⟨S2816, .f32⟩
  | 23 => ⟨S1x1x2816, .f32⟩
  | 24 => ⟨S2x4096x2816, .f32⟩
  | 25 => ⟨S2x4096x2816, .f32⟩
  | 26 => ⟨S2x4096x2816, .f32⟩
  | 27 => ⟨S1x2816, .f32⟩
  | 28 => ⟨S2816, .f32⟩
  | 29 => ⟨S1x1x2816, .f32⟩
  | 30 => ⟨S2x4096x2816, .f32⟩
  | 31 => ⟨S2x4096x2816, .f32⟩
  | 32 => ⟨S2x4096x2816, .f32⟩
  | 33 => ⟨S1x1x2816, .f32⟩
  | 34 => ⟨S2x4096x2816, .f32⟩
  | 35 => ⟨S2x4096x2816, .f32⟩
  | 36 => ⟨S2x4096x2816, .f32⟩
  | 37 => ⟨S_, .f32⟩
  | 38 => ⟨S2x2x2816, .f32⟩
  | 39 => ⟨S2x4098x2816, .f32⟩
  | 40 => ⟨S_, .f32⟩
  | 41 => ⟨S2x2x2816, .f32⟩
  | 42 => ⟨S2x4096x2816, .f32⟩
  | 43 => ⟨S1x2816, .f32⟩
  | 44 => ⟨S2816, .f32⟩
  | 45 => ⟨S1x1x2816, .f32⟩
  | 46 => ⟨S2x4096x2816, .f32⟩
  | 47 => ⟨S2x4096x2816, .f32⟩
  | 48 => ⟨S2x4096x2816, .f32⟩
  | 49 => ⟨S1x2816, .f32⟩
  | 50 => ⟨S2816, .f32⟩
  | 51 => ⟨S1x1x2816, .f32⟩
  | 52 => ⟨S2x4096x2816, .f32⟩
  | 53 => ⟨S2x4096x2816, .f32⟩
  | 54 => ⟨S2x4096x2816, .f32⟩
  | 55 => ⟨S1x2816, .f32⟩
  | 56 => ⟨S2816, .f32⟩
  | 57 => ⟨S1x1x2816, .f32⟩
  | 58 => ⟨S2x4096x2816, .f32⟩
  | 59 => ⟨S2x4096x2816, .f32⟩
  | 60 => ⟨S2x4096x2816, .f32⟩
  | 61 => ⟨S1x1x2816, .f32⟩
  | 62 => ⟨S2x4096x2816, .f32⟩
  | 63 => ⟨S2x4096x2816, .f32⟩
  | 64 => ⟨S2x4096x2816, .f32⟩
  | 65 => ⟨S2x4096x2816, .f32⟩
  | 66 => ⟨S_, .f32⟩
  | 67 => ⟨S2x4096x2816, .f32⟩
  | 68 => ⟨S2x4096x2816, .f32⟩
  | 69 => ⟨S_, .f32⟩
  | 70 => ⟨S2x4096x2816, .f32⟩
  | 71 => ⟨S2x4096x2816, .f32⟩
  | 72 => ⟨S_, .f32⟩
  | 73 => ⟨S2x4096x2816, .f32⟩
  | 74 => ⟨S2x4096x2816, .f32⟩
  | 75 => ⟨S2x4096x2816, .f32⟩
  | 76 => ⟨S2x4096x2816, .f32⟩
  | 77 => ⟨S2x4096x2816, .f32⟩
  | 78 => ⟨S2x4096x1024, .f32⟩
  | 79 => ⟨S8192x1024, .f32⟩
  | 80 => ⟨S2x4096x1024, .f32⟩
  | 81 => ⟨S2x4096x2816, .f32⟩
  | 82 => ⟨S2x4096x2816, .f32⟩
  | 83 => ⟨S2x4096x2816, .f32⟩
  | 84 => ⟨S2x4096x2816, .f32⟩
  | 85 => ⟨S2x4096x2816, .f32⟩
  | 86 => ⟨S2x4096x2816, .f32⟩
  | 87 => ⟨S2x4096x2816, .f32⟩
  | 88 => ⟨S_, .f32⟩
  | 89 => ⟨S2816, .f32⟩
  | 90 => ⟨S1x1x2816, .f32⟩
  | 91 => ⟨S_, .f32⟩
  | 92 => ⟨S2816, .f32⟩
  | 93 => ⟨S1x2816, .f32⟩
  | 94 => ⟨S2x4096x2816, .f32⟩
  | 95 => ⟨S_, .f32⟩
  | 96 => ⟨S2816, .f32⟩
  | 97 => ⟨S1x1x2816, .f32⟩
  | 98 => ⟨S2x4096x2816, .f32⟩
  | 99 => ⟨S2x4096x2816, .f32⟩
  | 100 => ⟨S_, .f32⟩
  | 101 => ⟨S2816, .f32⟩
  | 102 => ⟨S1x2816, .f32⟩
  | 103 => ⟨S_, .f32⟩
  | 104 => ⟨S3x2816, .f32⟩
  | 105 => ⟨S2x4096x2816, .f32⟩
  | 106 => ⟨S_, .f32⟩
  | 107 => ⟨S2816, .f32⟩
  | 108 => ⟨S1x1x2816, .f32⟩
  | 109 => ⟨S2x4096x2816, .f32⟩
  | 110 => ⟨S2x4096x2816, .f32⟩
  | 111 => ⟨S_, .f32⟩
  | 112 => ⟨S2816, .f32⟩
  | 113 => ⟨S1x2816, .f32⟩
  | 114 => ⟨S_, .f32⟩
  | 115 => ⟨S3x2816, .f32⟩
  | 116 => ⟨S3x2816, .f32⟩
  | 117 => ⟨S_, .f32⟩
  | 118 => ⟨S2x4098x2816, .f32⟩
  | 119 => ⟨S2x4096x2816, .f32⟩
  | 120 => ⟨S_, .f32⟩
  | 121 => ⟨S2816, .f32⟩
  | 122 => ⟨S1x1x2816, .f32⟩
  | 123 => ⟨S2x4096x2816, .f32⟩
  | 124 => ⟨S2x4096x2816, .f32⟩
  | 125 => ⟨S_, .f32⟩
  | 126 => ⟨S2816, .f32⟩
  | 127 => ⟨S1x2816, .f32⟩
  | _ => ⟨S8192x2816, .f32⟩

abbrev hbmTy0_1 (i : Nat) : BufTy := match i % 128 with
  | 0 => ⟨S_, .f32⟩
  | 1 => ⟨S3x2816, .f32⟩
  | 2 => ⟨S3x2816, .f32⟩
  | 3 => ⟨S_, .f32⟩
  | 4 => ⟨S2x4098x2816, .f32⟩
  | 5 => ⟨S2x4098x2816, .f32⟩
  | 6 => ⟨S2x2x2816, .f32⟩
  | 7 => ⟨S2x4096x2816, .f32⟩
  | 8 => ⟨S2x4096x2816, .f32⟩
  | 9 => ⟨S8192x2816, .f32⟩
  | 10 => ⟨S_, .f32⟩
  | 11 => ⟨S2816, .f32⟩
  | 12 => ⟨S1x1x2816, .f32⟩
  | 13 => ⟨S_, .f32⟩
  | 14 => ⟨S2816, .f32⟩
  | 15 => ⟨S1x2816, .f32⟩
  | 16 => ⟨S2x4096x2816, .f32⟩
  | 17 => ⟨S_, .f32⟩
  | 18 => ⟨S2816, .f32⟩
  | 19 => ⟨S1x1x2816, .f32⟩
  | 20 => ⟨S2x4096x2816, .f32⟩
  | 21 => ⟨S2x4096x2816, .f32⟩
  | 22 => ⟨S_, .f32⟩
  | 23 => ⟨S2816, .f32⟩
  | 24 => ⟨S1x2816, .f32⟩
  | 25 => ⟨S_, .f32⟩
  | 26 => ⟨S3x2816, .f32⟩
  | 27 => ⟨S2x4096x2816, .f32⟩
  | 28 => ⟨S_, .f32⟩
  | 29 => ⟨S2816, .f32⟩
  | 30 => ⟨S1x1x2816, .f32⟩
  | 31 => ⟨S2x4096x2816, .f32⟩
  | 32 => ⟨S2x4096x2816, .f32⟩
  | 33 => ⟨S_, .f32⟩
  | 34 => ⟨S2816, .f32⟩
  | 35 => ⟨S1x2816, .f32⟩
  | 36 => ⟨S_, .f32⟩
  | 37 => ⟨S3x2816, .f32⟩
  | 38 => ⟨S3x2816, .f32⟩
  | 39 => ⟨S_, .f32⟩
  | 40 => ⟨S2x4098x2816, .f32⟩
  | 41 => ⟨S2x4096x2816, .f32⟩
  | 42 => ⟨S_, .f32⟩
  | 43 => ⟨S2816, .f32⟩
  | 44 => ⟨S1x1x2816, .f32⟩
  | 45 => ⟨S2x4096x2816, .f32⟩
  | 46 => ⟨S2x4096x2816, .f32⟩
  | 47 => ⟨S_, .f32⟩
  | 48 => ⟨S2816, .f32⟩
  | 49 => ⟨S1x2816, .f32⟩
  | 50 => ⟨S_, .f32⟩
  | 51 => ⟨S3x2816, .f32⟩
  | 52 => ⟨S3x2816, .f32⟩
  | 53 => ⟨S_, .f32⟩
  | 54 => ⟨S2x4098x2816, .f32⟩
  | 55 => ⟨S2x4098x2816, .f32⟩
  | 56 => ⟨S2x2x2816, .f32⟩
  | 57 => ⟨S2x4096x2816, .f32⟩
  | 58 => ⟨S2x4096x2816, .f32⟩
  | 59 => ⟨S8192x2816, .f32⟩
  | 60 => ⟨S8192x2816, .bf16⟩
  | 61 => ⟨S8192x2816, .bf16⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_v52_2 : Ref sig .tc := ⟨.hbm, 71, rfl⟩
abbrev main_call0_cst_1 : Ref sig .tc := ⟨.hbm, 72, rfl⟩
abbrev main_call0_v6 : Ref sig .tc := ⟨.hbm, 73, rfl⟩
abbrev main_call0_v7 : Ref sig .tc := ⟨.hbm, 74, rfl⟩
abbrev main_v52_1 : Ref sig .tc := ⟨.hbm, 75, rfl⟩
abbrev main_v52_0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v60 : Ref sig .tc := ⟨.hbm, 87, rfl⟩
abbrev main_cst_3 : Ref sig .tc := ⟨.hbm, 88, rfl⟩
abbrev main_v61 : Ref sig .tc := ⟨.hbm, 89, rfl⟩
abbrev main_v62 : Ref sig .tc := ⟨.hbm, 90, rfl⟩
abbrev main_cst_4 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_5 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_6 : Ref sig .tc := ⟨.hbm, 100, rfl⟩
abbrev main_v70 : Ref sig .tc := ⟨.hbm, 101, rfl⟩
abbrev main_v71 : Ref sig .tc := ⟨.hbm, 102, rfl⟩
abbrev main_cst_7 : Ref sig .tc := ⟨.hbm, 103, rfl⟩
abbrev main_v72 : Ref sig .tc := ⟨.hbm, 104, rfl⟩
abbrev main_v73 : Ref sig .tc := ⟨.hbm, 105, rfl⟩
abbrev main_cst_8 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_9 : Ref sig .tc := ⟨.hbm, 111, rfl⟩
abbrev main_v78 : Ref sig .tc := ⟨.hbm, 112, rfl⟩
abbrev main_v79 : Ref sig .tc := ⟨.hbm, 113, rfl⟩
abbrev main_cst_10 : Ref sig .tc := ⟨.hbm, 114, rfl⟩
abbrev main_v80 : Ref sig .tc := ⟨.hbm, 115, rfl⟩
abbrev main_v81 : Ref sig .tc := ⟨.hbm, 116, rfl⟩
abbrev main_cst_11 : Ref sig .tc := ⟨.hbm, 117, rfl⟩
abbrev main_v82 : Ref sig .tc := ⟨.hbm, 118, rfl⟩
abbrev main_v83 : Ref sig .tc := ⟨.hbm, 119, rfl⟩
abbrev main_cst_12 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_13 : Ref sig .tc := ⟨.hbm, 125, rfl⟩
abbrev main_v88 : Ref sig .tc := ⟨.hbm, 126, rfl⟩
abbrev main_v89 : Ref sig .tc := ⟨.hbm, 127, rfl⟩
abbrev main_cst_14 : Ref sig .tc := ⟨.hbm, 128, rfl⟩
abbrev main_v90 : Ref sig .tc := ⟨.hbm, 129, rfl⟩
abbrev main_v91 : Ref sig .tc := ⟨.hbm, 130, rfl⟩
abbrev main_cst_15 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_16 : Ref sig .tc := ⟨.hbm, 138, rfl⟩
abbrev main_v98 : Ref sig .tc := ⟨.hbm, 139, rfl⟩
abbrev main_v99 : Ref sig .tc := ⟨.hbm, 140, rfl⟩
abbrev main_cst_17 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_18 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_19 : Ref sig .tc := ⟨.hbm, 150, rfl⟩
abbrev main_v107 : Ref sig .tc := ⟨.hbm, 151, rfl⟩
abbrev main_v108 : Ref sig .tc := ⟨.hbm, 152, rfl⟩
abbrev main_cst_20 : Ref sig .tc := ⟨.hbm, 153, rfl⟩
abbrev main_v109 : Ref sig .tc := ⟨.hbm, 154, rfl⟩
abbrev main_v110 : Ref sig .tc := ⟨.hbm, 155, rfl⟩
abbrev main_cst_21 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_22 : Ref sig .tc := ⟨.hbm, 161, rfl⟩
abbrev main_v115 : Ref sig .tc := ⟨.hbm, 162, rfl⟩
abbrev main_v116 : Ref sig .tc := ⟨.hbm, 163, rfl⟩
abbrev main_cst_23 : Ref sig .tc := ⟨.hbm, 164, rfl⟩
abbrev main_v117 : Ref sig .tc := ⟨.hbm, 165, rfl⟩
abbrev main_v118 : Ref sig .tc := ⟨.hbm, 166, rfl⟩
abbrev main_cst_24 : Ref sig .tc := ⟨.hbm, 167, rfl⟩
abbrev main_v119 : Ref sig .tc := ⟨.hbm, 168, rfl⟩
abbrev main_v120 : Ref sig .tc := ⟨.hbm, 169, rfl⟩
abbrev main_cst_25 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_26 : Ref sig .tc := ⟨.hbm, 175, rfl⟩
abbrev main_v125 : Ref sig .tc := ⟨.hbm, 176, rfl⟩
abbrev main_v126 : Ref sig .tc := ⟨.hbm, 177, rfl⟩
abbrev main_cst_27 : Ref sig .tc := ⟨.hbm, 178, rfl⟩
abbrev main_v127 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩

abbrev nD : Nat := 1
abbrev τ : Topo := Topo.v7x

variable {F : FTy → Type} [FloatOps F]
-- ==== Kernel3.lean ====
abbrev S8192x2816 : Shape := ⟨2, ![8192, 2816]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S8x2816 : Shape := ⟨2, ![8, 2816]⟩
abbrev S256x2816 : Shape := ⟨2, ![256, 2816]⟩
abbrev S256x1024 : Shape := ⟨2, ![256, 1024]⟩
abbrev S264x2816 : Shape := ⟨2, ![264, 2816]⟩

abbrev nBuf : Space → Nat
  | .hbm => 11
  | .vmem => 20
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x2816, .f32⟩
  | .hbm, ⟨3, _⟩ => ⟨S3x2816, .f32⟩
  | .hbm, ⟨4, _⟩ => ⟨S1x2816, .f32⟩
  | .hbm, ⟨5, _⟩ => ⟨S1x2816, .f32⟩
  | .hbm, ⟨6, _⟩ => ⟨S2816x1024, .f32⟩
  | .hbm, ⟨7, _⟩ => ⟨S8192x1024, .f32⟩
  | .hbm, ⟨8, _⟩ => ⟨S2816x1024, .bf16⟩
  | .hbm, ⟨9, _⟩ => ⟨S8192x2816, .bf16⟩
  | .hbm, ⟨10, _⟩ => ⟨S8192x1024, .f32⟩
  | .local _ .vmem, ⟨0, _⟩ => ⟨S8x2816, .f32⟩
  | .local _ .vmem, ⟨1, _⟩ => ⟨S8x2816, .f32⟩
  | .local _ .vmem, ⟨2, _⟩ => ⟨S256x2816, .f32⟩
  | .local _ .vmem, ⟨3, _⟩ => ⟨S256x2816, .f32⟩
  | .local _ .vmem, ⟨4, _⟩ => ⟨S8x2816, .f32⟩
  | .local _ .vmem, ⟨5, _⟩ => ⟨S8x2816, .f32⟩
  | .local _ .vmem, ⟨6, _⟩ => ⟨S256x2816, .f32⟩
  | .local _ .vmem, ⟨7, _⟩ => ⟨S256x2816, .f32⟩
  | .local _ .vmem, ⟨8, _⟩ => ⟨S3x2816, .f32⟩
  | .local _ .vmem, ⟨9, _⟩ => ⟨S3x2816, .f32⟩
  | .local _ .vmem, ⟨10, _⟩ => ⟨S1x2816, .f32⟩
  | .local _ .vmem, ⟨11, _⟩ => ⟨S1x2816, .f32⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_32 : BitVec 32 := 0#32
  let v71 : BitVec 1 := Scalar.cmpi .eq arg1 c0_i32_32
  let v72 : BitVec 32 := Scalar.extui v71
  let c0_i32_33 : BitVec 32 := 0#32
  let v73 : BitVec 1 := Scalar.cmpi .ne v72 c0_i32_33
  v73

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S8192x2816 : Shape := ⟨2, ![8192, 2816]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S2x4096x2816 : Shape := ⟨3, ![2, 4096, 2816]⟩
abbrev S_ : Shape := ⟨0, ![]⟩
abbrev S2x2x2816 : Shape := ⟨3, ![2, 2, 2816]⟩
abbrev S2x4098x2816 : Shape := ⟨3, ![2, 4098, 2816]⟩
abbrev S2816 : Shape := ⟨1, ![2816]⟩
abbrev S1x1x2816 : Shape := ⟨3, ![1, 1, 2816]⟩
abbrev S2x4096x1024 : Shape := ⟨3, ![2, 4096, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x2816, .f32⟩
  | .hbm, ⟨3, _⟩ => ⟨S3x2816, .f32⟩
  | .hbm, ⟨4, _⟩ => ⟨S1x2816, .f32⟩
  | .hbm, ⟨5, _⟩ => ⟨S1x2816, .f32⟩
  | .hbm, ⟨6, _⟩ => ⟨S2816x1024, .f32⟩
  | .hbm, ⟨7, _⟩ => ⟨S8192x1024, .f32⟩
  | .hbm, ⟨8, _⟩ => ⟨S2x4096x2816, .f32⟩
  | .hbm, ⟨9, _⟩ => ⟨S_, .f32⟩
  | .hbm, ⟨10, _⟩ => ⟨S2x2x2816, .f32⟩
  | .hbm, ⟨11, _⟩ => ⟨S2x4098x2816, .f32⟩
  | .hbm, ⟨12, _⟩ => ⟨S2x4096x2816, .f32⟩
  | .hbm, ⟨13, _⟩ => ⟨S1x2816, .f32⟩
  | .hbm, ⟨14, _⟩ => ⟨S2816, .f32⟩
  | .hbm, ⟨15, _⟩ => ⟨S1x1x2816, .f32⟩
  | .hbm, ⟨16, _⟩ => ⟨S2x4096x2816, .f32⟩
  | .hbm, ⟨17, _⟩ => ⟨S2x4096x2816, .f32⟩
  | .hbm, ⟨18, _⟩ => ⟨S2x4096x2816, .f32⟩
  | .hbm, ⟨19, _⟩ => ⟨S1x2816, .f32⟩
  | .hbm, ⟨20, _⟩ => ⟨S2816, .f32⟩
  | .hbm, ⟨21, _⟩ => ⟨S1x1x2816, .f32⟩
  | .hbm, ⟨22, _⟩ => ⟨S2x4096x2816, .f32⟩
  | .hbm, ⟨23, _⟩ => ⟨S2x4096x2816, .f32⟩
  | .hbm, ⟨24, _⟩ => ⟨S2x4096x2816, .f32⟩
  | .hbm, ⟨25, _⟩ => ⟨S1x2816, .f32⟩
  | .hbm, ⟨26, _⟩ => ⟨S2816, .f32⟩
  | .hbm, ⟨27, _⟩ => ⟨S1x1x2816, .f32⟩
  | .hbm, ⟨28, _⟩ => ⟨S2x4096x2816, .f32⟩
  | .hbm, ⟨29, _⟩ => ⟨S2x4096x2816, .f32⟩
  | .hbm, ⟨30, _⟩ => ⟨S2x4096x2816, .f32⟩
  | .hbm, ⟨31, _⟩ => ⟨S1x1x2816, .f32⟩
  | .hbm, ⟨32, _⟩ => ⟨S2x4096x2816, .f32⟩
  | .hbm, ⟨33, _⟩ => ⟨S2x4096x2816, .f32⟩
  | .hbm, ⟨34, _⟩ => ⟨S2x4096x2816, .f32⟩
  | .hbm, ⟨35, _⟩ => ⟨S_, .f32⟩
  | .hbm, ⟨36, _⟩ => ⟨S2x2x2816, .f32⟩
  | .hbm, ⟨37, _⟩ => ⟨S2x4098x2816, .f32⟩
  | .hbm, ⟨38, _⟩ => ⟨S2x4096x2816, .f32⟩
  | .hbm, ⟨39, _⟩ => ⟨S1x2816, .f32⟩
  | .hbm, ⟨40, _⟩ => ⟨S2816, .f32⟩
  | .hbm, ⟨41, _⟩ => ⟨S1x1x2816, .f32⟩
  | .hbm, ⟨42, _⟩ => ⟨S2x4096x2816, .f32⟩
  | .hbm, ⟨43, _⟩ => ⟨S2x4096x2816, .f32⟩
  | .hbm, ⟨44, _⟩ => ⟨S2x4096x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S2x4096x2816, .f32⟩
  | .hbm, ⟨49, _⟩ => ⟨S2x4096x2816, .f32⟩
  | .hbm, ⟨50, _⟩ => ⟨S2x4096x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S2x4096x2816, .f32⟩
  | .hbm, ⟨55, _⟩ => ⟨S2x4096x2816, .f32⟩
  | .hbm, ⟨56, _⟩ => ⟨S2x4096x2816, .f32⟩
  | .hbm, ⟨57, _⟩ => ⟨S1x1x2816, .f32⟩
  | .hbm, ⟨58, _⟩ => ⟨S2x4096x2816, .f32⟩
  | .hbm, ⟨59, _⟩ => ⟨S2x4096x2816, .f32⟩
  | .hbm, ⟨60, _⟩ => ⟨S2x4096x2816, .f32⟩
  | .hbm, ⟨61, _⟩ => ⟨S2x4096x2816, .f32⟩
  | .hbm, ⟨62, _⟩ => ⟨S_, .f32⟩
  | .hbm, ⟨63, _⟩ => ⟨S2x4096x2816, .f32⟩
  | .hbm, ⟨64, _⟩ => ⟨S2x4096x2816, .f32⟩
  | .hbm, ⟨65, _⟩ => ⟨S_, .f32⟩
  | .hbm, ⟨66, _⟩ => ⟨S2x4096x2816, .f32⟩
  | .hbm, ⟨67, _⟩ => ⟨S2x4096x2816, .f32⟩
  | .hbm, ⟨68, _⟩ => ⟨S2x4096x2816, .f32⟩
  | .hbm, ⟨69, _⟩ => ⟨S2x4096x2816, .f32⟩
  | .hbm, ⟨70, _⟩ => ⟨S8192x2816, .f32⟩
  | .hbm, ⟨71, _⟩ => ⟨S8192x2816, .bf16⟩
  | .hbm, ⟨72, _⟩ => ⟨S2x4096x1024, .f32⟩
  | .hbm, ⟨73, _⟩ => ⟨S8192x1024, .f32⟩
  | .hbm, ⟨74, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel4.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x2816 : Shape := ⟨2, ![8192, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S8192x1024, .bf16⟩
  | .hbm, ⟨6, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x2816 : Shape := ⟨2, ![8192, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S8192x1024, .bf16⟩
  | .hbm, ⟨6, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8192x2816 : Shape := ⟨2, ![8192, 2816]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x1024 : Shape := ⟨2, ![8192, 1024]⟩
abbrev S1024x2816 : Shape := ⟨2, ![1024, 2816]⟩
abbrev S2x1024x1408 : Shape := ⟨3, ![2, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 7
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S8192x2816, .bf16⟩
  | .hbm, ⟨6, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2x1024x1408, .bf16⟩
  | .local _ .vmem, ⟨3, _⟩ => ⟨S1024x1024, .f32⟩
  | .local _ .vmem, ⟨4, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2816 : Shape := ⟨2, ![8192, 2816]⟩
abbrev S1024x5632 : Shape := ⟨2, ![1024, 5632]⟩
abbrev S8192x1024 : Shape := ⟨2, ![8192, 1024]⟩
abbrev S1024x4x1408 : Shape := ⟨3, ![1024, 4, 1408]⟩
abbrev S4x1024x1408 : Shape := ⟨3, ![4, 1024, 1408]⟩
abbrev S1024x2816 : Shape := ⟨2, ![1024, 2816]⟩
abbrev S2x1024x1408 : Shape := ⟨3, ![2, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S8192x1024, .f32⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S8192x2816, .bf16⟩
  | .hbm, ⟨7, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2x1024x1408, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2816 : Shape := ⟨2, ![8192, 2816]⟩
abbrev S1024x5632 : Shape := ⟨2, ![1024, 5632]⟩
abbrev S8192x1024 : Shape := ⟨2, ![8192, 1024]⟩
abbrev S_ : Shape := ⟨0, ![]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x5632, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8192x2816 : Shape := ⟨2, ![8192, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S4x1024x1408, .bf16⟩
  | .hbm, ⟨3, _⟩ => ⟨S8192x1024, .bf16⟩
  | .hbm, ⟨4, _⟩ => ⟨S8192x2816, .bf16⟩
  | .hbm, ⟨5, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x2816 : Shape := ⟨2, ![8192, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S2x1024x1408 : Shape := ⟨3, ![2, 1024, 1408]⟩
abbrev S1024x2x1408 : Shape := ⟨3, ![1024, 2, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S4x1024x1408, .bf16⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S2816x1024, .f32⟩
  | .hbm, ⟨7, _⟩ => ⟨S1024x2816, .f32⟩
  | .hbm, ⟨8, _⟩ => ⟨S2x1024x1408, .bf16⟩
  | .hbm, ⟨9, _⟩ => ⟨S1024x2x1408, .f32⟩
  | .hbm, ⟨10, _⟩ => ⟨S2x1024x1408, .f32⟩
  | .hbm, ⟨11, _⟩ => ⟨S2x1024x1408, .bf16⟩
  | .hbm, ⟨12, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Body.lean ====
module

public import proofs.«01_k».proof.Proof.Gen.Kernel.Loops
public import proofs.«01_k».proof.Proof.Gen.Kernel.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model's resources at this certificate's mesh and signature. -/
abbrev Res (F : FTy → Type) : Type := MT nD τ sig Unit (Elt F) ℕ (UR sig nD τ) ℕ

/-- Whether the body is at the first block of keys, in the words the kernel computes it with. -/
abbrev atFirst (i : grid0.Coords) : Prop :=
  Scalar.cmpi .ne (Scalar.extui (Scalar.cmpi .eq (BitVec.ofNat 32 (i 2).val) 0#32)) 0#32 = 1#1

set_option maxHeartbeats 4000000 in
/-- The kernel body at any point: from the six inputs at given contents and the outputs and both scratch buffers at any
    contents, it runs to its return, leaving the inputs as they were. -/
theorem run_body (c : Dev nD) (E : Set ℕ) (i : grid0.Coords)
    (arg3 : Memref sig .tc .vmem S512x256 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x1x8x2x512 .f32) (harg8 : arg8.IsWhole) (arg9 : Memref sig .tc .vmem S4096x128 .f32) (harg9 : arg9.IsWhole) (arg10 : Memref sig .tc .vmem S1x1x4096x2 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512x2 .f32) (harg13 : arg13.IsWhole) (arg14 : Memref sig .tc .vmem S4096x256 .f32) (harg14 : arg14.IsWhole) (arg15 : Memref sig .tc .vmem S8x2x512 .f32) (harg15 : arg15.IsWhole)
    (x3 : Vec F S512x256 .bf16) (x4 : Vec F S512x128 .bf16) (x5 : Vec F S4096x256 .bf16) (x6 : Vec F S4096x128 .f32) (x7 : Vec F S4096x128 .f32) (x8 : Vec F S1x1x8x2x512 .f32)
    (K : PUnit → sProp (Res F)) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none (c : Thread nD τ) none) E
        (cc0_fox_attn_bwd_l2 i arg3 harg3 arg4 harg4 arg5 harg5 arg6 harg6 arg7 harg7 arg8 harg8 arg9 harg9 arg10 harg10 arg11 harg11 arg12 harg12 arg13 harg13 arg14 harg14 arg15 harg15) K := by
  simp only [cc0_fox_attn_bwd_l2_eq_skeleton]; unfold cc0_fox_attn_bwd_l2_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf3 hf4 hf5 hf6 hf7 hf8
  by_cases h1 : atFirst i <;> by_cases h2 : k0_cond2 i = 1#1
  all_goals
    sl_exec
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    iexists _; iexists _; isplitr; swap; · iexact H15
    ipureintro; rfl

/-! ## The launch -/

variable (m : (ℓ : Loc nD τ sig) → Buf (Elt F) ℓ) (ρ : Dev nD → PrngReg)

/-- The proof data: each input's block stays as staged; what the body leaves in an output is not tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨_ + 6, _⟩ => fun _ => Classical.arbitrary _
  Φ _ := Pipeline.ΦA spec0 c
  q _ := fullShare
  owed _ := 0

/-- The pipeline's arrays at the start. -/
theorem A_eq (c : Dev nD) (w : Fin cfg0.W) : (dats m 0 c).A w = V m c (Pipeline.arrRef spec0 w) := by dsimp only [dats]
/-- The body leaves input window 0 as it was. -/
theorem after0_0 (c : Dev nD) (t : Fin cfg0.N) : (dats m 0 c).after 0 t = iblk m c 0 t := by dsimp only [dats]
/-- The body leaves input window 1 as it was. -/
theorem after0_1 (c : Dev nD) (t : Fin cfg0.N) : (dats m 0 c).after 1 t = iblk m c 1 t := by dsimp only [dats]
/-- The body leaves input window 2 as it was. -/
theorem after0_2 (c : Dev nD) (t : Fin cfg0.N) : (dats m 0 c).after 2 t = iblk m c 2 t := by dsimp only [dats]
/-- The body leaves input window 3 as it was. -/
theorem after0_3 (c : Dev nD) (t : Fin cfg0.N) : (dats m 0 c).after 3 t = iblk m c 3 t := by dsimp only [dats]
/-- The body leaves input window 4 as it was. -/
theorem after0_4 (c : Dev nD) (t : Fin cfg0.N) : (dats m 0 c).after 4 t = iblk m c 4 t := by dsimp only [dats]
/-- The body leaves input window 5 as it was. -/
theorem after0_5 (c : Dev nD) (t : Fin cfg0.N) : (dats m 0 c).after 5 t = iblk m c 5 t := by dsimp only [dats]
/-- The body finds its block in input window 0. -/
theorem before0_0 (c : Dev nD) (t : Fin cfg0.N) (d) : (dats m 0 c).before 0 t d = iblk m c 0 t :=
  before0_0_of m (dats m 0 c) (A_eq m c 0) (after0_0 m c) t d
/-- The body finds its block in input window 1. -/
theorem before0_1 (c : Dev nD) (t : Fin cfg0.N) (d) : (dats m 0 c).before 1 t d = iblk m c 1 t :=
  before0_1_of m (dats m 0 c) (A_eq m c 1) (after0_1 m c) t d
/-- The body finds its block in input window 2. -/
theorem before0_2 (c : Dev nD) (t : Fin cfg0.N) (d) : (dats m 0 c).before 2 t d = iblk m c 2 t :=
  before0_2_of m (dats m 0 c) (A_eq m c 2) (after0_2 m c) t d
/-- The body finds its block in input window 3. -/
theorem before0_3 (c : Dev nD) (t : Fin cfg0.N) (d) : (dats m 0 c).before 3 t d = iblk m c 3 t :=
  before0_3_of m (dats m 0 c) (A_eq m c 3) (after0_3 m c) t d
/-- The body finds its block in input window 4. -/
theorem before0_4 (c : Dev nD) (t : Fin cfg0.N) (d) : (dats m 0 c).before 4 t d = iblk m c 4 t :=
  before0_4_of m (dats m 0 c) (A_eq m c 4) (after0_4 m c) t d
/-- The body finds its block in input window 5. -/
theorem before0_5 (c : Dev nD) (t : Fin cfg0.N) (d) : (dats m 0 c).before 5 t d = iblk m c 5 t :=
  before0_5_of m (dats m 0 c) (A_eq m c 5) (after0_5 m c) t d

/-- The windows whose contents are not tracked: the five outputs. -/
def fgt : Fin cfg0.W → Bool := fun w => decide (6 ≤ w.val)

/-- The region invariant, conjunct by conjunct: both scratch buffers at some contents, the generator register at some state. -/
theorem PhiA_eq (c : Dev nD) :
    (Pipeline.ΦA spec0 c : sProp (Res F))
      = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The body obligation with the outputs forgotten. -/
theorem body_obligation (c : Dev nD) :
    Pipeline.BodyObligationLoose (dats m 0 c) (defs₀ (F := F)) Variants.none () Set.univ fgt := fun t => by
  rw [bigSep_W0, bigSep_W0]
  show iprop(Pipeline.ΦA spec0 c ∗ _ ∗ (∃ d, owns _ _ _ _) ∗ (∃ d, owns _ _ _ _) ∗ (∃ d, owns _ _ _ _) ∗ (∃ d, owns _ _ _ _) ∗ (∃ d, owns _ _ _ _) ∗ (∃ d, owns _ _ _ _) ∗ (∃ X, owns _ _ _ X) ∗ (∃ X, owns _ _ _ X) ∗ (∃ X, owns _ _ _ X) ∗ (∃ X, owns _ _ _ X) ∗ (∃ X, owns _ _ _ X)) ⊢ wp _ _ _ (bodyAt0 t) (fun _ => iprop(Pipeline.ΦA spec0 c ∗ _ ∗ owns _ _ _ _ ∗ owns _ _ _ _ ∗ owns _ _ _ _ ∗ owns _ _ _ _ ∗ owns _ _ _ _ ∗ owns _ _ _ _ ∗ (∃ X, owns _ _ _ X) ∗ (∃ X, owns _ _ _ X) ∗ (∃ X, owns _ _ _ X) ∗ (∃ X, owns _ _ _ X) ∗ (∃ X, owns _ _ _ X)))
  rw [show (dats m 0 c).owesAt () t.succ = (dats m 0 c).owesAt () t.castSucc from rfl, PhiA_eq]
  simp only [before0_0, before0_1, before0_2, before0_3, before0_4, before0_5, after0_0, after0_1, after0_2, after0_3, after0_4, after0_5]
  iintro ⟨⟨⟨S0, S1⟩, Hp⟩, Ho, ⟨%d0, H0⟩, ⟨%d1, H1⟩, ⟨%d2, H2⟩, ⟨%d3, H3⟩, ⟨%d4, H4⟩, ⟨%d5, H5⟩, H6, H7, H8, H9, H10⟩
  iapply (run_body c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t))
  iframe
  iintro ⟨H0, H1, H2, H3, H4, H5, H6, H7, H8, H9, H10, S0, S1⟩
  iframe

set_option backward.isDefEq.respectTransparency.types false in
/-- The run of `main`: every schedule terminates, with the arrays the pipeline stages as inputs and every buffer it does not
    touch as the region found them, and every semaphore at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget cfgs (dats m) (0 : Fin 1) launch0 defs₀ Variants.none fgt m ρ main
    (hbody := fun c => body_obligation m c) (hshare := fun c => (dats m 0 c).share_full fun _ => rfl) (howed := fun _ _ => rfl)
    (V := V m) (hmain := hmain m Variants.none) (hA := A_eq m) (hΦ := fun _ _ => rfl)
    (Q' := _) (hQ' := fun _ h => h)

/-- The frame: `main` terminates, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 3 rfl).trans (V_main_arg4 m c)⟩, h.2⟩) (run_main m ρ)

end Cert.Kernel.Body

end
-- ==== Proof.Pay.lean ====
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Pay

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A tile read by its row and its column. -/
abbrev cur {φ : FTy} (x : FVec Ideal S512x128 φ) : Fin 512 → Fin 128 → EReal := fun r l => x (ix2 r l)
/-- A row of one head's log-sum-exp, read by its column. -/
abbrev row5 (x : FVec Ideal S1x1x1x1x512 .f32) : Fin 512 → EReal := fun r => x (ix5 0 0 0 0 r)
/-- A row of one head's row sums, read by its column. -/
abbrev row3 (x : FVec Ideal S1x1x512 .f32) : Fin 512 → EReal := fun r => x (ix3 0 0 r)

/-- Whether lane `l` of a pair of heads belongs to head `hh`. -/
def inHead (hh : Fin 2) (l : Fin 128) : Prop := if hh = 0 then l.val < 64 else 64 ≤ l.val
/-- The condition can be decided. -/
instance (hh : Fin 2) (l : Fin 128) : Decidable (inHead hh l) := by unfold inHead; infer_instance

/-- The lanes of one head, zero in the other head's lanes. -/
def domT (hh : Fin 2) (D : Fin 512 → Fin 128 → EReal) (r : Fin 512) (l : Fin 128) : EReal := if inHead hh l then D r l else 0

/-- One tile of transposed probabilities. -/
def pT (masked : Bool) (K Q : Fin 512 → Fin 128 → EReal) (ls : Fin 512 → EReal) (k r : Fin 512) : EReal :=
  Ideal.exp ((if masked = true ∧ r.val < k.val then ⊥ else ∑ l, K k l * Q r l) - ls r)

/-- One tile of the transposed gradient of the logits. -/
def dsT (masked : Bool) (K Q V D : Fin 512 → Fin 128 → EReal) (ls dl : Fin 512 → EReal) (k r : Fin 512) : EReal :=
  pT masked K Q ls k r * ((∑ l, V k l * D r l) - dl r)

/-- The mask stands for minus infinity. -/
theorem mask_eq : (Named.named κ "mask" 0xF149F2CA#32 : Ideal .f32) = ⊥ := rfl

/-- A choice by whether a lane lies below the 64th. -/
theorem sel_lt (l : Fin 128) (x y : EReal) : Scalar.select (IntOp.cmpi CmpIPredicate.slt (BitVec.ofNat 32 l.val) 64#32) x y = if l.val < 64 then x else y := by
  word_cmp
/-- A choice by whether a lane lies at or past the 64th. -/
theorem sel_ge (l : Fin 128) (x y : EReal) : Scalar.select (IntOp.cmpi CmpIPredicate.sge (BitVec.ofNat 32 l.val) 64#32) x y = if 64 ≤ l.val then x else y := by
  word_cmp
/-- A choice by the causal order inside a block. -/
theorem sel_causal (r k : Fin 512) (x y : EReal) : Scalar.select (IntOp.cmpi CmpIPredicate.sge (BitVec.ofNat 32 r.val) (BitVec.ofNat 32 k.val)) x y
    = if r.val < k.val then y else x := by
  have : Scalar.select (IntOp.cmpi CmpIPredicate.sge (BitVec.ofNat 32 r.val) (BitVec.ofNat 32 k.val)) x y = if k.val ≤ r.val then x else y := by word_cmp
  rw [this]; split_ifs <;> first | rfl | omega

/-- An entry of the value 32 of the body. -/
theorem pay32_at (D : FVec Ideal S512x128 .f32) (r : Fin 512) (l : Fin 128) : k0_pay32 (F := Ideal) k0_pay47 D (ix2 r l) = domT 0 (cur D) r l := by
  pointwise [k0_pay32, k0_pay47, sel_lt, sel_ge]; rfl
/-- An entry of the value 73 of the body. -/
theorem pay73_at (D : FVec Ideal S512x128 .f32) (r : Fin 512) (l : Fin 128) : k0_pay73 (F := Ideal) k0_pay48 D (ix2 r l) = domT 1 (cur D) r l := by
  pointwise [k0_pay73, k0_pay48, sel_lt, sel_ge]; rfl
/-- An entry of the value 57 of the body. -/
theorem pay57_at (D : FVec Ideal S512x128 .f32) (r : Fin 512) (l : Fin 128) : k0_pay57 (F := Ideal) D (ix2 r l) = domT 0 (cur D) r l := by
  pointwise [k0_pay57, k0_pay47, sel_lt]; rfl
/-- An entry of the value 65 of the body. -/
theorem pay65_at (D : FVec Ideal S512x128 .f32) (r : Fin 512) (l : Fin 128) : k0_pay65 (F := Ideal) k0_pay48 D (ix2 r l) = domT 1 (cur D) r l := by
  pointwise [k0_pay65, k0_pay48, sel_ge]; rfl

/-- An entry of the value 33 of the body. -/
theorem pay33_at (a b : FVec Ideal S512x128 .bf16) (w : FVec Ideal S1x1x1x1x512 .f32) (k r : Fin 512) : k0_pay33 (F := Ideal) a b w (ix2 k r) = pT false (cur a) (cur b) (row5 w) k r := by
  pointwise [k0_pay33, k0_pay30, k0_pay31, pT]
  rw [if_neg (by simp)]
/-- An entry of the value 74 of the body. -/
theorem pay74_at (a b : FVec Ideal S512x128 .bf16) (w : FVec Ideal S1x1x1x1x512 .f32) (k r : Fin 512) : k0_pay74 (F := Ideal) a b w (ix2 k r) = pT false (cur a) (cur b) (row5 w) k r := by
  pointwise [k0_pay74, k0_pay71, k0_pay72, pT]
  rw [if_neg (by simp)]
/-- An entry of the value 58 of the body. -/
theorem pay58_at (a b : FVec Ideal S512x128 .bf16) (w : FVec Ideal S1x1x1x1x512 .f32) (k r : Fin 512) : k0_pay58 (F := Ideal) a b w (ix2 k r) = pT true (cur a) (cur b) (row5 w) k r := by
  pointwise [k0_pay58, k0_pay55, k0_pay56, k0_pay46, pT]
  rw [sel_causal, mask_eq]
/-- An entry of the value 66 of the body. -/
theorem pay66_at (a b : FVec Ideal S512x128 .bf16) (w : FVec Ideal S1x1x1x1x512 .f32) (k r : Fin 512) : k0_pay66 (F := Ideal) k0_pay46 a b w (ix2 k r) = pT true (cur a) (cur b) (row5 w) k r := by
  pointwise [k0_pay66, k0_pay63, k0_pay64, k0_pay46, pT]
  rw [sel_causal, mask_eq]
/-- An entry of the value 34 of the body. -/
theorem pay34_at (z D : FVec Ideal S512x128 .f32) (a b : FVec Ideal S512x128 .bf16) (w : FVec Ideal S1x1x1x1x512 .f32) (k : Fin 512) (l : Fin 128) : k0_pay34 (F := Ideal) k0_pay47 z D a b w (ix2 k l)
    = z (ix2 k l) + ∑ r, pT false (cur a) (cur b) (row5 w) k r * domT 0 (cur D) r l := by
  pointwise [k0_pay34, pay33_at, pay32_at]
/-- An entry of the value 75 of the body. -/
theorem pay75_at (z D : FVec Ideal S512x128 .f32) (a b : FVec Ideal S512x128 .bf16) (w : FVec Ideal S1x1x1x1x512 .f32) (k : Fin 512) (l : Fin 128) : k0_pay75 (F := Ideal) k0_pay48 D z a b w (ix2 k l)
    = z (ix2 k l) + ∑ r, pT false (cur a) (cur b) (row5 w) k r * domT 1 (cur D) r l := by
  pointwise [k0_pay75, pay74_at, pay73_at]

/-- An entry of the value 35 of the body. -/
theorem pay35_at (v : FVec Ideal S512x128 .bf16) (D : FVec Ideal S512x128 .f32) (a b : FVec Ideal S512x128 .bf16) (w : FVec Ideal S1x1x1x1x512 .f32) (w' : FVec Ideal S1x1x512 .f32) (k r : Fin 512) : k0_pay35 (F := Ideal) k0_pay47 v D a b w w' (ix2 k r)
    = dsT false (cur a) (cur b) (cur v) (domT 0 (cur D)) (row5 w) (row3 w') k r := by
  pointwise [k0_pay35, pay33_at, pay32_at, dsT]
/-- An entry of the value 36 of the body. -/
theorem pay36_at (v : FVec Ideal S512x128 .bf16) (z D : FVec Ideal S512x128 .f32) (a b : FVec Ideal S512x128 .bf16) (w : FVec Ideal S1x1x1x1x512 .f32) (w' : FVec Ideal S1x1x512 .f32) (k : Fin 512) (l : Fin 128) : k0_pay36 (F := Ideal) k0_pay47 v z D a b w w' (ix2 k l)
    = z (ix2 k l) + ∑ r, dsT false (cur a) (cur b) (cur v) (domT 0 (cur D)) (row5 w) (row3 w') k r * b (ix2 r l) := by
  pointwise [k0_pay36, pay35_at, k0_pay31]
/-- An entry of the value 37 of the body. -/
theorem pay37_at (v : FVec Ideal S512x128 .bf16) (D z : FVec Ideal S512x128 .f32) (a b : FVec Ideal S512x128 .bf16) (w : FVec Ideal S1x1x1x1x512 .f32) (w' : FVec Ideal S1x1x512 .f32) (r : Fin 512) (l : Fin 128) : k0_pay37 (F := Ideal) k0_pay47 v D a b w w' z (ix2 r l)
    = z (ix2 r l) + ∑ k, dsT false (cur a) (cur b) (cur v) (domT 0 (cur D)) (row5 w) (row3 w') k r * a (ix2 k l) := by
  pointwise [k0_pay37, pay35_at, k0_pay30]

/-- An entry of the value 76 of the body. -/
theorem pay76_at (v : FVec Ideal S512x128 .bf16) (D : FVec Ideal S512x128 .f32) (a b : FVec Ideal S512x128 .bf16) (w : FVec Ideal S1x1x1x1x512 .f32) (w' : FVec Ideal S1x1x512 .f32) (k r : Fin 512) : k0_pay76 (F := Ideal) k0_pay48 v D a b w w' (ix2 k r)
    = dsT false (cur a) (cur b) (cur v) (domT 1 (cur D)) (row5 w) (row3 w') k r := by
  pointwise [k0_pay76, pay74_at, pay73_at, dsT]
/-- An entry of the value 77 of the body. -/
theorem pay77_at (v : FVec Ideal S512x128 .bf16) (z D : FVec Ideal S512x128 .f32) (a b : FVec Ideal S512x128 .bf16) (w : FVec Ideal S1x1x1x1x512 .f32) (w' : FVec Ideal S1x1x512 .f32) (k : Fin 512) (l : Fin 128) : k0_pay77 (F := Ideal) k0_pay48 v z D a b w w' (ix2 k l)
    = z (ix2 k l) + ∑ r, dsT false (cur a) (cur b) (cur v) (domT 1 (cur D)) (row5 w) (row3 w') k r * b (ix2 r l) := by
  pointwise [k0_pay77, pay76_at, k0_pay72]
/-- An entry of the value 78 of the body. -/
theorem pay78_at (v : FVec Ideal S512x128 .bf16) (D z : FVec Ideal S512x128 .f32) (a b : FVec Ideal S512x128 .bf16) (w : FVec Ideal S1x1x1x1x512 .f32) (w' : FVec Ideal S1x1x512 .f32) (r : Fin 512) (l : Fin 128) : k0_pay78 (F := Ideal) k0_pay48 v D a b w w' z (ix2 r l)
    = z (ix2 r l) + ∑ k, dsT false (cur a) (cur b) (cur v) (domT 1 (cur D)) (row5 w) (row3 w') k r * a (ix2 k l) := by
  pointwise [k0_pay78, pay76_at, k0_pay71]

/-- An entry of the value 60 of the body. -/
theorem pay60_at (v : FVec Ideal S512x128 .bf16) (D : FVec Ideal S512x128 .f32) (a b : FVec Ideal S512x128 .bf16) (w : FVec Ideal S1x1x1x1x512 .f32) (w' : FVec Ideal S1x1x512 .f32) (k r : Fin 512) : k0_pay60 (F := Ideal) v (k0_pay57 (F := Ideal) D) (k0_pay58 (F := Ideal) a b w) w' (ix2 k r)
    = dsT true (cur a) (cur b) (cur v) (domT 0 (cur D)) (row5 w) (row3 w') k r := by
  pointwise [k0_pay60, pay58_at, pay57_at, dsT]
/-- An entry of the value 61 of the body. -/
theorem pay61_at (v : FVec Ideal S512x128 .bf16) (D : FVec Ideal S512x128 .f32) (a b : FVec Ideal S512x128 .bf16) (w : FVec Ideal S1x1x1x1x512 .f32) (w' : FVec Ideal S1x1x512 .f32) (k : Fin 512) (l : Fin 128) : k0_pay61 (F := Ideal) v k0_pay54 (k0_pay56 b) (k0_pay57 (F := Ideal) D) (k0_pay58 (F := Ideal) a b w) w' (ix2 k l)
    = ∑ r, dsT true (cur a) (cur b) (cur v) (domT 0 (cur D)) (row5 w) (row3 w') k r * b (ix2 r l) := by
  pointwise [k0_pay61, pay60_at, k0_pay56, k0_pay54, zero_add]
/-- An entry of the value 62 of the body. -/
theorem pay62_at (v : FVec Ideal S512x128 .bf16) (D z : FVec Ideal S512x128 .f32) (a b : FVec Ideal S512x128 .bf16) (w : FVec Ideal S1x1x1x1x512 .f32) (w' : FVec Ideal S1x1x512 .f32) (r : Fin 512) (l : Fin 128) : k0_pay62 (F := Ideal) v (k0_pay55 a) (k0_pay57 (F := Ideal) D) (k0_pay58 (F := Ideal) a b w) w' z (ix2 r l)
    = z (ix2 r l) + ∑ k, dsT true (cur a) (cur b) (cur v) (domT 0 (cur D)) (row5 w) (row3 w') k r * a (ix2 k l) := by
  pointwise [k0_pay62, pay60_at, k0_pay55]

/-- An entry of the value 68 of the body. -/
theorem pay68_at (v : FVec Ideal S512x128 .bf16) (D : FVec Ideal S512x128 .f32) (a b : FVec Ideal S512x128 .bf16) (w : FVec Ideal S1x1x1x1x512 .f32) (w' : FVec Ideal S1x1x512 .f32) (k r : Fin 512) : k0_pay68 (F := Ideal) v (k0_pay65 (F := Ideal) k0_pay48 D) (k0_pay66 (F := Ideal) k0_pay46 a b w) w' (ix2 k r)
    = dsT true (cur a) (cur b) (cur v) (domT 1 (cur D)) (row5 w) (row3 w') k r := by
  pointwise [k0_pay68, pay66_at, pay65_at, dsT]
/-- An entry of the value 69 of the body. -/
theorem pay69_at (v : FVec Ideal S512x128 .bf16) (D : FVec Ideal S512x128 .f32) (a b : FVec Ideal S512x128 .bf16) (w : FVec Ideal S1x1x1x1x512 .f32) (w' : FVec Ideal S1x1x512 .f32) (k : Fin 512) (l : Fin 128) : k0_pay69 (F := Ideal) v k0_pay54 (k0_pay64 b) (k0_pay65 (F := Ideal) k0_pay48 D) (k0_pay66 (F := Ideal) k0_pay46 a b w) w' (ix2 k l)
    = ∑ r, dsT true (cur a) (cur b) (cur v) (domT 1 (cur D)) (row5 w) (row3 w') k r * b (ix2 r l) := by
  pointwise [k0_pay69, pay68_at, k0_pay64, k0_pay54, zero_add]
/-- An entry of the value 70 of the body. -/
theorem pay70_at (v : FVec Ideal S512x128 .bf16) (D z : FVec Ideal S512x128 .f32) (a b : FVec Ideal S512x128 .bf16) (w : FVec Ideal S1x1x1x1x512 .f32) (w' : FVec Ideal S1x1x512 .f32) (r : Fin 512) (l : Fin 128) : k0_pay70 (F := Ideal) v (k0_pay63 a) (k0_pay65 (F := Ideal) k0_pay48 D) (k0_pay66 (F := Ideal) k0_pay46 a b w) w' z (ix2 r l)
    = z (ix2 r l) + ∑ k, dsT true (cur a) (cur b) (cur v) (domT 1 (cur D)) (row5 w) (row3 w') k r * a (ix2 k l) := by
  pointwise [k0_pay70, pay68_at, k0_pay63]

/-- An entry of the value 67 of the body. -/
theorem pay67_at (D : FVec Ideal S512x128 .f32) (a b a' b' : FVec Ideal S512x128 .bf16) (w w' : FVec Ideal S1x1x1x1x512 .f32) (k : Fin 512) (l : Fin 128) :
    k0_pay67 (F := Ideal) k0_pay46 k0_pay48 k0_pay54 D (k0_pay57 (F := Ideal) D) (k0_pay59 (F := Ideal) a b w) a' b' w' (ix2 k l)
    = (∑ r, pT true (cur a) (cur b) (row5 w) k r * domT 0 (cur D) r l) + ∑ r, pT true (cur a') (cur b') (row5 w') k r * domT 1 (cur D) r l := by
  pointwise [k0_pay67, k0_pay59, pay58_at, pay57_at, pay66_at, pay65_at, k0_pay54, zero_add]
/-- An entry of the value 87 of the body. -/
theorem pay87_at (a b : FVec Ideal S512x128 .f32) (k : Fin 512) (l : Fin 128) : k0_pay87 (F := Ideal) k0_pay47 a b (ix2 k l)
    = if h : l.val < 64 then a (ix2 k l) else b (ix2 k ⟨l.val - 64, by omega⟩) := by
  pointwise [k0_pay87, k0_pay47]
  rw [sel_lt]
  split_ifs
  · rfl
  · congr 2; ext; show (l.val + 128 - 64) % 128 = l.val - 64; omega
/-- The negated lane 67, as the body stores it. -/
theorem pay88_at (a : FVec Ideal S512x128 .f32) (k : Fin 512) : k0_pay1 (F := Ideal) (k0_pay88 (F := Ideal) a) (ix4 0 0 k 0) = 0 - a (ix2 k 67) := by
  pointwise [k0_pay1, k0_pay88]
/-- An entry of the value 2 of the body. -/
theorem pay2_at (a : FVec Ideal S512x128 .f32) (k : Fin 512) : k0_pay2 (F := Ideal) a (ix4 0 0 k 0) = 0 - a (ix2 k 67) := by
  pointwise [k0_pay2]
/-- An entry of the value 3 of the body. -/
theorem pay3_at (a b : FVec Ideal S4096x128 .f32) (k : Fin 4096) (l : Fin 128) : k0_pay3 (F := Ideal) a b (ix2 k l)
    = (if h : l.val < 64 then a (ix2 k l) else b (ix2 k ⟨l.val - 64, by omega⟩)) * Ideal.ofBits .f32 0x3E000000#32 := by
  pointwise [k0_pay3]
  rw [sel_lt]
  split_ifs
  · rfl
  · congr 3; ext; show (l.val + 128 - 64) % 128 = l.val - 64; omega
/-- An entry of the value 4 of the body. -/
theorem pay4_at (a : FVec Ideal S4096x1 .f32) (k : Fin 4096) : k0_pay4 (F := Ideal) a (ix4 0 0 k 0) = a (ix2 k 0) := by
  pointwise [k0_pay4]
/-- An entry of the value 5 of the body. -/
theorem pay5_at (a : FVec Ideal S4096x1 .f32) (k : Fin 4096) : k0_pay5 (F := Ideal) a (ix4 0 0 k 0) = a (ix2 k 0) := by
  pointwise [k0_pay5]
/-- An entry of the value 6 of the body. -/
theorem pay6_at (y) : k0_pay6 (F := Ideal) y = 0 := by
  pointwise [k0_pay6]
/-- An entry of the value 53 of the body. -/
theorem pay53_eq (a : FVec Ideal S512x128 .bf16) : cur (k0_pay53 (F := Ideal) a) = cur a := by
  funext k l; pointwise [cur, k0_pay53]

/-- One row's sum over the lanes of one head of the products of the gradient and the output. -/
def dlT (hh : Fin 2) (D O : Fin 512 → Fin 128 → EReal) (r : Fin 512) : EReal := ∑ l, domT hh (fun r l => D r l * O r l) r l

/-- The row sums of query block 0 for head 0 of the pair. -/
theorem dl0_0 (D O : FVec Ideal S512x128 .f32) (r : Fin 512) : k0_pay9 (F := Ideal) k0_pay47 D O (ix3 0 0 r) = dlT 0 (cur D) (cur O) r := by
  pointwise [k0_pay9, k0_pay8, k0_pay47, k0_pay7]
  exact Finset.sum_congr rfl fun l _ => sel_lt l _ _
/-- The row sums of query block 0 for head 1 of the pair. -/
theorem dl0_1 (D O : FVec Ideal S512x128 .f32) (r : Fin 512) : k0_pay10 (F := Ideal) k0_pay48 D O (ix3 0 0 r) = dlT 1 (cur D) (cur O) r := by
  pointwise [k0_pay10, k0_pay8, k0_pay48, k0_pay7]
  exact Finset.sum_congr rfl fun l _ => sel_ge l _ _
/-- The row sums of query block 1 for head 0 of the pair. -/
theorem dl1_0 (D O : FVec Ideal S512x128 .f32) (r : Fin 512) : k0_pay13 (F := Ideal) (k0_pay12 k0_pay47 D O) (ix3 0 0 r) = dlT 0 (cur D) (cur O) r := by
  pointwise [k0_pay13, k0_pay12, k0_pay11, k0_pay47, k0_pay7]
  exact Finset.sum_congr rfl fun l _ => sel_lt l _ _
/-- The row sums of query block 1 for head 1 of the pair. -/
theorem dl1_1 (D O : FVec Ideal S512x128 .f32) (r : Fin 512) : k0_pay14 (F := Ideal) k0_pay48 k0_pay7 (k0_pay11 D O) (ix3 0 0 r) = dlT 1 (cur D) (cur O) r := by
  pointwise [k0_pay14, k0_pay11, k0_pay48, k0_pay7]
  exact Finset.sum_congr rfl fun l _ => sel_ge l _ _
/-- The row sums of query block 2 for head 0 of the pair. -/
theorem dl2_0 (D O : FVec Ideal S512x128 .f32) (r : Fin 512) : k0_pay16 (F := Ideal) k0_pay47 k0_pay7 D O (ix3 0 0 r) = dlT 0 (cur D) (cur O) r := by
  pointwise [k0_pay16, k0_pay15, k0_pay47, k0_pay7]
  exact Finset.sum_congr rfl fun l _ => sel_lt l _ _
/-- The row sums of query block 2 for head 1 of the pair. -/
theorem dl2_1 (D O : FVec Ideal S512x128 .f32) (r : Fin 512) : k0_pay17 (F := Ideal) k0_pay48 k0_pay7 D O (ix3 0 0 r) = dlT 1 (cur D) (cur O) r := by
  pointwise [k0_pay17, k0_pay15, k0_pay48, k0_pay7]
  exact Finset.sum_congr rfl fun l _ => sel_ge l _ _
/-- The row sums of query block 3 for head 0 of the pair. -/
theorem dl3_0 (D O : FVec Ideal S512x128 .f32) (r : Fin 512) : k0_pay19 (F := Ideal) k0_pay47 k0_pay7 (k0_pay18 D O) (ix3 0 0 r) = dlT 0 (cur D) (cur O) r := by
  pointwise [k0_pay19, k0_pay18, k0_pay47, k0_pay7]
  exact Finset.sum_congr rfl fun l _ => sel_lt l _ _
/-- The row sums of query block 3 for head 1 of the pair. -/
theorem dl3_1 (D O : FVec Ideal S512x128 .f32) (r : Fin 512) : k0_pay20 (F := Ideal) k0_pay48 k0_pay7 (k0_pay18 D O) (ix3 0 0 r) = dlT 1 (cur D) (cur O) r := by
  pointwise [k0_pay20, k0_pay18, k0_pay48, k0_pay7]
  exact Finset.sum_congr rfl fun l _ => sel_ge l _ _
/-- The row sums of query block 4 for head 0 of the pair. -/
theorem dl4_0 (D O : FVec Ideal S512x128 .f32) (r : Fin 512) : k0_pay22 (F := Ideal) k0_pay47 k0_pay7 D O (ix3 0 0 r) = dlT 0 (cur D) (cur O) r := by
  pointwise [k0_pay22, k0_pay21, k0_pay47, k0_pay7]
  exact Finset.sum_congr rfl fun l _ => sel_lt l _ _
/-- The row sums of query block 4 for head 1 of the pair. -/
theorem dl4_1 (D O : FVec Ideal S512x128 .f32) (r : Fin 512) : k0_pay23 (F := Ideal) k0_pay48 k0_pay7 D O (ix3 0 0 r) = dlT 1 (cur D) (cur O) r := by
  pointwise [k0_pay23, k0_pay21, k0_pay48, k0_pay7]
  exact Finset.sum_congr rfl fun l _ => sel_ge l _ _
/-- The row sums of query block 5 for head 0 of the pair. -/
theorem dl5_0 (D O : FVec Ideal S512x128 .f32) (r : Fin 512) : k0_pay25 (F := Ideal) k0_pay47 k0_pay7 D O (ix3 0 0 r) = dlT 0 (cur D) (cur O) r := by
  pointwise [k0_pay25, k0_pay24, k0_pay47, k0_pay7]
  exact Finset.sum_congr rfl fun l _ => sel_lt l _ _
/-- The row sums of query block 5 for head 1 of the pair. -/
theorem dl5_1 (D O : FVec Ideal S512x128 .f32) (r : Fin 512) : k0_pay26 (F := Ideal) k0_pay48 k0_pay7 D O (ix3 0 0 r) = dlT 1 (cur D) (cur O) r := by
  pointwise [k0_pay26, k0_pay24, k0_pay48, k0_pay7]
  exact Finset.sum_congr rfl fun l _ => sel_ge l _ _
/-- The row sums of query block 6 for head 0 of the pair. -/
theorem dl6_0 (D O : FVec Ideal S512x128 .f32) (r : Fin 512) : k0_pay28 (F := Ideal) k0_pay47 k0_pay7 D O (ix3 0 0 r) = dlT 0 (cur D) (cur O) r := by
  pointwise [k0_pay28, k0_pay27, k0_pay47, k0_pay7]
  exact Finset.sum_congr rfl fun l _ => sel_lt l _ _
/-- The row sums of query block 6 for head 1 of the pair. -/
theorem dl6_1 (D O : FVec Ideal S512x128 .f32) (r : Fin 512) : k0_pay49 (F := Ideal) (k0_pay29 k0_pay48 k0_pay7 D O) (ix3 0 0 r) = dlT 1 (cur D) (cur O) r := by
  pointwise [k0_pay49, k0_pay29, k0_pay27, k0_pay48, k0_pay7]
  exact Finset.sum_congr rfl fun l _ => sel_ge l _ _
/-- The row sums of query block 7 for head 0 of the pair. -/
theorem dl7_0 (D O : FVec Ideal S512x128 .f32) (r : Fin 512) : k0_pay51 (F := Ideal) k0_pay7 D O (ix3 0 0 r) = dlT 0 (cur D) (cur O) r := by
  pointwise [k0_pay51, k0_pay50, k0_pay47, k0_pay7]
  exact Finset.sum_congr rfl fun l _ => sel_lt l _ _
/-- The row sums of query block 7 for head 1 of the pair. -/
theorem dl7_1 (D O : FVec Ideal S512x128 .f32) (r : Fin 512) : k0_pay52 (F := Ideal) k0_pay7 D O (ix3 0 0 r) = dlT 1 (cur D) (cur O) r := by
  pointwise [k0_pay52, k0_pay50, k0_pay48, k0_pay7]
  exact Finset.sum_congr rfl fun l _ => sel_ge l _ _

end Cert.KernelIdeal.Pay

end
-- ==== Proof.Trip.lean ====
module

public import proofs.«01_k».proof.Proof.Pay
public import proofs.«01_k».proof.Proof.Gen.KernelIdeal.Loops
public import Idealize.ShloMosaic.Lib.WritesUnit

@[expose] public section

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay

/-- The keys of one head of the pair. -/
def Kh (x : FVec Ideal S512x256 .bf16) (hh : Fin 2) (k : Fin 512) (l : Fin 128) : EReal := x (ix2 k ⟨128 * hh.val + l.val, by omega⟩)
/-- The queries of one head of the pair in one block. -/
def Qb (x : FVec Ideal S4096x256 .bf16) (hh : Fin 2) (b : Fin 8) (r : Fin 512) (l : Fin 128) : EReal :=
  x (ix2 ⟨512 * b.val + r.val, by omega⟩ ⟨128 * hh.val + l.val, by omega⟩)
/-- The running gradient of the queries of one head of the pair in one block. -/
def Ab (x : FVec Ideal S4096x256 .f32) (hh : Fin 2) (b : Fin 8) (r : Fin 512) (l : Fin 128) : EReal :=
  x (ix2 ⟨512 * b.val + r.val, by omega⟩ ⟨128 * hh.val + l.val, by omega⟩)
/-- The rows of one block. -/
def Db (x : FVec Ideal S4096x128 .f32) (b : Fin 8) (r : Fin 512) (l : Fin 128) : EReal := x (ix2 ⟨512 * b.val + r.val, by omega⟩ l)
/-- The log-sum-exp of one head in one block. -/
def Ls (x : FVec Ideal S1x1x8x2x512 .f32) (hh : Fin 2) (b : Fin 8) (r : Fin 512) : EReal := x (ix5 0 0 b hh r)
/-- The row sums of one head in one block. -/
def Dl (x : FVec Ideal S8x2x512 .f32) (hh : Fin 2) (b : Fin 8) (r : Fin 512) : EReal := x (ix3 b hh r)

/-- The transposed probabilities of one head between the keys and one block of queries. -/
def pB (masked : Bool) (x3 : FVec Ideal S512x256 .bf16) (x5 : FVec Ideal S4096x256 .bf16) (x8 : FVec Ideal S1x1x8x2x512 .f32)
    (hh : Fin 2) (b : Fin 8) : Fin 512 → Fin 512 → EReal := pT masked (Kh x3 hh) (Qb x5 hh b) (Ls x8 hh b)
/-- The transposed gradient of the logits of one head between the keys and one block of queries. -/
def dsB (masked : Bool) (x3 : FVec Ideal S512x256 .bf16) (V : Fin 512 → Fin 128 → EReal) (x5 : FVec Ideal S4096x256 .bf16)
    (x6 : FVec Ideal S4096x128 .f32) (x8 : FVec Ideal S1x1x8x2x512 .f32) (x15 : FVec Ideal S8x2x512 .f32)
    (hh : Fin 2) (b : Fin 8) : Fin 512 → Fin 512 → EReal :=
  dsT masked (Kh x3 hh) (Qb x5 hh b) V (domT hh (Db x6 b)) (Ls x8 hh b) (Dl x15 hh b)
/-- What one block of queries adds to the keys' gradient. -/
def dkC (masked : Bool) (x3 : FVec Ideal S512x256 .bf16) (V : Fin 512 → Fin 128 → EReal) (x5 : FVec Ideal S4096x256 .bf16)
    (x6 : FVec Ideal S4096x128 .f32) (x8 : FVec Ideal S1x1x8x2x512 .f32) (x15 : FVec Ideal S8x2x512 .f32)
    (hh : Fin 2) (b : Fin 8) (k : Fin 512) (l : Fin 128) : EReal := ∑ r, dsB masked x3 V x5 x6 x8 x15 hh b k r * Qb x5 hh b r l
/-- What the block of keys adds to one block of queries' gradient. -/
def dqC (masked : Bool) (x3 : FVec Ideal S512x256 .bf16) (V : Fin 512 → Fin 128 → EReal) (x5 : FVec Ideal S4096x256 .bf16)
    (x6 : FVec Ideal S4096x128 .f32) (x8 : FVec Ideal S1x1x8x2x512 .f32) (x15 : FVec Ideal S8x2x512 .f32)
    (hh : Fin 2) (b : Fin 8) (r : Fin 512) (l : Fin 128) : EReal := ∑ k, dsB masked x3 V x5 x6 x8 x15 hh b k r * Kh x3 hh k l
/-- What one block of queries adds to the values' gradient: both heads' shares, each in its lanes. -/
def dvC (masked : Bool) (x3 : FVec Ideal S512x256 .bf16) (x5 : FVec Ideal S4096x256 .bf16)
    (x6 : FVec Ideal S4096x128 .f32) (x8 : FVec Ideal S1x1x8x2x512 .f32) (b : Fin 8) (k : Fin 512) (l : Fin 128) : EReal :=
  (∑ r, pB masked x3 x5 x8 0 b k r * domT 0 (Db x6 b) r l) + ∑ r, pB masked x3 x5 x8 1 b k r * domT 1 (Db x6 b) r l

variable {arg3 : Memref sig .tc .vmem S512x256 .bf16} {arg5 : Memref sig .tc .vmem S4096x256 .bf16} {arg6 : Memref sig .tc .vmem S4096x128 .f32}
  {arg8 : Memref sig .tc .vmem S1x1x8x2x512 .f32} {arg14 : Memref sig .tc .vmem S4096x256 .f32} {arg15 : Memref sig .tc .vmem S8x2x512 .f32}

/-- What a load of buffer 3 reads. -/
theorem ld3 (X : BufTy.Contents (Elt Ideal) arg3.view.ty) (off : Fin 2 → ℕ) (hh : Fin 2) (inb) (heq : off = ![0, 128 * hh.val]) :
    (cur (φ := .bf16) (View.readAt (Elt Ideal) arg3.view (Rect.unit (s := S512x256) off S512x128.size inb).toLoadRect X)) = Kh (arg3.view.read (Elt Ideal) X) hh := by
  subst heq
  funext r l
  show arg3.view.read (Elt Ideal) X ((Rect.unit (s := S512x256) _ S512x128.size inb).emb (ix2 r l)) = arg3.view.read (Elt Ideal) X _
  refine congrArg _ (funext fun a => Fin.ext ?_)
  fin_cases a
  · show 0 + 1 * r.val = r.val; omega
  · show 128 * hh.val + 1 * l.val = 128 * hh.val + l.val; omega
/-- What a load of buffer 5 reads. -/
theorem ld5 (X : BufTy.Contents (Elt Ideal) arg5.view.ty) (off : Fin 2 → ℕ) (hh : Fin 2) (b : Fin 8) (inb) (heq : off = ![512 * b.val, 128 * hh.val]) :
    (cur (φ := .bf16) (View.readAt (Elt Ideal) arg5.view (Rect.unit (s := S4096x256) off S512x128.size inb).toLoadRect X)) = Qb (arg5.view.read (Elt Ideal) X) hh b := by
  subst heq
  funext r l
  show arg5.view.read (Elt Ideal) X ((Rect.unit (s := S4096x256) _ S512x128.size inb).emb (ix2 r l)) = arg5.view.read (Elt Ideal) X _
  refine congrArg _ (funext fun a => Fin.ext ?_)
  fin_cases a
  · show 512 * b.val + 1 * r.val = 512 * b.val + r.val; omega
  · show 128 * hh.val + 1 * l.val = 128 * hh.val + l.val; omega
/-- What a load of buffer 14 reads. -/
theorem ld14 (X : BufTy.Contents (Elt Ideal) arg14.view.ty) (off : Fin 2 → ℕ) (hh : Fin 2) (b : Fin 8) (inb) (heq : off = ![512 * b.val, 128 * hh.val]) :
    (cur (φ := .f32) (View.readAt (Elt Ideal) arg14.view (Rect.unit (s := S4096x256) off S512x128.size inb).toLoadRect X)) = Ab (arg14.view.read (Elt Ideal) X) hh b := by
  subst heq
  funext r l
  show arg14.view.read (Elt Ideal) X ((Rect.unit (s := S4096x256) _ S512x128.size inb).emb (ix2 r l)) = arg14.view.read (Elt Ideal) X _
  refine congrArg _ (funext fun a => Fin.ext ?_)
  fin_cases a
  · show 512 * b.val + 1 * r.val = 512 * b.val + r.val; omega
  · show 128 * hh.val + 1 * l.val = 128 * hh.val + l.val; omega
/-- What a load of buffer 6 reads. -/
theorem ld6 (X : BufTy.Contents (Elt Ideal) arg6.view.ty) (off : Fin 2 → ℕ) (b : Fin 8) (inb) (heq : off = ![512 * b.val, 0]) :
    (cur (φ := .f32) (View.readAt (Elt Ideal) arg6.view (Rect.unit (s := S4096x128) off S512x128.size inb).toLoadRect X)) = Db (arg6.view.read (Elt Ideal) X) b := by
  subst heq
  funext r l
  show arg6.view.read (Elt Ideal) X ((Rect.unit (s := S4096x128) _ S512x128.size inb).emb (ix2 r l)) = arg6.view.read (Elt Ideal) X _
  refine congrArg _ (funext fun a => Fin.ext ?_)
  fin_cases a
  · show 512 * b.val + 1 * r.val = 512 * b.val + r.val; omega
  · show 0 + 1 * l.val = l.val; omega
/-- What a load of buffer 8 reads. -/
theorem ld8 (X : BufTy.Contents (Elt Ideal) arg8.view.ty) (off : Fin 5 → ℕ) (hh : Fin 2) (b : Fin 8) (inb) (heq : off = ![0, 0, b.val, hh.val, 0]) :
    (row5 (View.readAt (Elt Ideal) arg8.view (Rect.unit (s := S1x1x8x2x512) off S1x1x1x1x512.size inb).toLoadRect X)) = Ls (arg8.view.read (Elt Ideal) X) hh b := by
  subst heq
  funext r
  show arg8.view.read (Elt Ideal) X ((Rect.unit (s := S1x1x8x2x512) _ S1x1x1x1x512.size inb).emb (ix5 0 0 0 0 r)) = arg8.view.read (Elt Ideal) X _
  refine congrArg _ (funext fun a => Fin.ext ?_)
  fin_cases a
  · rfl
  · rfl
  · show b.val + 1 * 0 = b.val; omega
  · show hh.val + 1 * 0 = hh.val; omega
  · show 0 + 1 * r.val = r.val; omega
/-- What a load of buffer 15 reads. -/
theorem ld15 (X : BufTy.Contents (Elt Ideal) arg15.view.ty) (off : Fin 3 → ℕ) (hh : Fin 2) (b : Fin 8) (inb) (heq : off = ![b.val, hh.val, 0]) :
    (row3 (View.readAt (Elt Ideal) arg15.view (Rect.unit (s := S8x2x512) off S1x1x512.size inb).toLoadRect X)) = Dl (arg15.view.read (Elt Ideal) X) hh b := by
  subst heq
  funext r
  show arg15.view.read (Elt Ideal) X ((Rect.unit (s := S8x2x512) _ S1x1x512.size inb).emb (ix3 0 0 r)) = arg15.view.read (Elt Ideal) X _
  refine congrArg _ (funext fun a => Fin.ext ?_)
  fin_cases a
  · show b.val + 1 * 0 = b.val; omega
  · show hh.val + 1 * 0 = hh.val; omega
  · show 0 + 1 * r.val = r.val; omega

section pays
variable {v : FVec Ideal S512x128 .bf16} {z D : FVec Ideal S512x128 .f32} {a b : FVec Ideal S512x128 .bf16} {w : FVec Ideal S1x1x1x1x512 .f32} {w' : FVec Ideal S1x1x512 .f32}
  {K Q Dm Z V : Fin 512 → Fin 128 → EReal} {ls dl : Fin 512 → EReal}

/-- The value 36 of the body, by the blocks that it reads. -/
theorem pay36_sp (hV : cur v = V) (hD : cur D = Dm) (hK : cur a = K) (hQ : cur b = Q) (hl : row5 w = ls) (hd : row3 w' = dl) (k : Fin 512) (l : Fin 128) :
    k0_pay36 (F := Ideal) k0_pay47 v z D a b w w' (ix2 k l) = z (ix2 k l) + ∑ r, dsT false K Q V (domT 0 Dm) ls dl k r * Q r l := by
  subst hV hD hK hQ hl hd
  exact pay36_at ..
/-- The value 37 of the body, by the blocks that it reads. -/
theorem pay37_sp (hV : cur v = V) (hD : cur D = Dm) (hK : cur a = K) (hQ : cur b = Q) (hl : row5 w = ls) (hd : row3 w' = dl) (hZ : cur z = Z) (r : Fin 512) (l : Fin 128) :
    k0_pay37 (F := Ideal) k0_pay47 v D a b w w' z (ix2 r l) = Z r l + ∑ k, dsT false K Q V (domT 0 Dm) ls dl k r * K k l := by
  subst hV hD hK hQ hl hd hZ
  exact pay37_at ..

/-- The value 77 of the body, by the blocks that it reads. -/
theorem pay77_sp (hV : cur v = V) (hD : cur D = Dm) (hK : cur a = K) (hQ : cur b = Q) (hl : row5 w = ls) (hd : row3 w' = dl) (k : Fin 512) (l : Fin 128) :
    k0_pay77 (F := Ideal) k0_pay48 v z D a b w w' (ix2 k l) = z (ix2 k l) + ∑ r, dsT false K Q V (domT 1 Dm) ls dl k r * Q r l := by
  subst hV hD hK hQ hl hd
  exact pay77_at ..
/-- The value 78 of the body, by the blocks that it reads. -/
theorem pay78_sp (hV : cur v = V) (hD : cur D = Dm) (hK : cur a = K) (hQ : cur b = Q) (hl : row5 w = ls) (hd : row3 w' = dl) (hZ : cur z = Z) (r : Fin 512) (l : Fin 128) :
    k0_pay78 (F := Ideal) k0_pay48 v D a b w w' z (ix2 r l) = Z r l + ∑ k, dsT false K Q V (domT 1 Dm) ls dl k r * K k l := by
  subst hV hD hK hQ hl hd hZ
  exact pay78_at ..

/-- The value 34 of the body, by the blocks that it reads. -/
theorem pay34_sp (hD : cur D = Dm) (hK : cur a = K) (hQ : cur b = Q) (hl : row5 w = ls) (k : Fin 512) (l : Fin 128) :
    k0_pay34 (F := Ideal) k0_pay47 z D a b w (ix2 k l) = z (ix2 k l) + ∑ r, pT false K Q ls k r * domT 0 Dm r l := by
  subst hD hK hQ hl
  exact pay34_at ..
/-- The value 75 of the body, by the blocks that it reads. -/
theorem pay75_sp (hD : cur D = Dm) (hK : cur a = K) (hQ : cur b = Q) (hl : row5 w = ls) (k : Fin 512) (l : Fin 128) :
    k0_pay75 (F := Ideal) k0_pay48 D z a b w (ix2 k l) = z (ix2 k l) + ∑ r, pT false K Q ls k r * domT 1 Dm r l := by
  subst hD hK hQ hl
  exact pay75_at ..
end pays

/-- The number of the loop's trips. -/
theorem trips_eq : ∀ i : grid0.Coords, (k0_t1_loop i).trips = 7 - (i 2).val := by decide +kernel

variable (𝒱 : Variants) (c : Dev nD) (bd : Option 𝒱.V) (i : grid0.Coords)

/-- The offset 8 of the body's accesses. -/
theorem ok0_off8 (i : grid0.Coords) (k : Fin (k0_t1_loop i).trips) (b : Fin 8) (hb : b.val = (i 2).val + k.val + 1) : k0_off8 i k = ![512 * b.val, 0] := by
  rw [k0_off8_eq, hb, show 512 * (i 2).val + 512 * k.val + 512 = 512 * ((i 2).val + k.val + 1) by omega]
  all_goals rfl
/-- The offset 9 of the body's accesses. -/
theorem ok0_off9 (i : grid0.Coords) (k : Fin (k0_t1_loop i).trips) (b : Fin 8) (hb : b.val = (i 2).val + k.val + 1) : k0_off9 i k = ![512 * b.val, 128 * (0 : Fin 2).val] := by
  rw [k0_off9_eq, hb, show 512 * (i 2).val + 512 * k.val + 512 = 512 * ((i 2).val + k.val + 1) by omega]
  all_goals rfl
/-- The offset 12 of the body's accesses. -/
theorem ok0_off12 (i : grid0.Coords) (k : Fin (k0_t1_loop i).trips) (b : Fin 8) (hb : b.val = (i 2).val + k.val + 1) : k0_off12 i k = ![512 * b.val, 128 * (1 : Fin 2).val] := by
  rw [k0_off12_eq, hb, show 512 * (i 2).val + 512 * k.val + 512 = 512 * ((i 2).val + k.val + 1) by omega]
  all_goals rfl
/-- The offset 10 of the body's accesses. -/
theorem ok0_off10 (i : grid0.Coords) (k : Fin (k0_t1_loop i).trips) (b : Fin 8) (hb : b.val = (i 2).val + k.val + 1) : k0_off10 i k = ![0, 0, b.val, (0 : Fin 2).val, 0] := by
  rw [k0_off10_eq, hb]
  rfl
/-- The offset 13 of the body's accesses. -/
theorem ok0_off13 (i : grid0.Coords) (k : Fin (k0_t1_loop i).trips) (b : Fin 8) (hb : b.val = (i 2).val + k.val + 1) : k0_off13 i k = ![0, 0, b.val, (1 : Fin 2).val, 0] := by
  rw [k0_off13_eq, hb]
  rfl
/-- The offset 11 of the body's accesses. -/
theorem ok0_off11 (i : grid0.Coords) (k : Fin (k0_t1_loop i).trips) (b : Fin 8) (hb : b.val = (i 2).val + k.val + 1) : k0_off11 i k = ![b.val, (0 : Fin 2).val, 0] := by
  rw [k0_off11_eq, hb]
  rfl
/-- The offset 14 of the body's accesses. -/
theorem ok0_off14 (i : grid0.Coords) (k : Fin (k0_t1_loop i).trips) (b : Fin 8) (hb : b.val = (i 2).val + k.val + 1) : k0_off14 i k = ![b.val, (1 : Fin 2).val, 0] := by
  rw [k0_off14_eq, hb]
  rfl

/-- The first value that a trip carries on. -/
theorem tripR0 (arg3 : Memref sig .tc .vmem S512x256 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x1x8x2x512 .f32) (harg8 : arg8.IsWhole) (arg9 : Memref sig .tc .vmem S4096x128 .f32) (harg9 : arg9.IsWhole) (arg10 : Memref sig .tc .vmem S1x1x4096x2 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512x2 .f32) (harg13 : arg13.IsWhole) (arg14 : Memref sig .tc .vmem S4096x256 .f32) (harg14 : arg14.IsWhole) (arg15 : Memref sig .tc .vmem S8x2x512 .f32) (harg15 : arg15.IsWhole) (arg2 : BitVec 32) (v13 : FVec Ideal S512x128 .bf16) (v14 : FVec Ideal S512x128 .f32) (v16 : BitVec 32) (v48 : FVec Ideal S512x128 .f32) (v58 : FVec Ideal S512x128 .bf16) (v61 : FVec Ideal S512x128 .bf16) (v64 : FVec Ideal S512x128 .bf16) (v73 : FVec Ideal S512x512 .f32) (v76 : FVec Ideal S512x128 .f32) (v95 : BitVec 32) (X_arg3 : BufTy.Contents (Elt Ideal) arg3.view.ty) (X_arg5 : BufTy.Contents (Elt Ideal) arg5.view.ty) (X_arg6 : BufTy.Contents (Elt Ideal) arg6.view.ty) (X_arg8 : BufTy.Contents (Elt Ideal) arg8.view.ty) (X_arg15 : BufTy.Contents (Elt Ideal) arg15.view.ty) (k : Fin (k0_t1_loop i).trips) (acc : FVec Ideal S512x128 .f32 × FVec Ideal S512x128 .f32 × FVec Ideal S512x128 .f32) (f : BufTy.Contents (Elt Ideal) arg14.view.ty) (b : Fin 8) (hb : b.val = (i 2).val + k.val + 1) (kk : Fin 512) (l : Fin 128) :
    (tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 k acc f).1 (ix2 kk l) = acc.1 (ix2 kk l) + dkC false (arg3.view.read (Elt Ideal) X_arg3) (cur v13) (arg5.view.read (Elt Ideal) X_arg5) (arg6.view.read (Elt Ideal) X_arg6) (arg8.view.read (Elt Ideal) X_arg8) (arg15.view.read (Elt Ideal) X_arg15) 0 b kk l := by
  unfold tripR_k0_t1 trip_k0_t1
  exact pay36_sp rfl (ld6 X_arg6 _ b _ (ok0_off8 i k b hb)) (ld3 X_arg3 _ 0 _ rfl) (ld5 X_arg5 _ 0 b _ (ok0_off9 i k b hb)) (ld8 X_arg8 _ 0 b _ (ok0_off10 i k b hb)) (ld15 X_arg15 _ 0 b _ (ok0_off11 i k b hb)) kk l
/-- The second value that a trip carries on. -/
theorem tripR1 (arg3 : Memref sig .tc .vmem S512x256 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x1x8x2x512 .f32) (harg8 : arg8.IsWhole) (arg9 : Memref sig .tc .vmem S4096x128 .f32) (harg9 : arg9.IsWhole) (arg10 : Memref sig .tc .vmem S1x1x4096x2 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512x2 .f32) (harg13 : arg13.IsWhole) (arg14 : Memref sig .tc .vmem S4096x256 .f32) (harg14 : arg14.IsWhole) (arg15 : Memref sig .tc .vmem S8x2x512 .f32) (harg15 : arg15.IsWhole) (arg2 : BitVec 32) (v13 : FVec Ideal S512x128 .bf16) (v14 : FVec Ideal S512x128 .f32) (v16 : BitVec 32) (v48 : FVec Ideal S512x128 .f32) (v58 : FVec Ideal S512x128 .bf16) (v61 : FVec Ideal S512x128 .bf16) (v64 : FVec Ideal S512x128 .bf16) (v73 : FVec Ideal S512x512 .f32) (v76 : FVec Ideal S512x128 .f32) (v95 : BitVec 32) (X_arg3 : BufTy.Contents (Elt Ideal) arg3.view.ty) (X_arg5 : BufTy.Contents (Elt Ideal) arg5.view.ty) (X_arg6 : BufTy.Contents (Elt Ideal) arg6.view.ty) (X_arg8 : BufTy.Contents (Elt Ideal) arg8.view.ty) (X_arg15 : BufTy.Contents (Elt Ideal) arg15.view.ty) (k : Fin (k0_t1_loop i).trips) (acc : FVec Ideal S512x128 .f32 × FVec Ideal S512x128 .f32 × FVec Ideal S512x128 .f32) (f : BufTy.Contents (Elt Ideal) arg14.view.ty) (b : Fin 8) (hb : b.val = (i 2).val + k.val + 1) (kk : Fin 512) (l : Fin 128) :
    (tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 k acc f).2.1 (ix2 kk l) = acc.2.1 (ix2 kk l) + dkC false (arg3.view.read (Elt Ideal) X_arg3) (cur v13) (arg5.view.read (Elt Ideal) X_arg5) (arg6.view.read (Elt Ideal) X_arg6) (arg8.view.read (Elt Ideal) X_arg8) (arg15.view.read (Elt Ideal) X_arg15) 1 b kk l := by
  unfold tripR_k0_t1 trip_k0_t1
  exact pay77_sp rfl (ld6 X_arg6 _ b _ (ok0_off8 i k b hb)) (ld3 X_arg3 _ 1 _ rfl) (ld5 X_arg5 _ 1 b _ (ok0_off12 i k b hb)) (ld8 X_arg8 _ 1 b _ (ok0_off13 i k b hb)) (ld15 X_arg15 _ 1 b _ (ok0_off14 i k b hb)) kk l
/-- The third value that a trip carries on. -/
theorem tripR2 (arg3 : Memref sig .tc .vmem S512x256 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x1x8x2x512 .f32) (harg8 : arg8.IsWhole) (arg9 : Memref sig .tc .vmem S4096x128 .f32) (harg9 : arg9.IsWhole) (arg10 : Memref sig .tc .vmem S1x1x4096x2 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512x2 .f32) (harg13 : arg13.IsWhole) (arg14 : Memref sig .tc .vmem S4096x256 .f32) (harg14 : arg14.IsWhole) (arg15 : Memref sig .tc .vmem S8x2x512 .f32) (harg15 : arg15.IsWhole) (arg2 : BitVec 32) (v13 : FVec Ideal S512x128 .bf16) (v14 : FVec Ideal S512x128 .f32) (v16 : BitVec 32) (v48 : FVec Ideal S512x128 .f32) (v58 : FVec Ideal S512x128 .bf16) (v61 : FVec Ideal S512x128 .bf16) (v64 : FVec Ideal S512x128 .bf16) (v73 : FVec Ideal S512x512 .f32) (v76 : FVec Ideal S512x128 .f32) (v95 : BitVec 32) (X_arg3 : BufTy.Contents (Elt Ideal) arg3.view.ty) (X_arg5 : BufTy.Contents (Elt Ideal) arg5.view.ty) (X_arg6 : BufTy.Contents (Elt Ideal) arg6.view.ty) (X_arg8 : BufTy.Contents (Elt Ideal) arg8.view.ty) (X_arg15 : BufTy.Contents (Elt Ideal) arg15.view.ty) (k : Fin (k0_t1_loop i).trips) (acc : FVec Ideal S512x128 .f32 × FVec Ideal S512x128 .f32 × FVec Ideal S512x128 .f32) (f : BufTy.Contents (Elt Ideal) arg14.view.ty) (b : Fin 8) (hb : b.val = (i 2).val + k.val + 1) (kk : Fin 512) (l : Fin 128) :
    (tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 k acc f).2.2 (ix2 kk l) = acc.2.2 (ix2 kk l) + dvC false (arg3.view.read (Elt Ideal) X_arg3) (arg5.view.read (Elt Ideal) X_arg5) (arg6.view.read (Elt Ideal) X_arg6) (arg8.view.read (Elt Ideal) X_arg8) b kk l := by
  unfold tripR_k0_t1 trip_k0_t1
  refine (pay75_sp (ld6 X_arg6 _ b _ (ok0_off8 i k b hb)) (ld3 X_arg3 _ 1 _ rfl) (ld5 X_arg5 _ 1 b _ (ok0_off12 i k b hb)) (ld8 X_arg8 _ 1 b _ (ok0_off13 i k b hb)) kk l).trans ?_
  unfold dvC
  rw [← add_assoc]
  refine congrArg (· + _) ?_
  exact pay34_sp (ld6 X_arg6 _ b _ (ok0_off8 i k b hb)) (ld3 X_arg3 _ 0 _ rfl) (ld5 X_arg5 _ 0 b _ (ok0_off9 i k b hb)) (ld8 X_arg8 _ 0 b _ (ok0_off10 i k b hb)) kk l
/-- What the accumulator holds after a trip. -/
theorem tripL_read (arg3 : Memref sig .tc .vmem S512x256 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x1x8x2x512 .f32) (harg8 : arg8.IsWhole) (arg9 : Memref sig .tc .vmem S4096x128 .f32) (harg9 : arg9.IsWhole) (arg10 : Memref sig .tc .vmem S1x1x4096x2 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512x2 .f32) (harg13 : arg13.IsWhole) (arg14 : Memref sig .tc .vmem S4096x256 .f32) (harg14 : arg14.IsWhole) (arg15 : Memref sig .tc .vmem S8x2x512 .f32) (harg15 : arg15.IsWhole) (arg2 : BitVec 32) (v13 : FVec Ideal S512x128 .bf16) (v14 : FVec Ideal S512x128 .f32) (v16 : BitVec 32) (v48 : FVec Ideal S512x128 .f32) (v58 : FVec Ideal S512x128 .bf16) (v61 : FVec Ideal S512x128 .bf16) (v64 : FVec Ideal S512x128 .bf16) (v73 : FVec Ideal S512x512 .f32) (v76 : FVec Ideal S512x128 .f32) (v95 : BitVec 32) (X_arg3 : BufTy.Contents (Elt Ideal) arg3.view.ty) (X_arg5 : BufTy.Contents (Elt Ideal) arg5.view.ty) (X_arg6 : BufTy.Contents (Elt Ideal) arg6.view.ty) (X_arg8 : BufTy.Contents (Elt Ideal) arg8.view.ty) (X_arg15 : BufTy.Contents (Elt Ideal) arg15.view.ty) (k : Fin (k0_t1_loop i).trips) (acc : FVec Ideal S512x128 .f32 × FVec Ideal S512x128 .f32 × FVec Ideal S512x128 .f32) (f : BufTy.Contents (Elt Ideal) arg14.view.ty) (b : Fin 8) (hb : b.val = (i 2).val + k.val + 1) (b' : Fin 8) (hh : Fin 2) (r : Fin 512) (l : Fin 128) :
    Ab (arg14.view.read (Elt Ideal) (arg14.view.writes (Elt Ideal) f (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 k acc f))) hh b' r l
      = Ab (arg14.view.read (Elt Ideal) f) hh b' r l + if b' = b then dqC false (arg3.view.read (Elt Ideal) X_arg3) (cur v13) (arg5.view.read (Elt Ideal) X_arg5) (arg6.view.read (Elt Ideal) X_arg6) (arg8.view.read (Elt Ideal) X_arg8) (arg15.view.read (Elt Ideal) X_arg15) hh b' r l else 0 := by
  unfold tripL_k0_t1 trip_k0_t1
  dsimp only
  have hl := l.isLt
  have hr := r.isLt
  by_cases hbb : b' = b
  · subst hbb
    rw [if_pos rfl]
    by_cases hh0 : hh = 0
    · subst hh0
      unfold Ab
      refine (View.read_writes_cons_unit_of_not_mem _ _ _ _ _ _ (ok0_off12 i k b' hb) 1 (Or.inl ?_)).trans ?_
      · show 128 * 0 + l.val < 128 * 1; omega
      refine (View.read_writes_cons_unit_of_mem _ _ _ _ _ _ (ix2 r l) (ok0_off9 i k b' hb) ?_).trans ?_
      · intro a; fin_cases a <;> rfl
      exact pay37_sp rfl (ld6 X_arg6 _ b' _ (ok0_off8 i k b' hb)) (ld3 X_arg3 _ 0 _ rfl) (ld5 X_arg5 _ 0 b' _ (ok0_off9 i k b' hb)) (ld8 X_arg8 _ 0 b' _ (ok0_off10 i k b' hb)) (ld15 X_arg15 _ 0 b' _ (ok0_off11 i k b' hb)) (ld14 f _ 0 b' _ (ok0_off9 i k b' hb)) r l
    · obtain rfl : hh = 1 := by omega
      unfold Ab
      refine (View.read_writes_cons_unit_of_mem _ _ _ _ _ _ (ix2 r l) (ok0_off12 i k b' hb) ?_).trans ?_
      · intro a; fin_cases a <;> rfl
      exact pay78_sp rfl (ld6 X_arg6 _ b' _ (ok0_off8 i k b' hb)) (ld3 X_arg3 _ 1 _ rfl) (ld5 X_arg5 _ 1 b' _ (ok0_off12 i k b' hb)) (ld8 X_arg8 _ 1 b' _ (ok0_off13 i k b' hb)) (ld15 X_arg15 _ 1 b' _ (ok0_off14 i k b' hb)) (ld14 f _ 1 b' _ (ok0_off12 i k b' hb)) r l
  · rw [if_neg hbb, add_zero]
    have : b'.val ≠ b.val := fun h => hbb (Fin.ext h)
    have h' : 512 * b'.val + r.val < 512 * b.val ∨ 512 * b.val + 512 ≤ 512 * b'.val + r.val := by omega
    unfold Ab
    refine (View.read_writes_cons_unit_of_not_mem _ _ _ _ _ _ (ok0_off12 i k b hb) 0 h').trans ?_
    refine (View.read_writes_cons_unit_of_not_mem _ _ _ _ _ _ (ok0_off9 i k b hb) 0 h').trans ?_
    rfl

/-- A sum over one more block. -/
theorem sum_step (f : Fin 8 → EReal) (j n : ℕ) (b0 : Fin 8) (hb : b0.val = j + n + 1) :
    (∑ b : Fin 8, if j < b.val ∧ b.val ≤ j + (n + 1) then f b else 0)
      = (∑ b : Fin 8, if j < b.val ∧ b.val ≤ j + n then f b else 0) + f b0 := by
  rw [← Finset.sum_ite_eq' Finset.univ b0 f |>.trans (if_pos (Finset.mem_univ _)), ← Finset.sum_add_distrib]
  refine Finset.sum_congr rfl fun b _ => ?_
  by_cases h : b = b0
  · subst h
    rw [if_pos (by omega), if_neg (by omega), if_pos rfl, zero_add]
  · have : b.val ≠ b0.val := fun h' => h (Fin.ext h')
    rw [if_neg h, add_zero]
    exact if_congr (by omega) rfl rfl

/-- What the loop holds before each trip: the sums over the blocks of queries it has passed, and the running gradient
    of the queries with those blocks' shares added. -/
theorem loop_vals (arg3 : Memref sig .tc .vmem S512x256 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x1x8x2x512 .f32) (harg8 : arg8.IsWhole) (arg9 : Memref sig .tc .vmem S4096x128 .f32) (harg9 : arg9.IsWhole) (arg10 : Memref sig .tc .vmem S1x1x4096x2 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512x2 .f32) (harg13 : arg13.IsWhole) (arg14 : Memref sig .tc .vmem S4096x256 .f32) (harg14 : arg14.IsWhole) (arg15 : Memref sig .tc .vmem S8x2x512 .f32) (harg15 : arg15.IsWhole) (arg2 : BitVec 32) (v13 : FVec Ideal S512x128 .bf16) (v14 : FVec Ideal S512x128 .f32) (v16 : BitVec 32) (v48 : FVec Ideal S512x128 .f32) (v58 : FVec Ideal S512x128 .bf16) (v61 : FVec Ideal S512x128 .bf16) (v64 : FVec Ideal S512x128 .bf16) (v73 : FVec Ideal S512x512 .f32) (v76 : FVec Ideal S512x128 .f32) (v95 : BitVec 32) (X_arg3 : BufTy.Contents (Elt Ideal) arg3.view.ty) (X_arg5 : BufTy.Contents (Elt Ideal) arg5.view.ty) (X_arg6 : BufTy.Contents (Elt Ideal) arg6.view.ty) (X_arg8 : BufTy.Contents (Elt Ideal) arg8.view.ty) (X_arg15 : BufTy.Contents (Elt Ideal) arg15.view.ty)
    (G : BufTy.Contents (Elt Ideal) arg14.view.ty) (init : FVec Ideal S512x128 .f32 × FVec Ideal S512x128 .f32 × FVec Ideal S512x128 .f32)
    (n : ℕ) (hn : n ≤ (k0_t1_loop i).trips) :
    (∀ kk l, (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 G init n).1.1 (ix2 kk l) = init.1 (ix2 kk l) + ∑ b : Fin 8, if (i 2).val < b.val ∧ b.val ≤ (i 2).val + n then dkC false (arg3.view.read (Elt Ideal) X_arg3) (cur v13) (arg5.view.read (Elt Ideal) X_arg5) (arg6.view.read (Elt Ideal) X_arg6) (arg8.view.read (Elt Ideal) X_arg8) (arg15.view.read (Elt Ideal) X_arg15) 0 b kk l else 0)
    ∧ (∀ kk l, (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 G init n).1.2.1 (ix2 kk l) = init.2.1 (ix2 kk l) + ∑ b : Fin 8, if (i 2).val < b.val ∧ b.val ≤ (i 2).val + n then dkC false (arg3.view.read (Elt Ideal) X_arg3) (cur v13) (arg5.view.read (Elt Ideal) X_arg5) (arg6.view.read (Elt Ideal) X_arg6) (arg8.view.read (Elt Ideal) X_arg8) (arg15.view.read (Elt Ideal) X_arg15) 1 b kk l else 0)
    ∧ (∀ kk l, (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 G init n).1.2.2 (ix2 kk l) = init.2.2 (ix2 kk l) + ∑ b : Fin 8, if (i 2).val < b.val ∧ b.val ≤ (i 2).val + n then dvC false (arg3.view.read (Elt Ideal) X_arg3) (arg5.view.read (Elt Ideal) X_arg5) (arg6.view.read (Elt Ideal) X_arg6) (arg8.view.read (Elt Ideal) X_arg8) b kk l else 0)
    ∧ (∀ hh b r l, Ab (arg14.view.read (Elt Ideal) (arg14.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 G init n).2)) hh b r l
        = Ab (arg14.view.read (Elt Ideal) G) hh b r l + if (i 2).val < b.val ∧ b.val ≤ (i 2).val + n then dqC false (arg3.view.read (Elt Ideal) X_arg3) (cur v13) (arg5.view.read (Elt Ideal) X_arg5) (arg6.view.read (Elt Ideal) X_arg6) (arg8.view.read (Elt Ideal) X_arg8) (arg15.view.read (Elt Ideal) X_arg15) hh b r l else 0) := by
  induction n with
  | zero =>
    have h0 : ∀ (b : Fin 8), ¬ ((i 2).val < b.val ∧ b.val ≤ (i 2).val + 0) := fun b => by omega
    refine ⟨fun kk l => ?_, fun kk l => ?_, fun kk l => ?_, fun hh b r l => ?_⟩
    · rw [Finset.sum_eq_zero (fun b _ => if_neg (h0 b)), add_zero]; rfl
    · rw [Finset.sum_eq_zero (fun b _ => if_neg (h0 b)), add_zero]; rfl
    · rw [Finset.sum_eq_zero (fun b _ => if_neg (h0 b)), add_zero]; rfl
    · rw [if_neg (h0 b), add_zero]; rfl
  | succ n ih =>
    obtain ⟨h1, h2, h3, h4⟩ := ih (by omega)
    have ht := trips_eq i
    have hi : (i 2).val < 8 := (i 2).isLt
    have hs := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 G init ⟨n, by omega⟩
    dsimp only at hs
    rw [hs]
    have hb0 : (⟨(i 2).val + n + 1, by omega⟩ : Fin 8).val = (i 2).val + n + 1 := rfl
    refine ⟨fun kk l => ?_, fun kk l => ?_, fun kk l => ?_, fun hh b r l => ?_⟩
    · rw [sum_step _ _ _ _ hb0, ← add_assoc, ← h1 kk l]
      exact tripR0 𝒱 c bd i arg3 harg3 arg4 harg4 arg5 harg5 arg6 harg6 arg7 harg7 arg8 harg8 arg9 harg9 arg10 harg10 arg11 harg11 arg12 harg12 arg13 harg13 arg14 harg14 arg15 harg15 arg2 v13 v14 v16 v48 v58 v61 v64 v73 v76 v95 X_arg3 X_arg5 X_arg6 X_arg8 X_arg15 ⟨n, by omega⟩ _ _ _ hb0 kk l
    · rw [sum_step _ _ _ _ hb0, ← add_assoc, ← h2 kk l]
      exact tripR1 𝒱 c bd i arg3 harg3 arg4 harg4 arg5 harg5 arg6 harg6 arg7 harg7 arg8 harg8 arg9 harg9 arg10 harg10 arg11 harg11 arg12 harg12 arg13 harg13 arg14 harg14 arg15 harg15 arg2 v13 v14 v16 v48 v58 v61 v64 v73 v76 v95 X_arg3 X_arg5 X_arg6 X_arg8 X_arg15 ⟨n, by omega⟩ _ _ _ hb0 kk l
    · rw [sum_step _ _ _ _ hb0, ← add_assoc, ← h3 kk l]
      exact tripR2 𝒱 c bd i arg3 harg3 arg4 harg4 arg5 harg5 arg6 harg6 arg7 harg7 arg8 harg8 arg9 harg9 arg10 harg10 arg11 harg11 arg12 harg12 arg13 harg13 arg14 harg14 arg15 harg15 arg2 v13 v14 v16 v48 v58 v61 v64 v73 v76 v95 X_arg3 X_arg5 X_arg6 X_arg8 X_arg15 ⟨n, by omega⟩ _ _ _ hb0 kk l
    · dsimp only
      rw [View.writes_append]
      refine (tripL_read 𝒱 c bd i arg3 harg3 arg4 harg4 arg5 harg5 arg6 harg6 arg7 harg7 arg8 harg8 arg9 harg9 arg10 harg10 arg11 harg11 arg12 harg12 arg13 harg13 arg14 harg14 arg15 harg15 arg2 v13 v14 v16 v48 v58 v61 v64 v73 v76 v95 X_arg3 X_arg5 X_arg6 X_arg8 X_arg15 ⟨n, by omega⟩ _ _ _ hb0 b hh r l).trans ?_
      rw [h4 hh b r l, add_assoc]
      refine congrArg _ ?_
      by_cases h : b = ⟨(i 2).val + n + 1, by omega⟩
      · subst h
        rw [if_neg (by omega), if_pos rfl, if_pos (by simp only; omega), zero_add]
      · have : b.val ≠ (i 2).val + n + 1 := fun h' => h (Fin.ext h')
        rw [if_neg h, add_zero]
        exact if_congr (by omega) rfl rfl

end Cert.KernelIdeal.Trip
end
-- ==== Proof.Post.lean ====
module

public import proofs.«01_k».proof.Proof.Trip
public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay Cert.KernelIdeal.Trip

/-- The row sums of every block and head: what the first block of keys leaves in the scratch buffer. -/
def dlS (x6 x7 : FVec Ideal S4096x128 .f32) : FVec Ideal S8x2x512 .f32 := fun y => dlT (y 1) (Db x6 (y 0)) (Db x7 (y 0)) (y 2)

/-- The keys' gradient of one head: the diagonal block of queries, masked, and the blocks after it. -/
def dkI (j : Fin 8) (x3 : FVec Ideal S512x256 .bf16) (x4 : FVec Ideal S512x128 .bf16) (x5 : FVec Ideal S4096x256 .bf16) (x6 : FVec Ideal S4096x128 .f32) (x7 : FVec Ideal S4096x128 .f32) (x8 : FVec Ideal S1x1x8x2x512 .f32) (hh : Fin 2) (k : Fin 512) (l : Fin 128) : EReal :=
  dkC true x3 (cur x4) x5 x6 x8 (dlS x6 x7) hh j k l + ∑ b : Fin 8, if j.val < b.val then dkC false x3 (cur x4) x5 x6 x8 (dlS x6 x7) hh b k l else 0
/-- The values' gradient: the diagonal block of queries, masked, and the blocks after it. -/
def dvI (j : Fin 8) (x3 : FVec Ideal S512x256 .bf16) (x4 : FVec Ideal S512x128 .bf16) (x5 : FVec Ideal S4096x256 .bf16) (x6 : FVec Ideal S4096x128 .f32) (x7 : FVec Ideal S4096x128 .f32) (x8 : FVec Ideal S1x1x8x2x512 .f32) (k : Fin 512) (l : Fin 128) : EReal :=
  dvC true x3 x5 x6 x8 j k l + ∑ b : Fin 8, if j.val < b.val then dvC false x3 x5 x6 x8 b k l else 0
/-- What one block of keys adds to the running gradient of the queries. -/
def dqI (j : Fin 8) (x3 : FVec Ideal S512x256 .bf16) (x4 : FVec Ideal S512x128 .bf16) (x5 : FVec Ideal S4096x256 .bf16) (x6 : FVec Ideal S4096x128 .f32) (x7 : FVec Ideal S4096x128 .f32) (x8 : FVec Ideal S1x1x8x2x512 .f32) (hh : Fin 2) (b : Fin 8) (r : Fin 512) (l : Fin 128) : EReal :=
  if b = j then dqC true x3 (cur x4) x5 x6 x8 (dlS x6 x7) hh b r l else if j.val < b.val then dqC false x3 (cur x4) x5 x6 x8 (dlS x6 x7) hh b r l else 0

/-- What the body leaves behind at the block of keys `j`, from its inputs and the running gradient of the queries it starts from. -/
structure Post (j : Fin 8) (x3 : FVec Ideal S512x256 .bf16) (x4 : FVec Ideal S512x128 .bf16) (x5 : FVec Ideal S4096x256 .bf16) (x6 : FVec Ideal S4096x128 .f32) (x7 : FVec Ideal S4096x128 .f32) (x8 : FVec Ideal S1x1x8x2x512 .f32) (A0 : Fin 2 → Fin 8 → Fin 512 → Fin 128 → EReal) (X9 : FVec Ideal S4096x128 .f32) (X10 : FVec Ideal S1x1x4096x2 .f32) (X11 : FVec Ideal S512x128 .f32) (X12 : FVec Ideal S512x128 .f32) (X13 : FVec Ideal S1x1x512x2 .f32) (X14 : FVec Ideal S4096x256 .f32) (X15 : FVec Ideal S8x2x512 .f32) : Prop where
  h15 : X15 = dlS x6 x7
  h14 : ∀ hh b r l, Ab X14 hh b r l = A0 hh b r l + dqI j x3 x4 x5 x6 x7 x8 hh b r l
  h11 : ∀ (k : Fin 512) (l : Fin 128), X11 (ix2 k l) = if h : l.val < 64 then dkI j x3 x4 x5 x6 x7 x8 0 k l else dkI j x3 x4 x5 x6 x7 x8 1 k ⟨l.val - 64, by omega⟩
  h12 : ∀ (k : Fin 512) (l : Fin 128), X12 (ix2 k l) = dvI j x3 x4 x5 x6 x7 x8 k l
  h13 : ∀ (hh : Fin 2) (k : Fin 512), X13 (ix4 0 0 k hh) = 0 - dkI j x3 x4 x5 x6 x7 x8 hh k 67
  h9 : j.val = 7 → ∀ (b : Fin 8) (r : Fin 512) (l : Fin 128), X9 (ix2 ⟨512 * b.val + r.val, by omega⟩ l)
    = (if h : l.val < 64 then Ab X14 0 b r l else Ab X14 1 b r ⟨l.val - 64, by omega⟩) * Ideal.ofBits .f32 0x3E000000#32
  h10 : j.val = 7 → ∀ (hh : Fin 2) (b : Fin 8) (r : Fin 512), X10 (ix4 0 0 ⟨512 * b.val + r.val, by omega⟩ hh) = Ab X14 hh b r 64

section pays
variable {v : FVec Ideal S512x128 .bf16} {z D : FVec Ideal S512x128 .f32} {a b a' b' : FVec Ideal S512x128 .bf16} {w : FVec Ideal S1x1x1x1x512 .f32} {wl : FVec Ideal S1x1x1x1x512 .f32} {w' : FVec Ideal S1x1x512 .f32}
  {K Q K' Q' Dm Z V : Fin 512 → Fin 128 → EReal} {ls ls' dl : Fin 512 → EReal}

/-- The value 61 of the body, by the blocks that it reads. -/
theorem pay61_sp (hV : cur v = V) (hD : cur D = Dm) (hK : cur a = K) (hQ : cur b = Q) (hl : row5 w = ls) (hd : row3 w' = dl) (k : Fin 512) (l : Fin 128) :
    k0_pay61 (F := Ideal) v k0_pay54 (k0_pay56 b) (k0_pay57 (F := Ideal) D) (k0_pay58 (F := Ideal) a b w) w' (ix2 k l) = ∑ r, dsT true K Q V (domT 0 Dm) ls dl k r * Q r l := by
  subst hV hD hK hQ hl hd
  exact pay61_at ..
/-- The value 62 of the body, by the blocks that it reads. -/
theorem pay62_sp (hV : cur v = V) (hD : cur D = Dm) (hK : cur a = K) (hQ : cur b = Q) (hl : row5 w = ls) (hd : row3 w' = dl) (hZ : cur z = Z) (r : Fin 512) (l : Fin 128) :
    k0_pay62 (F := Ideal) v (k0_pay55 a) (k0_pay57 (F := Ideal) D) (k0_pay58 (F := Ideal) a b w) w' z (ix2 r l) = Z r l + ∑ k, dsT true K Q V (domT 0 Dm) ls dl k r * K k l := by
  subst hV hD hK hQ hl hd hZ
  exact pay62_at ..

/-- The value 69 of the body, by the blocks that it reads. -/
theorem pay69_sp (hV : cur v = V) (hD : cur D = Dm) (hK : cur a = K) (hQ : cur b = Q) (hl : row5 w = ls) (hd : row3 w' = dl) (k : Fin 512) (l : Fin 128) :
    k0_pay69 (F := Ideal) v k0_pay54 (k0_pay64 b) (k0_pay65 (F := Ideal) k0_pay48 D) (k0_pay66 (F := Ideal) k0_pay46 a b w) w' (ix2 k l) = ∑ r, dsT true K Q V (domT 1 Dm) ls dl k r * Q r l := by
  subst hV hD hK hQ hl hd
  exact pay69_at ..
/-- The value 70 of the body, by the blocks that it reads. -/
theorem pay70_sp (hV : cur v = V) (hD : cur D = Dm) (hK : cur a = K) (hQ : cur b = Q) (hl : row5 w = ls) (hd : row3 w' = dl) (hZ : cur z = Z) (r : Fin 512) (l : Fin 128) :
    k0_pay70 (F := Ideal) v (k0_pay63 a) (k0_pay65 (F := Ideal) k0_pay48 D) (k0_pay66 (F := Ideal) k0_pay46 a b w) w' z (ix2 r l) = Z r l + ∑ k, dsT true K Q V (domT 1 Dm) ls dl k r * K k l := by
  subst hV hD hK hQ hl hd hZ
  exact pay70_at ..

/-- The value 67 of the body, by the blocks that it reads. -/
theorem pay67_sp (hD : cur D = Dm) (hK : cur a = K) (hQ : cur b = Q) (hl : row5 w = ls) (hK' : cur a' = K') (hQ' : cur b' = Q') (hl' : row5 wl = ls') (k : Fin 512) (l : Fin 128) :
    k0_pay67 (F := Ideal) k0_pay46 k0_pay48 k0_pay54 D (k0_pay57 (F := Ideal) D) (k0_pay59 (F := Ideal) a b w) a' b' wl (ix2 k l)
    = (∑ r, pT true K Q ls k r * domT 0 Dm r l) + ∑ r, pT true K' Q' ls' k r * domT 1 Dm r l := by
  subst hD hK hQ hl hK' hQ' hl'
  exact pay67_at ..
/-- The value 53 of the body, by the blocks that it reads. -/
theorem pay53_sp (hV : cur v = V) : cur (k0_pay53 (F := Ideal) v) = V := (pay53_eq v).trans hV
end pays

/-- What a load of the values' block reads. -/
theorem ld4 {arg4 : Memref sig .tc .vmem S512x128 .bf16} (X : BufTy.Contents (Elt Ideal) arg4.view.ty) (off : Fin 2 → ℕ) (inb) (heq : off = ![0, 0]) :
    (cur (φ := .bf16) (View.readAt (Elt Ideal) arg4.view (Rect.unit (s := S512x128) off S512x128.size inb).toLoadRect X)) = cur (φ := .bf16) (arg4.view.read (Elt Ideal) X) := by
  subst heq
  funext r l
  show arg4.view.read (Elt Ideal) X ((Rect.unit (s := S512x128) _ S512x128.size inb).emb (ix2 r l)) = arg4.view.read (Elt Ideal) X _
  refine congrArg _ (funext fun a => Fin.ext ?_)
  fin_cases a
  · show 0 + 1 * r.val = r.val; omega
  · show 0 + 1 * l.val = l.val; omega
/-- The offset 1 of the body's accesses. -/
theorem dk0_off1 (i : grid0.Coords) : k0_off1 i = ![512 * (i 2).val, 0] := k0_off1_eq i
/-- The offset 2 of the body's accesses. -/
theorem dk0_off2 (i : grid0.Coords) : k0_off2 i = ![512 * (i 2).val, 128 * (0 : Fin 2).val] := k0_off2_eq i
/-- The offset 3 of the body's accesses. -/
theorem dk0_off3 (i : grid0.Coords) : k0_off3 i = ![0, 0, (i 2).val, (0 : Fin 2).val, 0] := k0_off3_eq i
/-- The offset 4 of the body's accesses. -/
theorem dk0_off4 (i : grid0.Coords) : k0_off4 i = ![(i 2).val, (0 : Fin 2).val, 0] := k0_off4_eq i
/-- The offset 5 of the body's accesses. -/
theorem dk0_off5 (i : grid0.Coords) : k0_off5 i = ![512 * (i 2).val, 128 * (1 : Fin 2).val] := k0_off5_eq i
/-- The offset 6 of the body's accesses. -/
theorem dk0_off6 (i : grid0.Coords) : k0_off6 i = ![0, 0, (i 2).val, (1 : Fin 2).val, 0] := k0_off6_eq i
/-- The offset 7 of the body's accesses. -/
theorem dk0_off7 (i : grid0.Coords) : k0_off7 i = ![(i 2).val, (1 : Fin 2).val, 0] := k0_off7_eq i

/-- The query blocks that the loop visits. -/
theorem range_iff (i : grid0.Coords) (b : Fin 8) : ((i 2).val < b.val ∧ b.val ≤ (i 2).val + (k0_t1_loop i).trips) ↔ (i 2).val < b.val := by
  rw [trips_eq]; omega

/-- The diagonal block's two stores, read back. -/
theorem diag_read {arg14 : Memref sig .tc .vmem S4096x256 .f32} (i : grid0.Coords) (g0 : BufTy.Contents (Elt Ideal) arg14.view.ty)
    (p1 : (Rect.unit (s := S4096x256) (k0_off5 i) S512x128.size (k0_off5_inb i)).shape.Idx → Elt Ideal .f32)
    (p0 : (Rect.unit (s := S4096x256) (k0_off2 i) S512x128.size (k0_off2_inb i)).shape.Idx → Elt Ideal .f32) (L : List (View.Piece (Elt Ideal) S4096x256 .f32))
    (A0 D : Fin 2 → Fin 8 → Fin 512 → Fin 128 → EReal)
    (h0 : ∀ r l, p0 (ix2 (n0 := 512) (n1 := 128) r l) = A0 0 (i 2) r l + D 0 (i 2) r l) (h1 : ∀ r l, p1 (ix2 (n0 := 512) (n1 := 128) r l) = A0 1 (i 2) r l + D 1 (i 2) r l)
    (hA : ∀ hh b r l, Ab (arg14.view.read (Elt Ideal) (arg14.view.writes (Elt Ideal) g0 L)) hh b r l = A0 hh b r l) (hh : Fin 2) (b : Fin 8) (r : Fin 512) (l : Fin 128) :
    Ab (arg14.view.read (Elt Ideal) (arg14.view.writes (Elt Ideal) g0 (⟨Rect.unit (s := S4096x256) (k0_off5 i) S512x128.size (k0_off5_inb i), p1⟩ :: ⟨Rect.unit (s := S4096x256) (k0_off2 i) S512x128.size (k0_off2_inb i), p0⟩ :: L))) hh b r l
      = A0 hh b r l + if b.val = (i 2).val then D hh b r l else 0 := by
  have hl := l.isLt
  have hr := r.isLt
  by_cases hbb : b.val = (i 2).val
  · rw [if_pos hbb]
    obtain rfl : b = i 2 := Fin.ext hbb
    by_cases hh0 : hh = 0
    · subst hh0
      rw [← h0 r l]
      unfold Ab
      refine (View.read_writes_cons_unit_of_not_mem _ _ _ _ _ _ (dk0_off5 i) 1 (Or.inl ?_)).trans ?_
      · show 128 * 0 + l.val < 128 * 1; omega
      refine (View.read_writes_cons_unit_of_mem _ _ _ _ _ _ (ix2 r l) (dk0_off2 i) ?_).trans ?_
      · intro a; fin_cases a <;> rfl
      rfl
    · obtain rfl : hh = 1 := by omega
      rw [← h1 r l]
      unfold Ab
      refine (View.read_writes_cons_unit_of_mem _ _ _ _ _ _ (ix2 r l) (dk0_off5 i) ?_).trans ?_
      · intro a; fin_cases a <;> rfl
      rfl
  · rw [if_neg hbb, add_zero, ← hA hh b r l]
    have : b.val ≠ (i 2).val := hbb
    have h' : 512 * b.val + r.val < 512 * (i 2).val ∨ 512 * (i 2).val + 512 ≤ 512 * b.val + r.val := by omega
    unfold Ab
    refine (View.read_writes_cons_unit_of_not_mem _ _ _ _ _ _ (dk0_off5 i) 0 h').trans ?_
    exact (View.read_writes_cons_unit_of_not_mem _ _ _ _ _ _ (dk0_off2 i) 0 h')

set_option maxHeartbeats 1000000 in
/-- From what the body holds when it enters the loop to what it leaves behind: the outputs that every point writes. -/
theorem post_of (c : Dev nD) (i : grid0.Coords) (arg3 : Memref sig .tc .vmem S512x256 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x1x8x2x512 .f32) (harg8 : arg8.IsWhole) (arg9 : Memref sig .tc .vmem S4096x128 .f32) (harg9 : arg9.IsWhole) (arg10 : Memref sig .tc .vmem S1x1x4096x2 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512x2 .f32) (harg13 : arg13.IsWhole) (arg14 : Memref sig .tc .vmem S4096x256 .f32) (harg14 : arg14.IsWhole) (arg15 : Memref sig .tc .vmem S8x2x512 .f32) (harg15 : arg15.IsWhole) (arg2 : BitVec 32) (v13 : FVec Ideal S512x128 .bf16) (v14 : FVec Ideal S512x128 .f32) (v16 : BitVec 32) (v48 : FVec Ideal S512x128 .f32) (v58 : FVec Ideal S512x128 .bf16) (v61 : FVec Ideal S512x128 .bf16) (v64 : FVec Ideal S512x128 .bf16) (v73 : FVec Ideal S512x512 .f32) (v76 : FVec Ideal S512x128 .f32) (v95 : BitVec 32) (X_arg3 : BufTy.Contents (Elt Ideal) arg3.view.ty) (X_arg5 : BufTy.Contents (Elt Ideal) arg5.view.ty) (X_arg6 : BufTy.Contents (Elt Ideal) arg6.view.ty) (X_arg8 : BufTy.Contents (Elt Ideal) arg8.view.ty) (X_arg15 : BufTy.Contents (Elt Ideal) arg15.view.ty) (X_arg4 : BufTy.Contents (Elt Ideal) arg4.view.ty) (X_arg7 : BufTy.Contents (Elt Ideal) arg7.view.ty)
    (f11 : BufTy.Contents (Elt Ideal) arg11.view.ty) (f12 : BufTy.Contents (Elt Ideal) arg12.view.ty) (f13 : BufTy.Contents (Elt Ideal) arg13.view.ty)
    (g0 : BufTy.Contents (Elt Ideal) arg14.view.ty) (L : List (View.Piece (Elt Ideal) S4096x256 .f32)) (init : FVec Ideal S512x128 .f32 × FVec Ideal S512x128 .f32 × FVec Ideal S512x128 .f32)
    (A0 : Fin 2 → Fin 8 → Fin 512 → Fin 128 → EReal) (X9 : FVec Ideal S4096x128 .f32) (X10 : FVec Ideal S1x1x4096x2 .f32)
    (inb11) (inb12) (inb131) (inb130)
    (h15 : arg15.view.read (Elt Ideal) X_arg15 = dlS (arg6.view.read (Elt Ideal) X_arg6) (arg7.view.read (Elt Ideal) X_arg7))
    (hv : cur v13 = cur (φ := .bf16) (arg4.view.read (Elt Ideal) X_arg4))
    (hG : ∀ hh b r l, Ab (arg14.view.read (Elt Ideal) (arg14.view.writes (Elt Ideal) g0 L)) hh b r l = A0 hh b r l + if b.val = (i 2).val then dqC true (arg3.view.read (Elt Ideal) X_arg3) (cur (φ := .bf16) (arg4.view.read (Elt Ideal) X_arg4)) (arg5.view.read (Elt Ideal) X_arg5) (arg6.view.read (Elt Ideal) X_arg6) (arg8.view.read (Elt Ideal) X_arg8) (dlS (arg6.view.read (Elt Ideal) X_arg6) (arg7.view.read (Elt Ideal) X_arg7)) hh b r l else 0)
    (hi0 : ∀ k l, init.1 (ix2 k l) = dkC true (arg3.view.read (Elt Ideal) X_arg3) (cur (φ := .bf16) (arg4.view.read (Elt Ideal) X_arg4)) (arg5.view.read (Elt Ideal) X_arg5) (arg6.view.read (Elt Ideal) X_arg6) (arg8.view.read (Elt Ideal) X_arg8) (dlS (arg6.view.read (Elt Ideal) X_arg6) (arg7.view.read (Elt Ideal) X_arg7)) 0 (i 2) k l)
    (hi1 : ∀ k l, init.2.1 (ix2 k l) = dkC true (arg3.view.read (Elt Ideal) X_arg3) (cur (φ := .bf16) (arg4.view.read (Elt Ideal) X_arg4)) (arg5.view.read (Elt Ideal) X_arg5) (arg6.view.read (Elt Ideal) X_arg6) (arg8.view.read (Elt Ideal) X_arg8) (dlS (arg6.view.read (Elt Ideal) X_arg6) (arg7.view.read (Elt Ideal) X_arg7)) 1 (i 2) k l)
    (hi2 : ∀ k l, init.2.2 (ix2 k l) = dvC true (arg3.view.read (Elt Ideal) X_arg3) (arg5.view.read (Elt Ideal) X_arg5) (arg6.view.read (Elt Ideal) X_arg6) (arg8.view.read (Elt Ideal) X_arg8) (i 2) k l)
    (h9 : (i 2).val = 7 → (∀ hh b r l, Ab (arg14.view.read (Elt Ideal) (arg14.view.writes (Elt Ideal) g0 ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).2 ++ L))) hh b r l = A0 hh b r l + dqI (i 2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) hh b r l) →
      ∀ (b : Fin 8) (r : Fin 512) (l : Fin 128), X9 (ix2 ⟨512 * b.val + r.val, by omega⟩ l)
    = (if h : l.val < 64 then Ab (arg14.view.read (Elt Ideal) (arg14.view.writes (Elt Ideal) g0 ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).2 ++ L))) 0 b r l else Ab (arg14.view.read (Elt Ideal) (arg14.view.writes (Elt Ideal) g0 ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).2 ++ L))) 1 b r ⟨l.val - 64, by omega⟩) * Ideal.ofBits .f32 0x3E000000#32)
    (h10 : (i 2).val = 7 → ∀ (hh : Fin 2) (b : Fin 8) (r : Fin 512), X10 (ix4 0 0 ⟨512 * b.val + r.val, by omega⟩ hh) = Ab (arg14.view.read (Elt Ideal) (arg14.view.writes (Elt Ideal) g0 ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).2 ++ L))) hh b r 64) :
    Post (i 2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) A0 X9 X10
      (arg11.view.read (Elt Ideal) (arg11.view.writes (Elt Ideal) f11 [⟨Rect.unit (s := S512x128) ![0, 0] S512x128.size inb11, k0_pay87 k0_pay47 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).1.1 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).1.2.1⟩]))
      (arg12.view.read (Elt Ideal) (arg12.view.writes (Elt Ideal) f12 [⟨Rect.unit (s := S512x128) ![0, 0] S512x128.size inb12, (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).1.2.2⟩]))
      (arg13.view.read (Elt Ideal) (arg13.view.writes (Elt Ideal) f13 [⟨Rect.unit (s := S1x1x512x2) ![0, 0, 0, 1] S1x1x512x1.size inb131, k0_pay2 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).1.2.1⟩,
        ⟨Rect.unit (s := S1x1x512x2) ![0, 0, 0, 0] S1x1x512x1.size inb130, k0_pay1 (k0_pay88 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).1.1)⟩]))
      (arg14.view.read (Elt Ideal) (arg14.view.writes (Elt Ideal) g0 ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).2 ++ L)))
      (arg15.view.read (Elt Ideal) X_arg15) := by
  obtain ⟨c0, c1, c2, c3⟩ := loop_vals Variants.none c none i arg3 harg3 arg4 harg4 arg5 harg5 arg6 harg6 arg7 harg7 arg8 harg8 arg9 harg9 arg10 harg10 arg11 harg11 arg12 harg12 arg13 harg13 arg14 harg14 arg15 harg15 arg2 v13 v14 v16 v48 v58 v61 v64 v73 v76 v95 X_arg3 X_arg5 X_arg6 X_arg8 X_arg15 (arg14.view.writes (Elt Ideal) g0 L) init (k0_t1_loop i).trips le_rfl
  rw [h15, hv] at c0 c1 c3
  simp only [range_iff] at c0 c1 c2 c3
  simp only [hi0] at c0
  simp only [hi1] at c1
  simp only [hi2] at c2
  rw [← View.writes_append] at c3
  have h14 : ∀ hh b r l, Ab (arg14.view.read (Elt Ideal) (arg14.view.writes (Elt Ideal) g0 ((st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg2 k0_pay47 k0_pay48 v13 v14 v16 v48 v58 v61 v64 v73 v76 v95 X_arg3 X_arg5 X_arg6 X_arg8 X_arg15 (arg14.view.writes (Elt Ideal) g0 L) init (k0_t1_loop i).trips).2 ++ L))) hh b r l = A0 hh b r l + dqI (i 2) (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) hh b r l := by
    intro hh b r l
    rw [c3, hG, add_assoc]
    refine congrArg _ ?_
    unfold dqI
    by_cases h : b.val = (i 2).val
    · rw [if_pos h, if_pos (Fin.ext h), if_neg (by rw [h]; omega), add_zero]
    · rw [if_neg h, if_neg (fun h' => h (congrArg Fin.val h')), zero_add]
  refine ⟨h15, h14, ?_, ?_, ?_, fun h => h9 h h14, h10⟩
  · intro k l
    refine (View.read_writes_cons_unit_of_mem _ _ _ _ _ _ (ix2 k l) rfl ?_).trans ?_
    · intro a; fin_cases a
      · show k.val = 0 + k.val; omega
      · show l.val = 0 + l.val; omega
    refine (pay87_at ..).trans ?_
    split_ifs with h
    · exact c0 k l
    · exact c1 k _
  · intro k l
    refine (View.read_writes_cons_unit_of_mem _ _ _ _ _ _ (ix2 k l) rfl ?_).trans ?_
    · intro a; fin_cases a
      · show k.val = 0 + k.val; omega
      · show l.val = 0 + l.val; omega
    exact c2 k l
  · intro hh k
    by_cases hh0 : hh = 0
    · subst hh0
      refine (View.read_writes_cons_unit_of_not_mem _ _ _ _ _ _ rfl 3 (Or.inl ?_)).trans ?_
      · show 0 < 1; omega
      refine (View.read_writes_cons_unit_of_mem _ _ _ _ _ _ (ix4 0 0 k 0) rfl ?_).trans ?_
      · intro a; fin_cases a
        · rfl
        · rfl
        · show k.val = 0 + k.val; omega
        · rfl
      refine (pay88_at ..).trans ?_
      rw [c0]; rfl
    · obtain rfl : hh = 1 := by omega
      refine (View.read_writes_cons_unit_of_mem _ _ _ _ _ _ (ix4 0 0 k 0) rfl ?_).trans ?_
      · intro a; fin_cases a
        · rfl
        · rfl
        · show k.val = 0 + k.val; omega
        · rfl
      refine (pay2_at ..).trans ?_
      rw [c1]; rfl

section rows
variable {D O : FVec Ideal S512x128 .f32} {Dm Om : Fin 512 → Fin 128 → EReal}
/-- The row sums of query block 0 for head 0 of the pair, by the blocks that they come from. -/
theorem dl0_0_sp (hD : cur D = Dm) (hO : cur O = Om) (r : Fin 512) : k0_pay9 (F := Ideal) k0_pay47 D O (ix3 0 0 r) = dlT 0 Dm Om r := by
  subst hD hO; exact dl0_0 ..
/-- The row sums of query block 0 for head 1 of the pair, by the blocks that they come from. -/
theorem dl0_1_sp (hD : cur D = Dm) (hO : cur O = Om) (r : Fin 512) : k0_pay10 (F := Ideal) k0_pay48 D O (ix3 0 0 r) = dlT 1 Dm Om r := by
  subst hD hO; exact dl0_1 ..
/-- The row sums of query block 1 for head 0 of the pair, by the blocks that they come from. -/
theorem dl1_0_sp (hD : cur D = Dm) (hO : cur O = Om) (r : Fin 512) : k0_pay13 (F := Ideal) (k0_pay12 k0_pay47 D O) (ix3 0 0 r) = dlT 0 Dm Om r := by
  subst hD hO; exact dl1_0 ..
/-- The row sums of query block 1 for head 1 of the pair, by the blocks that they come from. -/
theorem dl1_1_sp (hD : cur D = Dm) (hO : cur O = Om) (r : Fin 512) : k0_pay14 (F := Ideal) k0_pay48 k0_pay7 (k0_pay11 D O) (ix3 0 0 r) = dlT 1 Dm Om r := by
  subst hD hO; exact dl1_1 ..
/-- The row sums of query block 2 for head 0 of the pair, by the blocks that they come from. -/
theorem dl2_0_sp (hD : cur D = Dm) (hO : cur O = Om) (r : Fin 512) : k0_pay16 (F := Ideal) k0_pay47 k0_pay7 D O (ix3 0 0 r) = dlT 0 Dm Om r := by
  subst hD hO; exact dl2_0 ..
/-- The row sums of query block 2 for head 1 of the pair, by the blocks that they come from. -/
theorem dl2_1_sp (hD : cur D = Dm) (hO : cur O = Om) (r : Fin 512) : k0_pay17 (F := Ideal) k0_pay48 k0_pay7 D O (ix3 0 0 r) = dlT 1 Dm Om r := by
  subst hD hO; exact dl2_1 ..
/-- The row sums of query block 3 for head 0 of the pair, by the blocks that they come from. -/
theorem dl3_0_sp (hD : cur D = Dm) (hO : cur O = Om) (r : Fin 512) : k0_pay19 (F := Ideal) k0_pay47 k0_pay7 (k0_pay18 D O) (ix3 0 0 r) = dlT 0 Dm Om r := by
  subst hD hO; exact dl3_0 ..
/-- The row sums of query block 3 for head 1 of the pair, by the blocks that they come from. -/
theorem dl3_1_sp (hD : cur D = Dm) (hO : cur O = Om) (r : Fin 512) : k0_pay20 (F := Ideal) k0_pay48 k0_pay7 (k0_pay18 D O) (ix3 0 0 r) = dlT 1 Dm Om r := by
  subst hD hO; exact dl3_1 ..
/-- The row sums of query block 4 for head 0 of the pair, by the blocks that they come from. -/
theorem dl4_0_sp (hD : cur D = Dm) (hO : cur O = Om) (r : Fin 512) : k0_pay22 (F := Ideal) k0_pay47 k0_pay7 D O (ix3 0 0 r) = dlT 0 Dm Om r := by
  subst hD hO; exact dl4_0 ..
/-- The row sums of query block 4 for head 1 of the pair, by the blocks that they come from. -/
theorem dl4_1_sp (hD : cur D = Dm) (hO : cur O = Om) (r : Fin 512) : k0_pay23 (F := Ideal) k0_pay48 k0_pay7 D O (ix3 0 0 r) = dlT 1 Dm Om r := by
  subst hD hO; exact dl4_1 ..
/-- The row sums of query block 5 for head 0 of the pair, by the blocks that they come from. -/
theorem dl5_0_sp (hD : cur D = Dm) (hO : cur O = Om) (r : Fin 512) : k0_pay25 (F := Ideal) k0_pay47 k0_pay7 D O (ix3 0 0 r) = dlT 0 Dm Om r := by
  subst hD hO; exact dl5_0 ..
/-- The row sums of query block 5 for head 1 of the pair, by the blocks that they come from. -/
theorem dl5_1_sp (hD : cur D = Dm) (hO : cur O = Om) (r : Fin 512) : k0_pay26 (F := Ideal) k0_pay48 k0_pay7 D O (ix3 0 0 r) = dlT 1 Dm Om r := by
  subst hD hO; exact dl5_1 ..
/-- The row sums of query block 6 for head 0 of the pair, by the blocks that they come from. -/
theorem dl6_0_sp (hD : cur D = Dm) (hO : cur O = Om) (r : Fin 512) : k0_pay28 (F := Ideal) k0_pay47 k0_pay7 D O (ix3 0 0 r) = dlT 0 Dm Om r := by
  subst hD hO; exact dl6_0 ..
/-- The row sums of query block 6 for head 1 of the pair, by the blocks that they come from. -/
theorem dl6_1_sp (hD : cur D = Dm) (hO : cur O = Om) (r : Fin 512) : k0_pay49 (F := Ideal) (k0_pay29 k0_pay48 k0_pay7 D O) (ix3 0 0 r) = dlT 1 Dm Om r := by
  subst hD hO; exact dl6_1 ..
/-- The row sums of query block 7 for head 0 of the pair, by the blocks that they come from. -/
theorem dl7_0_sp (hD : cur D = Dm) (hO : cur O = Om) (r : Fin 512) : k0_pay51 (F := Ideal) k0_pay7 D O (ix3 0 0 r) = dlT 0 Dm Om r := by
  subst hD hO; exact dl7_0 ..
/-- The row sums of query block 7 for head 1 of the pair, by the blocks that they come from. -/
theorem dl7_1_sp (hD : cur D = Dm) (hO : cur O = Om) (r : Fin 512) : k0_pay52 (F := Ideal) k0_pay7 D O (ix3 0 0 r) = dlT 1 Dm Om r := by
  subst hD hO; exact dl7_1 ..
end rows

/-- The sixteen stores of the row sums, read back. -/
theorem dl_read {arg15 : Memref sig .tc .vmem S8x2x512 .f32} (g : BufTy.Contents (Elt Ideal) arg15.view.ty) (x6 x7 : FVec Ideal S4096x128 .f32)
    (i71) (i70) (i61) (i60) (i51) (i50) (i41) (i40) (i31) (i30) (i21) (i20) (i11) (i10) (i01) (i00)
    (p71 : FVec Ideal S1x1x512 .f32) (p70 : FVec Ideal S1x1x512 .f32) (p61 : FVec Ideal S1x1x512 .f32) (p60 : FVec Ideal S1x1x512 .f32) (p51 : FVec Ideal S1x1x512 .f32) (p50 : FVec Ideal S1x1x512 .f32) (p41 : FVec Ideal S1x1x512 .f32) (p40 : FVec Ideal S1x1x512 .f32) (p31 : FVec Ideal S1x1x512 .f32) (p30 : FVec Ideal S1x1x512 .f32) (p21 : FVec Ideal S1x1x512 .f32) (p20 : FVec Ideal S1x1x512 .f32) (p11 : FVec Ideal S1x1x512 .f32) (p10 : FVec Ideal S1x1x512 .f32) (p01 : FVec Ideal S1x1x512 .f32) (p00 : FVec Ideal S1x1x512 .f32)
    (h71 : ∀ r, p71 (ix3 0 0 r) = dlT 1 (Db x6 7) (Db x7 7) r) (h70 : ∀ r, p70 (ix3 0 0 r) = dlT 0 (Db x6 7) (Db x7 7) r) (h61 : ∀ r, p61 (ix3 0 0 r) = dlT 1 (Db x6 6) (Db x7 6) r) (h60 : ∀ r, p60 (ix3 0 0 r) = dlT 0 (Db x6 6) (Db x7 6) r) (h51 : ∀ r, p51 (ix3 0 0 r) = dlT 1 (Db x6 5) (Db x7 5) r) (h50 : ∀ r, p50 (ix3 0 0 r) = dlT 0 (Db x6 5) (Db x7 5) r) (h41 : ∀ r, p41 (ix3 0 0 r) = dlT 1 (Db x6 4) (Db x7 4) r) (h40 : ∀ r, p40 (ix3 0 0 r) = dlT 0 (Db x6 4) (Db x7 4) r) (h31 : ∀ r, p31 (ix3 0 0 r) = dlT 1 (Db x6 3) (Db x7 3) r) (h30 : ∀ r, p30 (ix3 0 0 r) = dlT 0 (Db x6 3) (Db x7 3) r) (h21 : ∀ r, p21 (ix3 0 0 r) = dlT 1 (Db x6 2) (Db x7 2) r) (h20 : ∀ r, p20 (ix3 0 0 r) = dlT 0 (Db x6 2) (Db x7 2) r) (h11 : ∀ r, p11 (ix3 0 0 r) = dlT 1 (Db x6 1) (Db x7 1) r) (h10 : ∀ r, p10 (ix3 0 0 r) = dlT 0 (Db x6 1) (Db x7 1) r) (h01 : ∀ r, p01 (ix3 0 0 r) = dlT 1 (Db x6 0) (Db x7 0) r) (h00 : ∀ r, p00 (ix3 0 0 r) = dlT 0 (Db x6 0) (Db x7 0) r) :
    arg15.view.read (Elt Ideal) (arg15.view.writes (Elt Ideal) g [⟨Rect.unit (s := S8x2x512) ![7, 1, 0] S1x1x512.size i71, p71⟩, ⟨Rect.unit (s := S8x2x512) ![7, 0, 0] S1x1x512.size i70, p70⟩, ⟨Rect.unit (s := S8x2x512) ![6, 1, 0] S1x1x512.size i61, p61⟩, ⟨Rect.unit (s := S8x2x512) ![6, 0, 0] S1x1x512.size i60, p60⟩, ⟨Rect.unit (s := S8x2x512) ![5, 1, 0] S1x1x512.size i51, p51⟩, ⟨Rect.unit (s := S8x2x512) ![5, 0, 0] S1x1x512.size i50, p50⟩, ⟨Rect.unit (s := S8x2x512) ![4, 1, 0] S1x1x512.size i41, p41⟩, ⟨Rect.unit (s := S8x2x512) ![4, 0, 0] S1x1x512.size i40, p40⟩, ⟨Rect.unit (s := S8x2x512) ![3, 1, 0] S1x1x512.size i31, p31⟩, ⟨Rect.unit (s := S8x2x512) ![3, 0, 0] S1x1x512.size i30, p30⟩, ⟨Rect.unit (s := S8x2x512) ![2, 1, 0] S1x1x512.size i21, p21⟩, ⟨Rect.unit (s := S8x2x512) ![2, 0, 0] S1x1x512.size i20, p20⟩, ⟨Rect.unit (s := S8x2x512) ![1, 1, 0] S1x1x512.size i11, p11⟩, ⟨Rect.unit (s := S8x2x512) ![1, 0, 0] S1x1x512.size i10, p10⟩, ⟨Rect.unit (s := S8x2x512) ![0, 1, 0] S1x1x512.size i01, p01⟩, ⟨Rect.unit (s := S8x2x512) ![0, 0, 0] S1x1x512.size i00, p00⟩]) = dlS x6 x7 := by
  have key : ∀ (b : Fin 8) (hh : Fin 2) (r : Fin 512), arg15.view.read (Elt Ideal) (arg15.view.writes (Elt Ideal) g [⟨Rect.unit (s := S8x2x512) ![7, 1, 0] S1x1x512.size i71, p71⟩, ⟨Rect.unit (s := S8x2x512) ![7, 0, 0] S1x1x512.size i70, p70⟩, ⟨Rect.unit (s := S8x2x512) ![6, 1, 0] S1x1x512.size i61, p61⟩, ⟨Rect.unit (s := S8x2x512) ![6, 0, 0] S1x1x512.size i60, p60⟩, ⟨Rect.unit (s := S8x2x512) ![5, 1, 0] S1x1x512.size i51, p51⟩, ⟨Rect.unit (s := S8x2x512) ![5, 0, 0] S1x1x512.size i50, p50⟩, ⟨Rect.unit (s := S8x2x512) ![4, 1, 0] S1x1x512.size i41, p41⟩, ⟨Rect.unit (s := S8x2x512) ![4, 0, 0] S1x1x512.size i40, p40⟩, ⟨Rect.unit (s := S8x2x512) ![3, 1, 0] S1x1x512.size i31, p31⟩, ⟨Rect.unit (s := S8x2x512) ![3, 0, 0] S1x1x512.size i30, p30⟩, ⟨Rect.unit (s := S8x2x512) ![2, 1, 0] S1x1x512.size i21, p21⟩, ⟨Rect.unit (s := S8x2x512) ![2, 0, 0] S1x1x512.size i20, p20⟩, ⟨Rect.unit (s := S8x2x512) ![1, 1, 0] S1x1x512.size i11, p11⟩, ⟨Rect.unit (s := S8x2x512) ![1, 0, 0] S1x1x512.size i10, p10⟩, ⟨Rect.unit (s := S8x2x512) ![0, 1, 0] S1x1x512.size i01, p01⟩, ⟨Rect.unit (s := S8x2x512) ![0, 0, 0] S1x1x512.size i00, p00⟩]) (ix3 b hh r)
      = dlT hh (Db x6 b) (Db x7 b) r := by
    intro b hh r
    have hm : ∀ (b : Fin 8) (hh : Fin 2) (a : Fin 3), (ix3 b hh r a).val = ![b.val, hh.val, 0] a + (ix3 (0 : Fin 1) (0 : Fin 1) r a).val := by
      intro b hh a; fin_cases a
      · rfl
      · rfl
      · show r.val = 0 + r.val; omega
    match b, hh with
    | 0, 0 =>
      refine (View.read_writes_cons_unit_of_not_mem _ _ _ _ _ _ rfl 0 (Or.inl (show 0 < 7 by decide))).trans ?_
      refine (View.read_writes_cons_unit_of_not_mem _ _ _ _ _ _ rfl 0 (Or.inl (show 0 < 7 by decide))).trans ?_
      refine (View.read_writes_cons_unit_of_not_mem _ _ _ _ _ _ rfl 0 (Or.inl (show 0 < 6 by decide))).trans ?_
      refine (View.read_writes_cons_unit_of_not_mem _ _ _ _ _ _ rfl 0 (Or.inl (show 0 < 6 by decide))).trans ?_
      refine (View.read_writes_cons_unit_of_not_mem _ _ _ _ _ _ rfl 0 (Or.inl (show 0 < 5 by decide))).trans ?_
      refine (View.read_writes_cons_unit_of_not_mem _ _ _ _ _ _ rfl 0 (Or.inl (show 0 < 5 by decide))).trans ?_
      refine (View.read_writes_cons_unit_of_not_mem _ _ _ _ _ _ rfl 0 (Or.inl (show 0 < 4 by decide))).trans ?_
      refine (View.read_writes_cons_unit_of_not_mem _ _ _ _ _ _ rfl 0 (Or.inl (show 0 < 4 by decide))).trans ?_
      refine (View.read_writes_cons_unit_of_not_mem _ _ _ _ _ _ rfl 0 (Or.inl (show 0 < 3 by decide))).trans ?_
      refine (View.read_writes_cons_unit_of_not_mem _ _ _ _ _ _ rfl 0 (Or.inl (show 0 < 3 by decide))).trans ?_
      refine (View.read_writes_cons_unit_of_not_mem _ _ _ _ _ _ rfl 0 (Or.inl (show 0 < 2 by decide))).trans ?_
      refine (View.read_writes_cons_unit_of_not_mem _ _ _ _ _ _ rfl 0 (Or.inl (show 0 < 2 by decide))).trans ?_
      refine (View.read_writes_cons_unit_of_not_mem _ _ _ _ _ _ rfl 0 (Or.inl (show 0 < 1 by decide))).trans ?_
      refine (View.read_writes_cons_unit_of_not_mem _ _ _ _ _ _ rfl 0 (Or.inl (show 0 < 1 by decide))).trans ?_
      refine (View.read_writes_cons_unit_of_not_mem _ _ _ _ _ _ rfl 1 (Or.inl (show 0 < 1 by decide))).trans ?_
      exact (View.read_writes_cons_unit_of_mem _ _ _ _ _ _ (ix3 0 0 r) rfl (hm 0 0)).trans (h00 r)
    | 0, 1 =>
      refine (View.read_writes_cons_unit_of_not_mem _ _ _ _ _ _ rfl 0 (Or.inl (show 0 < 7 by decide))).trans ?_
      refine (View.read_writes_cons_unit_of_not_mem _ _ _ _ _ _ rfl 0 (Or.inl (show 0 < 7 by decide))).trans ?_
      refine (View.read_writes_cons_unit_of_not_mem _ _ _ _ _ _ rfl 0 (Or.inl (show 0 < 6 by decide))).trans ?_
      refine (View.read_writes_cons_unit_of_not_mem _ _ _ _ _ _ rfl 0 (Or.inl (show 0 < 6 by decide))).trans ?_
      refine (View.read_writes_cons_unit_of_not_mem _ _ _ _ _ _ rfl 0 (Or.inl (show 0 < 5 by decide))).trans ?_
      refine (View.read_writes_cons_unit_of_not_mem _ _ _ _ _ _ rfl 0 (Or.inl (show 0 < 5 by decide))).trans ?_
      refine (View.read_writes_cons_unit_of_not_mem _ _ _ _ _ _ rfl 0 (Or.inl (show 0 < 4 by decide))).trans ?_
      refine (View.read_writes_cons_unit_of_not_mem _ _ _ _ _ _ rfl 0 (Or.inl (show 0 < 4 by decide))).trans ?_
      refine (View.read_writes_cons_unit_of_not_mem _ _ _ _ _ _ rfl 0 (Or.inl (show 0 < 3 by decide))).trans ?_
      refine (View.read_writes_cons_unit_of_not_mem _ _ _ _ _ _ rfl 0 (Or.inl (show 0 < 3 by decide))).trans ?_
      refine (View.read_writes_cons_unit_of_not_mem _ _ _ _ _ _ rfl 0 (Or.inl (show 0 < 2 by decide))).trans ?_
      refine (View.read_writes_cons_unit_of_not_mem _ _ _ _ _ _ rfl 0 (Or.inl (show 0 < 2 by decide))).trans ?_
      refine (View.read_writes_cons_unit_of_not_mem _ _ _ _ _ _ rfl 0 (Or.inl (show 0 < 1 by decide))).trans ?_
      refine (View.read_writes_cons_unit_of_not_mem _ _ _ _ _ _ rfl 0 (Or.inl (show 0 < 1 by decide))).trans ?_
      exact (View.read_writes_cons_unit_of_mem _ _ _ _ _ _ (ix3 0 0 r) rfl (hm 0 1)).trans (h01 r)
    | 1, 0 =>
      refine (View.read_writes_cons_unit_of_not_mem _ _ _ _ _ _ rfl 0 (Or.inl (show 1 < 7 by decide))).trans ?_
      refine (View.read_writes_cons_unit_of_not_mem _ _ _ _ _ _ rfl 0 (Or.inl (show 1 < 7 by decide))).trans ?_
      refine (View.read_writes_cons_unit_of_not_mem _ _ _ _ _ _ rfl 0 (Or.inl (show 1 < 6 by decide))).trans ?_
      refine (View.read_writes_cons_unit_of_not_mem _ _ _ _ _ _ rfl 0 (Or.inl (show 1 < 6 by decide))).trans ?_
      refine (View.read_writes_cons_unit_of_not_mem _ _ _ _ _ _ rfl 0 (Or.inl (show 1 < 5 by decide))).trans ?_
      refine (View.read_writes_cons_unit_of_not_mem _ _ _ _ _ _ rfl 0 (Or.inl (show 1 < 5 by decide))).trans ?_
      refine (View.read_writes_cons_unit_of_not_mem _ _ _ _ _ _ rfl 0 (Or.inl (show 1 < 4 by decide))).trans ?_
      refine (View.read_writes_cons_unit_of_not_mem _ _ _ _ _ _ rfl 0 (Or.inl (show 1 < 4 by decide))).trans ?_
      refine (View.read_writes_cons_unit_of_not_mem _ _ _ _ _ _ rfl 0 (Or.inl (show 1 < 3 by decide))).trans ?_
      refine (View.read_writes_cons_unit_of_not_mem _ _ _ _ _ _ rfl 0 (Or.inl (show 1 < 3 by decide))).trans ?_
      refine (View.read_writes_cons_unit_of_not_mem _ _ _ _ _ _ rfl 0 (Or.inl (show 1 < 2 by decide))).trans ?_
      refine (View.read_writes_cons_unit_of_not_mem _ _ _ _ _ _ rfl 0 (Or.inl (show 1 < 2 by decide))).trans ?_
      refine (View.read_writes_cons_unit_of_not_mem _ _ _ _ _ _ rfl 1 (Or.inl (show 0 < 1 by decide))).trans ?_
      exact (View.read_writes_cons_unit_of_mem _ _ _ _ _ _ (ix3 0 0 r) rfl (hm 1 0)).trans (h10 r)
    | 1, 1 =>
      refine (View.read_writes_cons_unit_of_not_mem _ _ _ _ _ _ rfl 0 (Or.inl (show 1 < 7 by decide))).trans ?_
      refine (View.read_writes_cons_unit_of_not_mem _ _ _ _ _ _ rfl 0 (Or.inl (show 1 < 7 by decide))).trans ?_
      refine (View.read_writes_cons_unit_of_not_mem _ _ _ _ _ _ rfl 0 (Or.inl (show 1 < 6 by decide))).trans ?_
      refine (View.read_writes_cons_unit_of_not_mem _ _ _ _ _ _ rfl 0 (Or.inl (show 1 < 6 by decide))).trans ?_
      refine (View.read_writes_cons_unit_of_not_mem _ _ _ _ _ _ rfl 0 (Or.inl (show 1 < 5 by decide))).trans ?_
      refine (View.read_writes_cons_unit_of_not_mem _ _ _ _ _ _ rfl 0 (Or.inl (show 1 < 5 by decide))).trans ?_
      refine (View.read_writes_cons_unit_of_not_mem _ _ _ _ _ _ rfl 0 (Or.inl (show 1 < 4 by decide))).trans ?_
      refine (View.read_writes_cons_unit_of_not_mem _ _ _ _ _ _ rfl 0 (Or.inl (show 1 < 4 by decide))).trans ?_
      refine (View.read_writes_cons_unit_of_not_mem _ _ _ _ _ _ rfl 0 (Or.inl (show 1 < 3 by decide))).trans ?_
      refine (View.read_writes_cons_unit_of_not_mem _ _ _ _ _ _ rfl 0 (Or.inl (show 1 < 3 by decide))).trans ?_
      refine (View.read_writes_cons_unit_of_not_mem _ _ _ _ _ _ rfl 0 (Or.inl (show 1 < 2 by decide))).trans ?_
      refine (View.read_writes_cons_unit_of_not_mem _ _ _ _ _ _ rfl 0 (Or.inl (show 1 < 2 by decide))).trans ?_
      exact (View.read_writes_cons_unit_of_mem _ _ _ _ _ _ (ix3 0 0 r) rfl (hm 1 1)).trans (h11 r)
    | 2, 0 =>
      refine (View.read_writes_cons_unit_of_not_mem _ _ _ _ _ _ rfl 0 (Or.inl (show 2 < 7 by decide))).trans ?_
      refine (View.read_writes_cons_unit_of_not_mem _ _ _ _ _ _ rfl 0 (Or.inl (show 2 < 7 by decide))).trans ?_
      refine (View.read_writes_cons_unit_of_not_mem _ _ _ _ _ _ rfl 0 (Or.inl (show 2 < 6 by decide))).trans ?_
      refine (View.read_writes_cons_unit_of_not_mem _ _ _ _ _ _ rfl 0 (Or.inl (show 2 < 6 by decide))).trans ?_
      refine (View.read_writes_cons_unit_of_not_mem _ _ _ _ _ _ rfl 0 (Or.inl (show 2 < 5 by decide))).trans ?_
      refine (View.read_writes_cons_unit_of_not_mem _ _ _ _ _ _ rfl 0 (Or.inl (show 2 < 5 by decide))).trans ?_
      refine (View.read_writes_cons_unit_of_not_mem _ _ _ _ _ _ rfl 0 (Or.inl (show 2 < 4 by decide))).trans ?_
      refine (View.read_writes_cons_unit_of_not_mem _ _ _ _ _ _ rfl 0 (Or.inl (show 2 < 4 by decide))).trans ?_
      refine (View.read_writes_cons_unit_of_not_mem _ _ _ _ _ _ rfl 0 (Or.inl (show 2 < 3 by decide))).trans ?_
      refine (View.read_writes_cons_unit_of_not_mem _ _ _ _ _ _ rfl 0 (Or.inl (show 2 < 3 by decide))).trans ?_
      refine (View.read_writes_cons_unit_of_not_mem _ _ _ _ _ _ rfl 1 (Or.inl (show 0 < 1 by decide))).trans ?_
      exact (View.read_writes_cons_unit_of_mem _ _ _ _ _ _ (ix3 0 0 r) rfl (hm 2 0)).trans (h20 r)
    | 2, 1 =>
      refine (View.read_writes_cons_unit_of_not_mem _ _ _ _ _ _ rfl 0 (Or.inl (show 2 < 7 by decide))).trans ?_
      refine (View.read_writes_cons_unit_of_not_mem _ _ _ _ _ _ rfl 0 (Or.inl (show 2 < 7 by decide))).trans ?_
      refine (View.read_writes_cons_unit_of_not_mem _ _ _ _ _ _ rfl 0 (Or.inl (show 2 < 6 by decide))).trans ?_
      refine (View.read_writes_cons_unit_of_not_mem _ _ _ _ _ _ rfl 0 (Or.inl (show 2 < 6 by decide))).trans ?_
      refine (View.read_writes_cons_unit_of_not_mem _ _ _ _ _ _ rfl 0 (Or.inl (show 2 < 5 by decide))).trans ?_
      refine (View.read_writes_cons_unit_of_not_mem _ _ _ _ _ _ rfl 0 (Or.inl (show 2 < 5 by decide))).trans ?_
      refine (View.read_writes_cons_unit_of_not_mem _ _ _ _ _ _ rfl 0 (Or.inl (show 2 < 4 by decide))).trans ?_
      refine (View.read_writes_cons_unit_of_not_mem _ _ _ _ _ _ rfl 0 (Or.inl (show 2 < 4 by decide))).trans ?_
      refine (View.read_writes_cons_unit_of_not_mem _ _ _ _ _ _ rfl 0 (Or.inl (show 2 < 3 by decide))).trans ?_
      refine (View.read_writes_cons_unit_of_not_mem _ _ _ _ _ _ rfl 0 (Or.inl (show 2 < 3 by decide))).trans ?_
      exact (View.read_writes_cons_unit_of_mem _ _ _ _ _ _ (ix3 0 0 r) rfl (hm 2 1)).trans (h21 r)
    | 3, 0 =>
      refine (View.read_writes_cons_unit_of_not_mem _ _ _ _ _ _ rfl 0 (Or.inl (show 3 < 7 by decide))).trans ?_
      refine (View.read_writes_cons_unit_of_not_mem _ _ _ _ _ _ rfl 0 (Or.inl (show 3 < 7 by decide))).trans ?_
      refine (View.read_writes_cons_unit_of_not_mem _ _ _ _ _ _ rfl 0 (Or.inl (show 3 < 6 by decide))).trans ?_
      refine (View.read_writes_cons_unit_of_not_mem _ _ _ _ _ _ rfl 0 (Or.inl (show 3 < 6 by decide))).trans ?_
      refine (View.read_writes_cons_unit_of_not_mem _ _ _ _ _ _ rfl 0 (Or.inl (show 3 < 5 by decide))).trans ?_
      refine (View.read_writes_cons_unit_of_not_mem _ _ _ _ _ _ rfl 0 (Or.inl (show 3 < 5 by decide))).trans ?_
      refine (View.read_writes_cons_unit_of_not_mem _ _ _ _ _ _ rfl 0 (Or.inl (show 3 < 4 by decide))).trans ?_
      refine (View.read_writes_cons_unit_of_not_mem _ _ _ _ _ _ rfl 0 (Or.inl (show 3 < 4 by decide))).trans ?_
      refine (View.read_writes_cons_unit_of_not_mem _ _ _ _ _ _ rfl 1 (Or.inl (show 0 < 1 by decide))).trans ?_
      exact (View.read_writes_cons_unit_of_mem _ _ _ _ _ _ (ix3 0 0 r) rfl (hm 3 0)).trans (h30 r)
    | 3, 1 =>
      refine (View.read_writes_cons_unit_of_not_mem _ _ _ _ _ _ rfl 0 (Or.inl (show 3 < 7 by decide))).trans ?_
      refine (View.read_writes_cons_unit_of_not_mem _ _ _ _ _ _ rfl 0 (Or.inl (show 3 < 7 by decide))).trans ?_
      refine (View.read_writes_cons_unit_of_not_mem _ _ _ _ _ _ rfl 0 (Or.inl (show 3 < 6 by decide))).trans ?_
      refine (View.read_writes_cons_unit_of_not_mem _ _ _ _ _ _ rfl 0 (Or.inl (show 3 < 6 by decide))).trans ?_
      refine (View.read_writes_cons_unit_of_not_mem _ _ _ _ _ _ rfl 0 (Or.inl (show 3 < 5 by decide))).trans ?_
      refine (View.read_writes_cons_unit_of_not_mem _ _ _ _ _ _ rfl 0 (Or.inl (show 3 < 5 by decide))).trans ?_
      refine (View.read_writes_cons_unit_of_not_mem _ _ _ _ _ _ rfl 0 (Or.inl (show 3 < 4 by decide))).trans ?_
      refine (View.read_writes_cons_unit_of_not_mem _ _ _ _ _ _ rfl 0 (Or.inl (show 3 < 4 by decide))).trans ?_
      exact (View.read_writes_cons_unit_of_mem _ _ _ _ _ _ (ix3 0 0 r) rfl (hm 3 1)).trans (h31 r)
    | 4, 0 =>
      refine (View.read_writes_cons_unit_of_not_mem _ _ _ _ _ _ rfl 0 (Or.inl (show 4 < 7 by decide))).trans ?_
      refine (View.read_writes_cons_unit_of_not_mem _ _ _ _ _ _ rfl 0 (Or.inl (show 4 < 7 by decide))).trans ?_
      refine (View.read_writes_cons_unit_of_not_mem _ _ _ _ _ _ rfl 0 (Or.inl (show 4 < 6 by decide))).trans ?_
      refine (View.read_writes_cons_unit_of_not_mem _ _ _ _ _ _ rfl 0 (Or.inl (show 4 < 6 by decide))).trans ?_
      refine (View.read_writes_cons_unit_of_not_mem _ _ _ _ _ _ rfl 0 (Or.inl (show 4 < 5 by decide))).trans ?_
      refine (View.read_writes_cons_unit_of_not_mem _ _ _ _ _ _ rfl 0 (Or.inl (show 4 < 5 by decide))).trans ?_
      refine (View.read_writes_cons_unit_of_not_mem _ _ _ _ _ _ rfl 1 (Or.inl (show 0 < 1 by decide))).trans ?_
      exact (View.read_writes_cons_unit_of_mem _ _ _ _ _ _ (ix3 0 0 r) rfl (hm 4 0)).trans (h40 r)
    | 4, 1 =>
      refine (View.read_writes_cons_unit_of_not_mem _ _ _ _ _ _ rfl 0 (Or.inl (show 4 < 7 by decide))).trans ?_
      refine (View.read_writes_cons_unit_of_not_mem _ _ _ _ _ _ rfl 0 (Or.inl (show 4 < 7 by decide))).trans ?_
      refine (View.read_writes_cons_unit_of_not_mem _ _ _ _ _ _ rfl 0 (Or.inl (show 4 < 6 by decide))).trans ?_
      refine (View.read_writes_cons_unit_of_not_mem _ _ _ _ _ _ rfl 0 (Or.inl (show 4 < 6 by decide))).trans ?_
      refine (View.read_writes_cons_unit_of_not_mem _ _ _ _ _ _ rfl 0 (Or.inl (show 4 < 5 by decide))).trans ?_
      refine (View.read_writes_cons_unit_of_not_mem _ _ _ _ _ _ rfl 0 (Or.inl (show 4 < 5 by decide))).trans ?_
      exact (View.read_writes_cons_unit_of_mem _ _ _ _ _ _ (ix3 0 0 r) rfl (hm 4 1)).trans (h41 r)
    | 5, 0 =>
      refine (View.read_writes_cons_unit_of_not_mem _ _ _ _ _ _ rfl 0 (Or.inl (show 5 < 7 by decide))).trans ?_
      refine (View.read_writes_cons_unit_of_not_mem _ _ _ _ _ _ rfl 0 (Or.inl (show 5 < 7 by decide))).trans ?_
      refine (View.read_writes_cons_unit_of_not_mem _ _ _ _ _ _ rfl 0 (Or.inl (show 5 < 6 by decide))).trans ?_
      refine (View.read_writes_cons_unit_of_not_mem _ _ _ _ _ _ rfl 0 (Or.inl (show 5 < 6 by decide))).trans ?_
      refine (View.read_writes_cons_unit_of_not_mem _ _ _ _ _ _ rfl 1 (Or.inl (show 0 < 1 by decide))).trans ?_
      exact (View.read_writes_cons_unit_of_mem _ _ _ _ _ _ (ix3 0 0 r) rfl (hm 5 0)).trans (h50 r)
    | 5, 1 =>
      refine (View.read_writes_cons_unit_of_not_mem _ _ _ _ _ _ rfl 0 (Or.inl (show 5 < 7 by decide))).trans ?_
      refine (View.read_writes_cons_unit_of_not_mem _ _ _ _ _ _ rfl 0 (Or.inl (show 5 < 7 by decide))).trans ?_
      refine (View.read_writes_cons_unit_of_not_mem _ _ _ _ _ _ rfl 0 (Or.inl (show 5 < 6 by decide))).trans ?_
      refine (View.read_writes_cons_unit_of_not_mem _ _ _ _ _ _ rfl 0 (Or.inl (show 5 < 6 by decide))).trans ?_
      exact (View.read_writes_cons_unit_of_mem _ _ _ _ _ _ (ix3 0 0 r) rfl (hm 5 1)).trans (h51 r)
    | 6, 0 =>
      refine (View.read_writes_cons_unit_of_not_mem _ _ _ _ _ _ rfl 0 (Or.inl (show 6 < 7 by decide))).trans ?_
      refine (View.read_writes_cons_unit_of_not_mem _ _ _ _ _ _ rfl 0 (Or.inl (show 6 < 7 by decide))).trans ?_
      refine (View.read_writes_cons_unit_of_not_mem _ _ _ _ _ _ rfl 1 (Or.inl (show 0 < 1 by decide))).trans ?_
      exact (View.read_writes_cons_unit_of_mem _ _ _ _ _ _ (ix3 0 0 r) rfl (hm 6 0)).trans (h60 r)
    | 6, 1 =>
      refine (View.read_writes_cons_unit_of_not_mem _ _ _ _ _ _ rfl 0 (Or.inl (show 6 < 7 by decide))).trans ?_
      refine (View.read_writes_cons_unit_of_not_mem _ _ _ _ _ _ rfl 0 (Or.inl (show 6 < 7 by decide))).trans ?_
      exact (View.read_writes_cons_unit_of_mem _ _ _ _ _ _ (ix3 0 0 r) rfl (hm 6 1)).trans (h61 r)
    | 7, 0 =>
      refine (View.read_writes_cons_unit_of_not_mem _ _ _ _ _ _ rfl 1 (Or.inl (show 0 < 1 by decide))).trans ?_
      exact (View.read_writes_cons_unit_of_mem _ _ _ _ _ _ (ix3 0 0 r) rfl (hm 7 0)).trans (h70 r)
    | 7, 1 =>
      exact (View.read_writes_cons_unit_of_mem _ _ _ _ _ _ (ix3 0 0 r) rfl (hm 7 1)).trans (h71 r)
  funext y
  have hy : y = ix3 (y 0) (y 1) (y 2) := by funext a; fin_cases a <;> rfl
  rw [hy]
  exact key (y 0) (y 1) (y 2)

/-- The accumulator's first half after its clearing. -/
theorem zA {arg14 : Memref sig .tc .vmem S4096x256 .f32} (g : BufTy.Contents (Elt Ideal) arg14.view.ty) (inb) (hh : Fin 2) (b : Fin 8) (r : Fin 512) (l : Fin 128) :
    Ab (arg14.view.read (Elt Ideal) (arg14.view.writes (Elt Ideal) g [⟨Rect.unit (s := S4096x256) ![0, 0] S4096x256.size inb, k0_pay6 (F := Ideal)⟩])) hh b r l = 0 := by
  unfold Ab
  refine (View.read_writes_cons_unit_of_mem _ _ _ _ _ _ (ix2 ⟨512 * b.val + r.val, by omega⟩ ⟨128 * hh.val + l.val, by omega⟩) rfl ?_).trans (pay6_at _)
  intro a; fin_cases a
  · show 512 * b.val + r.val = 0 + (512 * b.val + r.val); omega
  · show 128 * hh.val + l.val = 0 + (128 * hh.val + l.val); omega
/-- The accumulator's second half after its clearing. -/
theorem z1A {arg14 : Memref sig .tc .vmem S4096x256 .f32} (i : grid0.Coords) (g : BufTy.Contents (Elt Ideal) arg14.view.ty) (inb) (p0) (b : Fin 8) (r : Fin 512) (l : Fin 128) :
    Ab (arg14.view.read (Elt Ideal) (arg14.view.writes (Elt Ideal) g [⟨Rect.unit (s := S4096x256) (k0_off2 i) S512x128.size (k0_off2_inb i), p0⟩, ⟨Rect.unit (s := S4096x256) ![0, 0] S4096x256.size inb, k0_pay6 (F := Ideal)⟩])) 1 b r l = 0 := by
  rw [← zA g inb 1 b r l]
  unfold Ab
  refine (View.read_writes_cons_unit_of_not_mem _ _ _ _ _ _ (dk0_off2 i) 1 (Or.inr ?_))
  show 128 * 0 + 128 ≤ 128 * 1 + l.val
  omega

section cols
variable {arg14 : Memref sig .tc .vmem S4096x256 .f32}
/-- What a load of buffer 14 reads for head 0 of the pair. -/
theorem ld14c0 (X : BufTy.Contents (Elt Ideal) arg14.view.ty) (inb) (R : Fin 4096) (l : Fin 128) :
    (View.readAt (Elt Ideal) arg14.view (Rect.unit (s := S4096x256) ![0, 0] S4096x128.size inb).toLoadRect X) (ix2 R l) = arg14.view.read (Elt Ideal) X (ix2 R ⟨0 + l.val, by omega⟩) := by
  show arg14.view.read (Elt Ideal) X ((Rect.unit (s := S4096x256) _ S4096x128.size inb).emb (ix2 R l)) = arg14.view.read (Elt Ideal) X _
  refine congrArg _ (funext fun a => Fin.ext ?_)
  fin_cases a
  · show 0 + 1 * R.val = R.val; omega
  · show 0 + 1 * l.val = 0 + l.val; omega
/-- What a load of buffer 14 reads for head 1 of the pair. -/
theorem ld14c1 (X : BufTy.Contents (Elt Ideal) arg14.view.ty) (inb) (R : Fin 4096) (l : Fin 128) :
    (View.readAt (Elt Ideal) arg14.view (Rect.unit (s := S4096x256) ![0, 128] S4096x128.size inb).toLoadRect X) (ix2 R l) = arg14.view.read (Elt Ideal) X (ix2 R ⟨128 + l.val, by omega⟩) := by
  show arg14.view.read (Elt Ideal) X ((Rect.unit (s := S4096x256) _ S4096x128.size inb).emb (ix2 R l)) = arg14.view.read (Elt Ideal) X _
  refine congrArg _ (funext fun a => Fin.ext ?_)
  fin_cases a
  · show 0 + 1 * R.val = R.val; omega
  · show 128 + 1 * l.val = 128 + l.val; omega
/-- What a load of buffer 14 reads for head 0 of the pair. -/
theorem ld14g0 (X : BufTy.Contents (Elt Ideal) arg14.view.ty) (inb) (R : Fin 4096) (l : Fin 1) :
    (View.readAt (Elt Ideal) arg14.view (Rect.unit (s := S4096x256) ![0, 64] S4096x1.size inb).toLoadRect X) (ix2 R l) = arg14.view.read (Elt Ideal) X (ix2 R ⟨64 + l.val, by omega⟩) := by
  show arg14.view.read (Elt Ideal) X ((Rect.unit (s := S4096x256) _ S4096x1.size inb).emb (ix2 R l)) = arg14.view.read (Elt Ideal) X _
  refine congrArg _ (funext fun a => Fin.ext ?_)
  fin_cases a
  · show 0 + 1 * R.val = R.val; omega
  · show 64 + 1 * l.val = 64 + l.val; omega
/-- What a load of buffer 14 reads for head 1 of the pair. -/
theorem ld14g1 (X : BufTy.Contents (Elt Ideal) arg14.view.ty) (inb) (R : Fin 4096) (l : Fin 1) :
    (View.readAt (Elt Ideal) arg14.view (Rect.unit (s := S4096x256) ![0, 192] S4096x1.size inb).toLoadRect X) (ix2 R l) = arg14.view.read (Elt Ideal) X (ix2 R ⟨192 + l.val, by omega⟩) := by
  show arg14.view.read (Elt Ideal) X ((Rect.unit (s := S4096x256) _ S4096x1.size inb).emb (ix2 R l)) = arg14.view.read (Elt Ideal) X _
  refine congrArg _ (funext fun a => Fin.ext ?_)
  fin_cases a
  · show 0 + 1 * R.val = R.val; omega
  · show 192 + 1 * l.val = 192 + l.val; omega

/-- The last point's store of the queries' gradient, read back. -/
theorem dq_read {arg9 : Memref sig .tc .vmem S4096x128 .f32} (g : BufTy.Contents (Elt Ideal) arg9.view.ty) (inb) (ib0) (ib1) (X : BufTy.Contents (Elt Ideal) arg14.view.ty)
    (b : Fin 8) (r : Fin 512) (l : Fin 128) :
    arg9.view.read (Elt Ideal) (arg9.view.writes (Elt Ideal) g [⟨Rect.unit (s := S4096x128) ![0, 0] S4096x128.size inb,
      k0_pay3 (View.readAt (Elt Ideal) arg14.view (Rect.unit (s := S4096x256) ![0, 0] S4096x128.size ib0).toLoadRect X) (View.readAt (Elt Ideal) arg14.view (Rect.unit (s := S4096x256) ![0, 128] S4096x128.size ib1).toLoadRect X)⟩]) (ix2 ⟨512 * b.val + r.val, by omega⟩ l)
      = (if h : l.val < 64 then Ab (arg14.view.read (Elt Ideal) X) 0 b r l else Ab (arg14.view.read (Elt Ideal) X) 1 b r ⟨l.val - 64, by omega⟩) * Ideal.ofBits .f32 0x3E000000#32 := by
  refine (View.read_writes_cons_unit_of_mem _ _ _ _ _ _ (ix2 ⟨512 * b.val + r.val, by omega⟩ l) rfl ?_).trans ?_
  · intro a; fin_cases a
    · show 512 * b.val + r.val = 0 + (512 * b.val + r.val); omega
    · show l.val = 0 + l.val; omega
  refine (pay3_at _ _ ⟨512 * b.val + r.val, by omega⟩ l).trans ?_
  refine congrArg (· * _) ?_
  split_ifs with h
  · refine (ld14c0 X ib0 ⟨512 * b.val + r.val, by omega⟩ l).trans ?_
    unfold Ab
    exact congrArg (fun z => arg14.view.read (Elt Ideal) X (ix2 _ z)) (Fin.ext (show 0 + l.val = 128 * 0 + l.val by omega))
  · refine (ld14c1 X ib1 ⟨512 * b.val + r.val, by omega⟩ ⟨l.val - 64, by omega⟩).trans ?_
    unfold Ab
    exact congrArg (fun z => arg14.view.read (Elt Ideal) X (ix2 _ z)) (Fin.ext (show 128 + (l.val - 64) = 128 * 1 + (l.val - 64) by omega))
/-- The last point's stores of the gradient of the cumulative gates, read back. -/
theorem dcc_read {arg10 : Memref sig .tc .vmem S1x1x4096x2 .f32} (g : BufTy.Contents (Elt Ideal) arg10.view.ty) (inb1) (inb0) (ib0) (ib1) (X : BufTy.Contents (Elt Ideal) arg14.view.ty)
    (hh : Fin 2) (b : Fin 8) (r : Fin 512) :
    arg10.view.read (Elt Ideal) (arg10.view.writes (Elt Ideal) g [⟨Rect.unit (s := S1x1x4096x2) ![0, 0, 0, 1] S1x1x4096x1.size inb1,
      k0_pay5 (View.readAt (Elt Ideal) arg14.view (Rect.unit (s := S4096x256) ![0, 192] S4096x1.size ib1).toLoadRect X)⟩,
      ⟨Rect.unit (s := S1x1x4096x2) ![0, 0, 0, 0] S1x1x4096x1.size inb0,
      k0_pay4 (View.readAt (Elt Ideal) arg14.view (Rect.unit (s := S4096x256) ![0, 64] S4096x1.size ib0).toLoadRect X)⟩]) (ix4 0 0 ⟨512 * b.val + r.val, by omega⟩ hh)
      = Ab (arg14.view.read (Elt Ideal) X) hh b r 64 := by
  by_cases hh0 : hh = 0
  · subst hh0
    refine (View.read_writes_cons_unit_of_not_mem _ _ _ _ _ _ rfl 3 (Or.inl ?_)).trans ?_
    · show 0 < 1; omega
    refine (View.read_writes_cons_unit_of_mem _ _ _ _ _ _ (ix4 0 0 ⟨512 * b.val + r.val, by omega⟩ 0) rfl ?_).trans ?_
    · intro a; fin_cases a
      · rfl
      · rfl
      · show 512 * b.val + r.val = 0 + (512 * b.val + r.val); omega
      · rfl
    refine (pay4_at _ ⟨512 * b.val + r.val, by omega⟩).trans ?_
    exact (ld14g0 X ib0 ⟨512 * b.val + r.val, by omega⟩ 0)
  · obtain rfl : hh = 1 := by omega
    refine (View.read_writes_cons_unit_of_mem _ _ _ _ _ _ (ix4 0 0 ⟨512 * b.val + r.val, by omega⟩ 0) rfl ?_).trans ?_
    · intro a; fin_cases a
      · rfl
      · rfl
      · show 512 * b.val + r.val = 0 + (512 * b.val + r.val); omega
      · rfl
    refine (pay5_at _ ⟨512 * b.val + r.val, by omega⟩).trans ?_
    exact (ld14g1 X ib1 ⟨512 * b.val + r.val, by omega⟩ 0)
end cols

end Cert.KernelIdeal.Val
end
-- ==== Proof.Blk.lean ====
module

public import proofs.«01_k».proof.Proof.Post
public import proofs.«01_k».proof.Proof.Gen.KernelIdeal.Frame
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Cert.KernelIdeal.Pay Cert.KernelIdeal.Trip Cert.KernelIdeal.Val

variable (m : (ℓ : Loc nD τ sig) → Buf (Elt Ideal) ℓ)

/-- The batch of a grid point. -/
def bt (t : Fin cfg0.N) : Fin 2 := ⟨t.val / 64, Nat.div_lt_of_lt_mul (Nat.lt_of_lt_of_eq t.isLt (by decide +kernel : grid0.N = 128))⟩
/-- The pair of heads of a grid point. -/
def pt (t : Fin cfg0.N) : Fin 8 := ⟨t.val / 8 % 8, Nat.mod_lt _ (by decide)⟩
/-- The block of keys of a grid point. -/
def jt (t : Fin cfg0.N) : Fin 8 := ⟨t.val % 8, Nat.mod_lt _ (by decide)⟩

/-- The third grid coordinate of a point. -/
theorem coords2v : ∀ t : Fin cfg0.N, (grid0.coords t 2).val = t.val % 8 := (by decide +kernel : ∀ t : Fin grid0.N, (grid0.coords t 2).val = t.val % 8)
/-- The third grid coordinate is the block of keys. -/
theorem coords2 (t : Fin cfg0.N) : grid0.coords t 2 = jt t := Fin.ext (coords2v t)

/-- Every window's block index at a point, in terms of the point's number. -/
theorem idx : ∀ t : Fin cfg0.N, win0_0.index t = ![t.val / 64 * 8 + t.val % 8, t.val / 8 % 8] ∧ win0_1.index t = ![t.val / 64 * 8 + t.val % 8, t.val / 8 % 8]
    ∧ win0_2.index t = ![t.val / 64, t.val / 8 % 8] ∧ win0_3.index t = ![t.val / 64, t.val / 8 % 8] ∧ win0_4.index t = ![t.val / 64, t.val / 8 % 8]
    ∧ win0_5.index t = ![t.val / 64, t.val / 8 % 8, 0, 0, 0] ∧ win0_6.index t = ![t.val / 64, t.val / 8 % 8] ∧ win0_7.index t = ![t.val / 64, t.val / 8 % 8, 0, 0]
    ∧ win0_8.index t = ![t.val / 64 * 8 + t.val % 8, t.val / 8 % 8] ∧ win0_9.index t = ![t.val / 64 * 8 + t.val % 8, t.val / 8 % 8]
    ∧ win0_10.index t = ![t.val / 64, t.val / 8 % 8, t.val % 8, 0] := (by decide +kernel : ∀ t : Fin grid0.N, _)

/-- Row `r` of the block `j` of the batch `b`. -/
def rowB (b : Fin 2) (j : Fin 8) (r : Fin 512) : Fin 8192 := ⟨(b.val * 8 + j.val) * 512 + r.val, by omega⟩
/-- Row `i` of the batch `b`. -/
def rowA (b : Fin 2) (i : Fin 4096) : Fin 8192 := ⟨b.val * 4096 + i.val, by omega⟩
/-- Lane `l` of the pair of heads `p`, of an array with 128 lanes a head. -/
def lane2 (p : Fin 8) (l : Fin 256) : Fin 2048 := ⟨p.val * 256 + l.val, by omega⟩
/-- Lane `l` of the pair of heads `p`, of an array with 64 lanes a head. -/
def lane1 (p : Fin 8) (l : Fin 128) : Fin 1024 := ⟨p.val * 128 + l.val, by omega⟩

/-- The block of keys `j` of the pair of heads `p` of the batch `b`, of the array `A`. -/
def Bk (A : FVec Ideal S8192x2048 .bf16) (b : Fin 2) (p j : Fin 8) : FVec Ideal S512x256 .bf16 :=
  fun y => A (ix2 (rowB b j (y 0)) (lane2 p (y 1)))
/-- The block of values `j`. -/
def Bv (A : FVec Ideal S8192x1024 .bf16) (b : Fin 2) (p j : Fin 8) : FVec Ideal S512x128 .bf16 :=
  fun y => A (ix2 (rowB b j (y 0)) (lane1 p (y 1)))
/-- The queries of a pair of heads. -/
def Bq (A : FVec Ideal S8192x2048 .bf16) (b : Fin 2) (p : Fin 8) : FVec Ideal S4096x256 .bf16 :=
  fun y => A (ix2 (rowA b (y 0)) (lane2 p (y 1)))
/-- The rows of a pair of heads, of an array with 64 lanes a head. -/
def Bo (A : FVec Ideal S8192x1024 .f32) (b : Fin 2) (p : Fin 8) : FVec Ideal S4096x128 .f32 :=
  fun y => A (ix2 (rowA b (y 0)) (lane1 p (y 1)))
/-- The row sums' logarithms of a pair of heads. -/
def Bl (A : FVec Ideal S2x8x8x2x512 .f32) (b : Fin 2) (p : Fin 8) : FVec Ideal S1x1x8x2x512 .f32 :=
  fun y => A (ix5 b p (y 2) (y 3) (y 4))

/-- What input window 0 holds at a grid point. -/
theorem blk0 (c : Dev nD) (t : Fin cfg0.N) : (iblk m c 0 t : FVec Ideal S512x256 .bf16) = Bk (V m c main_v64) (bt t) (pt t) (jt t) := by
  funext y; unfold Bk; blk_ext [iblk, idx t, bt, pt, jt, rowA, rowB, lane1, lane2]
/-- What input window 1 holds at a grid point. -/
theorem blk1 (c : Dev nD) (t : Fin cfg0.N) : (iblk m c 1 t : FVec Ideal S512x128 .bf16) = Bv (V m c main_v65) (bt t) (pt t) (jt t) := by
  funext y; unfold Bv; blk_ext [iblk, idx t, bt, pt, jt, rowA, rowB, lane1, lane2]
/-- What input window 2 holds at a grid point. -/
theorem blk2 (c : Dev nD) (t : Fin cfg0.N) : (iblk m c 2 t : FVec Ideal S4096x256 .bf16) = Bq (V m c main_v57) (bt t) (pt t) := by
  funext y; unfold Bq; blk_ext [iblk, idx t, bt, pt, jt, rowA, rowB, lane1, lane2]
/-- What input window 3 holds at a grid point. -/
theorem blk3 (c : Dev nD) (t : Fin cfg0.N) : (iblk m c 3 t : FVec Ideal S4096x128 .f32) = Bo (V m c main_arg4) (bt t) (pt t) := by
  funext y; unfold Bo; blk_ext [iblk, idx t, bt, pt, jt, rowA, rowB, lane1, lane2]
/-- What input window 4 holds at a grid point. -/
theorem blk4 (c : Dev nD) (t : Fin cfg0.N) : (iblk m c 4 t : FVec Ideal S4096x128 .f32) = Bo (V m c main_v34) (bt t) (pt t) := by
  funext y; unfold Bo; blk_ext [iblk, idx t, bt, pt, jt, rowA, rowB, lane1, lane2]
/-- A block of the row sums' logarithms, read off any contents of the arrays. -/
theorem read5 (c : Dev nD) (t : Fin cfg0.N) (W : (b : Ref sig .tc) → Buf (Elt Ideal) ((c.tc : Thread nD τ).loc b)) (y : S1x1x8x2x512.Idx) :
    ((cfg0.win 5).blk t).view.read (Elt Ideal) (W (Pipeline.arrRef spec0 5)) y = W main_v67 ((win0_5.rect t).emb y) := rfl
/-- Where input window 5's entries lie in its array. -/
theorem emb5 (t : Fin cfg0.N) (y : S1x1x8x2x512.Idx) : ((win0_5.rect t).emb y : S2x8x8x2x512.Idx) = ix5 (bt t) (pt t) (y 2) (y 3) (y 4) := by
  have h0 : (y 0).val = 0 := Nat.lt_one_iff.1 (y 0).isLt
  have h1 : (y 1).val = 0 := Nat.lt_one_iff.1 (y 1).isLt
  funext a
  refine Fin.ext ((Pipeline.Window.rect_emb_val win0_5 t y a).trans ?_)
  rw [(idx t).2.2.2.2.2.1]
  match a with
  | ⟨0, _⟩ => show t.val / 64 * 1 + (y 0).val = t.val / 64; rw [h0]; omega
  | ⟨1, _⟩ => show t.val / 8 % 8 * 1 + (y 1).val = t.val / 8 % 8; rw [h1]; omega
  | ⟨2, _⟩ => show 0 * 8 + (y 2).val = (y 2).val; omega
  | ⟨3, _⟩ => show 0 * 2 + (y 3).val = (y 3).val; omega
  | ⟨4, _⟩ => show 0 * 512 + (y 4).val = (y 4).val; omega
/-- What input window 5 holds at a grid point. -/
theorem blk5 (c : Dev nD) (t : Fin cfg0.N) : (iblk m c 5 t : FVec Ideal S1x1x8x2x512 .f32) = Bl (V m c main_v67) (bt t) (pt t) := by
  funext y; unfold Bl iblk
  exact (read5 c t (V m c) y).trans (congrArg (fun z : S2x8x8x2x512.Idx => V m c main_v67 z) (emb5 t y))

section arrays
variable (K : FVec Ideal S8192x2048 .bf16) (Vv : FVec Ideal S8192x1024 .bf16) (Q : FVec Ideal S8192x2048 .bf16) (D O : FVec Ideal S8192x1024 .f32) (L : FVec Ideal S2x8x8x2x512 .f32)

/-- What the block of keys `j` adds to the gradient of the augmented queries. -/
def dqP (b : Fin 2) (p j : Fin 8) (hh : Fin 2) (bb : Fin 8) (r : Fin 512) (l : Fin 128) : EReal :=
  dqI j (Bk K b p j) (Bv Vv b p j) (Bq Q b p) (Bo D b p) (Bo O b p) (Bl L b p) hh bb r l
/-- The gradient of the augmented queries once the blocks of keys below `n` are in. -/
def acc (n : ℕ) (b : Fin 2) (p : Fin 8) (hh : Fin 2) (bb : Fin 8) (r : Fin 512) (l : Fin 128) : EReal :=
  ∑ j : Fin 8, if j.val < n then dqP K Vv Q D O L b p j hh bb r l else 0
/-- The gradient of the augmented keys of the block `j`. -/
def dkP (b : Fin 2) (p j : Fin 8) (hh : Fin 2) (k : Fin 512) (l : Fin 128) : EReal :=
  dkI j (Bk K b p j) (Bv Vv b p j) (Bq Q b p) (Bo D b p) (Bo O b p) (Bl L b p) hh k l
/-- The gradient of the values of the block `j`. -/
def dvP (b : Fin 2) (p j : Fin 8) (k : Fin 512) (l : Fin 128) : EReal :=
  dvI j (Bk K b p j) (Bv Vv b p j) (Bq Q b p) (Bo D b p) (Bo O b p) (Bl L b p) k l

/-- Before any key block the accumulator is zero. -/
theorem acc_zero (b : Fin 2) (p : Fin 8) (hh : Fin 2) (bb : Fin 8) (r : Fin 512) (l : Fin 128) : acc K Vv Q D O L 0 b p hh bb r l = 0 := by
  unfold acc; simp
/-- One more block of keys. -/
theorem acc_succ (j : Fin 8) (b : Fin 2) (p : Fin 8) (hh : Fin 2) (bb : Fin 8) (r : Fin 512) (l : Fin 128) :
    acc K Vv Q D O L (j.val + 1) b p hh bb r l = acc K Vv Q D O L j.val b p hh bb r l + dqP K Vv Q D O L b p j hh bb r l := by
  unfold acc
  have e : ∀ i : Fin 8, (if i.val < j.val + 1 then dqP K Vv Q D O L b p i hh bb r l else 0)
      = (if i.val < j.val then dqP K Vv Q D O L b p i hh bb r l else 0) + (if i = j then dqP K Vv Q D O L b p i hh bb r l else 0) := fun i => by
    rcases Nat.lt_trichotomy i.val j.val with h | h | h
    · rw [if_pos (by omega), if_pos h, if_neg (fun e => by subst e; omega), add_zero]
    · rw [if_pos (by omega), if_neg (by omega), if_pos (Fin.ext h), zero_add]
    · rw [if_neg (by omega), if_neg (by omega), if_neg (fun e => by subst e; omega), zero_add]
  rw [Finset.sum_congr rfl fun i _ => e i, Finset.sum_add_distrib, Finset.sum_ite_eq' Finset.univ j]
  simp

/-- The contents of the result `dq`: the first 64 lanes of each head's gradient, scaled. -/
def Gdq : FVec Ideal S8192x1024 .f32 := fun i =>
  let b : Fin 2 := ⟨(i 0).val / 4096, Nat.div_lt_of_lt_mul (i 0).isLt⟩
  let p : Fin 8 := ⟨(i 1).val / 128, Nat.div_lt_of_lt_mul (i 1).isLt⟩
  let bb : Fin 8 := ⟨(i 0).val % 4096 / 512, Nat.div_lt_of_lt_mul (Nat.mod_lt _ (by decide))⟩
  let r : Fin 512 := ⟨(i 0).val % 512, Nat.mod_lt _ (by decide)⟩
  (if h : (i 1).val % 128 < 64 then acc K Vv Q D O L 8 b p 0 bb r ⟨(i 1).val % 128, by omega⟩ else acc K Vv Q D O L 8 b p 1 bb r ⟨(i 1).val % 128 - 64, by omega⟩)
    * Ideal.ofBits .f32 0x3E000000#32
/-- The contents of the result `dcc` : lane 64 of each head's gradient. -/
def Gdcc : FVec Ideal S2x8x4096x2 .f32 := fun i =>
  let bb : Fin 8 := ⟨(i 2).val / 512, Nat.div_lt_of_lt_mul (i 2).isLt⟩
  acc K Vv Q D O L 8 (i 0) (i 1) (i 3) bb ⟨(i 2).val % 512, Nat.mod_lt _ (by decide)⟩ 64
/-- The contents of the result `dk`. -/
def Gdk : FVec Ideal S8192x1024 .f32 := fun i =>
  let b : Fin 2 := ⟨(i 0).val / 4096, Nat.div_lt_of_lt_mul (i 0).isLt⟩
  let p : Fin 8 := ⟨(i 1).val / 128, Nat.div_lt_of_lt_mul (i 1).isLt⟩
  let j : Fin 8 := ⟨(i 0).val % 4096 / 512, Nat.div_lt_of_lt_mul (Nat.mod_lt _ (by decide))⟩
  let k : Fin 512 := ⟨(i 0).val % 512, Nat.mod_lt _ (by decide)⟩
  if h : (i 1).val % 128 < 64 then dkP K Vv Q D O L b p j 0 k ⟨(i 1).val % 128, by omega⟩ else dkP K Vv Q D O L b p j 1 k ⟨(i 1).val % 128 - 64, by omega⟩
/-- The contents of the result `dv`. -/
def Gdv : FVec Ideal S8192x1024 .f32 := fun i =>
  let b : Fin 2 := ⟨(i 0).val / 4096, Nat.div_lt_of_lt_mul (i 0).isLt⟩
  let p : Fin 8 := ⟨(i 1).val / 128, Nat.div_lt_of_lt_mul (i 1).isLt⟩
  let j : Fin 8 := ⟨(i 0).val % 4096 / 512, Nat.div_lt_of_lt_mul (Nat.mod_lt _ (by decide))⟩
  let k : Fin 512 := ⟨(i 0).val % 512, Nat.mod_lt _ (by decide)⟩
  dvP K Vv Q D O L b p j k ⟨(i 1).val % 128, Nat.mod_lt _ (by decide)⟩
/-- The contents of the result `dck`: lane 67 of each head's gradient of the keys, subtracted from zero. -/
def Gdck : FVec Ideal S2x8x4096x2 .f32 := fun i =>
  let j : Fin 8 := ⟨(i 2).val / 512, Nat.div_lt_of_lt_mul (i 2).isLt⟩
  0 - dkP K Vv Q D O L (i 0) (i 1) j (i 3) ⟨(i 2).val % 512, Nat.mod_lt _ (by decide)⟩ 67

end arrays

end Cert.KernelIdeal.Run

end
-- ==== Proof.Val.lean ====
module

public import proofs.«01_k».proof.Proof.Post
public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay Cert.KernelIdeal.Trip

/-- The model's resources at this certificate's mesh and signature. -/
abbrev Res : Type := MT nD τ sig Unit (Elt Ideal) ℕ (UR sig nD τ) ℕ

/-- Whether the body is at the first block of keys, in the words the kernel computes it with. -/
abbrev atFirst (i : grid0.Coords) : Prop :=
  Scalar.cmpi .ne (Scalar.extui (Scalar.cmpi .eq (BitVec.ofNat 32 (i 2).val) 0#32)) 0#32 = 1#1
/-- The first grid point of a pair of heads. -/
theorem atFirst_iff : ∀ i : grid0.Coords, atFirst i ↔ (i 2).val = 0 := by decide +kernel
/-- The last grid point of a pair of heads. -/
theorem atLast_iff : ∀ i : grid0.Coords, k0_cond2 i = 1#1 ↔ (i 2).val = 7 := by decide +kernel

set_option maxHeartbeats 4000000 in
/-- The kernel body at any point: from the six inputs at given contents and the scratch buffers as the points before it
    left them, it runs to its return, leaving the inputs as they were and the outputs and the scratch buffers at the body's values. -/
theorem run_body (c : Dev nD) (E : Set ℕ) (i : grid0.Coords)
    (arg3 : Memref sig .tc .vmem S512x256 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S1x1x8x2x512 .f32) (harg8 : arg8.IsWhole) (arg9 : Memref sig .tc .vmem S4096x128 .f32) (harg9 : arg9.IsWhole) (arg10 : Memref sig .tc .vmem S1x1x4096x2 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x1x512x2 .f32) (harg13 : arg13.IsWhole) (arg14 : Memref sig .tc .vmem S4096x256 .f32) (harg14 : arg14.IsWhole) (arg15 : Memref sig .tc .vmem S8x2x512 .f32) (harg15 : arg15.IsWhole)
    (x3 : FVec Ideal S512x256 .bf16) (x4 : FVec Ideal S512x128 .bf16) (x5 : FVec Ideal S4096x256 .bf16) (x6 : FVec Ideal S4096x128 .f32) (x7 : FVec Ideal S4096x128 .f32) (x8 : FVec Ideal S1x1x8x2x512 .f32) (x14 : FVec Ideal S4096x256 .f32) (x15 : FVec Ideal S8x2x512 .f32) (h15 : (i 2).val ≠ 0 → x15 = dlS x6 x7)
    (K : PUnit → sProp Res) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ owns (c : Thread nD τ) arg14 fullShare x14 ∗ owns (c : Thread nD τ) arg15 fullShare x15
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ ∃ X9 X10 X11 X12 X13 X14 X15, owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15
        ∗ ⌜Post (i 2) x3 x4 x5 x6 x7 x8 (fun hh b r l => if (i 2).val = 0 then 0 else Ab x14 hh b r l) X9 X10 X11 X12 X13 X14 X15⌝) -∗ K ⟨⟩))
      ⊢ wp frame (wpE (defs₀ (F := Ideal)) Variants.none (c : Thread nD τ) none) E
        (cc0_fox_attn_bwd_l2 i arg3 harg3 arg4 harg4 arg5 harg5 arg6 harg6 arg7 harg7 arg8 harg8 arg9 harg9 arg10 harg10 arg11 harg11 arg12 harg12 arg13 harg13 arg14 harg14 arg15 harg15) K := by
  simp only [cc0_fox_attn_bwd_l2_eq_skeleton]; unfold cc0_fox_attn_bwd_l2_skel; simp only [k0_part9_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, Hk⟩
  subst hf3 hf4 hf5 hf6 hf7 hf8 hf14 hf15
  by_cases h1 : atFirst i <;> by_cases h2 : k0_cond2 i = 1#1
  · exact absurd ((atFirst_iff i).1 h1) (by rw [(atLast_iff i).1 h2]; decide)
  all_goals
    sl_exec
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists _
    iexists _
    iexists _
    iexists _
    iexists _
    iexists _
    iexists _
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    ipureintro
    have e2 : Scf.trips (k0_t2_loop i).lb (k0_t2_loop i).ub (k0_t2_loop i).st = 0 := Nat.le_zero.1 (k0_t2_abs i).2.1
  · delta run_body.sl.r_13 run_body.sl.r_14
    simp only [e2, st_k0_t2, List.nil_append]
    have hi : (i 2).val = 0 := (atFirst_iff i).1 h1
    have hlast : (i 2).val ≠ 7 := fun h => h2 ((atLast_iff i).2 h)
    have hA0 : (fun (hh : Fin 2) (b : Fin 8) (r : Fin 512) (l : Fin 128) => if (i 2).val = 0 then (0 : EReal) else Ab (arg14.view.read (Elt Ideal) f14) hh b r l) = (fun _ _ _ _ => 0) := by
      funext hh b r l; exact if_pos hi
    rw [hA0]
    have hX : arg15.view.read (Elt Ideal) (arg15.view.writes (Elt Ideal) arg15.view.junk (run_body.sl.H15_16 c arg6 arg7 f6 f7)) = dlS (arg6.view.read (Elt Ideal) f6) (arg7.view.read (Elt Ideal) f7) :=
      dl_read _ _ _ _ _ _ _ _ _ _ _ _ _ _ _ _ _ _ _ _ _ _ _ _ _ _ _ _ _ _ _ _ _ _ _ (fun r => dl7_1_sp (ld6 f6 _ 7 _ rfl) (ld6 (arg6 := arg7) f7 _ 7 _ rfl) r) (fun r => dl7_0_sp (ld6 f6 _ 7 _ rfl) (ld6 (arg6 := arg7) f7 _ 7 _ rfl) r) (fun r => dl6_1_sp (ld6 f6 _ 6 _ rfl) (ld6 (arg6 := arg7) f7 _ 6 _ rfl) r) (fun r => dl6_0_sp (ld6 f6 _ 6 _ rfl) (ld6 (arg6 := arg7) f7 _ 6 _ rfl) r) (fun r => dl5_1_sp (ld6 f6 _ 5 _ rfl) (ld6 (arg6 := arg7) f7 _ 5 _ rfl) r) (fun r => dl5_0_sp (ld6 f6 _ 5 _ rfl) (ld6 (arg6 := arg7) f7 _ 5 _ rfl) r) (fun r => dl4_1_sp (ld6 f6 _ 4 _ rfl) (ld6 (arg6 := arg7) f7 _ 4 _ rfl) r) (fun r => dl4_0_sp (ld6 f6 _ 4 _ rfl) (ld6 (arg6 := arg7) f7 _ 4 _ rfl) r) (fun r => dl3_1_sp (ld6 f6 _ 3 _ rfl) (ld6 (arg6 := arg7) f7 _ 3 _ rfl) r) (fun r => dl3_0_sp (ld6 f6 _ 3 _ rfl) (ld6 (arg6 := arg7) f7 _ 3 _ rfl) r) (fun r => dl2_1_sp (ld6 f6 _ 2 _ rfl) (ld6 (arg6 := arg7) f7 _ 2 _ rfl) r) (fun r => dl2_0_sp (ld6 f6 _ 2 _ rfl) (ld6 (arg6 := arg7) f7 _ 2 _ rfl) r) (fun r => dl1_1_sp (ld6 f6 _ 1 _ rfl) (ld6 (arg6 := arg7) f7 _ 1 _ rfl) r) (fun r => dl1_0_sp (ld6 f6 _ 1 _ rfl) (ld6 (arg6 := arg7) f7 _ 1 _ rfl) r) (fun r => dl0_1_sp (ld6 f6 _ 0 _ rfl) (ld6 (arg6 := arg7) f7 _ 0 _ rfl) r) (fun r => dl0_0_sp (ld6 f6 _ 0 _ rfl) (ld6 (arg6 := arg7) f7 _ 0 _ rfl) r)
    refine post_of c i arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ f4 f7 _ _ _ _ _ _ (fun _ _ _ _ => 0) _ _ _ _ _ _ ?h15 ?hv ?hG ?hi0 ?hi1 ?hi2 ?h9 ?h10
    case h15 => exact hX
    case hv => exact pay53_sp (ld4 f4 _ _ rfl)
    case hG =>
      refine diag_read i _ _ _ _ (fun _ _ _ _ => 0) (dqC true (arg3.view.read (Elt Ideal) f3) (cur (φ := .bf16) (arg4.view.read (Elt Ideal) f4)) (arg5.view.read (Elt Ideal) f5) (arg6.view.read (Elt Ideal) f6) (arg8.view.read (Elt Ideal) f8) (dlS (arg6.view.read (Elt Ideal) f6) (arg7.view.read (Elt Ideal) f7))) ?_ ?_ ?_
      · intro r l
        exact pay62_sp (pay53_sp (ld4 f4 _ _ rfl)) (ld6 f6 _ (i 2) _ (dk0_off1 i)) (ld3 f3 _ 0 _ rfl) (ld5 f5 _ 0 (i 2) _ (dk0_off2 i)) (ld8 f8 _ 0 (i 2) _ (dk0_off3 i)) ((ld15 _ _ 0 (i 2) _ (dk0_off4 i)).trans (by rw [hX])) ((ld14 _ _ 0 (i 2) _ (dk0_off2 i)).trans (funext fun r => funext fun l => zA _ _ _ _ _ _)) r l
      · intro r l
        exact pay70_sp (pay53_sp (ld4 f4 _ _ rfl)) (ld6 f6 _ (i 2) _ (dk0_off1 i)) (ld3 f3 _ 1 _ rfl) (ld5 f5 _ 1 (i 2) _ (dk0_off5 i)) (ld8 f8 _ 1 (i 2) _ (dk0_off6 i)) ((ld15 _ _ 1 (i 2) _ (dk0_off7 i)).trans (by rw [hX])) ((ld14 _ _ 1 (i 2) _ (dk0_off5 i)).trans (funext fun r => funext fun l => z1A i _ _ _ _ _ _)) r l
      · intro hh b r l
        exact zA _ _ hh b r l
    case hi0 =>
      intro k l
      exact pay61_sp (pay53_sp (ld4 f4 _ _ rfl)) (ld6 f6 _ (i 2) _ (dk0_off1 i)) (ld3 f3 _ 0 _ rfl) (ld5 f5 _ 0 (i 2) _ (dk0_off2 i)) (ld8 f8 _ 0 (i 2) _ (dk0_off3 i)) ((ld15 _ _ 0 (i 2) _ (dk0_off4 i)).trans (by rw [hX])) k l
    case hi1 =>
      intro k l
      exact pay69_sp (pay53_sp (ld4 f4 _ _ rfl)) (ld6 f6 _ (i 2) _ (dk0_off1 i)) (ld3 f3 _ 1 _ rfl) (ld5 f5 _ 1 (i 2) _ (dk0_off5 i)) (ld8 f8 _ 1 (i 2) _ (dk0_off6 i)) ((ld15 _ _ 1 (i 2) _ (dk0_off7 i)).trans (by rw [hX])) k l
    case hi2 =>
      intro k l
      exact pay67_sp (ld6 f6 _ (i 2) _ (dk0_off1 i)) (ld3 f3 _ 0 _ rfl) (ld5 f5 _ 0 (i 2) _ (dk0_off2 i)) (ld8 f8 _ 0 (i 2) _ (dk0_off3 i)) (ld3 f3 _ 1 _ rfl) (ld5 f5 _ 1 (i 2) _ (dk0_off5 i)) (ld8 f8 _ 1 (i 2) _ (dk0_off6 i)) k l
    case h9 => exact fun h => absurd h hlast
    case h10 => exact fun h => absurd h hlast
  · delta run_body.sl.r_28 run_body.sl.r_29 run_body.sl.v125 run_body.sl.v126 run_body.sl.v132_1 run_body.sl.v136_1
    simp only [e2, st_k0_t2, List.nil_append]
    have hi : (i 2).val ≠ 0 := fun h => h1 ((atFirst_iff i).2 h)
    have hlast : (i 2).val = 7 := (atLast_iff i).1 h2
    have hA0 : (fun (hh : Fin 2) (b : Fin 8) (r : Fin 512) (l : Fin 128) => if (i 2).val = 0 then (0 : EReal) else Ab (arg14.view.read (Elt Ideal) f14) hh b r l) = (Ab (arg14.view.read (Elt Ideal) f14)) := by
      funext hh b r l; exact if_neg hi
    rw [hA0]
    have hX := h15 hi
    refine post_of c i arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ f4 f7 _ _ _ _ _ _ (Ab (arg14.view.read (Elt Ideal) f14)) _ _ _ _ _ _ ?h15 ?hv ?hG ?hi0 ?hi1 ?hi2 ?h9 ?h10
    case h15 => exact hX
    case hv => exact pay53_sp (ld4 f4 _ _ rfl)
    case hG =>
      refine diag_read i _ _ _ _ (Ab (arg14.view.read (Elt Ideal) f14)) (dqC true (arg3.view.read (Elt Ideal) f3) (cur (φ := .bf16) (arg4.view.read (Elt Ideal) f4)) (arg5.view.read (Elt Ideal) f5) (arg6.view.read (Elt Ideal) f6) (arg8.view.read (Elt Ideal) f8) (dlS (arg6.view.read (Elt Ideal) f6) (arg7.view.read (Elt Ideal) f7))) ?_ ?_ ?_
      · intro r l
        exact pay62_sp (pay53_sp (ld4 f4 _ _ rfl)) (ld6 f6 _ (i 2) _ (dk0_off1 i)) (ld3 f3 _ 0 _ rfl) (ld5 f5 _ 0 (i 2) _ (dk0_off2 i)) (ld8 f8 _ 0 (i 2) _ (dk0_off3 i)) ((ld15 _ _ 0 (i 2) _ (dk0_off4 i)).trans (by rw [hX])) (ld14 f14 _ 0 (i 2) _ (dk0_off2 i)) r l
      · intro r l
        exact pay70_sp (pay53_sp (ld4 f4 _ _ rfl)) (ld6 f6 _ (i 2) _ (dk0_off1 i)) (ld3 f3 _ 1 _ rfl) (ld5 f5 _ 1 (i 2) _ (dk0_off5 i)) (ld8 f8 _ 1 (i 2) _ (dk0_off6 i)) ((ld15 _ _ 1 (i 2) _ (dk0_off7 i)).trans (by rw [hX])) (ld14 f14 _ 1 (i 2) _ (dk0_off5 i)) r l
      · intro hh b r l
        rfl
    case hi0 =>
      intro k l
      exact pay61_sp (pay53_sp (ld4 f4 _ _ rfl)) (ld6 f6 _ (i 2) _ (dk0_off1 i)) (ld3 f3 _ 0 _ rfl) (ld5 f5 _ 0 (i 2) _ (dk0_off2 i)) (ld8 f8 _ 0 (i 2) _ (dk0_off3 i)) ((ld15 _ _ 0 (i 2) _ (dk0_off4 i)).trans (by rw [hX])) k l
    case hi1 =>
      intro k l
      exact pay69_sp (pay53_sp (ld4 f4 _ _ rfl)) (ld6 f6 _ (i 2) _ (dk0_off1 i)) (ld3 f3 _ 1 _ rfl) (ld5 f5 _ 1 (i 2) _ (dk0_off5 i)) (ld8 f8 _ 1 (i 2) _ (dk0_off6 i)) ((ld15 _ _ 1 (i 2) _ (dk0_off7 i)).trans (by rw [hX])) k l
    case hi2 =>
      intro k l
      exact pay67_sp (ld6 f6 _ (i 2) _ (dk0_off1 i)) (ld3 f3 _ 0 _ rfl) (ld5 f5 _ 0 (i 2) _ (dk0_off2 i)) (ld8 f8 _ 0 (i 2) _ (dk0_off3 i)) (ld3 f3 _ 1 _ rfl) (ld5 f5 _ 1 (i 2) _ (dk0_off5 i)) (ld8 f8 _ 1 (i 2) _ (dk0_off6 i)) k l
    case h9 =>
      intro _ _ b r l
      exact dq_read ..
    case h10 =>
      intro _ hh b r
      exact dcc_read ..
  · delta run_body.sl.r_43 run_body.sl.r_44
    simp only [e2, st_k0_t2, List.nil_append]
    have hi : (i 2).val ≠ 0 := fun h => h1 ((atFirst_iff i).2 h)
    have hlast : (i 2).val ≠ 7 := fun h => h2 ((atLast_iff i).2 h)
    have hA0 : (fun (hh : Fin 2) (b : Fin 8) (r : Fin 512) (l : Fin 128) => if (i 2).val = 0 then (0 : EReal) else Ab (arg14.view.read (Elt Ideal) f14) hh b r l) = (Ab (arg14.view.read (Elt Ideal) f14)) := by
      funext hh b r l; exact if_neg hi
    rw [hA0]
    have hX := h15 hi
    refine post_of c i arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ f4 f7 _ _ _ _ _ _ (Ab (arg14.view.read (Elt Ideal) f14)) _ _ _ _ _ _ ?h15 ?hv ?hG ?hi0 ?hi1 ?hi2 ?h9 ?h10
    case h15 => exact hX
    case hv => exact pay53_sp (ld4 f4 _ _ rfl)
    case hG =>
      refine diag_read i _ _ _ _ (Ab (arg14.view.read (Elt Ideal) f14)) (dqC true (arg3.view.read (Elt Ideal) f3) (cur (φ := .bf16) (arg4.view.read (Elt Ideal) f4)) (arg5.view.read (Elt Ideal) f5) (arg6.view.read (Elt Ideal) f6) (arg8.view.read (Elt Ideal) f8) (dlS (arg6.view.read (Elt Ideal) f6) (arg7.view.read (Elt Ideal) f7))) ?_ ?_ ?_
      · intro r l
        exact pay62_sp (pay53_sp (ld4 f4 _ _ rfl)) (ld6 f6 _ (i 2) _ (dk0_off1 i)) (ld3 f3 _ 0 _ rfl) (ld5 f5 _ 0 (i 2) _ (dk0_off2 i)) (ld8 f8 _ 0 (i 2) _ (dk0_off3 i)) ((ld15 _ _ 0 (i 2) _ (dk0_off4 i)).trans (by rw [hX])) (ld14 f14 _ 0 (i 2) _ (dk0_off2 i)) r l
      · intro r l
        exact pay70_sp (pay53_sp (ld4 f4 _ _ rfl)) (ld6 f6 _ (i 2) _ (dk0_off1 i)) (ld3 f3 _ 1 _ rfl) (ld5 f5 _ 1 (i 2) _ (dk0_off5 i)) (ld8 f8 _ 1 (i 2) _ (dk0_off6 i)) ((ld15 _ _ 1 (i 2) _ (dk0_off7 i)).trans (by rw [hX])) (ld14 f14 _ 1 (i 2) _ (dk0_off5 i)) r l
      · intro hh b r l
        rfl
    case hi0 =>
      intro k l
      exact pay61_sp (pay53_sp (ld4 f4 _ _ rfl)) (ld6 f6 _ (i 2) _ (dk0_off1 i)) (ld3 f3 _ 0 _ rfl) (ld5 f5 _ 0 (i 2) _ (dk0_off2 i)) (ld8 f8 _ 0 (i 2) _ (dk0_off3 i)) ((ld15 _ _ 0 (i 2) _ (dk0_off4 i)).trans (by rw [hX])) k l
    case hi1 =>
      intro k l
      exact pay69_sp (pay53_sp (ld4 f4 _ _ rfl)) (ld6 f6 _ (i 2) _ (dk0_off1 i)) (ld3 f3 _ 1 _ rfl) (ld5 f5 _ 1 (i 2) _ (dk0_off5 i)) (ld8 f8 _ 1 (i 2) _ (dk0_off6 i)) ((ld15 _ _ 1 (i 2) _ (dk0_off7 i)).trans (by rw [hX])) k l
    case hi2 =>
      intro k l
      exact pay67_sp (ld6 f6 _ (i 2) _ (dk0_off1 i)) (ld3 f3 _ 0 _ rfl) (ld5 f5 _ 0 (i 2) _ (dk0_off2 i)) (ld8 f8 _ 0 (i 2) _ (dk0_off3 i)) (ld3 f3 _ 1 _ rfl) (ld5 f5 _ 1 (i 2) _ (dk0_off5 i)) (ld8 f8 _ 1 (i 2) _ (dk0_off6 i)) k l
    case h9 => exact fun h => absurd h hlast
    case h10 => exact fun h => absurd h hlast

end Cert.KernelIdeal.Val
end
-- ==== Proof.Run.lean ====
module

public import proofs.«01_k».proof.Proof.Blk
public import proofs.«01_k».proof.Proof.Val
public import Idealize.ShloMosaic.Lib.Pipeline.DatRel
public import Idealize.ShloMosaic.Lib.Pipeline.ArrRel
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Pay Cert.KernelIdeal.Trip Cert.KernelIdeal.Val

section arrays
variable (K : FVec Ideal S8192x2048 .bf16) (Vv : FVec Ideal S8192x1024 .bf16) (Q : FVec Ideal S8192x2048 .bf16) (D O : FVec Ideal S8192x1024 .f32) (L : FVec Ideal S2x8x8x2x512 .f32)

/-- What the scratch buffers hold before the point `n`, unless that point starts a new pair of heads. -/
def Inv (n : ℕ) (X14 : FVec Ideal S4096x256 .f32) (X15 : FVec Ideal S8x2x512 .f32) : Prop :=
  ∀ t : Fin cfg0.N, t.val = n → t.val % 8 ≠ 0 → X15 = dlS (Bo D (bt t) (pt t)) (Bo O (bt t) (pt t))
    ∧ ∀ hh bb r l, Ab X14 hh bb r l = acc K Vv Q D O L (t.val % 8) (bt t) (pt t) hh bb r l

/-- What the last block of keys of a pair of heads leaves in the block of `dq`. -/
def R6 (t : Fin cfg0.N) (X : FVec Ideal S4096x128 .f32) : Prop := t.val % 8 = 7 → ∀ (b : Fin 8) (r : Fin 512) (l : Fin 128), X (ix2 ⟨512 * b.val + r.val, by omega⟩ l)
    = (if h : l.val < 64 then acc K Vv Q D O L 8 (bt t) (pt t) 0 b r l else acc K Vv Q D O L 8 (bt t) (pt t) 1 b r ⟨l.val - 64, by omega⟩) * Ideal.ofBits .f32 0x3E000000#32
/-- What it leaves in the block of `dcc`. -/
def R7 (t : Fin cfg0.N) (X : FVec Ideal S1x1x4096x2 .f32) : Prop := t.val % 8 = 7 → ∀ (hh : Fin 2) (b : Fin 8) (r : Fin 512), X (ix4 0 0 ⟨512 * b.val + r.val, by omega⟩ hh)
    = acc K Vv Q D O L 8 (bt t) (pt t) hh b r 64
/-- What every point leaves in its block of `dk`. -/
def R8 (t : Fin cfg0.N) (X : FVec Ideal S512x128 .f32) : Prop := ∀ (k : Fin 512) (l : Fin 128), X (ix2 k l)
    = if h : l.val < 64 then dkP K Vv Q D O L (bt t) (pt t) (jt t) 0 k l else dkP K Vv Q D O L (bt t) (pt t) (jt t) 1 k ⟨l.val - 64, by omega⟩
/-- What every point leaves in its block of `dv`. -/
def R9 (t : Fin cfg0.N) (X : FVec Ideal S512x128 .f32) : Prop := ∀ (k : Fin 512) (l : Fin 128), X (ix2 k l) = dvP K Vv Q D O L (bt t) (pt t) (jt t) k l
/-- What every point leaves in its block of `dck`. -/
def R10 (t : Fin cfg0.N) (X : FVec Ideal S1x1x512x2 .f32) : Prop := ∀ (hh : Fin 2) (k : Fin 512), X (ix4 0 0 k hh) = 0 - dkP K Vv Q D O L (bt t) (pt t) (jt t) hh k 67

/-- What the body leaves at a point, in the terms of the whole arrays. -/
theorem post_out (t : Fin cfg0.N) (x14 : FVec Ideal S4096x256 .f32) (x15 : FVec Ideal S8x2x512 .f32) (h : Inv K Vv Q D O L t.val x14 x15)
    {X9 : FVec Ideal S4096x128 .f32} {X10 : FVec Ideal S1x1x4096x2 .f32} {X11 : FVec Ideal S512x128 .f32} {X12 : FVec Ideal S512x128 .f32} {X13 : FVec Ideal S1x1x512x2 .f32} {X14 : FVec Ideal S4096x256 .f32} {X15 : FVec Ideal S8x2x512 .f32}
    (P : Post (jt t) (Bk K (bt t) (pt t) (jt t)) (Bv Vv (bt t) (pt t) (jt t)) (Bq Q (bt t) (pt t)) (Bo D (bt t) (pt t)) (Bo O (bt t) (pt t)) (Bl L (bt t) (pt t))
      (fun hh b r l => if (jt t).val = 0 then 0 else Ab x14 hh b r l) X9 X10 X11 X12 X13 X14 X15) :
    Inv K Vv Q D O L (t.val + 1) X14 X15 ∧ R6 K Vv Q D O L t X9 ∧ R7 K Vv Q D O L t X10 ∧ R8 K Vv Q D O L t X11 ∧ R9 K Vv Q D O L t X12 ∧ R10 K Vv Q D O L t X13 := by
  have hacc : ∀ hh b r l, Ab X14 hh b r l = acc K Vv Q D O L ((jt t).val + 1) (bt t) (pt t) hh b r l := fun hh b r l => by
    rw [P.h14, acc_succ]
    refine congrArg₂ (· + ·) ?_ rfl
    split
    · next e => rw [e, acc_zero]
    · next e => exact (h t rfl e).2 hh b r l
  refine ⟨fun t' ht' hm => ?_, fun h7 b r l => ?_, fun h7 hh b r => ?_, P.h11, P.h12, P.h13⟩
  · have eb : bt t' = bt t := Fin.ext (by show t'.val / 64 = t.val / 64; omega)
    have ep : pt t' = pt t := Fin.ext (by show t'.val / 8 % 8 = t.val / 8 % 8; omega)
    have ej : t'.val % 8 = (jt t).val + 1 := by show t'.val % 8 = t.val % 8 + 1; omega
    rw [eb, ep, ej]
    exact ⟨P.h15, hacc⟩
  · rw [P.h9 h7]
    have e8 : (jt t).val + 1 = 8 := by show t.val % 8 + 1 = 8; omega
    rw [e8] at hacc
    simp only [hacc]
  · rw [P.h10 h7, hacc]
    have e8 : (jt t).val + 1 = 8 := by show t.val % 8 + 1 = 8; omega
    rw [e8]
end arrays

variable (m : (ℓ : Loc nD τ sig) → Buf (Elt Ideal) ℓ) (ρ : Dev nD → PrngReg)

/-- The invariant: the scratch buffers at what the points before `n` left in them, the generator register at some state. -/
def PhiS (c : Dev nD) (n : ℕ) : sProp Res :=
  iprop((∃ X14 : FVec Ideal S4096x256 .f32, ∃ X15 : FVec Ideal S8x2x512 .f32, ⌜Inv (V m c main_v64) (V m c main_v65) (V m c main_v57) (V m c main_arg4) (V m c main_v34) (V m c main_v67) n X14 X15⌝ ∗ owns (c : Thread nD τ) (Memref.whole cc0_scratch0) fullShare X14 ∗ owns (c : Thread nD τ) (Memref.whole cc0_scratch1) fullShare X15) ∗ (∃ r, prngReg c r))

/-- The proof data: each input's block stays as staged. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨_ + 6, _⟩ => fun _ => Classical.arbitrary _
  Φ t := PhiS m c t.val
  q _ := fullShare
  owed _ := 0

/-- The pipeline's arrays at the start. -/
theorem A_eq (c : Dev nD) (w : Fin cfg0.W) : (dats m 0 c).A w = V m c (Pipeline.arrRef spec0 w) := by dsimp only [dats]
/-- The invariant before a grid point. -/
theorem Phi_castSucc (c : Dev nD) (t : Fin cfg0.N) : (dats m 0 c).Φ t.castSucc = PhiS m c t.val := by dsimp only [dats, Fin.val_castSucc]
/-- The invariant after a grid point. -/
theorem Phi_succ (c : Dev nD) (t : Fin cfg0.N) : (dats m 0 c).Φ t.succ = PhiS m c (t.val + 1) := by dsimp only [dats, Fin.val_succ]
/-- The body leaves input window 0 as it was. -/
theorem after0_0 (c : Dev nD) (t : Fin cfg0.N) : (dats m 0 c).after 0 t = iblk m c 0 t := by dsimp only [dats]
/-- The body leaves input window 1 as it was. -/
theorem after0_1 (c : Dev nD) (t : Fin cfg0.N) : (dats m 0 c).after 1 t = iblk m c 1 t := by dsimp only [dats]
/-- The body leaves input window 2 as it was. -/
theorem after0_2 (c : Dev nD) (t : Fin cfg0.N) : (dats m 0 c).after 2 t = iblk m c 2 t := by dsimp only [dats]
/-- The body leaves input window 3 as it was. -/
theorem after0_3 (c : Dev nD) (t : Fin cfg0.N) : (dats m 0 c).after 3 t = iblk m c 3 t := by dsimp only [dats]
/-- The body leaves input window 4 as it was. -/
theorem after0_4 (c : Dev nD) (t : Fin cfg0.N) : (dats m 0 c).after 4 t = iblk m c 4 t := by dsimp only [dats]
/-- The body leaves input window 5 as it was. -/
theorem after0_5 (c : Dev nD) (t : Fin cfg0.N) : (dats m 0 c).after 5 t = iblk m c 5 t := by dsimp only [dats]
/-- The body finds its block in input window 0. -/
theorem before0_0 (c : Dev nD) (t : Fin cfg0.N) (d) : (dats m 0 c).before 0 t d = iblk m c 0 t :=
  before0_0_of m (dats m 0 c) (A_eq m c 0) (after0_0 m c) t d
/-- The body finds its block in input window 1. -/
theorem before0_1 (c : Dev nD) (t : Fin cfg0.N) (d) : (dats m 0 c).before 1 t d = iblk m c 1 t :=
  before0_1_of m (dats m 0 c) (A_eq m c 1) (after0_1 m c) t d
/-- The body finds its block in input window 2. -/
theorem before0_2 (c : Dev nD) (t : Fin cfg0.N) (d) : (dats m 0 c).before 2 t d = iblk m c 2 t :=
  before0_2_of m (dats m 0 c) (A_eq m c 2) (after0_2 m c) t d
/-- The body finds its block in input window 3. -/
theorem before0_3 (c : Dev nD) (t : Fin cfg0.N) (d) : (dats m 0 c).before 3 t d = iblk m c 3 t :=
  before0_3_of m (dats m 0 c) (A_eq m c 3) (after0_3 m c) t d
/-- The body finds its block in input window 4. -/
theorem before0_4 (c : Dev nD) (t : Fin cfg0.N) (d) : (dats m 0 c).before 4 t d = iblk m c 4 t :=
  before0_4_of m (dats m 0 c) (A_eq m c 4) (after0_4 m c) t d
/-- The body finds its block in input window 5. -/
theorem before0_5 (c : Dev nD) (t : Fin cfg0.N) (d) : (dats m 0 c).before 5 t d = iblk m c 5 t :=
  before0_5_of m (dats m 0 c) (A_eq m c 5) (after0_5 m c) t d

/-- The windows held to a relation: the five outputs. -/
def fgt : Fin cfg0.W → Bool := fun w => decide (6 ≤ w.val)

/-- What the body leaves in each output. -/
def Rl (c : Dev nD) (w : Fin cfg0.W) (t : Fin cfg0.N) : ((cfg0.win w).block.Idx → Elt Ideal (cfg0.win w).elt) → Prop :=
  match w with
  | ⟨6, _⟩ => fun X => R6 (V m c main_v64) (V m c main_v65) (V m c main_v57) (V m c main_arg4) (V m c main_v34) (V m c main_v67) t X
  | ⟨7, _⟩ => fun X => R7 (V m c main_v64) (V m c main_v65) (V m c main_v57) (V m c main_arg4) (V m c main_v34) (V m c main_v67) t X
  | ⟨8, _⟩ => fun X => R8 (V m c main_v64) (V m c main_v65) (V m c main_v57) (V m c main_arg4) (V m c main_v34) (V m c main_v67) t X
  | ⟨9, _⟩ => fun X => R9 (V m c main_v64) (V m c main_v65) (V m c main_v57) (V m c main_arg4) (V m c main_v34) (V m c main_v67) t X
  | ⟨10, _⟩ => fun X => R10 (V m c main_v64) (V m c main_v65) (V m c main_v57) (V m c main_arg4) (V m c main_v34) (V m c main_v67) t X
  | _ => fun _ => True

/-- The region invariant, conjunct by conjunct: both scratch buffers at some contents, the generator register at some state. -/
theorem PhiA_eq (c : Dev nD) :
    (Pipeline.ΦA spec0 c : sProp Res)
      = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- Before the first point the scratch buffers hold anything. -/
theorem hin (c : Dev nD) : Pipeline.ΦA spec0 c ⊢ (dats m 0 c).Φ 0 := by
  show _ ⊢ PhiS m c 0
  rw [PhiA_eq]; unfold PhiS
  iintro ⟨⟨⟨%d0, S0⟩, ⟨%d1, S1⟩⟩, Hp⟩
  isplitl [S0 S1]
  · iexists d0; iexists d1; isplitr
    · ipureintro; exact fun t ht hm => absurd (by rw [ht]) hm
    iframe
  iframe

/-- After the last point they are forgotten. -/
theorem hout (c : Dev nD) : (dats m 0 c).Φ (Fin.last cfg0.N) ⊢ Pipeline.ΦA spec0 c := by
  show PhiS m c cfg0.N ⊢ _
  rw [PhiA_eq]; unfold PhiS
  iintro ⟨⟨%d0, %d1, -, S0, S1⟩, Hp⟩
  isplitl [S0 S1]
  · isplitl [S0]
    · iexists d0; iexact S0
    iexists d1; iexact S1
  iframe

/-- The block that output window 6 holds after a grid point. -/
theorem Rl_6 (c : Dev nD) (t : Fin cfg0.N) : Rl m c 6 t = R6 (V m c main_v64) (V m c main_v65) (V m c main_v57) (V m c main_arg4) (V m c main_v34) (V m c main_v67) t := rfl
/-- The block that output window 7 holds after a grid point. -/
theorem Rl_7 (c : Dev nD) (t : Fin cfg0.N) : Rl m c 7 t = R7 (V m c main_v64) (V m c main_v65) (V m c main_v57) (V m c main_arg4) (V m c main_v34) (V m c main_v67) t := rfl
/-- The block that output window 8 holds after a grid point. -/
theorem Rl_8 (c : Dev nD) (t : Fin cfg0.N) : Rl m c 8 t = R8 (V m c main_v64) (V m c main_v65) (V m c main_v57) (V m c main_arg4) (V m c main_v34) (V m c main_v67) t := rfl
/-- The block that output window 9 holds after a grid point. -/
theorem Rl_9 (c : Dev nD) (t : Fin cfg0.N) : Rl m c 9 t = R9 (V m c main_v64) (V m c main_v65) (V m c main_v57) (V m c main_arg4) (V m c main_v34) (V m c main_v67) t := rfl
/-- The block that output window 10 holds after a grid point. -/
theorem Rl_10 (c : Dev nD) (t : Fin cfg0.N) : Rl m c 10 t = R10 (V m c main_v64) (V m c main_v65) (V m c main_v57) (V m c main_arg4) (V m c main_v34) (V m c main_v67) t := rfl

set_option maxHeartbeats 4000000 in
/-- The body obligation with the outputs held to their relations. -/
theorem body_obligation (c : Dev nD) :
    Pipeline.BodyObligationRel (dats m 0 c) (defs₀ (F := Ideal)) Variants.none () Set.univ fgt (Rl m c) := fun t => by
  rw [bigSep_W0, bigSep_W0]
  rw [show (dats m 0 c).owesAt () t.succ = (dats m 0 c).owesAt () t.castSucc from rfl, Phi_castSucc, Phi_succ]
  simp only [show fgt 0 = false from by decide, show fgt 1 = false from by decide, show fgt 2 = false from by decide, show fgt 3 = false from by decide, show fgt 4 = false from by decide, show fgt 5 = false from by decide,
    show fgt 6 = true from by decide, show fgt 7 = true from by decide, show fgt 8 = true from by decide, show fgt 9 = true from by decide, show fgt 10 = true from by decide, Rl_6, Rl_7, Rl_8, Rl_9, Rl_10,
    before0_0, before0_1, before0_2, before0_3, before0_4, before0_5, after0_0, after0_1, after0_2, after0_3, after0_4, after0_5]
  show _ ⊢ wp _ _ _ (bodyAt0 t) _
  unfold PhiS
  iintro ⟨⟨⟨%x14, %x15, %hI, S0, S1⟩, Hp⟩, Ho, ⟨%d0, H0⟩, ⟨%d1, H1⟩, ⟨%d2, H2⟩, ⟨%d3, H3⟩, ⟨%d4, H4⟩, ⟨%d5, H5⟩, ⟨%y6, -, H6⟩, ⟨%y7, -, H7⟩, ⟨%y8, -, H8⟩, ⟨%y9, -, H9⟩, ⟨%y10, -, H10⟩⟩
  have h15 : (grid0.coords t 2).val ≠ 0 → x15 = dlS (iblk m c 3 t) (iblk m c 4 t) := fun hm => by
    rw [blk3, blk4]; rw [coords2v] at hm; exact (hI t rfl hm).1
  iapply (run_body c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) x14 x15 h15)
  iframe
  isplitl [H6]
  · iexists y6; iexact H6
  isplitl [H7]
  · iexists y7; iexact H7
  isplitl [H8]
  · iexists y8; iexact H8
  isplitl [H9]
  · iexists y9; iexact H9
  isplitl [H10]
  · iexists y10; iexact H10
  iintro ⟨H0, H1, H2, H3, H4, H5, %X9, %X10, %X11, %X12, %X13, %X14, %X15, G9, G10, G11, G12, G13, S0, S1, %hP⟩
  have hP' := post_out (V m c main_v64) (V m c main_v65) (V m c main_v57) (V m c main_arg4) (V m c main_v34) (V m c main_v67) t x14 x15 hI (X9 := X9) (X10 := X10) (X11 := X11) (X12 := X12) (X13 := X13) (X14 := X14) (X15 := X15) (by
    rw [← blk0 m c t, ← blk1 m c t, ← blk2 m c t, ← blk3 m c t, ← blk4 m c t, ← blk5 m c t, ← coords2 t]; exact hP)
  obtain ⟨q0, q6, q7, q8, q9, q10⟩ := hP'
  iframe
  isplitl [S0 S1]
  · iexists X14; iexists X15; isplitr
    · ipureintro; exact q0
    iframe
  isplitl [G9]
  · iexists X9; isplitr
    · ipureintro; exact q6
    iexact G9
  isplitl [G10]
  · iexists X10; isplitr
    · ipureintro; exact q7
    iexact G10
  isplitl [G11]
  · iexists X11; isplitr
    · ipureintro; exact q8
    iexact G11
  isplitl [G12]
  · iexists X12; isplitr
    · ipureintro; exact q9
    iexact G12
  iexists X13; isplitr
  · ipureintro; exact q10
  iexact G13

set_option backward.isDefEq.respectTransparency.types false in
/-- The run of `main`: every schedule terminates, each output array assembled from blocks held to the relations above, with
    every semaphore at zero. -/
theorem run_main : θ_run defs (onTc (τ := τ) (main (F := Ideal))) (s₀ m ρ)
    (fun r => Pipeline.RDat.FramePost cfg0 (fun c => (dats m 0 c).toRRel fgt (Rl m c)) (V m) r ∧ r.2.sem = fun _ => 0) :=
  Pipeline.RDat.θ_run_frame_track cfgs (0 : Fin 1) launch0 defs₀ Variants.none (fun c => (dats m 0 c).toRRel fgt (Rl m c)) m ρ main
    (hbody := fun c => (body_obligation m c).toRRel) (hshare := fun c => (dats m 0 c).share_full fun _ => rfl) (howed := fun _ _ => rfl)
    (V := V m) (hmain := hmain m Variants.none) (hA := A_eq m) (hin := hin m) (hout := hout m)
    (Q' := _) (hQ' := fun _ h => h)

end Cert.KernelIdeal.Run

end
-- ==== Proof.Out.lean ====
module

public import proofs.«01_k».proof.Proof.Run

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Cert.KernelIdeal.Pay Cert.KernelIdeal.Trip Cert.KernelIdeal.Val

section pure
variable (K : FVec Ideal S8192x2048 .bf16) (Vv : FVec Ideal S8192x1024 .bf16) (Q : FVec Ideal S8192x2048 .bf16) (D O : FVec Ideal S8192x1024 .f32) (L : FVec Ideal S2x8x8x2x512 .f32)

/-- An index of two axes by its entries. -/
theorem eta2 {a b : ℕ} (y : (⟨2, ![a, b]⟩ : Shape).Idx) (u : Fin a) (v : Fin b) (h0 : (y 0).val = u.val) (h1 : (y 1).val = v.val) : y = ix2 u v :=
  Shape.idx_ext₂ (n := ![a, b]) h0 h1

/-- The `dq` block of a point is that block of the whole array. -/
theorem g6 (t : Fin cfg0.N) (X : FVec Ideal S4096x128 .f32) (h7 : t.val % 8 = 7) (hR : R6 K Vv Q D O L t X) (y : S4096x128.Idx) (i : S8192x1024.Idx)
    (h0 : (i 0).val = t.val / 64 * 4096 + (y 0).val) (h1 : (i 1).val = t.val / 8 % 8 * 128 + (y 1).val) : X y = Gdq K Vv Q D O L i := by
  have y0 : (y 0).val < 4096 := (y 0).isLt
  have y1 : (y 1).val < 128 := (y 1).isLt
  have e1 : (⟨(i 0).val / 4096, Nat.div_lt_of_lt_mul (i 0).isLt⟩ : Fin 2) = bt t := Fin.ext (by show (i 0).val / 4096 = t.val / 64; omega)
  have e2 : (⟨(i 1).val / 128, Nat.div_lt_of_lt_mul (i 1).isLt⟩ : Fin 8) = pt t := Fin.ext (by show (i 1).val / 128 = t.val / 8 % 8; omega)
  have hy : y = ix2 (⟨512 * ((y 0).val / 512) + (y 0).val % 512, by omega⟩ : Fin 4096) (⟨(y 1).val, y1⟩ : Fin 128) := eta2 y _ _ (by show (y 0).val = 512 * ((y 0).val / 512) + (y 0).val % 512; omega) rfl
  have hv := hR h7 ⟨(y 0).val / 512, by omega⟩ ⟨(y 0).val % 512, Nat.mod_lt _ (by decide)⟩ ⟨(y 1).val, y1⟩
  refine (congrArg X hy).trans (hv.trans ?_)
  have e3 : (⟨(i 0).val % 4096 / 512, Nat.div_lt_of_lt_mul (Nat.mod_lt _ (by decide))⟩ : Fin 8) = ⟨(y 0).val / 512, by omega⟩ := Fin.ext (by show (i 0).val % 4096 / 512 = (y 0).val / 512; omega)
  have e4 : (⟨(i 0).val % 512, Nat.mod_lt _ (by decide)⟩ : Fin 512) = ⟨(y 0).val % 512, Nat.mod_lt _ (by decide)⟩ := Fin.ext (by show (i 0).val % 512 = (y 0).val % 512; omega)
  have e5 : (i 1).val % 128 = (y 1).val := by omega
  unfold Gdq
  dsimp only
  rw [e1, e2, e3, e4]
  simp only [e5]

/-- The `dcc` block of a point is that block of the whole array. -/
theorem g7 (t : Fin cfg0.N) (X : FVec Ideal S1x1x4096x2 .f32) (h7 : t.val % 8 = 7) (hR : R7 K Vv Q D O L t X) (y : S1x1x4096x2.Idx) (i : S2x8x4096x2.Idx)
    (h0 : (i 0).val = t.val / 64 * 1 + (y 0).val) (h1 : (i 1).val = t.val / 8 % 8 * 1 + (y 1).val) (h2 : (i 2).val = 0 * 4096 + (y 2).val) (h3 : (i 3).val = 0 * 2 + (y 3).val) : X y = Gdcc K Vv Q D O L i := by
  have y0 : (y 0).val < 1 := (y 0).isLt
  have y1 : (y 1).val < 1 := (y 1).isLt
  have y2 : (y 2).val < 4096 := (y 2).isLt
  have y3 : (y 3).val < 2 := (y 3).isLt
  have e1 : (i 0) = bt t := Fin.ext (by show (i 0).val = t.val / 64; omega)
  have e2 : (i 1) = pt t := Fin.ext (by show (i 1).val = t.val / 8 % 8; omega)
  have hy : y = ix4 (0 : Fin 1) (0 : Fin 1) (⟨512 * ((y 2).val / 512) + (y 2).val % 512, by omega⟩ : Fin 4096) (⟨(y 3).val, y3⟩ : Fin 2) := funext fun a => Fin.ext (by
    match a with
    | ⟨0, _⟩ => show (y 0).val = 0; omega
    | ⟨1, _⟩ => show (y 1).val = 0; omega
    | ⟨2, _⟩ => show (y 2).val = 512 * ((y 2).val / 512) + (y 2).val % 512; omega
    | ⟨3, _⟩ => rfl)
  have hv := hR h7 ⟨(y 3).val, y3⟩ ⟨(y 2).val / 512, by omega⟩ ⟨(y 2).val % 512, Nat.mod_lt _ (by decide)⟩
  refine (congrArg X hy).trans (hv.trans ?_)
  have e3 : (⟨(i 2).val / 512, Nat.div_lt_of_lt_mul (i 2).isLt⟩ : Fin 8) = ⟨(y 2).val / 512, by omega⟩ := Fin.ext (by show (i 2).val / 512 = (y 2).val / 512; omega)
  have e4 : (⟨(i 2).val % 512, Nat.mod_lt _ (by decide)⟩ : Fin 512) = ⟨(y 2).val % 512, Nat.mod_lt _ (by decide)⟩ := Fin.ext (by show (i 2).val % 512 = (y 2).val % 512; omega)
  have e5 : (i 3) = (⟨(y 3).val, y3⟩ : Fin 2) := Fin.ext (by show (i 3).val = (y 3).val; omega)
  unfold Gdcc
  dsimp only
  rw [e3, e4, e1, e2, e5]

/-- The `dk` block of a point is that block of the whole array. -/
theorem g8 (t : Fin cfg0.N) (X : FVec Ideal S512x128 .f32) (hR : R8 K Vv Q D O L t X) (y : S512x128.Idx) (i : S8192x1024.Idx)
    (h0 : (i 0).val = (t.val / 64 * 8 + t.val % 8) * 512 + (y 0).val) (h1 : (i 1).val = t.val / 8 % 8 * 128 + (y 1).val) : X y = Gdk K Vv Q D O L i := by
  have y0 : (y 0).val < 512 := (y 0).isLt
  have y1 : (y 1).val < 128 := (y 1).isLt
  have e1 : (⟨(i 0).val / 4096, Nat.div_lt_of_lt_mul (i 0).isLt⟩ : Fin 2) = bt t := Fin.ext (by show (i 0).val / 4096 = t.val / 64; omega)
  have e2 : (⟨(i 1).val / 128, Nat.div_lt_of_lt_mul (i 1).isLt⟩ : Fin 8) = pt t := Fin.ext (by show (i 1).val / 128 = t.val / 8 % 8; omega)
  have hy : y = ix2 (⟨(y 0).val, y0⟩ : Fin 512) (⟨(y 1).val, y1⟩ : Fin 128) := eta2 y _ _ rfl rfl
  have hv := hR ⟨(y 0).val, y0⟩ ⟨(y 1).val, y1⟩
  refine (congrArg X hy).trans (hv.trans ?_)
  have e3 : (⟨(i 0).val % 4096 / 512, Nat.div_lt_of_lt_mul (Nat.mod_lt _ (by decide))⟩ : Fin 8) = jt t := Fin.ext (by show (i 0).val % 4096 / 512 = t.val % 8; omega)
  have e4 : (⟨(i 0).val % 512, Nat.mod_lt _ (by decide)⟩ : Fin 512) = ⟨(y 0).val, y0⟩ := Fin.ext (by show (i 0).val % 512 = (y 0).val; omega)
  have e5 : (i 1).val % 128 = (y 1).val := by omega
  unfold Gdk
  dsimp only
  rw [e1, e2, e3, e4]
  simp only [e5]

/-- The `dv` block of a point is that block of the whole array. -/
theorem g9 (t : Fin cfg0.N) (X : FVec Ideal S512x128 .f32) (hR : R9 K Vv Q D O L t X) (y : S512x128.Idx) (i : S8192x1024.Idx)
    (h0 : (i 0).val = (t.val / 64 * 8 + t.val % 8) * 512 + (y 0).val) (h1 : (i 1).val = t.val / 8 % 8 * 128 + (y 1).val) : X y = Gdv K Vv Q D O L i := by
  have y0 : (y 0).val < 512 := (y 0).isLt
  have y1 : (y 1).val < 128 := (y 1).isLt
  have e1 : (⟨(i 0).val / 4096, Nat.div_lt_of_lt_mul (i 0).isLt⟩ : Fin 2) = bt t := Fin.ext (by show (i 0).val / 4096 = t.val / 64; omega)
  have e2 : (⟨(i 1).val / 128, Nat.div_lt_of_lt_mul (i 1).isLt⟩ : Fin 8) = pt t := Fin.ext (by show (i 1).val / 128 = t.val / 8 % 8; omega)
  have hy : y = ix2 (⟨(y 0).val, y0⟩ : Fin 512) (⟨(y 1).val, y1⟩ : Fin 128) := eta2 y _ _ rfl rfl
  have hv := hR ⟨(y 0).val, y0⟩ ⟨(y 1).val, y1⟩
  refine (congrArg X hy).trans (hv.trans ?_)
  have e3 : (⟨(i 0).val % 4096 / 512, Nat.div_lt_of_lt_mul (Nat.mod_lt _ (by decide))⟩ : Fin 8) = jt t := Fin.ext (by show (i 0).val % 4096 / 512 = t.val % 8; omega)
  have e4 : (⟨(i 0).val % 512, Nat.mod_lt _ (by decide)⟩ : Fin 512) = ⟨(y 0).val, y0⟩ := Fin.ext (by show (i 0).val % 512 = (y 0).val; omega)
  have e5 : (i 1).val % 128 = (y 1).val := by omega
  unfold Gdv
  dsimp only
  rw [e1, e2, e3, e4]
  simp only [e5]

/-- The `dck` block of a point is that block of the whole array. -/
theorem g10 (t : Fin cfg0.N) (X : FVec Ideal S1x1x512x2 .f32) (hR : R10 K Vv Q D O L t X) (y : S1x1x512x2.Idx) (i : S2x8x4096x2.Idx)
    (h0 : (i 0).val = t.val / 64 * 1 + (y 0).val) (h1 : (i 1).val = t.val / 8 % 8 * 1 + (y 1).val) (h2 : (i 2).val = t.val % 8 * 512 + (y 2).val) (h3 : (i 3).val = 0 * 2 + (y 3).val) : X y = Gdck K Vv Q D O L i := by
  have y0 : (y 0).val < 1 := (y 0).isLt
  have y1 : (y 1).val < 1 := (y 1).isLt
  have y2 : (y 2).val < 512 := (y 2).isLt
  have y3 : (y 3).val < 2 := (y 3).isLt
  have e1 : (i 0) = bt t := Fin.ext (by show (i 0).val = t.val / 64; omega)
  have e2 : (i 1) = pt t := Fin.ext (by show (i 1).val = t.val / 8 % 8; omega)
  have hy : y = ix4 (0 : Fin 1) (0 : Fin 1) (⟨(y 2).val, y2⟩ : Fin 512) (⟨(y 3).val, y3⟩ : Fin 2) := funext fun a => Fin.ext (by
    match a with
    | ⟨0, _⟩ => show (y 0).val = 0; omega
    | ⟨1, _⟩ => show (y 1).val = 0; omega
    | ⟨2, _⟩ => rfl
    | ⟨3, _⟩ => rfl)
  have hv := hR ⟨(y 3).val, y3⟩ ⟨(y 2).val, y2⟩
  refine (congrArg X hy).trans (hv.trans ?_)
  have e3 : (⟨(i 2).val / 512, Nat.div_lt_of_lt_mul (i 2).isLt⟩ : Fin 8) = jt t := Fin.ext (by show (i 2).val / 512 = t.val % 8; omega)
  have e4 : (⟨(i 2).val % 512, Nat.mod_lt _ (by decide)⟩ : Fin 512) = ⟨(y 2).val, y2⟩ := Fin.ext (by show (i 2).val % 512 = (y 2).val; omega)
  have e5 : (i 3) = (⟨(y 3).val, y3⟩ : Fin 2) := Fin.ext (by show (i 3).val = (y 3).val; omega)
  unfold Gdck
  dsimp only
  rw [e3, e4, e1, e2, e5]

end pure

variable (m : (ℓ : Loc nD τ sig) → Buf (Elt Ideal) ℓ) (ρ : Dev nD → PrngReg)

/-- Exact data whose blocks are the ones the run left. -/
abbrev dat' (c : Dev nD) (after : (w' : Fin cfg0.W) → Fin cfg0.N → (cfg0.win w').block.Idx → Elt Ideal (cfg0.win w').elt) :=
  ((dats m 0 c).toRRel fgt (Rl m c)).withAfter after

section fin
variable (c : Dev nD) (after : (w' : Fin cfg0.W) → Fin cfg0.N → (cfg0.win w').block.Idx → Elt Ideal (cfg0.win w').elt)

/-- The array `dq` after the run. -/
theorem arr6 (h : ∀ t : Fin cfg0.N, (cfg0.win 6).flush t = true → R6 (V m c main_v64) (V m c main_v65) (V m c main_v57) (V m c main_arg4) (V m c main_v34) (V m c main_v67) t (after 6 t)) : (dat' m c after).arrAt 6 cfg0.N = Gdq (V m c main_v64) (V m c main_v65) (V m c main_v57) (V m c main_arg4) (V m c main_v34) (V m c main_v67) := by
  refine (dat' m c after).arrAt_eq_of_covers 6 _ (by decide +kernel) fun t hf y => ?_
  have hi := (idx t).2.2.2.2.2.2.1
  have e0 := (Pipeline.Window.rect_emb_val win0_6 t y 0).trans (congrArg (fun z => z * win0_6.size 0 + (y 0).val) (congrFun hi 0))
  have e1 := (Pipeline.Window.rect_emb_val win0_6 t y 1).trans (congrArg (fun z => z * win0_6.size 1 + (y 1).val) (congrFun hi 1))
  blk_simp
  exact g6 (V m c main_v64) (V m c main_v65) (V m c main_v57) (V m c main_arg4) (V m c main_v34) (V m c main_v67) t (after 6 t) ((flush0_6 t).1 hf) (h t hf) y ((win0_6.rect t).emb y) (e0) (e1)

/-- The array `dcc` after the run. -/
theorem arr7 (h : ∀ t : Fin cfg0.N, (cfg0.win 7).flush t = true → R7 (V m c main_v64) (V m c main_v65) (V m c main_v57) (V m c main_arg4) (V m c main_v34) (V m c main_v67) t (after 7 t)) : (dat' m c after).arrAt 7 cfg0.N = Gdcc (V m c main_v64) (V m c main_v65) (V m c main_v57) (V m c main_arg4) (V m c main_v34) (V m c main_v67) := by
  refine (dat' m c after).arrAt_eq_of_covers 7 _ (by decide +kernel) fun t hf y => ?_
  have hi := (idx t).2.2.2.2.2.2.2.1
  have e0 := (Pipeline.Window.rect_emb_val win0_7 t y 0).trans (congrArg (fun z => z * win0_7.size 0 + (y 0).val) (congrFun hi 0))
  have e1 := (Pipeline.Window.rect_emb_val win0_7 t y 1).trans (congrArg (fun z => z * win0_7.size 1 + (y 1).val) (congrFun hi 1))
  have e2 := (Pipeline.Window.rect_emb_val win0_7 t y 2).trans (congrArg (fun z => z * win0_7.size 2 + (y 2).val) (congrFun hi 2))
  have e3 := (Pipeline.Window.rect_emb_val win0_7 t y 3).trans (congrArg (fun z => z * win0_7.size 3 + (y 3).val) (congrFun hi 3))
  blk_simp
  exact g7 (V m c main_v64) (V m c main_v65) (V m c main_v57) (V m c main_arg4) (V m c main_v34) (V m c main_v67) t (after 7 t) ((flush0_7 t).1 hf) (h t hf) y ((win0_7.rect t).emb y) (e0) (e1) (e2) (e3)

/-- The array `dk` after the run. -/
theorem arr8 (h : ∀ t : Fin cfg0.N, (cfg0.win 8).flush t = true → R8 (V m c main_v64) (V m c main_v65) (V m c main_v57) (V m c main_arg4) (V m c main_v34) (V m c main_v67) t (after 8 t)) : (dat' m c after).arrAt 8 cfg0.N = Gdk (V m c main_v64) (V m c main_v65) (V m c main_v57) (V m c main_arg4) (V m c main_v34) (V m c main_v67) := by
  refine (dat' m c after).arrAt_eq_of_covers 8 _ (by decide +kernel) fun t hf y => ?_
  have hi := (idx t).2.2.2.2.2.2.2.2.1
  have e0 := (Pipeline.Window.rect_emb_val win0_8 t y 0).trans (congrArg (fun z => z * win0_8.size 0 + (y 0).val) (congrFun hi 0))
  have e1 := (Pipeline.Window.rect_emb_val win0_8 t y 1).trans (congrArg (fun z => z * win0_8.size 1 + (y 1).val) (congrFun hi 1))
  blk_simp
  exact g8 (V m c main_v64) (V m c main_v65) (V m c main_v57) (V m c main_arg4) (V m c main_v34) (V m c main_v67) t (after 8 t) (h t hf) y ((win0_8.rect t).emb y) (e0) (e1)

/-- The array `dv` after the run. -/
theorem arr9 (h : ∀ t : Fin cfg0.N, (cfg0.win 9).flush t = true → R9 (V m c main_v64) (V m c main_v65) (V m c main_v57) (V m c main_arg4) (V m c main_v34) (V m c main_v67) t (after 9 t)) : (dat' m c after).arrAt 9 cfg0.N = Gdv (V m c main_v64) (V m c main_v65) (V m c main_v57) (V m c main_arg4) (V m c main_v34) (V m c main_v67) := by
  refine (dat' m c after).arrAt_eq_of_covers 9 _ (by decide +kernel) fun t hf y => ?_
  have hi := (idx t).2.2.2.2.2.2.2.2.2.1
  have e0 := (Pipeline.Window.rect_emb_val win0_9 t y 0).trans (congrArg (fun z => z * win0_9.size 0 + (y 0).val) (congrFun hi 0))
  have e1 := (Pipeline.Window.rect_emb_val win0_9 t y 1).trans (congrArg (fun z => z * win0_9.size 1 + (y 1).val) (congrFun hi 1))
  blk_simp
  exact g9 (V m c main_v64) (V m c main_v65) (V m c main_v57) (V m c main_arg4) (V m c main_v34) (V m c main_v67) t (after 9 t) (h t hf) y ((win0_9.rect t).emb y) (e0) (e1)

/-- The array `dck` after the run. -/
theorem arr10 (h : ∀ t : Fin cfg0.N, (cfg0.win 10).flush t = true → R10 (V m c main_v64) (V m c main_v65) (V m c main_v57) (V m c main_arg4) (V m c main_v34) (V m c main_v67) t (after 10 t)) : (dat' m c after).arrAt 10 cfg0.N = Gdck (V m c main_v64) (V m c main_v65) (V m c main_v57) (V m c main_arg4) (V m c main_v34) (V m c main_v67) := by
  refine (dat' m c after).arrAt_eq_of_covers 10 _ (by decide +kernel) fun t hf y => ?_
  have hi := (idx t).2.2.2.2.2.2.2.2.2.2
  have e0 := (Pipeline.Window.rect_emb_val win0_10 t y 0).trans (congrArg (fun z => z * win0_10.size 0 + (y 0).val) (congrFun hi 0))
  have e1 := (Pipeline.Window.rect_emb_val win0_10 t y 1).trans (congrArg (fun z => z * win0_10.size 1 + (y 1).val) (congrFun hi 1))
  have e2 := (Pipeline.Window.rect_emb_val win0_10 t y 2).trans (congrArg (fun z => z * win0_10.size 2 + (y 2).val) (congrFun hi 2))
  have e3 := (Pipeline.Window.rect_emb_val win0_10 t y 3).trans (congrArg (fun z => z * win0_10.size 3 + (y 3).val) (congrFun hi 3))
  blk_simp
  exact g10 (V m c main_v64) (V m c main_v65) (V m c main_v57) (V m c main_arg4) (V m c main_v34) (V m c main_v67) t (after 10 t) (h t hf) y ((win0_10.rect t).emb y) (e0) (e1) (e2) (e3)

end fin

set_option maxHeartbeats 2000000 in
/-- THE RUN: `main` terminates, its five results hold the named contents, its arguments are as they were and every
    semaphore is at zero. -/
theorem run_vals : θ_run defs (onTc (τ := τ) (main (F := Ideal))) (s₀ m ρ) (fun r => (∀ c : Dev nD,
      (r.2.mem ((c.tc : Thread nD τ).loc main_v68_0) = Gdq (V m c main_v64) (V m c main_v65) (V m c main_v57) (V m c main_arg4) (V m c main_v34) (V m c main_v67) ∧ r.2.mem ((c.tc : Thread nD τ).loc main_v68_1) = Gdcc (V m c main_v64) (V m c main_v65) (V m c main_v57) (V m c main_arg4) (V m c main_v34) (V m c main_v67)
        ∧ r.2.mem ((c.tc : Thread nD τ).loc main_v68_2) = Gdk (V m c main_v64) (V m c main_v65) (V m c main_v57) (V m c main_arg4) (V m c main_v34) (V m c main_v67) ∧ r.2.mem ((c.tc : Thread nD τ).loc main_v68_3) = Gdv (V m c main_v64) (V m c main_v65) (V m c main_v57) (V m c main_arg4) (V m c main_v34) (V m c main_v67)
        ∧ r.2.mem ((c.tc : Thread nD τ).loc main_v68_4) = Gdck (V m c main_v64) (V m c main_v65) (V m c main_v57) (V m c main_arg4) (V m c main_v34) (V m c main_v67))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => by
    obtain ⟨after, hL, hA⟩ := Pipeline.RDat.FramePost.exists_exact h.1 c
    have hR : ∀ (w : Fin cfg0.W) (hw : fgt w = true) (t : Fin cfg0.N), (cfg0.win w).flush t = true → Rl m c w t (after w t) := fun w hw t hf => Dat.toRRel_leaves _ hw (hL w t hf)
    have B6 := (hA 6).trans (arr6 m c after (hR 6 (by decide)))
    have B7 := (hA 7).trans (arr7 m c after (hR 7 (by decide)))
    have B8 := (hA 8).trans (arr8 m c after (hR 8 (by decide)))
    have B9 := (hA 9).trans (arr9 m c after (hR 9 (by decide)))
    have B10 := (hA 10).trans (arr10 m c after (hR 10 (by decide)))
    exact ⟨⟨B6, B7, B8, B9, B10⟩,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 3 rfl).trans (V_main_arg4 m c)⟩, h.2⟩) (run_main m ρ)

end Cert.KernelIdeal.Run

end
-- ==== Proof.Host.lean ====
module

public import proofs.«01_k».proof.Proof.Blk
public import proofs.«01_k».proof.Proof.Gen.ReferenceIdeal.Read
public import Idealize.ShloMosaic.Adequacy
public import Idealize.ShloMosaic.Init
public import Idealize.ShloMosaic.Lib.StableHlo.RunRead
public import Idealize.ShloMosaic.Lib.Claim

@[expose] public section

set_option maxRecDepth 16384

noncomputable section

namespace Cert.KernelIdeal.Host

open Cert.KernelIdeal Cert.KernelIdeal.Gen
open Idealize.ShloMosaic Idealize.ShloMosaic.TcCoe Idealize.ShloMosaic.Tactic
open Cert.ReferenceIdeal.Read

/-- The largest logit of a row, below by −∞. -/
theorem v28_eq (x0 x1 : FVec Ideal S8192x1024 .f32) (x3 : FVec Ideal S2x16x4096 .f32) : val_main_v28 (F := Ideal) x0 x1 x3 = val_main_v21 (F := Ideal) x0 x1 x3 := by
  funext i
  rw [val_main_v28_apply, val_main_v27_apply, val_main_cst_3_apply]
  generalize val_main_v21 (F := Ideal) x0 x1 x3 i = y
  show max (Ideal.ofBits .f32 0xFF800000#32) y = y
  rw [show Ideal.ofBits .f32 0xFF800000#32 = ⊥ by simp [Ideal.ofBits, Ideal.ieee]]
  exact max_eq_right bot_le

variable (m : (ℓ : Loc nD τ sig) → Buf (Elt Ideal) ℓ) (c : Dev nD)
/-- Operand 0. -/
abbrev a0 : FVec Ideal S8192x1024 .f32 := m ((c.tc : Thread nD τ).loc main_arg0)
/-- Operand 1. -/
abbrev a1 : FVec Ideal S8192x1024 .f32 := m ((c.tc : Thread nD τ).loc main_arg1)
/-- Operand 2. -/
abbrev a2 : FVec Ideal S8192x1024 .f32 := m ((c.tc : Thread nD τ).loc main_arg2)
/-- Operand 3. -/
abbrev a3 : FVec Ideal S2x16x4096 .f32 := m ((c.tc : Thread nD τ).loc main_arg3)
/-- Operand 4. -/
abbrev a4 : FVec Ideal S8192x1024 .f32 := m ((c.tc : Thread nD τ).loc main_arg4)

/-- The gates' cumulative logarithms, a row per token. -/
def cn (x3 : FVec Ideal S2x16x4096 .f32) : FVec Ideal S8192x16x1 .f32 :=
  shapeCast S8192x16x1 (transpose S2x4096x16 [0, 2, 1] x3 transposes_S2x16x4096_S2x4096x16_0_2_1) shapeCasts_S2x4096x16_S8192x16x1
/-- Their first piece. -/
def c1 (x3 : FVec Ideal S2x16x4096 .f32) : FVec Ideal S8192x16x1 .bf16 := truncf .bf16 (cn x3) bitsLt_bf16_f32
/-- What the first piece leaves. -/
def r1 (x3 : FVec Ideal S2x16x4096 .f32) : FVec Ideal S8192x16x1 .f32 := subf (cn x3) (extf .f32 (c1 x3) bitsLt_bf16_f32)
/-- The second piece. -/
def c2 (x3 : FVec Ideal S2x16x4096 .f32) : FVec Ideal S8192x16x1 .bf16 := truncf .bf16 (r1 x3) bitsLt_bf16_f32
/-- The third piece. -/
def c3 (x3 : FVec Ideal S2x16x4096 .f32) : FVec Ideal S8192x16x1 .bf16 := truncf .bf16 (subf (r1 x3) (extf .f32 (c2 x3) bitsLt_bf16_f32)) bitsLt_bf16_f32
/-- Three lanes of ones. -/
def ones3 : FVec Ideal S8192x16x3 .bf16 := broadcastInDim S8192x16x3 ![] bcast_S_S8192x16x3 (constant (F := Ideal) S_ .bf16 0x3F80#16)
/-- The lanes nothing stands in. -/
def zeros58 : FVec Ideal S8192x16x58 .bf16 := broadcastInDim S8192x16x58 ![] bcast_S_S8192x16x58 (constant (F := Ideal) S_ .bf16 0x0000#16)
/-- The queries, scaled. -/
def qs (x0 : FVec Ideal S8192x1024 .f32) : FVec Ideal S8192x16x64 .bf16 :=
  shapeCast S8192x16x64 (truncf .bf16 (mulf (extf .f32 (truncf .bf16 x0 bitsLt_bf16_f32 : FVec Ideal S8192x1024 .bf16) bitsLt_bf16_f32) (broadcastInDim S8192x1024 ![] bcast_S_S8192x1024 (constant (F := Ideal) S_ .f32 0x3E000000#32))) bitsLt_bf16_f32 : FVec Ideal S8192x1024 .bf16) shapeCasts_S8192x1024_S8192x16x64
/-- The keys. -/
def ks (x1 : FVec Ideal S8192x1024 .f32) : FVec Ideal S8192x16x64 .bf16 :=
  shapeCast S8192x16x64 (truncf .bf16 x1 bitsLt_bf16_f32 : FVec Ideal S8192x1024 .bf16) shapeCasts_S8192x1024_S8192x16x64
/-- The queries with the gates in extra lanes, head by head. -/
def qa3 (x0 : FVec Ideal S8192x1024 .f32) (x3 : FVec Ideal S2x16x4096 .f32) : FVec Ideal S8192x16x128 .bf16 :=
  concatenate S8192x16x128 2 [⟨S8192x16x64, qs x0⟩, ⟨S8192x16x1, c1 x3⟩, ⟨S8192x16x1, c2 x3⟩, ⟨S8192x16x1, c3 x3⟩, ⟨S8192x16x3, ones3⟩, ⟨S8192x16x58, zeros58⟩] concatenates_S8192x16x64_S8192x16x1_S8192x16x1_S8192x16x1_S8192x16x3_S8192x16x58_S8192x16x128_d2
/-- The keys with the gates in extra lanes, head by head. -/
def ka3 (x1 : FVec Ideal S8192x1024 .f32) (x3 : FVec Ideal S2x16x4096 .f32) : FVec Ideal S8192x16x128 .bf16 :=
  concatenate S8192x16x128 2 [⟨S8192x16x64, ks x1⟩, ⟨S8192x16x3, ones3⟩, ⟨S8192x16x1, (Host.negf (c1 x3) : FVec Ideal S8192x16x1 .bf16)⟩, ⟨S8192x16x1, (Host.negf (c2 x3) : FVec Ideal S8192x16x1 .bf16)⟩, ⟨S8192x16x1, (Host.negf (c3 x3) : FVec Ideal S8192x16x1 .bf16)⟩, ⟨S8192x16x58, zeros58⟩] concatenates_S8192x16x64_S8192x16x3_S8192x16x1_S8192x16x1_S8192x16x1_S8192x16x58_S8192x16x128_d2
/-- The rows' log-sum-exp by blocks of queries, from each row's largest logit and its sum of exponentials. -/
def lrow (mx l : FVec Ideal S2x16x4096 .f32) : FVec Ideal S2x8x8x2x512 .f32 :=
  transpose S2x8x8x2x512 [0, 1, 2, 4, 3] (shapeCast S2x8x8x512x2 (transpose S2x8x4096x2 [0, 1, 3, 2] (shapeCast S2x8x2x4096
    (addf (broadcastInDim S2x16x4096x1 ![0, 1, 2] bcast_S2x16x4096_S2x16x4096x1_0_1_2 mx)
      (Host.log (broadcastInDim S2x16x4096x1 ![0, 1, 2] bcast_S2x16x4096_S2x16x4096x1_0_1_2 l) : FVec Ideal S2x16x4096x1 .f32)) shapeCasts_S2x16x4096x1_S2x8x2x4096)
    transposes_S2x8x2x4096_S2x8x4096x2_0_1_3_2) shapeCasts_S2x8x4096x2_S2x8x8x512x2) transposes_S2x8x8x512x2_S2x8x8x2x512_0_1_2_4_3

/-- An entry of the transposed cumulative logarithms. -/
theorem cn_at (x3 : FVec Ideal S2x16x4096 .f32) (b : Fin 2) (i : Fin 4096) (h : Fin 16) : cn x3 (ix3 (Run.rowA b i) h (0 : Fin 1)) = x3 (ix3 b h i) := by
  unfold cn
  refine (shapeCast_apply _ shapeCasts_S2x4096x16_S8192x16x1 _ (ix3 b i h) ?_).trans ?_
  · rewrite [Shape.rowMajor_val_three, Shape.rowMajor_val_three]
    show (b.val * 4096 + i.val) * 16 + h.val = ((b.val * 4096 + i.val) * 16 + h.val) * 1 + 0
    omega
  · pointwise
/-- An entry of the scaled queries. -/
theorem qs_at (x0 : FVec Ideal S8192x1024 .f32) (n : Fin 8192) (h : Fin 16) (l : Fin 64) : qs x0 (ix3 n h l) = x0 (ix2 n ⟨64 * h.val + l.val, by omega⟩) * Ideal.ofBits .f32 0x3E000000#32 := by
  unfold qs
  refine (shapeCast_apply _ shapeCasts_S8192x1024_S8192x16x64 _ (ix2 n ⟨64 * h.val + l.val, by omega⟩) ?_).trans ?_
  · rewrite [Shape.rowMajor_val_three, Shape.rowMajor_val_two]
    show n.val * 1024 + (64 * h.val + l.val) = (n.val * 16 + h.val) * 64 + l.val
    omega
  · pointwise
/-- An entry of the keys by head. -/
theorem ks_at (x1 : FVec Ideal S8192x1024 .f32) (n : Fin 8192) (h : Fin 16) (l : Fin 64) : ks x1 (ix3 n h l) = x1 (ix2 n ⟨64 * h.val + l.val, by omega⟩) := by
  unfold ks
  refine (shapeCast_apply _ shapeCasts_S8192x1024_S8192x16x64 _ (ix2 n ⟨64 * h.val + l.val, by omega⟩) ?_).trans ?_
  · rewrite [Shape.rowMajor_val_three, Shape.rowMajor_val_two]
    show n.val * 1024 + (64 * h.val + l.val) = (n.val * 16 + h.val) * 64 + l.val
    omega
  · pointwise
/-- An entry of the flattened operand. -/
theorem flat (X : FVec Ideal S8192x16x128 .bf16) (n : Fin 8192) (h : Fin 16) (l : Fin 128) : shapeCast S8192x2048 X shapeCasts_S8192x16x128_S8192x2048 (ix2 n ⟨128 * h.val + l.val, by omega⟩) = X (ix3 n h l) := by
  refine shapeCast_apply _ shapeCasts_S8192x16x128_S8192x2048 _ (ix3 n h l) ?_
  rewrite [Shape.rowMajor_val_three, Shape.rowMajor_val_two]
  show (n.val * 16 + h.val) * 128 + l.val = n.val * 2048 + (128 * h.val + l.val)
  omega
/-- An entry of the log-sum-exp in the call's layout. -/
theorem lrow_at (mx l : FVec Ideal S2x16x4096 .f32) (b : Fin 2) (p : Fin 8) (bb : Fin 8) (hh : Fin 2) (r : Fin 512) :
    lrow mx l (ix5 b p bb hh r) = mx (ix3 b ⟨2 * p.val + hh.val, by omega⟩ ⟨512 * bb.val + r.val, by omega⟩) + Ideal.log (l (ix3 b ⟨2 * p.val + hh.val, by omega⟩ ⟨512 * bb.val + r.val, by omega⟩)) := by
  unfold lrow
  refine (transpose_apply [0, 1, 2, 4, 3] _ transposes_S2x8x8x512x2_S2x8x8x2x512_0_1_2_4_3 _ (ix5 b p bb r hh) (fun a => match a with
    | ⟨0, _⟩ => rfl | ⟨1, _⟩ => rfl | ⟨2, _⟩ => rfl | ⟨3, _⟩ => rfl | ⟨4, _⟩ => rfl)).trans ?_
  refine (shapeCast_apply _ shapeCasts_S2x8x4096x2_S2x8x8x512x2 _ (ix4 b p ⟨512 * bb.val + r.val, by omega⟩ hh) ?_).trans ?_
  · rewrite [Shape.rowMajor_val_five, Shape.rowMajor_val_four]
    show ((b.val * 8 + p.val) * 4096 + (512 * bb.val + r.val)) * 2 + hh.val = (((b.val * 8 + p.val) * 8 + bb.val) * 512 + r.val) * 2 + hh.val
    omega
  refine (transpose_apply [0, 1, 3, 2] _ transposes_S2x8x2x4096_S2x8x4096x2_0_1_3_2 _ (ix4 b p hh ⟨512 * bb.val + r.val, by omega⟩) (fun a => match a with
    | ⟨0, _⟩ => rfl | ⟨1, _⟩ => rfl | ⟨2, _⟩ => rfl | ⟨3, _⟩ => rfl)).trans ?_
  refine (shapeCast_apply _ shapeCasts_S2x16x4096x1_S2x8x2x4096 _ (ix4 b (⟨2 * p.val + hh.val, by omega⟩ : Fin 16) (⟨512 * bb.val + r.val, by omega⟩ : Fin 4096) (0 : Fin 1)) ?_).trans ?_
  · rewrite [Shape.rowMajor_val_four, Shape.rowMajor_val_four]
    show ((b.val * 16 + (2 * p.val + hh.val)) * 4096 + (512 * bb.val + r.val)) * 1 + 0 = ((b.val * 8 + p.val) * 2 + hh.val) * 4096 + (512 * bb.val + r.val)
    omega
  pointwise

set_option maxHeartbeats 1000000 in
/-- The saved output. -/
theorem v34_eq : V m c main_v34 = val_main_v53 (F := Ideal) (a0 m c) (a1 m c) (a2 m c) (a3 m c) := by
  unfold val_main_v53 val_main_v52 val_main_v51 val_main_v45 val_main_v44 val_main_v43 val_main_v42 val_main_v41 val_main_v40 val_main_v39 val_main_v38
  rw [v28_eq]
  unfold V
  simp only [hostOps0, hostOps0_1, hostOps0_2, List.flatten_cons, List.flatten_nil, List.append_nil, List.cons_append, List.nil_append]
  after_reads_simp
  rfl

set_option maxHeartbeats 1000000 in
theorem v65_eq : V m c main_v65 = (truncf .bf16 (a2 m c) bitsLt_bf16_f32 : FVec Ideal S8192x1024 .bf16) := by
  unfold V
  simp only [hostOps0, hostOps0_1, hostOps0_2, List.flatten_cons, List.flatten_nil, List.append_nil, List.cons_append, List.nil_append]
  after_reads_simp

set_option maxHeartbeats 1000000 in
theorem v67_eq : V m c main_v67 = lrow (val_main_v21 (F := Ideal) (a0 m c) (a1 m c) (a3 m c)) (val_main_v42 (F := Ideal) (a0 m c) (a1 m c) (a3 m c)) := by
  unfold val_main_v42 val_main_v41 val_main_v40 val_main_v39 val_main_v38
  rw [v28_eq]
  unfold V
  simp only [hostOps0, hostOps0_1, hostOps0_2, List.flatten_cons, List.flatten_nil, List.append_nil, List.cons_append, List.nil_append]
  after_reads_simp
  rfl
/-- A row of six pieces, piece by piece. -/
theorem cat6 {t s1 s2 s3 s4 s5 s6 : Shape} {a : Fin t.rank} {x1 y1 : FVec Ideal s1 .bf16} {x2 y2 : FVec Ideal s2 .bf16} {x3 y3 : FVec Ideal s3 .bf16} {x4 y4 : FVec Ideal s4 .bf16} {x5 y5 : FVec Ideal s5 .bf16} {x6 y6 : FVec Ideal s6 .bf16}
    (h : Shape.Concatenates [s1, s2, s3, s4, s5, s6] t a) (e1 : x1 = y1) (e2 : x2 = y2) (e3 : x3 = y3) (e4 : x4 = y4) (e5 : x5 = y5) (e6 : x6 = y6) :
    concatenate t a [⟨s1, x1⟩, ⟨s2, x2⟩, ⟨s3, x3⟩, ⟨s4, x4⟩, ⟨s5, x5⟩, ⟨s6, x6⟩] h = concatenate t a [⟨s1, y1⟩, ⟨s2, y2⟩, ⟨s3, y3⟩, ⟨s4, y4⟩, ⟨s5, y5⟩, ⟨s6, y6⟩] h := by
  subst e1 e2 e3 e4 e5 e6; rfl
set_option maxHeartbeats 1000000 in
theorem v57_eq : V m c main_v57 = shapeCast S8192x2048 (qa3 (a0 m c) (a3 m c)) shapeCasts_S8192x16x128_S8192x2048 := by
  unfold V
  simp only [hostOps0, hostOps0_1, hostOps0_2, List.flatten_cons, List.flatten_nil, List.append_nil, List.cons_append, List.nil_append]
  after_reads_simp
  refine congrArg (fun X : FVec Ideal S8192x16x128 .bf16 => shapeCast S8192x2048 X shapeCasts_S8192x16x128_S8192x2048) (cat6 _ ?_ ?_ ?_ ?_ ?_ ?_)
  · show StableHlo.upto _ _ _ (Proc.devRef .tc main_v55) = _
    after_reads_simp
    rfl
  · show StableHlo.upto _ _ _ (Proc.devRef .tc main_v41) = _
    after_reads_simp
    rfl
  · show StableHlo.upto _ _ _ (Proc.devRef .tc main_v44) = _
    after_reads_simp
    rfl
  · show StableHlo.upto _ _ _ (Proc.devRef .tc main_v47) = _
    after_reads_simp
    rfl
  · show StableHlo.upto _ _ _ (Proc.devRef .tc main_v48) = _
    after_reads_simp
    rfl
  · show StableHlo.upto _ _ _ (Proc.devRef .tc main_v49) = _
    after_reads_simp
    rfl
set_option maxHeartbeats 1000000 in
theorem v64_eq : V m c main_v64 = shapeCast S8192x2048 (ka3 (a1 m c) (a3 m c)) shapeCasts_S8192x16x128_S8192x2048 := by
  unfold V
  simp only [hostOps0, hostOps0_1, hostOps0_2, List.flatten_cons, List.flatten_nil, List.append_nil, List.cons_append, List.nil_append]
  after_reads_simp
  refine congrArg (fun X : FVec Ideal S8192x16x128 .bf16 => shapeCast S8192x2048 X shapeCasts_S8192x16x128_S8192x2048) (cat6 _ ?_ ?_ ?_ ?_ ?_ ?_)
  · show StableHlo.upto _ _ _ (Proc.devRef .tc main_v59) = _
    after_reads_simp
    rfl
  · show StableHlo.upto _ _ _ (Proc.devRef .tc main_v48) = _
    after_reads_simp
    rfl
  · show StableHlo.upto _ _ _ (Proc.devRef .tc main_v60) = _
    after_reads_simp
    rfl
  · show StableHlo.upto _ _ _ (Proc.devRef .tc main_v61) = _
    after_reads_simp
    rfl
  · show StableHlo.upto _ _ _ (Proc.devRef .tc main_v62) = _
    after_reads_simp
    rfl
  · show StableHlo.upto _ _ _ (Proc.devRef .tc main_v49) = _
    after_reads_simp
    rfl

end Cert.KernelIdeal.Host
-- ==== Proof.RefVal.lean ====
module

public import proofs.«01_k».proof.Proof.Gen.ReferenceIdeal.Read
public import Idealize.ShloMosaic.Lib.WordCmp
public import Idealize.ShloMosaic.Lib.Pointwise

@[expose] public section

set_option maxRecDepth 16384

noncomputable section

namespace Cert.ReferenceIdeal.Vals

open Cert.ReferenceIdeal Cert.ReferenceIdeal.Gen
open Idealize.ShloMosaic Idealize.ShloMosaic.TcCoe
open Cert.ReferenceIdeal.Read

/-! Sums, products and quotients of real values stay real. -/

/-- A sum of reals is real. -/
theorem csum {ι : Type} [Fintype ι] (f : ι → EReal) (g : ι → ℝ) (h : ∀ k, f k = ((g k : ℝ) : EReal)) : ∑ k, f k = ((∑ k, g k : ℝ) : EReal) := by
  have : ∀ s : Finset ι, ∑ k ∈ s, f k = ((∑ k ∈ s, g k : ℝ) : EReal) := by
    classical
    intro s
    induction s using Finset.induction_on with
    | empty => simp
    | insert a s ha ih => rw [Finset.sum_insert ha, Finset.sum_insert ha, ih, h, EReal.coe_add]
  exact this _
/-- A product of reals is real. -/
theorem cmul {x y : EReal} {a b : ℝ} (hx : x = a) (hy : y = b) : x * y = ((a * b : ℝ) : EReal) := by rw [hx, hy, EReal.coe_mul]
/-- A sum of two reals is real. -/
theorem cadd {x y : EReal} {a b : ℝ} (hx : x = a) (hy : y = b) : x + y = ((a + b : ℝ) : EReal) := by rw [hx, hy, EReal.coe_add]
/-- A difference of reals is real. -/
theorem csub {x y : EReal} {a b : ℝ} (hx : x = a) (hy : y = b) : x - y = ((a - b : ℝ) : EReal) := by rw [hx, hy, EReal.coe_sub]
/-- The opposite of a real is real. -/
theorem cneg {x : EReal} {a : ℝ} (hx : x = a) : -x = ((-a : ℝ) : EReal) := by rw [hx, EReal.coe_neg]
/-- A quotient of reals by one that is not zero is real. -/
theorem cdiv {x y : EReal} {a b : ℝ} (hx : x = a) (hy : y = b) (hb : b ≠ 0) : Ideal.div x y = ((a / b : ℝ) : EReal) := by
  rw [hx, hy, Ideal.div_coe hb, ← EReal.coe_mul]; congr 1; ring
/-- Zero in front of a real. -/
theorem czero {x : EReal} {a : ℝ} (hx : x = a) : Ideal.ofBits .f32 0x00000000#32 + x = ((a : ℝ) : EReal) := by
  rw [show Ideal.ofBits .f32 0x00000000#32 = 0 by simp [Ideal.ofBits, Ideal.ieee], zero_add, hx]
/-- The word of one eighth. -/
theorem eighth : Ideal.ofBits .f32 0x3E000000#32 = (((1 / 8 : ℝ)) : EReal) := by
  simp [Ideal.ofBits, Ideal.ieee, -EReal.coe_mul]; norm_num
/-- The word of one. -/
theorem one_bits : Ideal.ofBits .f32 0x3F800000#32 = ((1 : ℝ) : EReal) := by
  simp [Ideal.ofBits, Ideal.ieee, -EReal.coe_mul] <;> norm_num
/-- The word of minus infinity. -/
theorem ninf_bits : Ideal.ofBits .f32 0xFF800000#32 = ⊥ := by simp [Ideal.ofBits, Ideal.ieee]
/-- The word of zero. -/
theorem zero_bits : Ideal.ofBits .f32 0x00000000#32 = ((0 : ℝ) : EReal) := by simp [Ideal.ofBits, Ideal.ieee]

/-- Row `i` of batch row `b` among the tokens. -/
def tok (b : Fin 2) (i : Fin 4096) : Fin 8192 := ⟨b.val * 4096 + i.val, by omega⟩
/-- Lane `d` of head `h`. -/
def lane (h : Fin 16) (d : Fin 64) : Fin 1024 := ⟨64 * h.val + d.val, by omega⟩

/-- The operands as real arrays by batch row, head, position and lane, with each row's largest logit. -/
structure Dat where
  q : Fin 2 → Fin 16 → Fin 4096 → Fin 64 → ℝ
  k : Fin 2 → Fin 16 → Fin 4096 → Fin 64 → ℝ
  v : Fin 2 → Fin 16 → Fin 4096 → Fin 64 → ℝ
  c : Fin 2 → Fin 16 → Fin 4096 → ℝ
  g : Fin 2 → Fin 16 → Fin 4096 → Fin 64 → ℝ
  mx : Fin 2 → Fin 16 → Fin 4096 → ℝ

variable (t : Dat) (b : Fin 2) (h : Fin 16)

/-- The logit of query `i` and key `j`. -/
def Dat.Lg (i j : Fin 4096) : ℝ := (∑ d, t.q b h i d * t.k b h j d) * (1 / 8) + t.c b h i - t.c b h j
/-- Its exponential from the row's largest, zero above the diagonal. -/
def Dat.E (i j : Fin 4096) : ℝ := if j.val ≤ i.val then Real.exp (t.Lg b h i j - t.mx b h i) else 0
/-- A row's sum of exponentials. -/
def Dat.Z (i : Fin 4096) : ℝ := ∑ j, t.E b h i j
/-- The attention weights. -/
def Dat.P (i j : Fin 4096) : ℝ := t.E b h i j / t.Z b h i
/-- The output. -/
def Dat.O (i : Fin 4096) (d : Fin 64) : ℝ := ∑ j, t.P b h i j * t.v b h j d
/-- The gradient of the attention weights. -/
def Dat.G (i j : Fin 4096) : ℝ := ∑ d, t.g b h i d * t.v b h j d
/-- The part of the softmax's gradient that passes through a row's sum. -/
def Dat.S (i : Fin 4096) : ℝ := ∑ j, t.G b h i j * (1 / (t.Z b h i * t.Z b h i)) * t.E b h i j
/-- The gradient of the logits. -/
def Dat.dS (i j : Fin 4096) : ℝ := if j.val ≤ i.val then (t.G b h i j / t.Z b h i + -t.S b h i) * t.E b h i j else 0

/-- A row's sum of exponentials is positive. -/
theorem Dat.Z_pos (i : Fin 4096) : 0 < t.Z b h i := by
  unfold Dat.Z
  refine lt_of_lt_of_le ?_ (Finset.single_le_sum (f := fun j => t.E b h i j) (fun j _ => ?_) (Finset.mem_univ i))
  · simp only [Dat.E, le_refl, if_true]; exact Real.exp_pos _
  · simp only [Dat.E]; split_ifs
    · exact (Real.exp_pos _).le
    · exact le_refl _

/-- The arrays in memory hold the real operands. -/
structure Holds (x0 x1 x2 : FVec Ideal S8192x1024 .f32) (x3 : FVec Ideal S2x16x4096 .f32) (x4 : FVec Ideal S8192x1024 .f32) : Prop where
  hq : ∀ b h i d, x0 (ix2 (tok b i) (lane h d)) = ((t.q b h i d : ℝ) : EReal)
  hk : ∀ b h i d, x1 (ix2 (tok b i) (lane h d)) = ((t.k b h i d : ℝ) : EReal)
  hv : ∀ b h i d, x2 (ix2 (tok b i) (lane h d)) = ((t.v b h i d : ℝ) : EReal)
  hc : ∀ b h i, x3 (ix3 b h i) = ((t.c b h i : ℝ) : EReal)
  hg : ∀ b h i d, x4 (ix2 (tok b i) (lane h d)) = ((t.g b h i d : ℝ) : EReal)

variable {t} {x0 x1 x2 : FVec Ideal S8192x1024 .f32} {x3 : FVec Ideal S2x16x4096 .f32} {x4 : FVec Ideal S8192x1024 .f32}
  (w : Holds t x0 x1 x2 x3 x4)
include w

/-- The queries by head. -/
theorem v2_at (i : Fin 4096) (d : Fin 64) : val_main_v2 (F := Ideal) x0 (ix4 b h i d) = ((t.q b h i d : ℝ) : EReal) := by
  rw [val_main_v2_apply, val_main_v1_apply, ← w.hq]
  refine congrArg x0 (Shape.idx_ext₂ ?_ ?_)
  · show (((b.val * 4096 + i.val) * 16 + h.val) * 64 + d.val) / 1024 = b.val * 4096 + i.val
    omega
  · show (((b.val * 4096 + i.val) * 16 + h.val) * 64 + d.val) % 1024 = 64 * h.val + d.val
    omega

/-- The keys by head. -/
theorem v4_at (i : Fin 4096) (d : Fin 64) : val_main_v4 (F := Ideal) x1 (ix4 b h i d) = ((t.k b h i d : ℝ) : EReal) := by
  rw [val_main_v4_apply, val_main_v3_apply, ← w.hk]
  refine congrArg x1 (Shape.idx_ext₂ ?_ ?_)
  · show (((b.val * 4096 + i.val) * 16 + h.val) * 64 + d.val) / 1024 = b.val * 4096 + i.val
    omega
  · show (((b.val * 4096 + i.val) * 16 + h.val) * 64 + d.val) % 1024 = 64 * h.val + d.val
    omega

/-- The values by head. -/
theorem v50_at (i : Fin 4096) (d : Fin 64) : val_main_v50 (F := Ideal) x2 (ix4 b h i d) = ((t.v b h i d : ℝ) : EReal) := by
  rw [val_main_v50_apply, val_main_v49_apply, ← w.hv]
  refine congrArg x2 (Shape.idx_ext₂ ?_ ?_)
  · show (((b.val * 4096 + i.val) * 16 + h.val) * 64 + d.val) / 1024 = b.val * 4096 + i.val
    omega
  · show (((b.val * 4096 + i.val) * 16 + h.val) * 64 + d.val) % 1024 = 64 * h.val + d.val
    omega

/-- The output's gradient by head. -/
theorem v55_at (i : Fin 4096) (d : Fin 64) : val_main_v55 (F := Ideal) x4 (ix4 b h i d) = ((t.g b h i d : ℝ) : EReal) := by
  rw [val_main_v55_apply, val_main_v54_apply, ← w.hg]
  refine congrArg x4 (Shape.idx_ext₂ ?_ ?_)
  · show (((b.val * 4096 + i.val) * 16 + h.val) * 64 + d.val) / 1024 = b.val * 4096 + i.val
    omega
  · show (((b.val * 4096 + i.val) * 16 + h.val) * 64 + d.val) % 1024 = 64 * h.val + d.val
    omega

omit w in
/-- A choice by the causal mask. -/
theorem v20_1_at (i j : Fin 4096) (x y : EReal) : Scalar.select (val_main_v20_1 (F := Ideal) (ix4 b h i j)) x y = if j.val ≤ i.val then x else y := by
  rw [val_main_v20_1_apply, val_main_v19_apply, val_main_v18_apply, val_main_v16_apply, val_main_v17_apply, val_main_v14_apply, val_main_v15_apply,
    val_main_v0_apply, val_main_v0_apply]
  show Scalar.select (IntOp.cmpi CmpIPredicate.sge (BitVec.ofNat 32 i.val) (BitVec.ofNat 32 j.val)) x y = _
  word_cmp
/-- The logits. -/
theorem v13_at (i j : Fin 4096) : val_main_v13 (F := Ideal) x0 x1 x3 (ix4 b h i j) = ((t.Lg b h i j : ℝ) : EReal) := by
  rw [val_main_v13_apply, val_main_v10_apply, val_main_v7_apply, val_main_v5_apply, val_main_v6_apply, val_main_cst_apply, val_main_v9_apply, val_main_v8_apply,
    val_main_v12_apply, val_main_v11_apply]
  have e1 : x3 (idx_main_v8 (idx_main_v9 (ix4 b h i j))) = ((t.c b h i : ℝ) : EReal) := (congrArg x3 ((funext fun a => match a with | ⟨0, _⟩ => rfl | ⟨1, _⟩ => rfl | ⟨2, _⟩ => rfl) : idx_main_v8 (idx_main_v9 (ix4 b h i j)) = ix3 b h i)).trans (w.hc b h i)
  have e2 : x3 (idx_main_v11 (idx_main_v12 (ix4 b h i j))) = ((t.c b h j : ℝ) : EReal) := (congrArg x3 ((funext fun a => match a with | ⟨0, _⟩ => rfl | ⟨1, _⟩ => rfl | ⟨2, _⟩ => rfl) : idx_main_v11 (idx_main_v12 (ix4 b h i j)) = ix3 b h j)).trans (w.hc b h j)
  exact csub (cadd (cmul (csum _ _ fun d => cmul ((congrArg _ (funext fun a => match a with | ⟨0, _⟩ => rfl | ⟨1, _⟩ => rfl | ⟨2, _⟩ => rfl | ⟨3, _⟩ => rfl)).trans (v2_at b h w i d)) ((congrArg _ (funext fun a => match a with | ⟨0, _⟩ => rfl | ⟨1, _⟩ => rfl | ⟨2, _⟩ => rfl | ⟨3, _⟩ => rfl)).trans (v4_at b h w j d))) eighth)
    e1) e2
/-- The masked logits. -/
theorem v20_0_at (i j : Fin 4096) : val_main_v20_0 (F := Ideal) x0 x1 x3 (ix4 b h i j) = if j.val ≤ i.val then ((t.Lg b h i j : ℝ) : EReal) else ⊥ := by
  rw [val_main_v20_0_apply, v20_1_at, v13_at b h w]
  split_ifs
  · rfl
  · show Ideal.ofBits .f32 0xFF800000#32 = ⊥
    exact ninf_bits
/-- A row's largest logit is real: the one on the diagonal is, and none is infinite above. -/
theorem v21_real (i : Fin 4096) : ∃ M : ℝ, val_main_v21 (F := Ideal) x0 x1 x3 (ix3 b h i) = ((M : ℝ) : EReal) := by
  unfold val_main_v21
  have hR : S2x16x4096x4096.Reduces [3] S2x16x4096 := by decide
  rw [Host.reduce_eq_fold_single (FloatOps.maximumf (F := Ideal) (φ := .f32)) _ _ reducesTo_S2x16x4096x4096_S2x16x4096_d3 hR h_S_]
  have hl : ∀ j : Fin 4096, hR.lift (ix3 b h i) j = ix4 b h i j := fun j =>
    funext fun a => Fin.ext (by match a with | ⟨0, _⟩ => rfl | ⟨1, _⟩ => rfl | ⟨2, _⟩ => rfl | ⟨3, _⟩ => rfl)
  have hat : ∀ j : Fin 4096, (val_main_v20_0 (F := Ideal) x0 x1 x3 ∘ hR.lift (ix3 b h i)) j
      = if j.val ≤ i.val then ((t.Lg b h i j : ℝ) : EReal) else ⊥ := fun j =>
    (congrArg (val_main_v20_0 (F := Ideal) x0 x1 x3) (hl j)).trans (v20_0_at b h w i j)
  generalize (val_main_v20_0 (F := Ideal) x0 x1 x3 ∘ hR.lift (ix3 b h i)) = f at hat ⊢
  have hi : val_main_cst_1 (F := Ideal) (Shape.Idx.first h_S_) = ⊥ := ninf_bits
  rw [hi]
  change ∃ M : ℝ, (Finset.univ : Finset (Fin 4096)).fold max (⊥ : EReal) f = _
  have hb : (⊥ : EReal) < (Finset.univ : Finset (Fin 4096)).fold max (⊥ : EReal) f :=
    (Finset.lt_fold_max _).2 (Or.inr ⟨i, Finset.mem_univ _, by rw [hat, if_pos (le_refl _)]; exact EReal.bot_lt_coe _⟩)
  have ht : (Finset.univ : Finset (Fin 4096)).fold max (⊥ : EReal) f < ⊤ :=
    (Finset.fold_max_lt _).2 ⟨bot_lt_top, fun j _ => lt_of_eq_of_lt (hat j) (by
      split_ifs
      · exact EReal.coe_lt_top _
      · exact bot_lt_top)⟩
  exact ⟨_, (EReal.coe_toReal ht.ne hb.ne').symm⟩

variable (hm : ∀ b h i, val_main_v28 (F := Ideal) x0 x1 x3 (ix3 b h i) = ((t.mx b h i : ℝ) : EReal))
include hm
/-- The exponentials. -/
theorem v41_at (i j : Fin 4096) : val_main_v41 (F := Ideal) x0 x1 x3 (ix4 b h i j) = ((t.E b h i j : ℝ) : EReal) := by
  rw [val_main_v41_apply, val_main_v40_apply, v20_0_at b h w, val_main_v39_apply, val_main_v38_apply]
  have e : val_main_v28 (F := Ideal) x0 x1 x3 (idx_main_v38 (idx_main_v39 (ix4 b h i j))) = ((t.mx b h i : ℝ) : EReal) := (congrArg _ (funext fun a => match a with | ⟨0, _⟩ => rfl | ⟨1, _⟩ => rfl | ⟨2, _⟩ => rfl)).trans (hm b h i)
  rw [e]
  unfold Dat.E
  show Ideal.exp ((if j.val ≤ i.val then ((t.Lg b h i j : ℝ) : EReal) else ⊥) - ((t.mx b h i : ℝ) : EReal)) = _
  split_ifs
  · rw [← EReal.coe_sub, Ideal.exp_coe]
  · rw [EReal.bot_sub, Ideal.exp_bot, EReal.coe_zero]
/-- Their sum. -/
theorem v42_at (i : Fin 4096) : val_main_v42 (F := Ideal) x0 x1 x3 (ix3 b h i) = ((t.Z b h i : ℝ) : EReal) := by
  rw [val_main_v42_apply]
  exact czero (csum _ _ fun j => (congrArg _ (funext fun a => match a with | ⟨0, _⟩ => rfl | ⟨1, _⟩ => rfl | ⟨2, _⟩ => rfl | ⟨3, _⟩ => rfl)).trans (v41_at b h w hm i j))
/-- The weights. -/
theorem v45_at (i j : Fin 4096) : val_main_v45 (F := Ideal) x0 x1 x3 (ix4 b h i j) = ((t.P b h i j : ℝ) : EReal) := by
  rw [val_main_v45_apply, val_main_v44_apply, val_main_v43_apply]
  exact cdiv (v41_at b h w hm i j) ((congrArg _ (funext fun a => match a with | ⟨0, _⟩ => rfl | ⟨1, _⟩ => rfl | ⟨2, _⟩ => rfl)).trans (v42_at b h w hm i)) (t.Z_pos b h i).ne'
/-- The output. -/
theorem v53_at (i : Fin 4096) (d : Fin 64) : val_main_v53 (F := Ideal) x0 x1 x2 x3 (ix2 (tok b i) (lane h d)) = ((t.O b h i d : ℝ) : EReal) := by
  rw [val_main_v53_apply, val_main_v52_apply]
  refine (congrArg _ (funext fun a => Fin.ext (match a with | ⟨0, _⟩ => by show ((b.val * 4096 + i.val) * 1024 + (64 * h.val + d.val)) / 4194304 = b.val; omega | ⟨1, _⟩ => by show ((b.val * 4096 + i.val) * 1024 + (64 * h.val + d.val)) / 64 % 16 = h.val; omega | ⟨2, _⟩ => by show ((b.val * 4096 + i.val) * 1024 + (64 * h.val + d.val)) / 1024 % 4096 = i.val; omega | ⟨3, _⟩ => by show ((b.val * 4096 + i.val) * 1024 + (64 * h.val + d.val)) % 64 = d.val; omega) : _ = ix4 b h i d)).trans ?_
  rw [val_main_v51_apply]
  exact csum _ _ fun j => cmul ((congrArg _ (funext fun a => match a with | ⟨0, _⟩ => rfl | ⟨1, _⟩ => rfl | ⟨2, _⟩ => rfl | ⟨3, _⟩ => rfl)).trans (v45_at b h w hm i j)) ((congrArg _ (funext fun a => match a with | ⟨0, _⟩ => rfl | ⟨1, _⟩ => rfl | ⟨2, _⟩ => rfl | ⟨3, _⟩ => rfl)).trans (v50_at b h w j d))
/-- The gradient of the values. -/
theorem v60_at (j : Fin 4096) (d : Fin 64) : val_main_v60 (F := Ideal) x0 x1 x3 x4 (ix2 (tok b j) (lane h d)) = ((∑ i, t.g b h i d * t.P b h i j : ℝ) : EReal) := by
  rw [val_main_v60_apply, val_main_v59_apply, val_main_v57_apply]
  refine (congrArg _ (funext fun a => Fin.ext (match a with | ⟨0, _⟩ => by show ((b.val * 4096 + j.val) * 1024 + (64 * h.val + d.val)) / 4194304 = b.val; omega | ⟨1, _⟩ => by show ((b.val * 4096 + j.val) * 1024 + (64 * h.val + d.val)) / 64 % 16 = h.val; omega | ⟨2, _⟩ => by show ((b.val * 4096 + j.val) * 1024 + (64 * h.val + d.val)) % 64 = d.val; omega | ⟨3, _⟩ => by show ((b.val * 4096 + j.val) * 1024 + (64 * h.val + d.val)) / 1024 % 4096 = j.val; omega) : _ = ix4 b h d j)).trans ?_
  rw [val_main_v56_apply]
  exact csum _ _ fun i => cmul ((congrArg _ (funext fun a => match a with | ⟨0, _⟩ => rfl | ⟨1, _⟩ => rfl | ⟨2, _⟩ => rfl | ⟨3, _⟩ => rfl)).trans (v55_at b h w i d)) ((congrArg _ (funext fun a => match a with | ⟨0, _⟩ => rfl | ⟨1, _⟩ => rfl | ⟨2, _⟩ => rfl | ⟨3, _⟩ => rfl)).trans (v45_at b h w hm i j))
omit hm in
/-- The gradient of the weights. -/
theorem v58_at (i j : Fin 4096) : val_main_v58 (F := Ideal) x2 x4 (ix4 b h i j) = ((t.G b h i j : ℝ) : EReal) := by
  rw [val_main_v58_apply]
  exact csum _ _ fun d => cmul ((congrArg _ (funext fun a => match a with | ⟨0, _⟩ => rfl | ⟨1, _⟩ => rfl | ⟨2, _⟩ => rfl | ⟨3, _⟩ => rfl)).trans (v55_at b h w i d)) ((congrArg _ (funext fun a => match a with | ⟨0, _⟩ => rfl | ⟨1, _⟩ => rfl | ⟨2, _⟩ => rfl | ⟨3, _⟩ => rfl)).trans (v50_at b h w j d))
/-- The part through the rows' sums. -/
theorem v64_at (i : Fin 4096) : val_main_v64 (F := Ideal) x0 x1 x2 x3 x4 (ix3 b h i) = ((t.S b h i : ℝ) : EReal) := by
  rw [val_main_v64_apply]
  refine czero (csum _ _ fun j => ?_)
  refine (congrArg (val_main_v63 (F := Ideal) x0 x1 x2 x3 x4) ((funext fun a => match a with | ⟨0, _⟩ => rfl | ⟨1, _⟩ => rfl | ⟨2, _⟩ => rfl | ⟨3, _⟩ => rfl) : idx_main_v64 (ix3 b h i) j = ix4 b h i j)).trans ?_
  rw [val_main_v63_apply, val_main_v62_apply, val_main_v61_apply, val_main_v48_apply, val_main_v47_apply, val_main_cst_10_apply, val_main_v46_apply, val_main_v43_apply]
  have z := (congrArg (val_main_v42 (F := Ideal) x0 x1 x3) ((funext fun a => match a with | ⟨0, _⟩ => rfl | ⟨1, _⟩ => rfl | ⟨2, _⟩ => rfl) : idx_main_v43 (idx_main_v61 (ix4 b h i j)) = ix3 b h i)).trans (v42_at b h w hm i)
  exact cmul (cmul (v58_at b h w i j) (cdiv one_bits (cmul z z) (mul_pos (t.Z_pos b h i) (t.Z_pos b h i)).ne')) (v41_at b h w hm i j)
/-- The gradient of the logits. -/
theorem v73_at (i j : Fin 4096) : val_main_v73 (F := Ideal) x0 x1 x2 x3 x4 (ix4 b h i j) = ((t.dS b h i j : ℝ) : EReal) := by
  rw [val_main_v73_apply, v20_1_at]
  unfold Dat.dS
  split_ifs
  · rw [val_main_v72_apply, val_main_v71_apply, val_main_v68_apply, val_main_v67_apply, val_main_v43_apply, val_main_v70_apply, val_main_v69_apply]
    refine cmul (cadd (cdiv (v58_at b h w i j) ((congrArg _ (funext fun a => match a with | ⟨0, _⟩ => rfl | ⟨1, _⟩ => rfl | ⟨2, _⟩ => rfl)).trans (v42_at b h w hm i)) (t.Z_pos b h i).ne') ?_) (v41_at b h w hm i j)
    refine czero ?_
    rw [Fin.sum_univ_one, val_main_v66_apply, val_main_v65_apply]
    exact cneg ((congrArg _ (funext fun a => Fin.ext (match a with | ⟨0, _⟩ => by show (((b.val * 16 + h.val) * 4096 + i.val) * 1 + 0) / 65536 = b.val; omega | ⟨1, _⟩ => by show (((b.val * 16 + h.val) * 4096 + i.val) * 1 + 0) / 4096 % 16 = h.val; omega | ⟨2, _⟩ => by show (((b.val * 16 + h.val) * 4096 + i.val) * 1 + 0) % 4096 = i.val; omega))).trans (v64_at b h w hm i))
  · exact zero_bits
/-- It scaled. -/
theorem v82_at (i j : Fin 4096) : val_main_v82 (F := Ideal) x0 x1 x2 x3 x4 (ix4 b h i j) = ((t.dS b h i j * (1 / 8) : ℝ) : EReal) := by
  rw [val_main_v82_apply, val_main_v81_apply]
  exact cmul (v73_at b h w hm i j) eighth
/-- The gradient of the keys. -/
theorem v86_at (j : Fin 4096) (d : Fin 64) : val_main_v86 (F := Ideal) x0 x1 x2 x3 x4 (ix2 (tok b j) (lane h d)) = ((∑ i, t.dS b h i j * (1 / 8) * t.q b h i d : ℝ) : EReal) := by
  rw [val_main_v86_apply, val_main_v85_apply]
  refine (congrArg _ (funext fun a => Fin.ext (match a with | ⟨0, _⟩ => by show ((b.val * 4096 + j.val) * 1024 + (64 * h.val + d.val)) / 4194304 = b.val; omega | ⟨1, _⟩ => by show ((b.val * 4096 + j.val) * 1024 + (64 * h.val + d.val)) / 64 % 16 = h.val; omega | ⟨2, _⟩ => by show ((b.val * 4096 + j.val) * 1024 + (64 * h.val + d.val)) / 1024 % 4096 = j.val; omega | ⟨3, _⟩ => by show ((b.val * 4096 + j.val) * 1024 + (64 * h.val + d.val)) % 64 = d.val; omega) : _ = ix4 b h j d)).trans ?_
  rw [val_main_v83_apply]
  exact csum _ _ fun i => cmul ((congrArg _ (funext fun a => match a with | ⟨0, _⟩ => rfl | ⟨1, _⟩ => rfl | ⟨2, _⟩ => rfl | ⟨3, _⟩ => rfl)).trans (v82_at b h w hm i j)) ((congrArg _ (funext fun a => match a with | ⟨0, _⟩ => rfl | ⟨1, _⟩ => rfl | ⟨2, _⟩ => rfl | ⟨3, _⟩ => rfl)).trans (v2_at b h w i d))
/-- The gradient of the queries. -/
theorem v88_at (i : Fin 4096) (d : Fin 64) : val_main_v88 (F := Ideal) x0 x1 x2 x3 x4 (ix2 (tok b i) (lane h d)) = ((∑ j, t.dS b h i j * (1 / 8) * t.k b h j d : ℝ) : EReal) := by
  rw [val_main_v88_apply, val_main_v87_apply]
  refine (congrArg _ (funext fun a => Fin.ext (match a with | ⟨0, _⟩ => by show ((b.val * 4096 + i.val) * 1024 + (64 * h.val + d.val)) / 4194304 = b.val; omega | ⟨1, _⟩ => by show ((b.val * 4096 + i.val) * 1024 + (64 * h.val + d.val)) / 64 % 16 = h.val; omega | ⟨2, _⟩ => by show ((b.val * 4096 + i.val) * 1024 + (64 * h.val + d.val)) / 1024 % 4096 = i.val; omega | ⟨3, _⟩ => by show ((b.val * 4096 + i.val) * 1024 + (64 * h.val + d.val)) % 64 = d.val; omega) : _ = ix4 b h i d)).trans ?_
  rw [val_main_v84_apply]
  exact csum _ _ fun j => cmul ((congrArg _ (funext fun a => match a with | ⟨0, _⟩ => rfl | ⟨1, _⟩ => rfl | ⟨2, _⟩ => rfl | ⟨3, _⟩ => rfl)).trans (v82_at b h w hm i j)) ((congrArg _ (funext fun a => match a with | ⟨0, _⟩ => rfl | ⟨1, _⟩ => rfl | ⟨2, _⟩ => rfl | ⟨3, _⟩ => rfl)).trans (v4_at b h w j d))
/-- The gradient of the gates on the queries' side. -/
theorem v90_at (p : Fin 8) (hh : Fin 2) (hp : h.val = 2 * p.val + hh.val) (i : Fin 4096) : val_main_v90 (F := Ideal) x0 x1 x2 x3 x4 (ix4 b p i hh) = ((∑ j, t.dS b h i j : ℝ) : EReal) := by
  rw [val_main_v90_apply, val_main_v89_apply]
  refine (congrArg _ ((funext fun a => Fin.ext (match a with | ⟨0, _⟩ => by show (((b.val * 8 + p.val) * 2 + hh.val) * 4096 + i.val) / 65536 = b.val; omega | ⟨1, _⟩ => by show (((b.val * 8 + p.val) * 2 + hh.val) * 4096 + i.val) / 4096 % 16 = h.val; omega | ⟨2, _⟩ => by show (((b.val * 8 + p.val) * 2 + hh.val) * 4096 + i.val) % 4096 = i.val; omega)) : _ = ix3 b h i)).trans ?_
  rw [val_main_v80_apply, Fin.sum_univ_one, val_main_v79_apply]
  refine czero ((congrArg _ ((funext fun a => Fin.ext (match a with | ⟨0, _⟩ => by show (((b.val * 16 + h.val) * 4096 + i.val) * 1 + 0) / 65536 = b.val; omega | ⟨1, _⟩ => by show (((b.val * 16 + h.val) * 4096 + i.val) * 1 + 0) / 4096 % 16 = h.val; omega | ⟨2, _⟩ => by show (((b.val * 16 + h.val) * 4096 + i.val) * 1 + 0) % 4096 = i.val; omega)) : _ = ix3 b h i)).trans ?_)
  rw [val_main_v78_apply]
  exact czero (csum _ _ fun j => (congrArg _ (funext fun a => match a with | ⟨0, _⟩ => rfl | ⟨1, _⟩ => rfl | ⟨2, _⟩ => rfl | ⟨3, _⟩ => rfl)).trans (v73_at b h w hm i j))
/-- The gradient of the gates on the keys' side. -/
theorem v92_at (p : Fin 8) (hh : Fin 2) (hp : h.val = 2 * p.val + hh.val) (j : Fin 4096) : val_main_v92 (F := Ideal) x0 x1 x2 x3 x4 (ix4 b p j hh) = ((∑ i, -t.dS b h i j : ℝ) : EReal) := by
  rw [val_main_v92_apply, val_main_v91_apply]
  refine (congrArg _ ((funext fun a => Fin.ext (match a with | ⟨0, _⟩ => by show (((b.val * 8 + p.val) * 2 + hh.val) * 4096 + j.val) / 65536 = b.val; omega | ⟨1, _⟩ => by show (((b.val * 8 + p.val) * 2 + hh.val) * 4096 + j.val) / 4096 % 16 = h.val; omega | ⟨2, _⟩ => by show (((b.val * 8 + p.val) * 2 + hh.val) * 4096 + j.val) % 4096 = j.val; omega)) : _ = ix3 b h j)).trans ?_
  rw [val_main_v77_apply, Fin.sum_univ_one, val_main_v76_apply]
  refine czero ((congrArg _ ((funext fun a => Fin.ext (match a with | ⟨0, _⟩ => by show (((b.val * 16 + h.val) * 1 + 0) * 4096 + j.val) / 65536 = b.val; omega | ⟨1, _⟩ => by show (((b.val * 16 + h.val) * 1 + 0) * 4096 + j.val) / 4096 % 16 = h.val; omega | ⟨2, _⟩ => by show (((b.val * 16 + h.val) * 1 + 0) * 4096 + j.val) % 4096 = j.val; omega)) : _ = ix3 b h j)).trans ?_)
  rw [val_main_v75_apply]
  refine czero (csum _ _ fun i => ?_)
  rw [val_main_v74_apply]
  exact cneg ((congrArg _ (funext fun a => match a with | ⟨0, _⟩ => rfl | ⟨1, _⟩ => rfl | ⟨2, _⟩ => rfl | ⟨3, _⟩ => rfl)).trans (v73_at b h w hm i j))

end Cert.ReferenceIdeal.Vals
-- ==== Proof.Ker.lean ====
module

public import proofs.«01_k».proof.Proof.Blk
public import proofs.«01_k».proof.Proof.RefVal

@[expose] public section

set_option maxRecDepth 16384

noncomputable section

namespace Cert.KernelIdeal.Ker

open Cert.KernelIdeal Cert.KernelIdeal.Gen
open Idealize.ShloMosaic Idealize.ShloMosaic.TcCoe
open Cert.KernelIdeal.Pay Cert.KernelIdeal.Trip Cert.KernelIdeal.Val Cert.KernelIdeal.Run
open Cert.ReferenceIdeal.Vals

/-- Head `hh` of the pair `p`. -/
def hd (p : Fin 8) (hh : Fin 2) : Fin 16 := ⟨2 * p.val + hh.val, by omega⟩
/-- Position `r` of block `bb`. -/
def pos (bb : Fin 8) (r : Fin 512) : Fin 4096 := ⟨512 * bb.val + r.val, by omega⟩
/-- Lane `d` of head `hh` in a pair's 128 lanes. -/
def hl (hh : Fin 2) (d : Fin 64) : Fin 128 := ⟨64 * hh.val + d.val, by omega⟩
/-- Lane `l` of head `hh` in a pair's 256 lanes. -/
def hw (hh : Fin 2) (l : Fin 128) : Fin 256 := ⟨128 * hh.val + l.val, by omega⟩

section sums
variable {M : Type} [AddCommMonoid M]
/-- A sum over 128 lanes head by head. -/
theorem sum128 (f : Fin 128 → M) : ∑ l, f l = (∑ d, f (hl 0 d)) + ∑ d, f (hl 1 d) := by
  refine (Fin.sum_univ_add (a := 64) (b := 64) f).trans ?_
  refine congrArg₂ (· + ·) ?_ ?_
  · exact Finset.sum_congr rfl fun d _ => congrArg f (Fin.ext (by show d.val = 64 * 0 + d.val; omega))
  · exact Finset.sum_congr rfl fun d _ => congrArg f (Fin.ext (by show 64 + d.val = 64 * 1 + d.val; omega))
/-- A sum over positions block by block. -/
theorem sum_pos (f : Fin 4096 → M) : ∑ i, f i = ∑ bb, ∑ r, f (pos bb r) := by
  rw [← Finset.sum_product']
  refine Finset.sum_nbij' (fun i => ((⟨i.val / 512, by omega⟩ : Fin 8), (⟨i.val % 512, by omega⟩ : Fin 512))) (fun x => pos x.1 x.2)
    (fun _ _ => Finset.mem_product.2 ⟨Finset.mem_univ _, Finset.mem_univ _⟩) (fun _ _ => Finset.mem_univ _) ?_ ?_ ?_
  · intro i _; exact Fin.ext (by show 512 * (i.val / 512) + i.val % 512 = i.val; omega)
  · rintro ⟨x, y⟩ _
    refine Prod.ext (Fin.ext ?_) (Fin.ext ?_)
    · show (512 * x.val + y.val) / 512 = x.val; omega
    · show (512 * x.val + y.val) % 512 = y.val; omega
  · intro i _; exact congrArg f (Fin.ext (by show i.val = 512 * (i.val / 512) + i.val % 512; omega))
/-- A sum over blocks whose terms before block `j` vanish. -/
theorem sum_from (X : Fin 8 → M) (j : Fin 8) (h0 : ∀ bb, bb.val < j.val → X bb = 0) : ∑ bb, X bb = X j + ∑ bb, if j.val < bb.val then X bb else 0 := by
  have e : ∀ bb, X bb = (if bb = j then X bb else 0) + (if j.val < bb.val then X bb else 0) := fun bb => by
    rcases Nat.lt_trichotomy bb.val j.val with h | h | h
    · rw [if_neg (fun e => by subst e; omega), if_neg (by omega), h0 bb h, add_zero]
    · rw [if_pos (Fin.ext h), if_neg (by omega), add_zero]
    · rw [if_neg (fun e => by subst e; omega), if_pos h, zero_add]
  rw [Finset.sum_congr rfl fun bb _ => e bb, Finset.sum_add_distrib, Finset.sum_ite_eq' Finset.univ j X, if_pos (Finset.mem_univ _)]
end sums

variable (t : Dat) (b : Fin 2) (h : Fin 16)

/-- The augmented keys. -/
def kaR (j : Fin 4096) (l : Fin 128) : ℝ :=
  if hl : l.val < 64 then t.k b h j ⟨l.val, hl⟩ else if l.val < 67 then 1 else if l.val = 67 then -t.c b h j else 0
/-- The augmented queries. -/
def qaR (i : Fin 4096) (l : Fin 128) : ℝ :=
  if hl : l.val < 64 then t.q b h i ⟨l.val, hl⟩ * (1 / 8) else if l.val = 64 then t.c b h i else if l.val < 67 then 0 else if l.val < 70 then 1 else 0

/-- The augmented lanes' dot product is the logit. -/
theorem dot_aug (i j : Fin 4096) : ∑ l, kaR t b h j l * qaR t b h i l = t.Lg b h i j := by
  rw [sum128]
  have e0 : ∀ d : Fin 64, kaR t b h j (hl 0 d) * qaR t b h i (hl 0 d) = (t.q b h i d * t.k b h j d) * (1 / 8) := fun d => by
    have hv : (hl 0 d).val = d.val := by show 64 * 0 + d.val = d.val; omega
    unfold kaR qaR
    rw [dif_pos (by rw [hv]; exact d.isLt), dif_pos (by rw [hv]; exact d.isLt)]
    have : (⟨(hl 0 d).val, by rw [hv]; exact d.isLt⟩ : Fin 64) = d := Fin.ext hv
    rw [this]; ring
  have e1 : ∀ d : Fin 64, kaR t b h j (hl 1 d) * qaR t b h i (hl 1 d) = (if d = 0 then t.c b h i else 0) + (if d = 3 then -t.c b h j else 0) := fun d => by
    have hv : (hl 1 d).val = 64 + d.val := by show 64 * 1 + d.val = 64 + d.val; omega
    unfold kaR qaR
    rw [dif_neg (by omega), dif_neg (by omega), hv]
    by_cases h0 : d = 0
    · subst h0; simp
    by_cases h3 : d = 3
    · subst h3
      rw [if_neg (by decide), if_pos (by decide), if_neg (by decide), if_neg (by decide), if_pos (by decide), if_neg (by decide), if_pos rfl]; ring
    have n0 : d.val ≠ 0 := fun e => h0 (Fin.ext e)
    have n3 : d.val ≠ 3 := fun e => h3 (Fin.ext e)
    rw [if_neg h0, if_neg h3, add_zero]
    by_cases hx : d.val < 3
    · rw [if_pos (by omega), if_neg (by omega), if_pos (by omega)]; ring
    · rw [if_neg (by omega), if_neg (by omega), zero_mul]
  rw [Finset.sum_congr rfl fun d _ => e0 d, Finset.sum_congr rfl fun d _ => e1 d, Finset.sum_add_distrib,
    Finset.sum_ite_eq' Finset.univ (0 : Fin 64) (fun _ => t.c b h i), Finset.sum_ite_eq' Finset.univ (3 : Fin 64) (fun _ => -t.c b h j),
    if_pos (Finset.mem_univ _), if_pos (Finset.mem_univ _), ← Finset.sum_mul]
  unfold Dat.Lg; ring

/-- The row sums the kernel takes: the output's gradient times the output. -/
def Dl (i : Fin 4096) : ℝ := ∑ d, t.g b h i d * t.O b h i d

/-- No exponential past the diagonal. -/
theorem E_zero (i j : Fin 4096) (hij : i.val < j.val) : t.E b h i j = 0 := by unfold Dat.E; rw [if_neg (by omega)]
/-- No weight past the diagonal. -/
theorem P_zero (i j : Fin 4096) (hij : i.val < j.val) : t.P b h i j = 0 := by unfold Dat.P; rw [E_zero t b h i j hij, zero_div]
/-- No derivative of a logit past the diagonal. -/
theorem dS_zero (i j : Fin 4096) (hij : i.val < j.val) : t.dS b h i j = 0 := by unfold Dat.dS; rw [if_neg (by omega)]
/-- The kernel's row sums are the weighted sum of the weights' gradients. -/
theorem Dl_eq (i : Fin 4096) : Dl t b h i = ∑ j, t.P b h i j * t.G b h i j := by
  unfold Dl Dat.O Dat.G
  simp only [Finset.mul_sum]
  rw [Finset.sum_comm]
  exact Finset.sum_congr rfl fun j _ => Finset.sum_congr rfl fun d _ => by ring
/-- What passes through the rows' sums. -/
theorem S_eq (i : Fin 4096) : t.S b h i = Dl t b h i / t.Z b h i := by
  have hz := (t.Z_pos b h i).ne'
  rw [Dl_eq, Finset.sum_div]
  unfold Dat.S Dat.P
  refine Finset.sum_congr rfl fun j _ => ?_
  field_simp
/-- The kernel's form of the gradient of the logits is the reference's. -/
theorem dS_eq (i j : Fin 4096) : t.P b h i j * (t.G b h i j - Dl t b h i) = t.dS b h i j := by
  have hz := (t.Z_pos b h i).ne'
  by_cases hij : j.val ≤ i.val
  · unfold Dat.dS Dat.P
    rw [if_pos hij, S_eq]
    field_simp
    ring
  · rw [P_zero t b h i j (by omega), dS_zero t b h i j (by omega), zero_mul]
/-- The exponential from the log-sum-exp is the weight. -/
theorem exp_lse (i j : Fin 4096) (hij : j.val ≤ i.val) : Real.exp (t.Lg b h i j - (t.mx b h i + Real.log (t.Z b h i))) = t.P b h i j := by
  unfold Dat.P Dat.E
  rw [if_pos hij, ← sub_sub, Real.exp_sub _ (Real.log _), Real.exp_log (t.Z_pos b h i)]

/-- What the launch's operands hold. -/
structure Kern (K : FVec Ideal S8192x2048 .bf16) (Vv : FVec Ideal S8192x1024 .bf16) (Q : FVec Ideal S8192x2048 .bf16) (D O : FVec Ideal S8192x1024 .f32) (L : FVec Ideal S2x8x8x2x512 .f32) : Prop where
  hK : ∀ b p hh i l, K (ix2 (rowA b i) (lane2 p (hw hh l))) = ((kaR t b (hd p hh) i l : ℝ) : EReal)
  hQ : ∀ b p hh i l, Q (ix2 (rowA b i) (lane2 p (hw hh l))) = ((qaR t b (hd p hh) i l : ℝ) : EReal)
  hV : ∀ b p hh i d, Vv (ix2 (rowA b i) (lane1 p (hl hh d))) = ((t.v b (hd p hh) i d : ℝ) : EReal)
  hD : ∀ b p hh i d, D (ix2 (rowA b i) (lane1 p (hl hh d))) = ((t.g b (hd p hh) i d : ℝ) : EReal)
  hO : ∀ b p hh i d, O (ix2 (rowA b i) (lane1 p (hl hh d))) = ((t.O b (hd p hh) i d : ℝ) : EReal)
  hL : ∀ b p bb hh r, L (ix5 b p bb hh r) = ((t.mx b (hd p hh) (pos bb r) + Real.log (t.Z b (hd p hh) (pos bb r)) : ℝ) : EReal)

variable {t} {K : FVec Ideal S8192x2048 .bf16} {Vv : FVec Ideal S8192x1024 .bf16} {Q : FVec Ideal S8192x2048 .bf16} {D O : FVec Ideal S8192x1024 .f32} {L : FVec Ideal S2x8x8x2x512 .f32}
  (w : Kern t K Vv Q D O L) (p : Fin 8) (hh : Fin 2) (j bb : Fin 8)
include w

omit w in
/-- A row of a block by its position. -/
theorem rowB_eq (r : Fin 512) : rowB b j r = rowA b (pos j r) := Fin.ext (by show (b.val * 8 + j.val) * 512 + r.val = b.val * 4096 + (512 * j.val + r.val); omega)
/-- An entry of a block of keys. -/
theorem Kh_at (k : Fin 512) (l : Fin 128) : Kh (Bk K b p j) hh k l = ((kaR t b (hd p hh) (pos j k) l : ℝ) : EReal) := by
  rw [← w.hK, ← rowB_eq]; rfl
/-- An entry of a block of queries. -/
theorem Qb_at (r : Fin 512) (l : Fin 128) : Qb (Bq Q b p) hh bb r l = ((qaR t b (hd p hh) (pos bb r) l : ℝ) : EReal) := by
  rw [← w.hQ]; rfl
/-- An entry of a block of values. -/
theorem Vb_at (k : Fin 512) (d : Fin 64) : cur (Bv Vv b p j) k (hl hh d) = ((t.v b (hd p hh) (pos j k) d : ℝ) : EReal) := by
  rw [← w.hV, ← rowB_eq]; rfl
/-- An entry of a block of the output's gradient. -/
theorem Db_at (r : Fin 512) (d : Fin 64) : Db (Bo D b p) bb r (hl hh d) = ((t.g b (hd p hh) (pos bb r) d : ℝ) : EReal) := by
  rw [← w.hD]; rfl
/-- An entry of a block of the output. -/
theorem Ob_at (r : Fin 512) (d : Fin 64) : Db (Bo O b p) bb r (hl hh d) = ((t.O b (hd p hh) (pos bb r) d : ℝ) : EReal) := by
  rw [← w.hO]; rfl
/-- An entry of a block's log-sum-exp. -/
theorem Ls_at (r : Fin 512) : Ls (Bl L b p) hh bb r = ((t.mx b (hd p hh) (pos bb r) + Real.log (t.Z b (hd p hh) (pos bb r)) : ℝ) : EReal) := by
  rw [← w.hL]; rfl

omit w in
/-- Zero in the other head's lanes. -/
theorem dom_ne (f : Fin 512 → Fin 128 → EReal) (hn : Fin 2) (hne : hn ≠ hh) (r : Fin 512) (d : Fin 64) : domT hn f r (hl hh d) = 0 := by
  unfold domT inHead
  refine if_neg ?_
  have := d.isLt
  have hv : (hl hh d).val = 64 * hh.val + d.val := rfl
  have := hn.isLt; have := hh.isLt
  have hx : hn.val ≠ hh.val := fun e => hne (Fin.ext e)
  by_cases h0 : hn = 0
  · rw [if_pos h0]; subst h0
    have : (0 : Fin 2).val = 0 := rfl
    omega
  · rw [if_neg h0]
    have : hn.val ≠ 0 := fun e => h0 (Fin.ext e)
    omega
omit w in
/-- The head's own lanes. -/
theorem dom_eq (f : Fin 512 → Fin 128 → EReal) (r : Fin 512) (d : Fin 64) : domT hh f r (hl hh d) = f r (hl hh d) := by
  unfold domT inHead
  refine if_pos ?_
  have := d.isLt
  have hv : (hl hh d).val = 64 * hh.val + d.val := rfl
  have := hh.isLt
  by_cases h0 : hh = 0
  · rw [if_pos h0]; subst h0
    have : (0 : Fin 2).val = 0 := rfl
    omega
  · rw [if_neg h0]
    have : hh.val ≠ 0 := fun e => h0 (Fin.ext e)
    omega
omit w in
/-- A sum over the lanes of one head. -/
theorem sum_dom (x : Fin 128 → EReal) (f : Fin 512 → Fin 128 → EReal) (r : Fin 512) : ∑ l, x l * domT hh f r l = ∑ d, x (hl hh d) * f r (hl hh d) := by
  rw [sum128]
  by_cases h0 : hh = 0
  · subst h0
    rw [Finset.sum_congr rfl fun d _ => by rw [dom_eq 0 f r d]]
    rw [Finset.sum_eq_zero (f := fun d => x (hl 1 d) * domT 0 f r (hl 1 d)) fun d _ => by rw [dom_ne 1 f 0 (by decide), mul_zero], add_zero]
  · have h1 : hh = 1 := Fin.ext (by have : hh.val ≠ 0 := fun e => h0 (Fin.ext e); have := hh.isLt; show hh.val = 1; omega)
    subst h1
    rw [Finset.sum_eq_zero (f := fun d => x (hl 0 d) * domT 1 f r (hl 0 d)) fun d _ => by rw [dom_ne 0 f 1 (by decide), mul_zero], zero_add]
    exact Finset.sum_congr rfl fun d _ => by rw [dom_eq 1 f r d]

/-- When a tile of queries counts for a block of keys: on the diagonal, masked, or after it. -/
abbrev Counts (ms : Bool) (bb j : Fin 8) : Prop := (ms = true ∧ bb = j) ∨ (ms = false ∧ j.val < bb.val)

variable {bb j} {ms : Bool} (hc : Counts ms bb j)
include hc

/-- A tile of probabilities is the weights. -/
theorem pB_at (k r : Fin 512) : pB ms (Bk K b p j) (Bq Q b p) (Bl L b p) hh bb k r = ((t.P b (hd p hh) (pos bb r) (pos j k) : ℝ) : EReal) := by
  unfold pB pT
  have hdot : ∑ l, Kh (Bk K b p j) hh k l * Qb (Bq Q b p) hh bb r l = ((t.Lg b (hd p hh) (pos bb r) (pos j k) : ℝ) : EReal) := by
    rw [← dot_aug]
    exact csum _ _ fun l => cmul (Kh_at b w p hh j k l) (Qb_at b w p hh bb r l)
  rw [hdot, Ls_at b w p hh bb r]
  have hr := r.isLt
  have hk := k.isLt
  by_cases hm : ms = true ∧ r.val < k.val
  · rw [if_pos hm, EReal.bot_sub, Ideal.exp_bot, P_zero, EReal.coe_zero]
    rcases hc with ⟨_, e⟩ | ⟨e, _⟩
    · subst e; show 512 * bb.val + r.val < 512 * bb.val + k.val; omega
    · rw [e] at hm; exact absurd hm.1 (by decide)
  · rw [if_neg hm, ← EReal.coe_sub, Ideal.exp_coe, exp_lse]
    show 512 * j.val + k.val ≤ 512 * bb.val + r.val
    rcases hc with ⟨e1, e⟩ | ⟨_, e⟩
    · subst e
      have : ¬ r.val < k.val := fun x => hm ⟨e1, x⟩
      omega
    · omega
omit hc
/-- The kernel's row sums. -/
theorem dl_at (r : Fin 512) : Trip.Dl (dlS (Bo D b p) (Bo O b p)) hh bb r = ((Dl t b (hd p hh) (pos bb r) : ℝ) : EReal) := by
  show ∑ l, domT hh (fun r l => Db (Bo D b p) bb r l * Db (Bo O b p) bb r l) r l = _
  have e : ∀ l, domT hh (fun r l => Db (Bo D b p) bb r l * Db (Bo O b p) bb r l) r l = 1 * domT hh (fun r l => Db (Bo D b p) bb r l * Db (Bo O b p) bb r l) r l := fun l => (one_mul _).symm
  rw [Finset.sum_congr rfl fun l _ => e l, sum_dom hh (fun _ => 1)]
  exact csum _ _ fun d => by rw [one_mul]; exact cmul (Db_at b w p hh bb r d) (Ob_at b w p hh bb r d)
include hc
/-- A tile of the gradient of the logits. -/
theorem dsB_at (k r : Fin 512) : dsB ms (Bk K b p j) (cur (Bv Vv b p j)) (Bq Q b p) (Bo D b p) (Bl L b p) (dlS (Bo D b p) (Bo O b p)) hh bb k r
    = ((t.dS b (hd p hh) (pos bb r) (pos j k) : ℝ) : EReal) := by
  rw [← dS_eq]
  unfold dsB dsT
  refine cmul (pB_at b w p hh hc k r) (csub ?_ (dl_at b w p hh r))
  rw [sum_dom]
  exact csum _ _ fun d => by rw [mul_comm]; exact cmul (Db_at b w p hh bb r d) (Vb_at b w p hh j k d)
/-- What one query block adds to the keys' gradient. -/
theorem dkC_at (k : Fin 512) (l : Fin 128) : dkC ms (Bk K b p j) (cur (Bv Vv b p j)) (Bq Q b p) (Bo D b p) (Bl L b p) (dlS (Bo D b p) (Bo O b p)) hh bb k l
    = ((∑ r, t.dS b (hd p hh) (pos bb r) (pos j k) * qaR t b (hd p hh) (pos bb r) l : ℝ) : EReal) :=
  csum _ _ fun r => cmul (dsB_at b w p hh hc k r) (Qb_at b w p hh bb r l)
/-- What one key block adds to the queries' gradient. -/
theorem dqC_at (r : Fin 512) (l : Fin 128) : dqC ms (Bk K b p j) (cur (Bv Vv b p j)) (Bq Q b p) (Bo D b p) (Bl L b p) (dlS (Bo D b p) (Bo O b p)) hh bb r l
    = ((∑ k, t.dS b (hd p hh) (pos bb r) (pos j k) * kaR t b (hd p hh) (pos j k) l : ℝ) : EReal) :=
  csum _ _ fun k => cmul (dsB_at b w p hh hc k r) (Kh_at b w p hh j k l)
/-- What one query block adds to the values' gradient. -/
theorem dvC_at (k : Fin 512) (d : Fin 64) : dvC ms (Bk K b p j) (Bq Q b p) (Bo D b p) (Bl L b p) bb k (hl hh d)
    = ((∑ r, t.P b (hd p hh) (pos bb r) (pos j k) * t.g b (hd p hh) (pos bb r) d : ℝ) : EReal) := by
  unfold dvC
  have own : ∑ r, pB ms (Bk K b p j) (Bq Q b p) (Bl L b p) hh bb k r * domT hh (Db (Bo D b p) bb) r (hl hh d)
      = ((∑ r, t.P b (hd p hh) (pos bb r) (pos j k) * t.g b (hd p hh) (pos bb r) d : ℝ) : EReal) :=
    csum _ _ fun r => cmul (pB_at b w p hh hc k r) ((dom_eq hh _ r d).trans (Db_at b w p hh bb r d))
  have other : ∀ hn : Fin 2, hn ≠ hh → ∑ r, pB ms (Bk K b p j) (Bq Q b p) (Bl L b p) hn bb k r * domT hn (Db (Bo D b p) bb) r (hl hh d) = 0 := fun hn hne =>
    Finset.sum_eq_zero fun r _ => by rw [dom_ne hh _ hn hne, mul_zero]
  by_cases h0 : hh = 0
  · subst h0; rw [own, other 1 (by decide), add_zero]
  · have h1 : hh = 1 := Fin.ext (by have : hh.val ≠ 0 := fun e => h0 (Fin.ext e); have := hh.isLt; show hh.val = 1; omega)
    subst h1; rw [own, other 0 (by decide), zero_add]
omit hc

omit w in
/-- Positions in an earlier block come before. -/
theorem pos_lt {x y : Fin 8} (hxy : x.val < y.val) (r k : Fin 512) : (pos x r).val < (pos y k).val := by
  show 512 * x.val + r.val < 512 * y.val + k.val
  have := r.isLt
  omega
omit w in
/-- Adding up, from the diagonal on, what the blocks of queries add to a block of keys. -/
theorem from_diag (X : Fin 8 → EReal) (Y : Fin 8 → EReal) (f : Fin 4096 → ℝ) (jj : Fin 8) (hX : X jj = ((∑ r, f (pos jj r) : ℝ) : EReal))
    (hY : ∀ x : Fin 8, jj.val < x.val → Y x = ((∑ r, f (pos x r) : ℝ) : EReal)) (h0 : ∀ x : Fin 8, x.val < jj.val → ∀ r, f (pos x r) = 0) :
    X jj + ∑ x : Fin 8, (if jj.val < x.val then Y x else 0) = ((∑ i, f i : ℝ) : EReal) := by
  rw [sum_pos, sum_from _ jj fun x hx => Finset.sum_eq_zero fun r _ => h0 x hx r]
  refine cadd hX (csum _ _ fun x => ?_)
  split_ifs with hx
  · exact hY x hx
  · rfl
/-- The keys' gradient of a pair of heads. -/
theorem dkP_at (k : Fin 512) (l : Fin 128) : dkP K Vv Q D O L b p j hh k l
    = ((∑ i, t.dS b (hd p hh) i (pos j k) * qaR t b (hd p hh) i l : ℝ) : EReal) := by
  unfold dkP dkI
  exact from_diag (fun x => dkC true _ _ _ _ _ _ hh x k l) _ (fun i => t.dS b (hd p hh) i (pos j k) * qaR t b (hd p hh) i l) j
    (dkC_at b w p hh (Or.inl ⟨rfl, rfl⟩) k l) (fun x hx => dkC_at b w p hh (Or.inr ⟨rfl, hx⟩) k l)
    (fun x hx r => by rw [dS_zero t _ _ _ _ (pos_lt hx r k), zero_mul])
/-- The values' gradient of a pair of heads. -/
theorem dvP_at (k : Fin 512) (d : Fin 64) : dvP K Vv Q D O L b p j k (hl hh d)
    = ((∑ i, t.P b (hd p hh) i (pos j k) * t.g b (hd p hh) i d : ℝ) : EReal) := by
  unfold dvP dvI
  exact from_diag (fun x => dvC true _ _ _ _ x k (hl hh d)) _ (fun i => t.P b (hd p hh) i (pos j k) * t.g b (hd p hh) i d) j
    (dvC_at b w p hh (Or.inl ⟨rfl, rfl⟩) k d) (fun x hx => dvC_at b w p hh (Or.inr ⟨rfl, hx⟩) k d)
    (fun x hx r => by rw [P_zero t _ _ _ _ (pos_lt hx r k), zero_mul])
/-- What a block of keys adds to the queries' gradient. -/
theorem dqP_at (r : Fin 512) (l : Fin 128) : dqP K Vv Q D O L b p j hh bb r l
    = ((∑ k, t.dS b (hd p hh) (pos bb r) (pos j k) * kaR t b (hd p hh) (pos j k) l : ℝ) : EReal) := by
  unfold dqP dqI
  by_cases h1 : bb = j
  · rw [if_pos h1]; exact dqC_at b w p hh (Or.inl ⟨rfl, h1⟩) r l
  · rw [if_neg h1]
    by_cases h2 : j.val < bb.val
    · rw [if_pos h2]; exact dqC_at b w p hh (Or.inr ⟨rfl, h2⟩) r l
    · have h3 : bb.val < j.val := by have : bb.val ≠ j.val := fun e => h1 (Fin.ext e); omega
      rw [if_neg h2, Finset.sum_eq_zero fun k _ => by rw [dS_zero t _ _ _ _ (pos_lt h3 r k), zero_mul], EReal.coe_zero]
/-- The queries' gradient of a pair of heads. -/
theorem acc_at (r : Fin 512) (l : Fin 128) : acc K Vv Q D O L 8 b p hh bb r l
    = ((∑ i, t.dS b (hd p hh) (pos bb r) i * kaR t b (hd p hh) i l : ℝ) : EReal) := by
  unfold acc
  rw [sum_pos]
  exact csum _ _ fun x => (if_pos x.isLt).trans (dqP_at b w p hh r l)

end Cert.KernelIdeal.Ker

end
-- ==== Proof.Fin.lean ====
module

public import proofs.«01_k».proof.Proof.Host
public import proofs.«01_k».proof.Proof.Ker

@[expose] public section

set_option maxRecDepth 16384

noncomputable section

namespace Cert.KernelIdeal.Fin

open Cert.KernelIdeal Cert.KernelIdeal.Gen
open Idealize.ShloMosaic Idealize.ShloMosaic.TcCoe
open Cert.KernelIdeal.Pay Cert.KernelIdeal.Trip Cert.KernelIdeal.Val Cert.KernelIdeal.Run Cert.KernelIdeal.Host Cert.KernelIdeal.Ker
open Cert.ReferenceIdeal.Vals Cert.ReferenceIdeal.Read

/-! What the augmented operands hold. -/

section aug
variable {t : Dat} {x0 x1 x2 : FVec Ideal S8192x1024 .f32} {x3 : FVec Ideal S2x16x4096 .f32} {x4 : FVec Ideal S8192x1024 .f32}
  (w : Holds t x0 x1 x2 x3 x4) (b : Fin 2) (i : Fin 4096) (h : Fin 16)
include w

/-- The gates' cumulative logarithms. -/
theorem cn_real (z : Fin 1) : cn x3 (ix3 (rowA b i) h z) = ((t.c b h i : ℝ) : EReal) := by
  have : z = 0 := Subsingleton.elim _ _
  subst this
  rw [cn_at, w.hc]
/-- Their first piece is the whole. -/
theorem c1_real (z : Fin 1) : c1 x3 (ix3 (rowA b i) h z) = ((t.c b h i : ℝ) : EReal) := cn_real w b i h z
/-- Nothing remains after it. -/
theorem r1_real (z : Fin 1) : r1 x3 (ix3 (rowA b i) h z) = ((0 : ℝ) : EReal) :=
  (csub (cn_real w b i h z) (c1_real w b i h z)).trans (by rw [sub_self])
/-- The second piece is zero. -/
theorem c2_real (z : Fin 1) : c2 x3 (ix3 (rowA b i) h z) = ((0 : ℝ) : EReal) := r1_real w b i h z
/-- The third piece is zero. -/
theorem c3_real (z : Fin 1) : c3 x3 (ix3 (rowA b i) h z) = ((0 : ℝ) : EReal) :=
  (csub (r1_real w b i h z) (c2_real w b i h z)).trans (by rw [sub_self])
omit w in
/-- The three lanes of ones. -/
theorem ones3_real (n : Fin 8192) (z : Fin 3) : ones3 (ix3 n h z) = ((1 : ℝ) : EReal) := by
  show Ideal.ofBits .bf16 0x3F80#16 = _
  simp [Ideal.ofBits, Ideal.ieee, -EReal.coe_mul] <;> norm_num
omit w in
/-- The lanes of zeros. -/
theorem zeros58_real (n : Fin 8192) (z : Fin 58) : zeros58 (ix3 n h z) = ((0 : ℝ) : EReal) := by
  show Ideal.ofBits .bf16 0x0000#16 = _
  simp [Ideal.ofBits, Ideal.ieee]

/-- The query's lanes, extra ones included. -/
theorem qa3_at (l : Fin 128) : qa3 x0 x3 (ix3 (rowA b i) h l) = ((qaR t b h i l : ℝ) : EReal) := by
  unfold qa3
  pointwise
  by_cases h1 : l.val < 64
  · rw [dif_pos h1, qs_at]
    exact (cmul (w.hq b h i ⟨l.val, h1⟩) eighth).trans (congrArg _ (by unfold qaR; rw [dif_pos h1]))
  rw [dif_neg h1]
  by_cases h2 : l.val - 64 < 1
  · rw [dif_pos h2]; exact (c1_real w b i h _).trans (congrArg _ (by unfold qaR; rw [dif_neg h1, if_pos (by omega)]))
  rw [dif_neg h2]
  by_cases h3 : l.val - 64 - 1 < 1
  · rw [dif_pos h3]; exact (c2_real w b i h _).trans (congrArg _ (by unfold qaR; rw [dif_neg h1, if_neg (by omega), if_pos (by omega)]))
  rw [dif_neg h3]
  by_cases h4 : l.val - 64 - 1 - 1 < 1
  · rw [dif_pos h4]; exact (c3_real w b i h _).trans (congrArg _ (by unfold qaR; rw [dif_neg h1, if_neg (by omega), if_pos (by omega)]))
  rw [dif_neg h4]
  by_cases h5 : l.val - 64 - 1 - 1 - 1 < 3
  · rw [dif_pos h5]; exact (ones3_real h _ _).trans (congrArg _ (by unfold qaR; rw [dif_neg h1, if_neg (by omega), if_neg (by omega), if_pos (by omega)]))
  rw [dif_neg h5]; exact (zeros58_real h _ _).trans (congrArg _ (by unfold qaR; rw [dif_neg h1, if_neg (by omega), if_neg (by omega), if_neg (by omega)]))

/-- The key's lanes, extra ones included. -/
theorem ka3_at (l : Fin 128) : ka3 x1 x3 (ix3 (rowA b i) h l) = ((kaR t b h i l : ℝ) : EReal) := by
  unfold ka3
  pointwise
  by_cases h1 : l.val < 64
  · rw [dif_pos h1, ks_at]
    exact (w.hk b h i ⟨l.val, h1⟩).trans (congrArg _ (by unfold kaR; rw [dif_pos h1]))
  rw [dif_neg h1]
  by_cases h2 : l.val - 64 < 3
  · rw [dif_pos h2]; exact (ones3_real h _ _).trans (congrArg _ (by unfold kaR; rw [dif_neg h1, if_pos (by omega)]))
  rw [dif_neg h2]
  by_cases h3 : l.val - 64 - 3 < 1
  · rw [dif_pos h3]; exact (cneg (c1_real w b i h _)).trans (congrArg _ (by unfold kaR; rw [dif_neg h1, if_neg (by omega), if_pos (by omega)]))
  rw [dif_neg h3]
  by_cases h4 : l.val - 64 - 3 - 1 < 1
  · rw [dif_pos h4]; exact (cneg (c2_real w b i h _)).trans (congrArg _ (by unfold kaR; rw [dif_neg h1, if_neg (by omega), if_neg (by omega), neg_zero]))
  rw [dif_neg h4]
  by_cases h5 : l.val - 64 - 3 - 1 - 1 < 1
  · rw [dif_pos h5]; exact (cneg (c3_real w b i h _)).trans (congrArg _ (by unfold kaR; rw [dif_neg h1, if_neg (by omega), if_neg (by omega), neg_zero]))
  rw [dif_neg h5]; exact (zeros58_real h _ _).trans (congrArg _ (by unfold kaR; rw [dif_neg h1, if_neg (by omega), if_neg (by omega)]))
end aug

section launch
variable (m : (ℓ : Loc nD τ sig) → Buf (Elt Ideal) ℓ) (c : Dev nD)

/-- A wide lane of a pair of heads by head. -/
theorem lane2_eq (p : Fin 8) (hh : Fin 2) (l : Fin 128) : lane2 p (hw hh l) = ⟨128 * (hd p hh).val + l.val, by omega⟩ :=
  Fin.ext (by show p.val * 256 + (128 * hh.val + l.val) = 128 * (2 * p.val + hh.val) + l.val; omega)
/-- A lane of a pair of heads by head. -/
theorem lane1_eq (p : Fin 8) (hh : Fin 2) (d : Fin 64) : lane1 p (hl hh d) = lane (hd p hh) d :=
  Fin.ext (by show p.val * 128 + (64 * hh.val + d.val) = 64 * (2 * p.val + hh.val) + d.val; omega)

/-- The launch's operands hold the augmented arrays, the values, the output's gradient, the output and the log-sum-exp. -/
theorem kern {t : Dat} (w : Holds t (a0 m c) (a1 m c) (a2 m c) (a3 m c) (a4 m c))
    (hm : ∀ b h i, val_main_v28 (F := Ideal) (a0 m c) (a1 m c) (a3 m c) (ix3 b h i) = ((t.mx b h i : ℝ) : EReal)) :
    Kern t (V m c main_v64) (V m c main_v65) (V m c main_v57) (V m c main_arg4) (V m c main_v34) (V m c main_v67) where
  hK b p hh i l := by
    rw [v64_eq, lane2_eq, flat]; exact ka3_at w b i (hd p hh) l
  hQ b p hh i l := by
    rw [v57_eq, lane2_eq, flat]; exact qa3_at w b i (hd p hh) l
  hV b p hh i d := by
    rw [v65_eq, lane1_eq]; exact w.hv b (hd p hh) i d
  hD b p hh i d := by
    rw [V_main_arg4, lane1_eq]; exact w.hg b (hd p hh) i d
  hO b p hh i d := by
    rw [v34_eq, lane1_eq]; exact v53_at b (hd p hh) w hm i d
  hL b p bb hh r := by
    rw [v67_eq, lrow_at]
    have e1 := hm b (hd p hh) (pos bb r)
    rw [v28_eq] at e1
    have e2 := v42_at b (hd p hh) w hm (pos bb r)
    refine cadd e1 ?_
    refine (congrArg Ideal.log e2).trans ?_
    rw [Ideal.log_coe, if_neg (not_le.2 (t.Z_pos _ _ _))]
end launch

/-- The key's first lanes are its own. -/
theorem kaR_lo (t : Dat) (b : Fin 2) (h : Fin 16) (j : Fin 4096) (l : Fin 128) (d : Fin 64) (e : l.val = d.val) : kaR t b h j l = t.k b h j d := by
  unfold kaR
  rw [dif_pos (by have := d.isLt; omega)]
  exact congrArg _ (Fin.ext e)
/-- The query's first lanes are its own, scaled. -/
theorem qaR_lo (t : Dat) (b : Fin 2) (h : Fin 16) (i : Fin 4096) (l : Fin 128) (d : Fin 64) (e : l.val = d.val) : qaR t b h i l = t.q b h i d * (1 / 8) := by
  unfold qaR
  rw [dif_pos (by have := d.isLt; omega)]
  exact congrArg (fun z => t.q b h i z * (1 / 8)) (Fin.ext e)

section results
variable {t : Dat} {x0 x1 x2 : FVec Ideal S8192x1024 .f32} {x3 : FVec Ideal S2x16x4096 .f32} {x4 : FVec Ideal S8192x1024 .f32}
  (w : Holds t x0 x1 x2 x3 x4) (hm : ∀ b h i, val_main_v28 (F := Ideal) x0 x1 x3 (ix3 b h i) = ((t.mx b h i : ℝ) : EReal))
  {K : FVec Ideal S8192x2048 .bf16} {Vv : FVec Ideal S8192x1024 .bf16} {Q : FVec Ideal S8192x2048 .bf16} {D O : FVec Ideal S8192x1024 .f32} {L : FVec Ideal S2x8x8x2x512 .f32}
  (g : Kern t K Vv Q D O L)
include w hm g

omit w hm g in
/-- Any index of a row per token is a position's in a block and a lane's in a head. -/
theorem row_idx (y : S8192x1024.Idx) (b : Fin 2) (bb : Fin 8) (r : Fin 512) (p : Fin 8) (hh : Fin 2) (d : Fin 64)
    (h0 : (y 0).val = b.val * 4096 + (512 * bb.val + r.val)) (h1 : (y 1).val = 64 * (2 * p.val + hh.val) + d.val) :
    y = ix2 (tok b (pos bb r)) (lane (hd p hh) d) := Shape.idx_ext₂ h0 h1

/-- The gradient of the queries. -/
theorem dq_eq : Gdq K Vv Q D O L = val_main_v88 (F := Ideal) x0 x1 x2 x3 x4 := by
  funext y
  have b0 : (y 0).val < 8192 := (y 0).isLt
  have b1 : (y 1).val < 1024 := (y 1).isLt
  have key : ∀ (hh : Fin 2) (d : Fin 64) (l : Fin 128) (hl : l.val = d.val) (hd1 : (y 1).val % 128 = 64 * hh.val + d.val),
      acc K Vv Q D O L 8 ⟨(y 0).val / 4096, Nat.div_lt_of_lt_mul b0⟩ ⟨(y 1).val / 128, Nat.div_lt_of_lt_mul b1⟩ hh
        ⟨(y 0).val % 4096 / 512, Nat.div_lt_of_lt_mul (Nat.mod_lt _ (by decide))⟩ ⟨(y 0).val % 512, Nat.mod_lt _ (by decide)⟩ l
        * Ideal.ofBits .f32 0x3E000000#32 = val_main_v88 (F := Ideal) x0 x1 x2 x3 x4 y := fun hh d l hl hd1 => by
    refine Eq.trans ?_ (congrArg _ (row_idx y ⟨(y 0).val / 4096, Nat.div_lt_of_lt_mul b0⟩ ⟨(y 0).val % 4096 / 512, Nat.div_lt_of_lt_mul (Nat.mod_lt _ (by decide))⟩
      ⟨(y 0).val % 512, Nat.mod_lt _ (by decide)⟩ ⟨(y 1).val / 128, Nat.div_lt_of_lt_mul b1⟩ hh d (by show (y 0).val = (y 0).val / 4096 * 4096 + (512 * ((y 0).val % 4096 / 512) + (y 0).val % 512); omega)
      (by show (y 1).val = 64 * (2 * ((y 1).val / 128) + hh.val) + d.val; omega)).symm)
    rw [v88_at _ _ w hm]
    refine (cmul (acc_at _ g _ _ _ _) eighth).trans (congrArg _ ?_)
    rw [Finset.sum_mul]
    refine Finset.sum_congr rfl fun j _ => ?_
    rw [kaR_lo t _ _ j l d hl]; ring
  unfold Gdq
  by_cases hx : (y 1).val % 128 < 64
  · simp only [hx, dite_true]
    exact key 0 ⟨(y 1).val % 128, hx⟩ _ rfl (by show (y 1).val % 128 = 64 * 0 + (y 1).val % 128; omega)
  · simp only [hx, dite_false]
    exact key 1 ⟨(y 1).val % 128 - 64, by omega⟩ _ rfl (by show (y 1).val % 128 = 64 * 1 + ((y 1).val % 128 - 64); omega)

/-- The gradient of the keys. -/
theorem dk_eq : Gdk K Vv Q D O L = val_main_v86 (F := Ideal) x0 x1 x2 x3 x4 := by
  funext y
  have b0 : (y 0).val < 8192 := (y 0).isLt
  have b1 : (y 1).val < 1024 := (y 1).isLt
  have key : ∀ (hh : Fin 2) (d : Fin 64) (l : Fin 128) (hl : l.val = d.val) (hd1 : (y 1).val % 128 = 64 * hh.val + d.val),
      dkP K Vv Q D O L ⟨(y 0).val / 4096, Nat.div_lt_of_lt_mul b0⟩ ⟨(y 1).val / 128, Nat.div_lt_of_lt_mul b1⟩
        ⟨(y 0).val % 4096 / 512, Nat.div_lt_of_lt_mul (Nat.mod_lt _ (by decide))⟩ hh ⟨(y 0).val % 512, Nat.mod_lt _ (by decide)⟩ l
        = val_main_v86 (F := Ideal) x0 x1 x2 x3 x4 y := fun hh d l hl hd1 => by
    refine Eq.trans ?_ (congrArg _ (row_idx y ⟨(y 0).val / 4096, Nat.div_lt_of_lt_mul b0⟩ ⟨(y 0).val % 4096 / 512, Nat.div_lt_of_lt_mul (Nat.mod_lt _ (by decide))⟩
      ⟨(y 0).val % 512, Nat.mod_lt _ (by decide)⟩ ⟨(y 1).val / 128, Nat.div_lt_of_lt_mul b1⟩ hh d (by show (y 0).val = (y 0).val / 4096 * 4096 + (512 * ((y 0).val % 4096 / 512) + (y 0).val % 512); omega)
      (by show (y 1).val = 64 * (2 * ((y 1).val / 128) + hh.val) + d.val; omega)).symm)
    rw [v86_at _ _ w hm]
    refine (dkP_at _ g _ _ _ _).trans (congrArg _ ?_)
    refine Finset.sum_congr rfl fun i _ => ?_
    rw [qaR_lo t _ _ i l d hl]; ring
  unfold Gdk
  by_cases hx : (y 1).val % 128 < 64
  · simp only [hx, dite_true]
    exact key 0 ⟨(y 1).val % 128, hx⟩ _ rfl (by show (y 1).val % 128 = 64 * 0 + (y 1).val % 128; omega)
  · simp only [hx, dite_false]
    exact key 1 ⟨(y 1).val % 128 - 64, by omega⟩ _ rfl (by show (y 1).val % 128 = 64 * 1 + ((y 1).val % 128 - 64); omega)

/-- The gradient of the values. -/
theorem dv_eq : Gdv K Vv Q D O L = val_main_v60 (F := Ideal) x0 x1 x3 x4 := by
  funext y
  have b0 : (y 0).val < 8192 := (y 0).isLt
  have b1 : (y 1).val < 1024 := (y 1).isLt
  have key : ∀ (hh : Fin 2) (d : Fin 64) (hd1 : (y 1).val % 128 = 64 * hh.val + d.val),
      dvP K Vv Q D O L ⟨(y 0).val / 4096, Nat.div_lt_of_lt_mul b0⟩ ⟨(y 1).val / 128, Nat.div_lt_of_lt_mul b1⟩
        ⟨(y 0).val % 4096 / 512, Nat.div_lt_of_lt_mul (Nat.mod_lt _ (by decide))⟩ ⟨(y 0).val % 512, Nat.mod_lt _ (by decide)⟩ ⟨(y 1).val % 128, Nat.mod_lt _ (by decide)⟩
        = val_main_v60 (F := Ideal) x0 x1 x3 x4 y := fun hh d hd1 => by
    refine Eq.trans ?_ (congrArg _ (row_idx y ⟨(y 0).val / 4096, Nat.div_lt_of_lt_mul b0⟩ ⟨(y 0).val % 4096 / 512, Nat.div_lt_of_lt_mul (Nat.mod_lt _ (by decide))⟩
      ⟨(y 0).val % 512, Nat.mod_lt _ (by decide)⟩ ⟨(y 1).val / 128, Nat.div_lt_of_lt_mul b1⟩ hh d (by show (y 0).val = (y 0).val / 4096 * 4096 + (512 * ((y 0).val % 4096 / 512) + (y 0).val % 512); omega)
      (by show (y 1).val = 64 * (2 * ((y 1).val / 128) + hh.val) + d.val; omega)).symm)
    rw [v60_at _ _ w hm]
    have el : (⟨(y 1).val % 128, Nat.mod_lt _ (by decide)⟩ : Fin 128) = hl hh d := Fin.ext hd1
    refine (congrArg (dvP K Vv Q D O L _ _ _ _) el).trans ?_
    refine (dvP_at _ g _ _ _ _).trans (congrArg _ ?_)
    exact Finset.sum_congr rfl fun i _ => mul_comm _ _
  by_cases hx : (y 1).val % 128 < 64
  · exact key 0 ⟨(y 1).val % 128, hx⟩ (by show (y 1).val % 128 = 64 * 0 + (y 1).val % 128; omega)
  · exact key 1 ⟨(y 1).val % 128 - 64, by omega⟩ (by show (y 1).val % 128 = 64 * 1 + ((y 1).val % 128 - 64); omega)

/-- The gradient of the gates on the queries' side. -/
theorem dcc_eq : Gdcc K Vv Q D O L = val_main_v90 (F := Ideal) x0 x1 x2 x3 x4 := by
  funext y
  have b2 : (y 2).val < 4096 := (y 2).isLt
  have ey : y = ix4 (y 0) (y 1) (pos ⟨(y 2).val / 512, Nat.div_lt_of_lt_mul b2⟩ ⟨(y 2).val % 512, Nat.mod_lt _ (by decide)⟩) (y 3) :=
    funext fun a => match a with
      | ⟨0, _⟩ => rfl | ⟨1, _⟩ => rfl | ⟨3, _⟩ => rfl
      | ⟨2, _⟩ => Fin.ext (by show (y 2).val = 512 * ((y 2).val / 512) + (y 2).val % 512; omega)
  refine Eq.trans ?_ ((congrArg (val_main_v90 (F := Ideal) x0 x1 x2 x3 x4) ey).trans (v90_at (y 0) (hd (y 1) (y 3)) w hm (y 1) (y 3) rfl _)).symm
  refine (acc_at (y 0) g (y 1) (y 3) _ 64).trans (congrArg _ ?_)
  exact Finset.sum_congr rfl fun j _ => mul_one _

/-- The gradient of the gates on the keys' side. -/
theorem dck_eq : Gdck K Vv Q D O L = val_main_v92 (F := Ideal) x0 x1 x2 x3 x4 := by
  funext y
  have b2 : (y 2).val < 4096 := (y 2).isLt
  have ey : y = ix4 (y 0) (y 1) (pos ⟨(y 2).val / 512, Nat.div_lt_of_lt_mul b2⟩ ⟨(y 2).val % 512, Nat.mod_lt _ (by decide)⟩) (y 3) :=
    funext fun a => match a with
      | ⟨0, _⟩ => rfl | ⟨1, _⟩ => rfl | ⟨3, _⟩ => rfl
      | ⟨2, _⟩ => Fin.ext (by show (y 2).val = 512 * ((y 2).val / 512) + (y 2).val % 512; omega)
  refine Eq.trans ?_ ((congrArg (val_main_v92 (F := Ideal) x0 x1 x2 x3 x4) ey).trans (v92_at (y 0) (hd (y 1) (y 3)) w hm (y 1) (y 3) rfl _)).symm
  refine (csub EReal.coe_zero.symm (dkP_at (y 0) g (y 1) (y 3) _ 67)).trans (congrArg _ ?_)
  rw [zero_sub, ← Finset.sum_neg_distrib]
  exact Finset.sum_congr rfl fun j _ => congrArg _ (mul_one _)
end results

end Cert.KernelIdeal.Fin

end
-- ==== Proof.Fine.lean ====
module

public import proofs.«01_k».proof.Proof.Body
public import proofs.«01_k».proof.Proof.Out
public import proofs.«01_k».proof.Proof.Fin
public import proofs.«01_k».proof.Proof.Gen.ReferenceIdeal.Run
public import proofs.«01_k».proof.Defs
public import Idealize.ShloMosaic.Lib.ReduceAll
public import Idealize.ShloMosaic.Adequacy

@[expose] public section

set_option maxRecDepth 16384

noncomputable section

namespace Cert.Fine

open Idealize.ShloMosaic Idealize.ShloMosaic.TcCoe Idealize.SL.Sem
open Cert.ReferenceIdeal.Read Cert.ReferenceIdeal.Vals
open Cert.KernelIdeal.Host (a0 a1 a2 a3 a4)

/-- The side conditions of the precondition's operations. -/
instance pre_facts : Cert.Pre_all_finite.Facts where
  bcast_S_S8192x1024 := by decide
  reducesTo_S8192x1024_S_d0_1 := by decide
  h_S_ := by decide
  bcast_S_S2x16x4096 := by decide
  reducesTo_S2x16x4096_S_d0_1_2 := by decide

/-- A value whose size compares below infinity is real. -/
theorem real_of_olt (x : EReal) (h : Ideal.cmp .olt (max x (-x)) (Ideal.ofBits .f32 0x7F800000#32) = 1#1) : ((x.toReal : ℝ) : EReal) = x := by
  have hi : Ideal.ofBits .f32 0x7F800000#32 = (⊤ : EReal) := by simp [Ideal.ofBits, Ideal.ieee]
  rw [hi] at h
  induction x with
  | bot => simp [Ideal.cmp] at h
  | top => simp [Ideal.cmp] at h
  | coe r => rfl

/-- Both conjuncts of a one-bit `and` that is 1 are 1. -/
theorem and_one {a b : BitVec 1} (h : IntOp.andi a b = 1#1) : a = 1#1 ∧ b = 1#1 := by
  revert a b; decide

/-- A scalar has one index. -/
instance : Subsingleton Cert.Pre_all_finite.S_.Idx := ⟨fun a b => funext fun x => x.elim0⟩

/-- An operand of two axes whose comparisons are all 1 is real throughout. -/
theorem real2 (x : FVec Ideal Cert.Pre_all_finite.S8192x1024 .f32) (init : Cert.Pre_all_finite.S_.Idx → BitVec 1) (j : Cert.Pre_all_finite.S_.Idx)
    (e : Host.reduce IntOp.andi (cmpf .olt (Host.absf x) (broadcastInDim Cert.Pre_all_finite.S8192x1024 ![] Cert.Pre_all_finite.Facts.bcast_S_S8192x1024
        (constant (F := Ideal) Cert.Pre_all_finite.S_ .f32 0x7F800000#32))) init Cert.Pre_all_finite.Facts.reducesTo_S8192x1024_S_d0_1 Cert.Pre_all_finite.Facts.h_S_ j = 1#1) (i) :
    ((EReal.toReal (x i) : ℝ) : EReal) = x i :=
  real_of_olt (x i) (Host.reduce_andi_all _ init _ _ j e i)

/-- An operand of three axes whose comparisons are all 1 is real throughout. -/
theorem real3 (x : FVec Ideal Cert.Pre_all_finite.S2x16x4096 .f32) (init : Cert.Pre_all_finite.S_.Idx → BitVec 1) (j : Cert.Pre_all_finite.S_.Idx)
    (e : Host.reduce IntOp.andi (cmpf .olt (Host.absf x) (broadcastInDim Cert.Pre_all_finite.S2x16x4096 ![] Cert.Pre_all_finite.Facts.bcast_S_S2x16x4096
        (constant (F := Ideal) Cert.Pre_all_finite.S_ .f32 0x7F800000#32))) init Cert.Pre_all_finite.Facts.reducesTo_S2x16x4096_S_d0_1_2 Cert.Pre_all_finite.Facts.h_S_ j = 1#1) (i) :
    ((EReal.toReal (x i) : ℝ) : EReal) = x i :=
  real_of_olt (x i) (Host.reduce_andi_all _ init _ _ j e i)

/-- Under the precondition every entry of the five operands is real. -/
theorem all_real (x0 x1 x2 : FVec Ideal Cert.Pre_all_finite.S8192x1024 .f32) (x3 : FVec Ideal Cert.Pre_all_finite.S2x16x4096 .f32) (x4 : FVec Ideal Cert.Pre_all_finite.S8192x1024 .f32)
    (j : Cert.Pre_all_finite.S_.Idx) (e : Cert.Pre_all_finite.fn (F := Ideal) x0 x1 x2 x3 x4 j = 1#1) :
    (∀ i, ((EReal.toReal (x0 i) : ℝ) : EReal) = x0 i) ∧ (∀ i, ((EReal.toReal (x1 i) : ℝ) : EReal) = x1 i) ∧ (∀ i, ((EReal.toReal (x2 i) : ℝ) : EReal) = x2 i)
      ∧ (∀ i, ((EReal.toReal (x3 i) : ℝ) : EReal) = x3 i) ∧ (∀ i, ((EReal.toReal (x4 i) : ℝ) : EReal) = x4 i) := by
  obtain ⟨e1, h4⟩ := and_one e
  obtain ⟨e2, h3⟩ := and_one e1
  obtain ⟨e3, h2⟩ := and_one e2
  obtain ⟨h0, h1⟩ := and_one e3
  exact ⟨fun i => real2 x0 _ j h0 i, fun i => real2 x1 _ j h1 i, fun i => real2 x2 _ j h2 i, fun i => real3 x3 _ j h3 i, fun i => real2 x4 _ j h4 i⟩

/-- The operands as real arrays, given each row's largest logit. -/
def dat (x0 x1 x2 : FVec Ideal Cert.Pre_all_finite.S8192x1024 .f32) (x3 : FVec Ideal Cert.Pre_all_finite.S2x16x4096 .f32) (x4 : FVec Ideal Cert.Pre_all_finite.S8192x1024 .f32)
    (mx : Fin 2 → Fin 16 → Fin 4096 → ℝ) : Dat where
  q b h i d := EReal.toReal (x0 (ix2 (tok b i) (lane h d)))
  k b h i d := EReal.toReal (x1 (ix2 (tok b i) (lane h d)))
  v b h i d := EReal.toReal (x2 (ix2 (tok b i) (lane h d)))
  c b h i := EReal.toReal (x3 (ix3 b h i))
  g b h i d := EReal.toReal (x4 (ix2 (tok b i) (lane h d)))
  mx := mx

/-- Real operands, and the real largest logits, as the two sides read them. -/
theorem exists_dat (x0 x1 x2 : FVec Ideal Cert.Pre_all_finite.S8192x1024 .f32) (x3 : FVec Ideal Cert.Pre_all_finite.S2x16x4096 .f32) (x4 : FVec Ideal Cert.Pre_all_finite.S8192x1024 .f32)
    (j : Cert.Pre_all_finite.S_.Idx) (e : Cert.Pre_all_finite.fn (F := Ideal) x0 x1 x2 x3 x4 j = 1#1) :
    ∃ t : Dat, Holds t x0 x1 x2 x3 x4 ∧ ∀ b h i, val_main_v28 (F := Ideal) x0 x1 x3 (ix3 b h i) = ((t.mx b h i : ℝ) : EReal) := by
  obtain ⟨h0, h1, h2, h3, h4⟩ := all_real x0 x1 x2 x3 x4 j e
  have w : ∀ mx, Holds (dat x0 x1 x2 x3 x4 mx) x0 x1 x2 x3 x4 := fun mx =>
    ⟨fun _ _ _ _ => (h0 _).symm, fun _ _ _ _ => (h1 _).symm, fun _ _ _ _ => (h2 _).symm, fun _ _ _ => (h3 _).symm, fun _ _ _ _ => (h4 _).symm⟩
  have r : ∀ b h i, ∃ M : ℝ, val_main_v28 (F := Ideal) x0 x1 x3 (ix3 b h i) = ((M : ℝ) : EReal) := fun b h i => by
    obtain ⟨M, hM⟩ := v21_real b h (w fun _ _ _ => 0) i
    exact ⟨M, (congrFun (Cert.KernelIdeal.Host.v28_eq x0 x1 x3) _).trans hM⟩
  choose mx hmx using r
  exact ⟨dat x0 x1 x2 x3 x4 mx, w mx, hmx⟩

/-- The reference declares no semaphore. -/
theorem ref_no_sems : Cert.ReferenceIdeal.sig.nSem + Cert.ReferenceIdeal.sig.nDmaSem = 0 := by decide

/-- The reference leaves its arguments as they were and every semaphore at zero. -/
theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) ∧ r.2.sem = fun _ => 0) :=
  (θ_run (Cert.ReferenceIdeal.defs (F := Ideal)) _ _).mono (fun r h => ⟨fun c => ⟨(h c).2.2.2.2.2.1, (h c).2.2.2.2.2.2.1, (h c).2.2.2.2.2.2.2.1, (h c).2.2.2.2.2.2.2.2.1, (h c).2.2.2.2.2.2.2.2.2⟩,
      Idealize.ShloMosaic.sem_eq_zero_of_no_sems ref_no_sems r.2⟩) (Cert.ReferenceIdeal.Value.run (F := Ideal) m ρ)

/-- The value claim: on finite operands the kernel's five gradients are the reference's. -/
theorem value : Cert.algebraic_KernelIdeal_ReferenceIdeal_pre_all_finite := by
  intro m g m' g' hp hag
  refine ⟨fun c => val_main_v88 (F := Ideal) (a0 m c) (a1 m c) (a2 m c) (a3 m c) (a4 m c), fun c => val_main_v90 (F := Ideal) (a0 m c) (a1 m c) (a2 m c) (a3 m c) (a4 m c),
    fun c => val_main_v86 (F := Ideal) (a0 m c) (a1 m c) (a2 m c) (a3 m c) (a4 m c), fun c => val_main_v60 (F := Ideal) (a0 m c) (a1 m c) (a3 m c) (a4 m c),
    fun c => val_main_v92 (F := Ideal) (a0 m c) (a1 m c) (a2 m c) (a3 m c) (a4 m c),
    (θ_run _ _ _).mono (fun r h c => ?_) (Cert.KernelIdeal.Run.run_vals m g),
    (θ_run _ _ _).mono (fun r h c => ?_) (Cert.ReferenceIdeal.Value.run (F := Ideal) m' g')⟩
  · obtain ⟨⟨k0, k1, k2, k3, k4⟩, ka⟩ := h.1 c
    obtain ⟨t, w, hm⟩ := exists_dat _ _ _ _ _ (fun x => x.elim0) (congrFun (hp c) (fun x => x.elim0))
    have K := Cert.KernelIdeal.Fin.kern m c w hm
    exact ⟨k0.trans (Cert.KernelIdeal.Fin.dq_eq w hm K), k1.trans (Cert.KernelIdeal.Fin.dcc_eq w hm K), k2.trans (Cert.KernelIdeal.Fin.dk_eq w hm K),
      k3.trans (Cert.KernelIdeal.Fin.dv_eq w hm K), k4.trans (Cert.KernelIdeal.Fin.dck_eq w hm K), ka⟩
  · obtain ⟨e0, e1, e2, e3, e4⟩ := hag c
    obtain ⟨r0, r1, r2, r3, r4, ra⟩ := h c
    refine ⟨r0.trans ((val_main_v88_eq m' c).trans ?_), r1.trans ((val_main_v90_eq m' c).trans ?_), r2.trans ((val_main_v86_eq m' c).trans ?_),
      r3.trans ((val_main_v60_eq m' c).trans ?_), r4.trans ((val_main_v92_eq m' c).trans ?_), ra⟩
    · rw [e0, e1, e2, e3, e4]
    · rw [e0, e1, e2, e3, e4]
    · rw [e0, e1, e2, e3, e4]
    · rw [e0, e1, e3, e4]
    · rw [e0, e1, e2, e3, e4]

end Cert.Fine

end
-- ==== Proof.FfnTile.lean ====
module

public import proofs.«01_k».proof.Proof.Gen.Kernel2Ideal.Value
public import Idealize.ShloMosaic.Lib.Tactic

@[expose] public section

set_option maxRecDepth 16384

noncomputable section

namespace Cert.Kernel2Ideal.Tile

open Cert.Kernel2Ideal Cert.Kernel2Ideal.Gen
open Idealize.ShloMosaic Idealize.ShloMosaic.TcCoe Idealize.ShloMosaic.Tactic
open Idealize.SL Idealize.SL.Sem

variable {F : FTy → Type} [FloatOps F]

/-- A read that starts at the origin of a matrix starts at zero on both axes. -/
theorem hz : (![0, 0] : Fin 2 → Nat) = fun _ => 0 := funext fun a => by fin_cases a <;> rfl

/-- The kernel's flag: this tile is the first of its sequence. -/
def fst (i : grid0.Coords) : BitVec 1 :=
  let arg1 : BitVec 32 := BitVec.ofNat 32 (i 1).val
  let v0 : BitVec 1 := Scalar.cmpi .eq 16#32 0#32
  let v1 : BitVec 32 := Scalar.select v0 1#32 16#32
  let v2 : BitVec 32 := Scalar.remsi arg1 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 0#32

section tile
variable (i : grid0.Coords) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32)

/-- The tile's value rows, with their halos, as the body joins them. -/
def t36 : FVec F S272x2816 .f32 := k0_pay5 (fst i) x0 k0_pay4 x1 x2
/-- The same rows one row later. -/
def t37 : FVec F S272x2816 .f32 := k0_pay6 (fst i) x0 k0_pay4 x1 x2
/-- The same rows two rows later. -/
def t38 : FVec F S272x2816 .f32 := k0_pay7 (fst i) x0 k0_pay4 x1 x2
/-- The tile's gate rows, with their halos, as the body joins them. -/
def t44 : FVec F S272x2816 .f32 := k0_pay8 (fst i) x3 x4 x5
/-- The same rows one row later. -/
def t45 : FVec F S272x2816 .f32 := k0_pay9 (fst i) x3 x4 x5
/-- The same rows two rows later. -/
def t46 : FVec F S272x2816 .f32 := k0_pay10 (fst i) x3 x4 x5
/-- The convolved value rows. -/
def t63 : FVec F S264x2816 .f32 := k0_pay11 (fst i) x0 k0_pay4 x1 x2 x9 x11
/-- The derivative at the convolved value rows. -/
def t81 : FVec F S264x2816 .f32 := k0_pay16 (k0_pay3 i x6 x7 x8) (t46 i x3 x4 x5) (k0_pay12 (fst i) x3 x4 x5 x10) (k0_pay13 x10) x12
/-- The derivative at the convolved gate rows. -/
def t89 : FVec F S264x2816 .f32 := k0_pay17 (k0_pay3 i x6 x7 x8) (t46 i x3 x4 x5) (t63 i x0 x1 x2 x9 x11) (k0_pay12 (fst i) x3 x4 x5 x10) (k0_pay13 x10) x12
/-- The tile's block of the value projection's derivative. -/
def d13 : FVec F S256x2816 .bf16 := k0_pay18 (k0_pay3 i x6 x7 x8) (t46 i x3 x4 x5) x9 (k0_pay12 (fst i) x3 x4 x5 x10) (k0_pay13 x10) x12
/-- The tile's block of the gate projection's derivative. -/
def d14 : FVec F S256x2816 .bf16 := k0_pay19 (k0_pay3 i x6 x7 x8) (t46 i x3 x4 x5) x10 (t63 i x0 x1 x2 x9 x11) (k0_pay12 (fst i) x3 x4 x5 x10) (k0_pay13 x10) x12
/-- One tile's step of the value taps' derivative. -/
def d15 (p : Vec F S3x2816 .f32) : FVec F S3x2816 .f32 := k0_pay26 (t36 i x0 x1 x2) (t37 i x0 x1 x2) (t38 i x0 x1 x2) (t81 i x3 x4 x5 x6 x7 x8 x10 x12) p
/-- One tile's step of the gate taps' derivative. -/
def d16 (p : Vec F S3x2816 .f32) : FVec F S3x2816 .f32 := k0_pay27 (t44 i x3 x4 x5) (t45 i x3 x4 x5) (t46 i x3 x4 x5) (t89 i x0 x1 x2 x3 x4 x5 x6 x7 x8 x9 x10 x11 x12) p
/-- One tile's step of the value bias's derivative. -/
def d17 (p : Vec F S1x2816 .f32) : FVec F S1x2816 .f32 := k0_pay1 (k0_pay20 (t81 i x3 x4 x5 x6 x7 x8 x10 x12)) p
/-- One tile's step of the gate bias's derivative. -/
def d18 (p : Vec F S1x2816 .f32) : FVec F S1x2816 .f32 := k0_pay2 (k0_pay21 (t89 i x0 x1 x2 x3 x4 x5 x6 x7 x8 x9 x10 x11 x12)) p
end tile

end Cert.Kernel2Ideal.Tile
-- ==== Proof.FfnSpec.lean ====
module

public import Idealize.ShloMosaic.Lib.WordCmp
public import Idealize.ShloMosaic.Lib.Pointwise
public import Idealize.ShloMosaic.Lib.KernelVsHost
public import Idealize.ShloMosaic.Lib.MatmulPlain

@[expose] public section

set_option maxRecDepth 16384

noncomputable section

namespace Cert.Ffn

open Idealize.ShloMosaic Idealize.ShloMosaic.TcCoe

/-! The gated block's backward pass as real arithmetic, by token and channel. -/

/-- The operands as real arrays: projected value and gate rows, the derivative at the block's output, the down projection, the taps and the biases. -/
structure Args where
  U : ℕ → ℕ → ℝ
  G : ℕ → ℕ → ℝ
  DX : ℕ → ℕ → ℝ
  W : ℕ → ℕ → ℝ
  wv : ℕ → ℕ → ℝ
  wg : ℕ → ℕ → ℝ
  bv : ℕ → ℕ → ℝ
  bg : ℕ → ℕ → ℝ

/-- The row `s` earlier in the same sequence, zero before its start. -/
def sh (x : ℕ → ℕ → ℝ) (T k s : ℕ) : ℝ := if s ≤ T % 4096 then x (T - s) k else 0
/-- The row `s` later in the same sequence, zero past its end. -/
def fw (y : ℕ → ℕ → ℝ) (T k s : ℕ) : ℝ := if T % 4096 + s < 4096 then y (T + s) k else 0
/-- The causal convolution of width three. -/
def conv (x w b : ℕ → ℕ → ℝ) (T k : ℕ) : ℝ := ((w 2 k * x T k + w 1 k * sh x T k 1) + w 0 k * sh x T k 2) + b 0 k
/-- Its derivative at the rows. -/
def dconv (y w : ℕ → ℕ → ℝ) (T k : ℕ) : ℝ := (w 2 k * y T k + w 1 k * fw y T k 1) + w 0 k * fw y T k 2
/-- Its derivative at the taps, over the first `n` tokens. -/
def tap (y x : ℕ → ℕ → ℝ) (n r k : ℕ) : ℝ := ∑ T ∈ Finset.range n, y T k * sh x T k (2 - r)
/-- Its derivative at the bias, over the first `n` tokens. -/
def tot (y : ℕ → ℕ → ℝ) (n k : ℕ) : ℝ := ∑ T ∈ Finset.range n, y T k
/-- The logistic function. -/
def sg (x : ℝ) : ℝ := (1 + Real.exp (-x))⁻¹

namespace Args
variable (A : Args)
/-- The convolved values. -/
def val (T k : ℕ) : ℝ := conv A.U A.wv A.bv T k
/-- The convolved gates. -/
def gate (T k : ℕ) : ℝ := conv A.G A.wg A.bg T k
/-- The derivative at the gated rows. -/
def da (T k : ℕ) : ℝ := ∑ j : Fin 1024, A.DX T j.val * A.W k j.val
/-- The derivative at the convolved values. -/
def dval (T k : ℕ) : ℝ := A.da T k * (A.gate T k * sg (A.gate T k))
/-- The derivative at the convolved gates. -/
def dgate (T k : ℕ) : ℝ := (A.da T k * A.val T k) * (sg (A.gate T k) * (1 + A.gate T k * (1 - sg (A.gate T k))))
end Args

/-! Sums and products of real values stay real. -/

/-- A sum of reals is real. -/
theorem rsum {ι : Type} [Fintype ι] (f : ι → EReal) (g : ι → ℝ) (h : ∀ k, f k = ((g k : ℝ) : EReal)) : ∑ k, f k = ((∑ k, g k : ℝ) : EReal) := by
  have : ∀ s : Finset ι, ∑ k ∈ s, f k = ((∑ k ∈ s, g k : ℝ) : EReal) := by
    classical
    intro s
    induction s using Finset.induction_on with
    | empty => simp
    | insert a s ha ih => rw [Finset.sum_insert ha, Finset.sum_insert ha, ih, h, EReal.coe_add]
  exact this _
/-- The bits of one. -/
theorem one_bits : Ideal.ofBits .f32 0x3F800000#32 = ((1 : ℝ) : EReal) := by
  simp [Ideal.ofBits, Ideal.ieee, -EReal.coe_mul] <;> norm_num
/-- The bits of zero. -/
theorem zero_bits : Ideal.ofBits .f32 0x00000000#32 = ((0 : ℝ) : EReal) := by simp [Ideal.ofBits, Ideal.ieee]

/-! Matrices of reals, row by row. -/

/-- A matrix holds the reals `f`. -/
def Rows {n c : ℕ} (x : (⟨2, ![n, c]⟩ : Shape).Idx → EReal) (f : ℕ → ℕ → ℝ) : Prop :=
  ∀ (e : Fin n) (k : Fin c), x (ix2 e k) = ((f e.val k.val : ℝ) : EReal)

section rows
variable {n c : ℕ} {f g : ℕ → ℕ → ℝ}

/-- The reals a matrix holds may be named otherwise. -/
theorem Rows.congr {x : (⟨2, ![n, c]⟩ : Shape).Idx → EReal} (h : Rows x f) (e : ∀ a < n, ∀ k < c, f a k = g a k) : Rows x g :=
  fun a k => (h a k).trans (congrArg _ (e a.val a.isLt k.val k.isLt))
/-- A product of matrices, entry by entry. -/
theorem Rows.mul {φ : FTy} {x y : FVec Ideal ⟨2, ![n, c]⟩ φ} (hx : Rows (n := n) (c := c) x f) (hy : Rows (n := n) (c := c) y g) : Rows (n := n) (c := c) (mulf x y) (fun a k => f a k * g a k) := fun a k => by
  show (x (ix2 a k) : EReal) * y (ix2 a k) = _
  rw [hx a k, hy a k, EReal.coe_mul]
/-- A sum of matrices. -/
theorem Rows.add {φ : FTy} {x y : FVec Ideal ⟨2, ![n, c]⟩ φ} (hx : Rows (n := n) (c := c) x f) (hy : Rows (n := n) (c := c) y g) : Rows (n := n) (c := c) (addf x y) (fun a k => f a k + g a k) := fun a k => by
  show (x (ix2 a k) : EReal) + y (ix2 a k) = _
  rw [hx a k, hy a k, EReal.coe_add]
/-- A difference of matrices. -/
theorem Rows.sub {φ : FTy} {x y : FVec Ideal ⟨2, ![n, c]⟩ φ} (hx : Rows (n := n) (c := c) x f) (hy : Rows (n := n) (c := c) y g) : Rows (n := n) (c := c) (subf x y) (fun a k => f a k - g a k) := fun a k => by
  show (x (ix2 a k) : EReal) - y (ix2 a k) = _
  rw [hx a k, hy a k, EReal.coe_sub]
/-- The logistic function of a matrix. -/
theorem Rows.logi {φ : FTy} {x : FVec Ideal ⟨2, ![n, c]⟩ φ} (hx : Rows (n := n) (c := c) x f) : Rows (n := n) (c := c) (logistic x) (fun a k => sg (f a k)) := fun a k => by
  show Ideal.logistic (x (ix2 a k) : EReal) = _
  rw [hx a k, Ideal.logistic_coe]; rfl
/-- A matrix of one real. -/
theorem rows_const {x : EReal} {r : ℝ} (h : x = r) : Rows (n := n) (c := c) (broadcast ⟨2, ![n, c]⟩ x) (fun _ _ => r) := fun a k => h
/-- Rows cut out of a matrix. -/
theorem Rows.slice {m o : ℕ} {x : (⟨2, ![n, c]⟩ : Shape).Idx → EReal} (hx : Rows x f) (h : (⟨2, ![n, c]⟩ : Shape).Slices ![o, 0] ⟨2, ![m, c]⟩) :
    Rows (n := m) (c := c) (extractStridedSlice ⟨2, ![m, c]⟩ ![o, 0] x h) (fun a k => f (o + a) k) := fun a k => by
  have hb : o + a.val < n := by
    have := h.2 (0 : Fin 2); have h1 : o + m ≤ n := this
    have := a.isLt; omega
  refine (extractStridedSlice_apply ![o, 0] x h (ix2 a k) (ix2 ⟨o + a.val, hb⟩ k) (fun d => ?_)).trans (hx ⟨o + a.val, hb⟩ k)
  match d with
  | ⟨0, _⟩ => rfl
  | ⟨1, _⟩ => show k.val = 0 + k.val; omega
/-- One row spread over many. -/
theorem Rows.spread {m : ℕ} {x : (⟨2, ![1, c]⟩ : Shape).Idx → EReal} (hx : Rows x f) (hc : c ≠ 1) (h : (⟨2, ![1, c]⟩ : Shape).Broadcasts ⟨2, ![m, c]⟩) :
    Rows (n := m) (c := c) (broadcastTo ⟨2, ![m, c]⟩ x h) (fun _ k => f 0 k) := fun a k => by
  refine (broadcastTo_apply x h (ix2 a k) (ix2 (0 : Fin 1) k) (fun d => ?_)).trans (hx 0 k)
  match d with
  | ⟨0, _⟩ => rfl
  | ⟨1, _⟩ => exact (if_neg (show ¬(c = 1) from hc)).symm
/-- Rows moved around the end. -/
theorem Rows.rot {s : BitVec 32} {x : (⟨2, ![n, c]⟩ : Shape).Idx → EReal} (hx : Rows x f) (h : (⟨2, ![n, c]⟩ : Shape).Rotates 0 none) :
    Rows (n := n) (c := c) (dynamicRotate 0 s none x h) (fun a k => f ((a + n - s.toNat % n) % n) k) := fun a k => by
  have hb : (a.val + n - s.toNat % n) % n < n := Nat.mod_lt _ (by have := a.isLt; omega)
  refine (dynamicRotate_apply 0 s x h (ix2 a k) (ix2 ⟨_, hb⟩ k) (fun d => ?_)).trans (hx ⟨_, hb⟩ k)
  match d with
  | ⟨0, _⟩ => rfl
  | ⟨1, _⟩ => rfl
/-- Three stacked matrices. -/
theorem rows_stack3 {a0 a1 a2 : ℕ} {f0 f1 f2 : ℕ → ℕ → ℝ} {x0 : (⟨2, ![a0, c]⟩ : Shape).Idx → EReal} {x1 : (⟨2, ![a1, c]⟩ : Shape).Idx → EReal} {x2 : (⟨2, ![a2, c]⟩ : Shape).Idx → EReal}
    (h0 : Rows x0 f0) (h1 : Rows x1 f1) (h2 : Rows x2 f2)
    (hn : n = a0 + a1 + a2)
    (h : Shape.Concatenates (([⟨⟨2, ![a0, c]⟩, x0⟩, ⟨⟨2, ![a1, c]⟩, x1⟩, ⟨⟨2, ![a2, c]⟩, x2⟩] : List ((s : Shape) × (s.Idx → EReal))).map (·.1)) ⟨2, ![n, c]⟩ 0) :
    Rows (n := n) (c := c) (concatenate ⟨2, ![n, c]⟩ 0 [⟨⟨2, ![a0, c]⟩, x0⟩, ⟨⟨2, ![a1, c]⟩, x1⟩, ⟨⟨2, ![a2, c]⟩, x2⟩] h)
      (fun a k => if a < a0 then f0 a k else if a < a0 + a1 then f1 (a - a0) k else f2 (a - (a0 + a1)) k) := fun a k => by
  have ha := a.isLt
  dsimp only
  by_cases b0 : a.val < a0
  · rw [if_pos b0]
    refine (concatenate_apply_piece (t := ⟨2, ![n, c]⟩) 0 _ h (ix2 a k) 0 (by simp) ⟨2, ![a0, c]⟩ x0 rfl rfl 0 rfl (ix2 ⟨a.val, b0⟩ k) (fun b hb => ?_) ?_).trans (h0 ⟨a.val, b0⟩ k)
    · match b with
      | ⟨0, _⟩ => exact absurd rfl hb
      | ⟨1, _⟩ => rfl
    · show 0 + a.val = a.val; omega
  · rw [if_neg b0]
    by_cases b1 : a.val < a0 + a1
    · rw [if_pos b1]
      refine (concatenate_apply_piece (t := ⟨2, ![n, c]⟩) 0 _ h (ix2 a k) 1 (by simp) ⟨2, ![a1, c]⟩ x1 rfl rfl a0 rfl (ix2 ⟨a.val - a0, by omega⟩ k) (fun b hb => ?_) ?_).trans (h1 ⟨a.val - a0, by omega⟩ k)
      · match b with
        | ⟨0, _⟩ => exact absurd rfl hb
        | ⟨1, _⟩ => rfl
      · show a0 + (a.val - a0) = a.val; omega
    · rw [if_neg b1]
      refine (concatenate_apply_piece (t := ⟨2, ![n, c]⟩) 0 _ h (ix2 a k) 2 (by simp) ⟨2, ![a2, c]⟩ x2 rfl rfl (a0 + a1) rfl (ix2 ⟨a.val - (a0 + a1), by omega⟩ k) (fun b hb => ?_) ?_).trans (h2 ⟨a.val - (a0 + a1), by omega⟩ k)
      · match b with
        | ⟨0, _⟩ => exact absurd rfl hb
        | ⟨1, _⟩ => rfl
      · show a0 + a1 + (a.val - (a0 + a1)) = a.val; omega
/-- Two stacked matrices. -/
theorem rows_stack2 {a0 a1 : ℕ} {f0 f1 : ℕ → ℕ → ℝ} {x0 : (⟨2, ![a0, c]⟩ : Shape).Idx → EReal} {x1 : (⟨2, ![a1, c]⟩ : Shape).Idx → EReal}
    (h0 : Rows x0 f0) (h1 : Rows x1 f1) (hn : n = a0 + a1)
    (h : Shape.Concatenates (([⟨⟨2, ![a0, c]⟩, x0⟩, ⟨⟨2, ![a1, c]⟩, x1⟩] : List ((s : Shape) × (s.Idx → EReal))).map (·.1)) ⟨2, ![n, c]⟩ 0) :
    Rows (n := n) (c := c) (concatenate ⟨2, ![n, c]⟩ 0 [⟨⟨2, ![a0, c]⟩, x0⟩, ⟨⟨2, ![a1, c]⟩, x1⟩] h)
      (fun a k => if a < a0 then f0 a k else f1 (a - a0) k) := fun a k => by
  have ha := a.isLt
  dsimp only
  by_cases b0 : a.val < a0
  · rw [if_pos b0]
    refine (concatenate_apply_piece (t := ⟨2, ![n, c]⟩) 0 _ h (ix2 a k) 0 (by simp) ⟨2, ![a0, c]⟩ x0 rfl rfl 0 rfl (ix2 ⟨a.val, b0⟩ k) (fun b hb => ?_) ?_).trans (h0 ⟨a.val, b0⟩ k)
    · match b with
      | ⟨0, _⟩ => exact absurd rfl hb
      | ⟨1, _⟩ => rfl
    · show 0 + a.val = a.val; omega
  · rw [if_neg b0]
    refine (concatenate_apply_piece (t := ⟨2, ![n, c]⟩) 0 _ h (ix2 a k) 1 (by simp) ⟨2, ![a1, c]⟩ x1 rfl rfl a0 rfl (ix2 ⟨a.val - a0, by omega⟩ k) (fun b hb => ?_) ?_).trans (h1 ⟨a.val - a0, by omega⟩ k)
    · match b with
      | ⟨0, _⟩ => exact absurd rfl hb
      | ⟨1, _⟩ => rfl
    · show a0 + (a.val - a0) = a.val; omega
/-- The sum of a matrix's rows, as one row. -/
theorem Rows.colsum {x : FVec Ideal ⟨2, ![256, 2816]⟩ .f32} (hx : Rows (n := 256) (c := 2816) x f) (h : (⟨2, ![256, 2816]⟩ : Shape).Reduces [0] ⟨1, ![2816]⟩) (hφ : FKind.Formats .f32)
    (hacc : (0x00000000#32 : BitVec 32) = FKind.add.neutral .f32 hφ) (hc : (⟨1, ![2816]⟩ : Shape).ShapeCasts ⟨2, ![1, 2816]⟩) :
    Rows (n := 1) (c := 2816) (shapeCast ⟨2, ![1, 2816]⟩ (multiReduction .add [0] ⟨1, ![2816]⟩ x 0x00000000#32 h hφ hacc) hc) (fun _ k => ∑ e ∈ Finset.range 256, f e k) := fun a k => by
  have ha : a = 0 := Subsingleton.elim _ _
  subst ha
  refine (shapeCast_apply _ hc (ix2 0 k) (ix1 k) ?_).trans ?_
  · rw [Shape.rowMajor_val_two, Shape.rowMajor_val_one]
    show k.val = 0 * 2816 + k.val; omega
  · refine (Ideal.multiReduction_add_single x _ h hφ hacc (ix1 k)).trans ?_
    dsimp only
    rw [Finset.sum_range]
    refine rsum (ι := Fin 256) _ (fun e : Fin 256 => f e.val k.val) (fun e => ?_)
    refine Eq.trans (congrArg x ?_) (hx e k)
    exact Shape.idx_ext₂ (n := ![256, 2816]) rfl rfl

end rows

end Cert.Ffn
-- ==== Proof.FfnPay.lean ====
module

public import proofs.«01_k».proof.Proof.FfnTile
public import proofs.«01_k».proof.Proof.FfnSpec

@[expose] public section

set_option maxRecDepth 16384

noncomputable section

namespace Cert.Ffn

open Cert.Kernel2Ideal Cert.Kernel2Ideal.Gen Cert.Kernel2Ideal.Tile
open Idealize.ShloMosaic Idealize.ShloMosaic.TcCoe

/-! One tile's arithmetic, on real blocks. -/

/-- The rows a tile works on: its own 256 with the 8 before and the 8 after, as the body joins them. -/
def win (x : ℕ → ℕ → ℝ) (t a k : ℕ) : ℝ :=
  if a < 8 then (if t % 16 = 0 then 0 else x (8 * (32 * t - 1) + a) k) else if a < 8 + 256 then x (256 * t + (a - 8)) k else x (8 * min ((t + 1) * 32) 1023 + (a - (8 + 256))) k

/-- The rows of the derivative at the output that a tile works on: its own 256 and, inside a sequence, the 8 after. -/
def dwin (x : ℕ → ℕ → ℝ) (t a k : ℕ) : ℝ :=
  if a < 256 then x (256 * t + a) k else (if t % 16 = 15 then 0 else x (8 * min ((t + 1) * 32) 1023 + (a - 256)) k)

/-- Rows `256` and further belong to the sequence. -/
def good (t a : ℕ) : Prop := a < 256 ∨ t % 16 ≠ 15
/-- The condition can be decided. -/
instance (t a : ℕ) : Decidable (good t a) := inferInstanceAs (Decidable (_ ∨ _))

/-- A window's row some places back, inside the tile, is the token's shifted row. -/
theorem win_sh (x : ℕ → ℕ → ℝ) {t a s : ℕ} (k : ℕ) (ht : t < 32) (ha : a < 264) (hg : good t a) (hs : s ≤ 2) :
    win x t ((8 + a + 272 - s) % 272) k = sh x (256 * t + a) k s := by
  have e : (8 + a + 272 - s) % 272 = 8 + a - s := by omega
  rw [e]
  unfold win sh
  unfold good at hg
  by_cases c1 : 8 + a - s < 8
  · rw [if_pos c1]
    by_cases c2 : t % 16 = 0
    · rw [if_pos c2, if_neg (by omega)]
    · rw [if_neg c2, if_pos (by omega)]
      congr 1; omega
  · rw [if_neg c1, if_pos (show s ≤ (256 * t + a) % 4096 by omega)]
    by_cases c3 : 8 + a - s < 8 + 256
    · rw [if_pos c3]; congr 1; omega
    · rw [if_neg c3]; congr 1; omega

/-- A window's row in the tile is the token's own row. -/
theorem win_own (x : ℕ → ℕ → ℝ) {t a : ℕ} (k : ℕ) (ht : t < 32) (ha : a < 264) (hg : good t a) :
    win x t (8 + a) k = x (256 * t + a) k := by
  have := win_sh x (s := 0) k ht ha hg (by omega)
  rw [show (8 + a + 272 - 0) % 272 = 8 + a by omega] at this
  rw [this]; unfold sh; rw [if_pos (by omega)]; rfl

/-- The tile's convolution agrees with the sequence's. -/
theorem win_conv (x w b : ℕ → ℕ → ℝ) {t a : ℕ} (k : ℕ) (ht : t < 32) (ha : a < 264) (hg : good t a) :
    ((w 2 k * win x t (8 + a) k + w 1 k * win x t ((8 + a + 272 - 1) % 272) k) + w 0 k * win x t ((8 + a + 272 - 2) % 272) k) + b 0 k = conv x w b (256 * t + a) k := by
  rw [win_own x k ht ha hg, win_sh x k ht ha hg (by omega), win_sh x k ht ha hg (by omega)]; rfl

/-- The derivative's window, at a row that counts, is the token's row. -/
theorem dwin_good (x : ℕ → ℕ → ℝ) {t a : ℕ} (k : ℕ) (ht : t < 32) (ha : a < 264) (hg : good t a) : dwin x t a k = x (256 * t + a) k := by
  unfold dwin good at *
  by_cases c : a < 256
  · rw [if_pos c]
  · rw [if_neg c, if_neg (by omega)]; congr 1; omega

/-- The derivative's window, past the sequence's end, is zero. -/
theorem dwin_bad (x : ℕ → ℕ → ℝ) {t a : ℕ} (k : ℕ) (hg : ¬good t a) : dwin x t a k = 0 := by
  unfold dwin good at *
  rw [if_neg (by omega), if_pos (by omega)]

/-- A tile's transposed convolution agrees with the sequence's. -/
theorem win_fw (y : ℕ → ℕ → ℝ) {t a s : ℕ} (k : ℕ) (ht : t < 32) (ha : a < 256) (hs : s ≤ 2) (q : ℕ) (hq : q = a + s) :
    (if good t q then y (256 * t + q) k else 0) = fw y (256 * t + a) k s := by
  subst hq
  unfold fw
  by_cases c : good t (a + s)
  · rw [if_pos c]; unfold good at c; rw [if_pos (by omega)]; congr 1; omega
  · rw [if_neg c]; unfold good at c; rw [if_neg (by omega)]

/-- The tile's blocks as real arrays. -/
structure Blocks (A : Args) (t : ℕ) (i : grid0.Coords)
    (x0 : FVec Ideal S8x2816 .f32) (x1 : FVec Ideal S256x2816 .f32) (x2 : FVec Ideal S8x2816 .f32) (x3 : FVec Ideal S8x2816 .f32) (x4 : FVec Ideal S256x2816 .f32) (x5 : FVec Ideal S8x2816 .f32)
    (x6 : FVec Ideal S256x1024 .f32) (x7 : FVec Ideal S8x1024 .f32) (x8 : FVec Ideal S2816x1024 .bf16) (x9 x10 : FVec Ideal S3x2816 .f32) (x11 x12 : FVec Ideal S1x2816 .f32) : Prop where
  ht : t < 32
  hi : (i 1).val = t
  h0 : Rows (n := 8) (c := 2816) x0 (fun a k => A.U (8 * (32 * t - 1) + a) k)
  h1 : Rows (n := 256) (c := 2816) x1 (fun a k => A.U (256 * t + a) k)
  h2 : Rows (n := 8) (c := 2816) x2 (fun a k => A.U (8 * min ((t + 1) * 32) 1023 + a) k)
  h3 : Rows (n := 8) (c := 2816) x3 (fun a k => A.G (8 * (32 * t - 1) + a) k)
  h4 : Rows (n := 256) (c := 2816) x4 (fun a k => A.G (256 * t + a) k)
  h5 : Rows (n := 8) (c := 2816) x5 (fun a k => A.G (8 * min ((t + 1) * 32) 1023 + a) k)
  h6 : Rows (n := 256) (c := 1024) x6 (fun a k => A.DX (256 * t + a) k)
  h7 : Rows (n := 8) (c := 1024) x7 (fun a k => A.DX (8 * min ((t + 1) * 32) 1023 + a) k)
  h8 : Rows (n := 2816) (c := 1024) x8 A.W
  h9 : Rows (n := 3) (c := 2816) x9 A.wv
  h10 : Rows (n := 3) (c := 2816) x10 A.wg
  h11 : Rows (n := 1) (c := 2816) x11 A.bv
  h12 : Rows (n := 1) (c := 2816) x12 A.bg

/-- The test for the first tile of a sequence. -/
theorem flag_first : ∀ t : Fin 32, Scalar.cmpi .eq (Scalar.select (Scalar.andi (Scalar.xori (Scalar.cmpi .slt (Scalar.remsi (BitVec.ofNat 32 t.val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 t.val) (Scalar.select (Scalar.cmpi .eq 16#32 0#32) 1#32 16#32)) 0#32)) (Scalar.addi (Scalar.remsi (BitVec.ofNat 32 t.val) (Scalar.select (Scalar.cmpi .eq 16#32 0#32) 1#32 16#32)) (Scalar.select (Scalar.cmpi .eq 16#32 0#32) 1#32 16#32)) (Scalar.remsi (BitVec.ofNat 32 t.val) (Scalar.select (Scalar.cmpi .eq 16#32 0#32) 1#32 16#32))) 0#32 = if t.val % 16 = 0 then 1#1 else 0#1 := by decide +kernel

/-- The test for the last tile of a sequence. -/
theorem flag_last : ∀ t : Fin 32, Scalar.cmpi .eq (Scalar.select (Scalar.andi (Scalar.xori (Scalar.cmpi .slt (Scalar.remsi (BitVec.ofNat 32 t.val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 t.val) (Scalar.select (Scalar.cmpi .eq 16#32 0#32) 1#32 16#32)) 0#32)) (Scalar.addi (Scalar.remsi (BitVec.ofNat 32 t.val) (Scalar.select (Scalar.cmpi .eq 16#32 0#32) 1#32 16#32)) (Scalar.select (Scalar.cmpi .eq 16#32 0#32) 1#32 16#32)) (Scalar.remsi (BitVec.ofNat 32 t.val) (Scalar.select (Scalar.cmpi .eq 16#32 0#32) 1#32 16#32))) 15#32 = if t.val % 16 = 15 then 1#1 else 0#1 := by decide +kernel

section tile
variable {A : Args} {t : ℕ} {i : grid0.Coords} {x0 : FVec Ideal S8x2816 .f32} {x1 : FVec Ideal S256x2816 .f32} {x2 : FVec Ideal S8x2816 .f32} {x3 : FVec Ideal S8x2816 .f32} {x4 : FVec Ideal S256x2816 .f32} {x5 : FVec Ideal S8x2816 .f32}
    {x6 : FVec Ideal S256x1024 .f32} {x7 : FVec Ideal S8x1024 .f32} {x8 : FVec Ideal S2816x1024 .bf16} {x9 x10 : FVec Ideal S3x2816 .f32} {x11 x12 : FVec Ideal S1x2816 .f32}
    (B : Blocks A t i x0 x1 x2 x3 x4 x5 x6 x7 x8 x9 x10 x11 x12)
include B

/-- The bit for the first tile of a sequence. -/
theorem fst_eq : fst i = if t % 16 = 0 then 1#1 else 0#1 := by
  have h := flag_first ⟨(i 1).val, by rw [B.hi]; exact B.ht⟩
  refine h.trans ?_
  show (if (i 1).val % 16 = 0 then 1#1 else 0#1) = _
  rw [B.hi]

/-- A block of rows, or zeros. -/
theorem Rows.sel {n c : ℕ} {b : BitVec 1} {p : Prop} [Decidable p] {x : FVec Ideal ⟨2, ![n, c]⟩ .f32} {f : ℕ → ℕ → ℝ} (hx : Rows (n := n) (c := c) x f) (hb : b = if p then 1#1 else 0#1) :
    Rows (n := n) (c := c) (Scalar.select b (broadcast (⟨2, ![n, c]⟩ : Shape) (Scalar.ofBits (F := Ideal) .f32 0x00000000#32)) x) (fun a k => if p then 0 else f a k) := fun a k => by
  subst hb
  by_cases c : p
  · simp only [if_pos c]
    exact zero_bits
  · simp only [if_neg c]
    exact hx a k

/-- The value operand's window. -/
theorem r36 : Rows (n := 272) (c := 2816) (t36 (F := Ideal) i x0 x1 x2) (win A.U t) :=
  rows_stack3 (Rows.sel B B.h0 (fst_eq B)) B.h1 B.h2 rfl concatenates_S8x2816_S256x2816_S8x2816_S272x2816_d0
/-- The value operand's window turned by one row. -/
theorem r37 : Rows (n := 272) (c := 2816) (t37 (F := Ideal) i x0 x1 x2) (fun a k => win A.U t ((a + 272 - 1) % 272) k) := (r36 B).rot rotates_S272x2816_d0
/-- The value operand's window turned by two rows. -/
theorem r38 : Rows (n := 272) (c := 2816) (t38 (F := Ideal) i x0 x1 x2) (fun a k => win A.U t ((a + 272 - 2) % 272) k) := (r36 B).rot rotates_S272x2816_d0
/-- The gate operand's window. -/
theorem r44 : Rows (n := 272) (c := 2816) (t44 (F := Ideal) i x3 x4 x5) (win A.G t) :=
  rows_stack3 (Rows.sel B B.h3 (fst_eq B)) B.h4 B.h5 rfl concatenates_S8x2816_S256x2816_S8x2816_S272x2816_d0
/-- The gate operand's window turned by one row. -/
theorem r45 : Rows (n := 272) (c := 2816) (t45 (F := Ideal) i x3 x4 x5) (fun a k => win A.G t ((a + 272 - 1) % 272) k) := (r44 B).rot rotates_S272x2816_d0
/-- The gate operand's window turned by two rows. -/
theorem r46 : Rows (n := 272) (c := 2816) (t46 (F := Ideal) i x3 x4 x5) (fun a k => win A.G t ((a + 272 - 2) % 272) k) := (r44 B).rot rotates_S272x2816_d0

/-- The convolved value rows. -/
def vrow (A : Args) (t a k : ℕ) : ℝ := ((A.wv 2 k * win A.U t (8 + a) k + A.wv 1 k * win A.U t ((8 + a + 272 - 1) % 272) k) + A.wv 0 k * win A.U t ((8 + a + 272 - 2) % 272) k) + A.bv 0 k
/-- The convolved gate rows. -/
def grow (A : Args) (t a k : ℕ) : ℝ := ((A.wg 2 k * win A.G t (8 + a) k + A.wg 1 k * win A.G t ((8 + a + 272 - 1) % 272) k) + A.wg 0 k * win A.G t ((8 + a + 272 - 2) % 272) k) + A.bg 0 k

/-- The convolved values on the tile and the rows after it. -/
theorem r63 : Rows (n := 264) (c := 2816) (t63 (F := Ideal) i x0 x1 x2 x9 x11) (vrow A t) :=
  (((((B.h9.slice (m := 1) (o := 2) slices_S3x2816_o2_0_S1x2816).spread (by decide) broadcasts_S1x2816_S272x2816).mul (r36 B)).add (((B.h9.slice (m := 1) (o := 1) slices_S3x2816_o1_0_S1x2816).spread (by decide) broadcasts_S1x2816_S272x2816).mul (r37 B))).add
    (((B.h9.slice (m := 1) (o := 0) slices_S3x2816_o0_0_S1x2816).spread (by decide) broadcasts_S1x2816_S272x2816).mul (r38 B))).slice (m := 264) (o := 8) slices_S272x2816_o8_0_S264x2816 |>.add (B.h11.spread (by decide) broadcasts_S1x2816_S264x2816)

/-- The gate's convolution before its last tap and bias. -/
theorem r70 : Rows (n := 272) (c := 2816) (k0_pay12 (F := Ideal) (fst i) x3 x4 x5 x10) (fun a k => A.wg 2 k * win A.G t a k + A.wg 1 k * win A.G t ((a + 272 - 1) % 272) k) :=
  (((B.h10.slice (m := 1) (o := 2) slices_S3x2816_o2_0_S1x2816).spread (by decide) broadcasts_S1x2816_S272x2816).mul (r44 B)).add (((B.h10.slice (m := 1) (o := 1) slices_S3x2816_o1_0_S1x2816).spread (by decide) broadcasts_S1x2816_S272x2816).mul (r45 B))

/-- The convolved gates on the tile and the rows after it. -/
theorem r78 : Rows (n := 264) (c := 2816) (k0_pay14 (F := Ideal) (t46 i x3 x4 x5) (k0_pay12 (fst i) x3 x4 x5 x10) (k0_pay13 x10) x12) (grow A t) :=
  ((r70 B).add (((B.h10.slice (m := 1) (o := 0) slices_S3x2816_o0_0_S1x2816).spread (by decide) broadcasts_S1x2816_S272x2816).mul (r46 B))).slice (m := 264) (o := 8) slices_S272x2816_o8_0_S264x2816 |>.add (B.h12.spread (by decide) broadcasts_S1x2816_S264x2816)

/-- Their logistic function. -/
theorem r79 : Rows (n := 264) (c := 2816) (k0_pay15 (F := Ideal) (t46 i x3 x4 x5) (k0_pay12 (fst i) x3 x4 x5 x10) (k0_pay13 x10) x12) (fun a k => sg (grow A t a k)) := (r78 B).logi

/-- The derivative at the gated rows. -/
theorem r30 : Rows (n := 264) (c := 2816) (k0_pay3 (F := Ideal) i x6 x7 x8) (fun a k => ∑ j : Fin 1024, dwin A.DX t a j.val * A.W k j.val) := by
  have hl := flag_last ⟨(i 1).val, by rw [B.hi]; exact B.ht⟩
  have hl' : _ = if t % 16 = 15 then 1#1 else 0#1 := hl.trans (by show (if (i 1).val % 16 = 15 then 1#1 else 0#1) = _; rw [B.hi])
  have hx : Rows (n := 264) (c := 1024) (concatenate (α := EReal) S264x1024 0 [⟨S256x1024, x6⟩, ⟨S8x1024, _⟩] concatenates_S256x1024_S8x1024_S264x1024_d0) (dwin A.DX t) :=
    rows_stack2 B.h6 (Rows.sel B B.h7 hl') rfl _
  intro a k
  unfold k0_pay3
  dsimp only
  rw [shapeCast_self]
  refine (Ideal.matmul_transposedRhs_apply (M := 264) (K := 1024) (N := 2816) none _ _ _ a k).trans ?_
  refine (congrArg₂ (· + ·) (show _ = ((0 : ℝ) : EReal) from zero_bits) (rsum (ι := Fin 1024) _ (fun j => dwin A.DX t a.val j.val * A.W k.val j.val) fun j => ?_)).trans ?_
  · refine (congrArg₂ (· * ·) (hx a j) (B.h8 k j)).trans (EReal.coe_mul _ _).symm
  · rw [← EReal.coe_add, zero_add]

end tile

end Cert.Ffn
-- ==== Proof.FfnAcc.lean ====
module

public import proofs.«01_k».proof.Proof.FfnPay

@[expose] public section

set_option maxRecDepth 16384

noncomputable section

namespace Cert.Ffn

open Cert.Kernel2Ideal Cert.Kernel2Ideal.Gen Cert.Kernel2Ideal.Tile
open Idealize.ShloMosaic Idealize.ShloMosaic.TcCoe

/-! One tile's results, on real blocks. -/

/-- A sum over one more tile's tokens. -/
theorem sum_step (F : ℕ → ℝ) (t : ℕ) : ∑ T ∈ Finset.range (256 * (t + 1)), F T = ∑ T ∈ Finset.range (256 * t), F T + ∑ e ∈ Finset.range 256, F (256 * t + e) := by
  rw [show 256 * (t + 1) = 256 * t + 256 by ring, Finset.sum_range_add]

/-- The value taps' gradient starts at zero. -/
theorem zeros3 : Rows (n := 3) (c := 2816) (k0_pay22 (F := Ideal)) (fun _ _ => 0) := rows_const zero_bits
/-- The gate taps' gradient starts at zero. -/
theorem zeros3' : Rows (n := 3) (c := 2816) (k0_pay23 (F := Ideal)) (fun _ _ => 0) := rows_const zero_bits
/-- The value bias's gradient starts at zero. -/
theorem zeros1 : Rows (n := 1) (c := 2816) (k0_pay24 (F := Ideal)) (fun _ _ => 0) := rows_const zero_bits
/-- The gate bias's gradient starts at zero. -/
theorem zeros1' : Rows (n := 1) (c := 2816) (k0_pay25 (F := Ideal)) (fun _ _ => 0) := rows_const zero_bits

section tile
variable {A : Args} {t : ℕ} {i : grid0.Coords} {x0 : FVec Ideal S8x2816 .f32} {x1 : FVec Ideal S256x2816 .f32} {x2 : FVec Ideal S8x2816 .f32} {x3 : FVec Ideal S8x2816 .f32} {x4 : FVec Ideal S256x2816 .f32} {x5 : FVec Ideal S8x2816 .f32}
    {x6 : FVec Ideal S256x1024 .f32} {x7 : FVec Ideal S8x1024 .f32} {x8 : FVec Ideal S2816x1024 .bf16} {x9 x10 : FVec Ideal S3x2816 .f32} {x11 x12 : FVec Ideal S1x2816 .f32}
    (B : Blocks A t i x0 x1 x2 x3 x4 x5 x6 x7 x8 x9 x10 x11 x12)
include B

/-- The derivative at the convolved values, on the tile's rows and the 8 after. -/
theorem r81 : Rows (n := 264) (c := 2816) (t81 (F := Ideal) i x3 x4 x5 x6 x7 x8 x10 x12) (fun a k => if good t a then A.dval (256 * t + a) k else 0) := by
  refine Rows.congr ((r30 B).mul ((r78 B).mul (r79 B))) fun a ha k _ => ?_
  by_cases hg : good t a
  · rw [if_pos hg]
    have eg : grow A t a k = A.gate (256 * t + a) k := win_conv A.G A.wg A.bg k B.ht ha hg
    have ed : ∑ j : Fin 1024, dwin A.DX t a j.val * A.W k j.val = A.da (256 * t + a) k := Finset.sum_congr rfl fun j _ => by rw [dwin_good A.DX j.val B.ht ha hg]
    rw [eg, ed]; rfl
  · rw [if_neg hg]
    have ed : ∑ j : Fin 1024, dwin A.DX t a j.val * A.W k j.val = 0 := Finset.sum_eq_zero fun j _ => by rw [dwin_bad A.DX j.val hg, zero_mul]
    rw [ed, zero_mul]

/-- The derivative at the convolved gates, on the tile's rows and the 8 after. -/
theorem r89 : Rows (n := 264) (c := 2816) (t89 (F := Ideal) i x0 x1 x2 x3 x4 x5 x6 x7 x8 x9 x10 x11 x12) (fun a k => if good t a then A.dgate (256 * t + a) k else 0) := by
  refine Rows.congr (((r30 B).mul (r63 B)).mul ((r79 B).mul ((rows_const (n := 264) (c := 2816) one_bits).add ((r78 B).mul ((rows_const (n := 264) (c := 2816) one_bits).sub (r79 B)))))) fun a ha k _ => ?_
  by_cases hg : good t a
  · rw [if_pos hg]
    have eg : grow A t a k = A.gate (256 * t + a) k := win_conv A.G A.wg A.bg k B.ht ha hg
    have ev : vrow A t a k = A.val (256 * t + a) k := win_conv A.U A.wv A.bv k B.ht ha hg
    have ed : ∑ j : Fin 1024, dwin A.DX t a j.val * A.W k j.val = A.da (256 * t + a) k := Finset.sum_congr rfl fun j _ => by rw [dwin_good A.DX j.val B.ht ha hg]
    rw [eg, ed, ev]; rfl
  · rw [if_neg hg]
    have ed : ∑ j : Fin 1024, dwin A.DX t a j.val * A.W k j.val = 0 := Finset.sum_eq_zero fun j _ => by rw [dwin_bad A.DX j.val hg, zero_mul]
    rw [ed, zero_mul, zero_mul]

omit B in
/-- A tile's transposed convolution, from the rows of the derivative. -/
theorem back (ht : t < 32) (y w : ℕ → ℕ → ℝ) {x : FVec Ideal S264x2816 .f32} {v : FVec Ideal S3x2816 .f32} (hv : Rows (n := 3) (c := 2816) v w)
    (hx : Rows (n := 264) (c := 2816) x (fun a k => if good t a then y (256 * t + a) k else 0)) :
    Rows (n := 256) (c := 2816) (extractStridedSlice S256x2816 ![0, 0] (addf (addf (mulf (broadcastTo S264x2816 (extractStridedSlice S1x2816 ![2, 0] v slices_S3x2816_o2_0_S1x2816) broadcasts_S1x2816_S264x2816) x)
      (mulf (broadcastTo S264x2816 (extractStridedSlice S1x2816 ![1, 0] v slices_S3x2816_o1_0_S1x2816) broadcasts_S1x2816_S264x2816) (dynamicRotate 0 263#32 none x rotates_S264x2816_d0)))
      (mulf (broadcastTo S264x2816 (extractStridedSlice S1x2816 ![0, 0] v slices_S3x2816_o0_0_S1x2816) broadcasts_S1x2816_S264x2816) (dynamicRotate 0 262#32 none x rotates_S264x2816_d0))) slices_S264x2816_o0_0_S256x2816)
      (fun a k => dconv y w (256 * t + a) k) := by
  have s2 := (hv.slice (m := 1) (o := 2) slices_S3x2816_o2_0_S1x2816).spread (by decide) broadcasts_S1x2816_S264x2816
  have s1 := (hv.slice (m := 1) (o := 1) slices_S3x2816_o1_0_S1x2816).spread (by decide) broadcasts_S1x2816_S264x2816
  have s0 := (hv.slice (m := 1) (o := 0) slices_S3x2816_o0_0_S1x2816).spread (by decide) broadcasts_S1x2816_S264x2816
  have p1 := hx.rot (s := 263#32) rotates_S264x2816_d0
  have p0 := hx.rot (s := 262#32) rotates_S264x2816_d0
  refine Rows.congr ((((s2.mul hx).add (s1.mul p1)).add (s0.mul p0)).slice (m := 256) (o := 0) slices_S264x2816_o0_0_S256x2816) fun a ha k _ => ?_
  have q0 : (if good t (0 + a) then y (256 * t + (0 + a)) k else 0) = y (256 * t + a) k := by
    rw [Nat.zero_add, if_pos (show good t a from Or.inl ha)]
  have q1 := win_fw y k ht ha (s := 1) (by omega) ((0 + a + 264 - (263#32).toNat % 264) % 264) (by show (0 + a + 264 - 263) % 264 = _; omega)
  have q2 := win_fw y k ht ha (s := 2) (by omega) ((0 + a + 264 - (262#32).toNat % 264) % 264) (by show (0 + a + 264 - 262) % 264 = _; omega)
  rw [q0, q1, q2]
  rfl

/-- The tile's block of the value projection's derivative. -/
theorem r13 : Rows (n := 256) (c := 2816) (d13 (F := Ideal) i x3 x4 x5 x6 x7 x8 x9 x10 x12) (fun a k => dconv A.dval A.wv (256 * t + a) k) :=
  back B.ht A.dval A.wv B.h9 (r81 B)
/-- The tile's block of the gate projection's derivative. -/
theorem r14 : Rows (n := 256) (c := 2816) (d14 (F := Ideal) i x0 x1 x2 x3 x4 x5 x6 x7 x8 x9 x10 x11 x12) (fun a k => dconv A.dgate A.wg (256 * t + a) k) :=
  back B.ht A.dgate A.wg B.h10 (r89 B)

omit B in
/-- One tile's step of a tap derivative. -/
theorem taps (ht : t < 32) (y x : ℕ → ℕ → ℝ) {d : FVec Ideal S264x2816 .f32} {a0 a1 a2 : FVec Ideal S272x2816 .f32} {p : FVec Ideal S3x2816 .f32}
    (hd : Rows (n := 264) (c := 2816) d (fun a k => if good t a then y (256 * t + a) k else 0))
    (h0 : Rows (n := 272) (c := 2816) a0 (win x t)) (h1 : Rows (n := 272) (c := 2816) a1 (fun a k => win x t ((a + 272 - 1) % 272) k)) (h2 : Rows (n := 272) (c := 2816) a2 (fun a k => win x t ((a + 272 - 2) % 272) k))
    (hp : Rows (n := 3) (c := 2816) p (fun r k => tap y x (256 * t) r k)) :
    Rows (n := 3) (c := 2816) (k0_pay26 (F := Ideal) a0 a1 a2 d p) (fun r k => tap y x (256 * (t + 1)) r k) := by
  have hd' := hd.slice (m := 256) (o := 0) slices_S264x2816_o0_0_S256x2816
  have c2 := (hd'.mul (h2.slice (m := 256) (o := 8) slices_S272x2816_o8_0_S256x2816)).colsum reduces_S256x2816_S2816 (.inl rfl) rfl shapeCasts_S2816_S1x2816
  have c1 := (hd'.mul (h1.slice (m := 256) (o := 8) slices_S272x2816_o8_0_S256x2816)).colsum reduces_S256x2816_S2816 (.inl rfl) rfl shapeCasts_S2816_S1x2816
  have c0 := (hd'.mul (h0.slice (m := 256) (o := 8) slices_S272x2816_o8_0_S256x2816)).colsum reduces_S256x2816_S2816 (.inl rfl) rfl shapeCasts_S2816_S1x2816
  have st := rows_stack3 (n := 3) (c := 2816) c2 c1 c0 rfl concatenates_S1x2816_S1x2816_S1x2816_S3x2816_d0
  unfold k0_pay26
  dsimp only
  rw [shapeCast_self]
  refine Rows.congr (hp.add st) fun r hr k _ => ?_
  have own : ∀ e ∈ Finset.range 256, (if good t (0 + e) then y (256 * t + (0 + e)) k else 0) = y (256 * t + e) k := fun e he => by
    rw [Nat.zero_add, if_pos (show good t e from Or.inl (Finset.mem_range.1 he))]
  unfold tap
  rw [sum_step]
  congr 1
  obtain rfl | rfl | rfl : r = 0 ∨ r = 1 ∨ r = 2 := by omega
  · rw [if_pos (by omega)]
    refine Finset.sum_congr rfl fun e he => ?_
    have he' := Finset.mem_range.1 he
    rw [own e he, win_sh x k ht (by omega) (Or.inl he') (by omega)]
  · rw [if_neg (by omega), if_pos (by omega)]
    refine Finset.sum_congr rfl fun e he => ?_
    have he' := Finset.mem_range.1 he
    rw [own e he, win_sh x k ht (by omega) (Or.inl he') (by omega)]
  · rw [if_neg (by omega), if_neg (by omega)]
    refine Finset.sum_congr rfl fun e he => ?_
    have he' := Finset.mem_range.1 he
    rw [own e he, win_own x k ht (by omega) (Or.inl he')]
    unfold sh; rw [if_pos (by omega)]; rfl

omit B in
/-- One tile's step of a bias derivative. -/
theorem bias (y : ℕ → ℕ → ℝ) {d : FVec Ideal S264x2816 .f32} {p : FVec Ideal S1x2816 .f32}
    (hd : Rows (n := 264) (c := 2816) d (fun a k => if good t a then y (256 * t + a) k else 0))
    (hp : Rows (n := 1) (c := 2816) p (fun _ k => tot y (256 * t) k)) :
    Rows (n := 1) (c := 2816) (k0_pay1 (F := Ideal) (k0_pay20 d) p) (fun _ k => tot y (256 * (t + 1)) k) := by
  have hd' := hd.slice (m := 256) (o := 0) slices_S264x2816_o0_0_S256x2816
  have c0 := hd'.colsum reduces_S256x2816_S2816 (.inl rfl) rfl shapeCasts_S2816_S1x2816
  unfold k0_pay1
  dsimp only
  rw [shapeCast_self]
  refine Rows.congr (hp.add c0) fun r hr k _ => ?_
  unfold tot
  rw [sum_step]
  congr 1

/-- One tile's step of the value taps' derivative. -/
theorem r15 {p : FVec Ideal S3x2816 .f32} (hp : Rows (n := 3) (c := 2816) p (fun r k => tap A.dval A.U (256 * t) r k)) :
    Rows (n := 3) (c := 2816) (d15 (F := Ideal) i x0 x1 x2 x3 x4 x5 x6 x7 x8 x10 x12 p) (fun r k => tap A.dval A.U (256 * (t + 1)) r k) := taps B.ht A.dval A.U (r81 B) (r36 B) (r37 B) (r38 B) hp
/-- One tile's step of the gate taps' derivative. -/
theorem r16 {p : FVec Ideal S3x2816 .f32} (hp : Rows (n := 3) (c := 2816) p (fun r k => tap A.dgate A.G (256 * t) r k)) :
    Rows (n := 3) (c := 2816) (d16 (F := Ideal) i x0 x1 x2 x3 x4 x5 x6 x7 x8 x9 x10 x11 x12 p) (fun r k => tap A.dgate A.G (256 * (t + 1)) r k) := taps B.ht A.dgate A.G (r89 B) (r44 B) (r45 B) (r46 B) hp
/-- One tile's step of the value bias's derivative. -/
theorem r17 {p : FVec Ideal S1x2816 .f32} (hp : Rows (n := 1) (c := 2816) p (fun _ k => tot A.dval (256 * t) k)) :
    Rows (n := 1) (c := 2816) (d17 (F := Ideal) i x3 x4 x5 x6 x7 x8 x10 x12 p) (fun _ k => tot A.dval (256 * (t + 1)) k) := bias A.dval (r81 B) hp
/-- One tile's step of the gate bias's derivative. -/
theorem r18 {p : FVec Ideal S1x2816 .f32} (hp : Rows (n := 1) (c := 2816) p (fun _ k => tot A.dgate (256 * t) k)) :
    Rows (n := 1) (c := 2816) (d18 (F := Ideal) i x0 x1 x2 x3 x4 x5 x6 x7 x8 x9 x10 x11 x12 p) (fun _ k => tot A.dgate (256 * (t + 1)) k) := bias A.dgate (r89 B) hp

end tile

end Cert.Ffn
-- ==== Proof.FfnOutA.lean ====
module

public import proofs.«01_k».proof.Proof.Gen.Kernel2Ideal.Value
public import Idealize.ShloMosaic.Lib.Tactic
public import proofs.«01_k».proof.Proof.FfnTile

@[expose] public section

set_option maxRecDepth 16384

noncomputable section

namespace Cert.Kernel2Ideal.Tile

open Cert.Kernel2Ideal Cert.Kernel2Ideal.Gen
open Idealize.ShloMosaic Idealize.ShloMosaic.TcCoe Idealize.ShloMosaic.Tactic
open Idealize.SL Idealize.SL.Sem

/-- What a first tile leaves as the block of the value projection's derivative. -/
theorem outA13 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = d13 i x3 x4 x5 x6 x7 x8 x9 x10 x12 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a first tile leaves as the block of the gate projection's derivative. -/
theorem outA14 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = d14 i x0 x1 x2 x3 x4 x5 x6 x7 x8 x9 x10 x11 x12 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a first tile leaves as the value taps' derivative. -/
theorem outA15 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = d15 i x0 x1 x2 x3 x4 x5 x6 x7 x8 x10 x12 (k0_pay22 (F := F)) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_cons_unit_zero (S := S3x2816) hz, View.readCov_unit_zero (S := S3x2816) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a first tile leaves as the gate taps' derivative. -/
theorem outA16 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = d16 i x0 x1 x2 x3 x4 x5 x6 x7 x8 x9 x10 x11 x12 (k0_pay23 (F := F)) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_cons_unit_zero (S := S3x2816) hz, View.readCov_unit_zero (S := S3x2816) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a first tile leaves as the value bias's derivative. -/
theorem outA17 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = d17 i x3 x4 x5 x6 x7 x8 x10 x12 (k0_pay24 (F := F)) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_cons_unit_zero (S := S1x2816) hz, View.readCov_unit_zero (S := S1x2816) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a first tile leaves as the gate bias's derivative. -/
theorem outA18 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = d18 i x0 x1 x2 x3 x4 x5 x6 x7 x8 x9 x10 x11 x12 (k0_pay25 (F := F)) := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_cons_unit_zero (S := S1x2816) hz, View.readCov_unit_zero (S := S1x2816) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

end Cert.Kernel2Ideal.Tile
-- ==== Proof.FfnOutB.lean ====
module

public import proofs.«01_k».proof.Proof.Gen.Kernel2Ideal.Value
public import Idealize.ShloMosaic.Lib.Tactic
public import proofs.«01_k».proof.Proof.FfnTile

@[expose] public section

set_option maxRecDepth 16384

noncomputable section

namespace Cert.Kernel2Ideal.Tile

open Cert.Kernel2Ideal Cert.Kernel2Ideal.Gen
open Idealize.ShloMosaic Idealize.ShloMosaic.TcCoe Idealize.ShloMosaic.Tactic
open Idealize.SL Idealize.SL.Sem

/-- What a later tile leaves as the block of the value projection's derivative. -/
theorem outB13 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : ¬cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) (xo15 : Vec F S3x2816 .f32) (xo16 : Vec F S3x2816 .f32) (xo17 : Vec F S1x2816 .f32) (xo18 : Vec F S1x2816 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18 = d13 i x3 x4 x5 x6 x7 x8 x9 x10 x12 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,harg17.read_unread, harg18.read_unread, harg19.read_unread, harg20.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a later tile leaves as the block of the gate projection's derivative. -/
theorem outB14 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : ¬cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) (xo15 : Vec F S3x2816 .f32) (xo16 : Vec F S3x2816 .f32) (xo17 : Vec F S1x2816 .f32) (xo18 : Vec F S1x2816 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18 = d14 i x0 x1 x2 x3 x4 x5 x6 x7 x8 x9 x10 x11 x12 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,harg17.read_unread, harg18.read_unread, harg19.read_unread, harg20.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a later tile leaves as the value taps' derivative. -/
theorem outB15 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : ¬cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) (xo15 : Vec F S3x2816 .f32) (xo16 : Vec F S3x2816 .f32) (xo17 : Vec F S1x2816 .f32) (xo18 : Vec F S1x2816 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18 = d15 i x0 x1 x2 x3 x4 x5 x6 x7 x8 x10 x12 xo15 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,harg17.read_unread, harg18.read_unread, harg19.read_unread, harg20.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a later tile leaves as the gate taps' derivative. -/
theorem outB16 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : ¬cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) (xo15 : Vec F S3x2816 .f32) (xo16 : Vec F S3x2816 .f32) (xo17 : Vec F S1x2816 .f32) (xo18 : Vec F S1x2816 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18 = d16 i x0 x1 x2 x3 x4 x5 x6 x7 x8 x9 x10 x11 x12 xo16 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,harg17.read_unread, harg18.read_unread, harg19.read_unread, harg20.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a later tile leaves as the value bias's derivative. -/
theorem outB17 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : ¬cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) (xo15 : Vec F S3x2816 .f32) (xo16 : Vec F S3x2816 .f32) (xo17 : Vec F S1x2816 .f32) (xo18 : Vec F S1x2816 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18 = d17 i x3 x4 x5 x6 x7 x8 x10 x12 xo17 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,harg17.read_unread, harg18.read_unread, harg19.read_unread, harg20.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

/-- What a later tile leaves as the gate bias's derivative. -/
theorem outB18 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S8x2816 .f32) (harg5 : arg5.IsWhole) (arg6 : Memref sig .tc .vmem S256x2816 .f32) (harg6 : arg6.IsWhole) (arg7 : Memref sig .tc .vmem S8x2816 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S2816x1024 .bf16) (harg10 : arg10.IsWhole) (arg11 : Memref sig .tc .vmem S3x2816 .f32) (harg11 : arg11.IsWhole) (arg12 : Memref sig .tc .vmem S3x2816 .f32) (harg12 : arg12.IsWhole) (arg13 : Memref sig .tc .vmem S1x2816 .f32) (harg13 : arg13.IsWhole) (arg14 : Memref sig .tc .vmem S1x2816 .f32) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S3x2816 .f32) (harg17 : arg17.IsWhole) (arg18 : Memref sig .tc .vmem S3x2816 .f32) (harg18 : arg18.IsWhole) (arg19 : Memref sig .tc .vmem S1x2816 .f32) (harg19 : arg19.IsWhole) (arg20 : Memref sig .tc .vmem S1x2816 .f32) (harg20 : arg20.IsWhole) (hc0 : ¬cond0_0 i) (x0 : Vec F S8x2816 .f32) (x1 : Vec F S256x2816 .f32) (x2 : Vec F S8x2816 .f32) (x3 : Vec F S8x2816 .f32) (x4 : Vec F S256x2816 .f32) (x5 : Vec F S8x2816 .f32) (x6 : Vec F S256x1024 .f32) (x7 : Vec F S8x1024 .f32) (x8 : Vec F S2816x1024 .bf16) (x9 : Vec F S3x2816 .f32) (x10 : Vec F S3x2816 .f32) (x11 : Vec F S1x2816 .f32) (x12 : Vec F S1x2816 .f32) (xo15 : Vec F S3x2816 .f32) (xo16 : Vec F S3x2816 .f32) (xo17 : Vec F S1x2816 .f32) (xo18 : Vec F S1x2816 .f32) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18 = d18 i x0 x1 x2 x3 x4 x5 x6 x7 x8 x9 x10 x11 x12 xo18 := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xo15 xo16 xo17 xo18)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,harg17.read_unread, harg18.read_unread, harg19.read_unread, harg20.read_unread, View.ld_unit_zero (S := S8x2816) hz, View.ld_unit_zero (S := S256x2816) hz, View.ld_unit_zero (S := S256x1024) hz, View.ld_unit_zero (S := S8x1024) hz, View.ld_unit_zero (S := S2816x1024) hz, View.ld_unit_zero (S := S3x2816) hz, View.ld_unit_zero (S := S1x2816) hz]
  rfl

end Cert.Kernel2Ideal.Tile
-- ==== Proof.FfnKer.lean ====
module

public import proofs.«01_k».proof.Proof.FfnAcc
public import proofs.«01_k».proof.Proof.FfnOutA
public import proofs.«01_k».proof.Proof.FfnOutB
public import Idealize.ShloMosaic.Lib.Pipeline.ValueKit

@[expose] public section

set_option maxRecDepth 16384

noncomputable section

namespace Cert.Ffn

open Cert.Kernel2Ideal Cert.Kernel2Ideal.Gen Cert.Kernel2Ideal.Tile
open Idealize.ShloMosaic Idealize.ShloMosaic.TcCoe Idealize.ShloMosaic.Tactic
open Idealize.SL Idealize.SL.Sem

/-! The arrays the call leaves, on real operands. -/

/-- A matrix of the reals `f`. -/
def arr {n c : ℕ} (f : ℕ → ℕ → ℝ) : (⟨2, ![n, c]⟩ : Shape).Idx → EReal := fun i => ((f (i 0).val (i 1).val : ℝ) : EReal)

/-- An entry of a matrix of reals, by the numbers of its row and column. -/
theorem Rows.at {n c : ℕ} {x : (⟨2, ![n, c]⟩ : Shape).Idx → EReal} {f : ℕ → ℕ → ℝ} (h : Rows x f) (z : (⟨2, ![n, c]⟩ : Shape).Idx) (a k : ℕ) (h0 : (z 0).val = a) (h1 : (z 1).val = k) :
    x z = ((f a k : ℝ) : EReal) := by
  subst h0; subst h1
  exact (congrArg x (show z = ix2 (z 0) (z 1) from Shape.idx_ext₂ (n := ![n, c]) rfl rfl)).trans (h (z 0) (z 1))

/-- The number of grid points. -/
theorem pts : cfg0.N = 32 := (by decide +kernel : grid0.N = 32)

/-- The second grid coordinate is the point's number. -/
theorem coord : ∀ t : Fin cfg0.N, (grid0.coords t 1).val = t.val := (by decide +kernel : ∀ t : Fin grid0.N, (grid0.coords t 1).val = t.val)

/-- Every window's block index at a point. -/
theorem idx : ∀ t : Fin cfg0.N, (win0_0.index t = ![32 * t.val - 1, 0] ∧ win0_1.index t = ![t.val, 0] ∧ win0_2.index t = ![min ((t.val + 1) * 32) 1023, 0])
    ∧ (win0_3.index t = ![32 * t.val - 1, 0] ∧ win0_4.index t = ![t.val, 0] ∧ win0_5.index t = ![min ((t.val + 1) * 32) 1023, 0])
    ∧ (win0_6.index t = ![t.val, 0] ∧ win0_7.index t = ![min ((t.val + 1) * 32) 1023, 0])
    ∧ (win0_8.index t = ![0, 0] ∧ win0_9.index t = ![0, 0] ∧ win0_10.index t = ![0, 0] ∧ win0_11.index t = ![0, 0] ∧ win0_12.index t = ![0, 0])
    ∧ (win0_13.index t = ![t.val, 0] ∧ win0_14.index t = ![t.val, 0])
    ∧ (win0_15.index t = ![0, 0] ∧ win0_16.index t = ![0, 0] ∧ win0_17.index t = ![0, 0] ∧ win0_18.index t = ![0, 0]) := (by decide +kernel : ∀ t : Fin grid0.N, _)

variable (m : (ℓ : Loc nD τ sig) → Buf (Elt Ideal) ℓ)

/-- The arrays the call reads hold the operands `A`. -/
structure Holds (A : Args) (c : Dev nD) : Prop where
  hU : Rows (n := 8192) (c := 2816) (V m c main_arg0) A.U
  hG : Rows (n := 8192) (c := 2816) (V m c main_arg1) A.G
  hD : Rows (n := 8192) (c := 1024) (V m c main_arg2) A.DX
  hW : Rows (n := 2816) (c := 1024) (V m c main_v0) A.W
  hv : Rows (n := 3) (c := 2816) (V m c main_arg4) A.wv
  hg : Rows (n := 3) (c := 2816) (V m c main_arg5) A.wg
  hbv : Rows (n := 1) (c := 2816) (V m c main_arg6) A.bv
  hbg : Rows (n := 1) (c := 2816) (V m c main_arg7) A.bg

variable {m} {A : Args} {c : Dev nD} (H : Holds m A c)
include H

/-- The windows' blocks at a point hold the operands' rows. -/
theorem blocks (t : Fin cfg0.N) : Blocks A t.val (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  obtain ⟨⟨i0, i1, i2⟩, ⟨i3, i4, i5⟩, ⟨i6, i7⟩, ⟨i8, i9, i10, i11, i12⟩, -, -⟩ := idx t
  refine ⟨Nat.lt_of_lt_of_eq t.isLt pts, coord t, ?_, ?_, ?_, ?_, ?_, ?_, ?_, ?_, ?_, ?_, ?_, ?_, ?_⟩ <;> intro e k
  · exact H.hU.at ((win0_0.rect t).emb (ix2 e k)) _ _ ((Pipeline.Window.rect_emb_val win0_0 t _ 0).trans (by rw [i0]; show (32 * t.val - 1) * 8 + e.val = 8 * (32 * t.val - 1) + e.val; ring)) ((Pipeline.Window.rect_emb_val win0_0 t _ 1).trans (by rw [i0]; show 0 * 2816 + k.val = k.val; omega))
  · exact H.hU.at ((win0_1.rect t).emb (ix2 e k)) _ _ ((Pipeline.Window.rect_emb_val win0_1 t _ 0).trans (by rw [i1]; show t.val * 256 + e.val = 256 * t.val + e.val; ring)) ((Pipeline.Window.rect_emb_val win0_1 t _ 1).trans (by rw [i1]; show 0 * 2816 + k.val = k.val; omega))
  · exact H.hU.at ((win0_2.rect t).emb (ix2 e k)) _ _ ((Pipeline.Window.rect_emb_val win0_2 t _ 0).trans (by rw [i2]; show (min ((t.val + 1) * 32) 1023) * 8 + e.val = 8 * min ((t.val + 1) * 32) 1023 + e.val; ring)) ((Pipeline.Window.rect_emb_val win0_2 t _ 1).trans (by rw [i2]; show 0 * 2816 + k.val = k.val; omega))
  · exact H.hG.at ((win0_3.rect t).emb (ix2 e k)) _ _ ((Pipeline.Window.rect_emb_val win0_3 t _ 0).trans (by rw [i3]; show (32 * t.val - 1) * 8 + e.val = 8 * (32 * t.val - 1) + e.val; ring)) ((Pipeline.Window.rect_emb_val win0_3 t _ 1).trans (by rw [i3]; show 0 * 2816 + k.val = k.val; omega))
  · exact H.hG.at ((win0_4.rect t).emb (ix2 e k)) _ _ ((Pipeline.Window.rect_emb_val win0_4 t _ 0).trans (by rw [i4]; show t.val * 256 + e.val = 256 * t.val + e.val; ring)) ((Pipeline.Window.rect_emb_val win0_4 t _ 1).trans (by rw [i4]; show 0 * 2816 + k.val = k.val; omega))
  · exact H.hG.at ((win0_5.rect t).emb (ix2 e k)) _ _ ((Pipeline.Window.rect_emb_val win0_5 t _ 0).trans (by rw [i5]; show (min ((t.val + 1) * 32) 1023) * 8 + e.val = 8 * min ((t.val + 1) * 32) 1023 + e.val; ring)) ((Pipeline.Window.rect_emb_val win0_5 t _ 1).trans (by rw [i5]; show 0 * 2816 + k.val = k.val; omega))
  · exact H.hD.at ((win0_6.rect t).emb (ix2 e k)) _ _ ((Pipeline.Window.rect_emb_val win0_6 t _ 0).trans (by rw [i6]; show t.val * 256 + e.val = 256 * t.val + e.val; ring)) ((Pipeline.Window.rect_emb_val win0_6 t _ 1).trans (by rw [i6]; show 0 * 1024 + k.val = k.val; omega))
  · exact H.hD.at ((win0_7.rect t).emb (ix2 e k)) _ _ ((Pipeline.Window.rect_emb_val win0_7 t _ 0).trans (by rw [i7]; show (min ((t.val + 1) * 32) 1023) * 8 + e.val = 8 * min ((t.val + 1) * 32) 1023 + e.val; ring)) ((Pipeline.Window.rect_emb_val win0_7 t _ 1).trans (by rw [i7]; show 0 * 1024 + k.val = k.val; omega))
  · exact H.hW.at ((win0_8.rect t).emb (ix2 e k)) _ _ ((Pipeline.Window.rect_emb_val win0_8 t _ 0).trans (by rw [i8]; show 0 * 2816 + e.val = e.val; omega)) ((Pipeline.Window.rect_emb_val win0_8 t _ 1).trans (by rw [i8]; show 0 * 1024 + k.val = k.val; omega))
  · exact H.hv.at ((win0_9.rect t).emb (ix2 e k)) _ _ ((Pipeline.Window.rect_emb_val win0_9 t _ 0).trans (by rw [i9]; show 0 * 3 + e.val = e.val; omega)) ((Pipeline.Window.rect_emb_val win0_9 t _ 1).trans (by rw [i9]; show 0 * 2816 + k.val = k.val; omega))
  · exact H.hg.at ((win0_10.rect t).emb (ix2 e k)) _ _ ((Pipeline.Window.rect_emb_val win0_10 t _ 0).trans (by rw [i10]; show 0 * 3 + e.val = e.val; omega)) ((Pipeline.Window.rect_emb_val win0_10 t _ 1).trans (by rw [i10]; show 0 * 2816 + k.val = k.val; omega))
  · exact H.hbv.at ((win0_11.rect t).emb (ix2 e k)) _ _ ((Pipeline.Window.rect_emb_val win0_11 t _ 0).trans (by rw [i11]; show 0 * 1 + e.val = e.val; omega)) ((Pipeline.Window.rect_emb_val win0_11 t _ 1).trans (by rw [i11]; show 0 * 2816 + k.val = k.val; omega))
  · exact H.hbg.at ((win0_12.rect t).emb (ix2 e k)) _ _ ((Pipeline.Window.rect_emb_val win0_12 t _ 0).trans (by rw [i12]; show 0 * 1 + e.val = e.val; omega)) ((Pipeline.Window.rect_emb_val win0_12 t _ 1).trans (by rw [i12]; show 0 * 2816 + k.val = k.val; omega))

/-- The blocks of the projections' derivatives that a point leaves. -/
theorem out13 (t : Fin cfg0.N) : Rows (n := 256) (c := 2816) (outsAt0 m c t.val t.isLt).1 (fun a k => dconv A.dval A.wv (256 * t.val + a) k) := by
  by_cases h0 : t.val % 32 = 0
  · rw [outsAt0_A m c t h0]; dsimp only; rw [outA13]; exact r13 (blocks H t)
  · rw [outsAt0_B m c t h0]; dsimp only; rw [outB13]; exact r13 (blocks H t)
/-- What a grid point leaves of the gradient by the gate operand. -/
theorem out14 (t : Fin cfg0.N) : Rows (n := 256) (c := 2816) (outsAt0 m c t.val t.isLt).2.1 (fun a k => dconv A.dgate A.wg (256 * t.val + a) k) := by
  by_cases h0 : t.val % 32 = 0
  · rw [outsAt0_A m c t h0]; dsimp only; rw [outA14]; exact r14 (blocks H t)
  · rw [outsAt0_B m c t h0]; dsimp only; rw [outB14]; exact r14 (blocks H t)

/-- The running sums of the taps' and biases' derivatives after a point. -/
theorem outs (n : ℕ) : ∀ hn : n < cfg0.N,
    Rows (n := 3) (c := 2816) (outsAt0 m c n hn).2.2.1 (fun r k => tap A.dval A.U (256 * (n + 1)) r k)
    ∧ Rows (n := 3) (c := 2816) (outsAt0 m c n hn).2.2.2.1 (fun r k => tap A.dgate A.G (256 * (n + 1)) r k)
    ∧ Rows (n := 1) (c := 2816) (outsAt0 m c n hn).2.2.2.2.1 (fun _ k => tot A.dval (256 * (n + 1)) k)
    ∧ Rows (n := 1) (c := 2816) (outsAt0 m c n hn).2.2.2.2.2 (fun _ k => tot A.dgate (256 * (n + 1)) k) := by
  induction n with
  | zero =>
    intro hn
    have B := blocks H ⟨0, hn⟩
    rw [show outsAt0 m c 0 hn = _ from outsAt0_A m c ⟨0, hn⟩ rfl]
    dsimp only
    rw [outA15, outA16, outA17, outA18]
    exact ⟨r15 B (zeros3.congr fun _ _ _ _ => by simp [tap]), r16 B (zeros3'.congr fun _ _ _ _ => by simp [tap]), r17 B (zeros1.congr fun _ _ _ _ => by simp [tot]), r18 B (zeros1'.congr fun _ _ _ _ => by simp [tot])⟩
  | succ n ih =>
    intro hn
    have hp : n < cfg0.N := Nat.lt_of_succ_lt hn
    obtain ⟨h15, h16, h17, h18⟩ := ih hp
    have B := blocks H ⟨n + 1, hn⟩
    have hN := pts
    rw [show outsAt0 m c (n + 1) hn = _ from outsAt0_B m c ⟨n + 1, hn⟩ (by show ¬(n + 1) % 32 = 0; omega)]
    dsimp only
    rw [outB15, outB16, outB17, outB18]
    exact ⟨r15 B h15, r16 B h16, r17 B h17, r18 B h18⟩

omit H in
/-- An entry of a block is the whole matrix's entry there. -/
theorem cell {n c a b : ℕ} {x : (⟨2, ![a, b]⟩ : Shape).Idx → EReal} {g f : ℕ → ℕ → ℝ} (hx : Rows x g) (y : (⟨2, ![a, b]⟩ : Shape).Idx) (z : (⟨2, ![n, c]⟩ : Shape).Idx)
    (e : g (y 0).val (y 1).val = f (z 0).val (z 1).val) : x y = arr (n := n) (c := c) f z := (hx.at y _ _ rfl rfl).trans (congrArg _ e)

/-- The value projection's derivative after the run. -/
theorem arr13 : (dats m 0 c).arrAt 13 cfg0.N = arr (n := 8192) (c := 2816) (fun T k => dconv A.dval A.wv T k) := by
  refine (dats m 0 c).arrAt_eq_of_covers 13 _ (by decide +kernel) fun t hf y => ?_
  have hi := (idx t).2.2.2.2.1.1
  have e0 := (Pipeline.Window.rect_emb_val win0_13 t y 0).trans (congrArg (fun z => z * win0_13.size 0 + (y 0).val) (congrFun hi 0))
  have e1 := (Pipeline.Window.rect_emb_val win0_13 t y 1).trans (congrArg (fun z => z * win0_13.size 1 + (y 1).val) (congrFun hi 1))
  have e0' : ((win0_13.rect t).emb y 0).val = 256 * t.val + (y 0).val := e0.trans (by show t.val * 256 + (y 0).val = _; ring)
  have e1' : ((win0_13.rect t).emb y 1).val = (y 1).val := e1.trans (by show 0 * 2816 + (y 1).val = _; ring)
  blk_simp
  rw [after0_13]
  refine cell (out13 H t) y ((win0_13.rect t).emb y) ?_
  rw [e0', e1']

/-- The gate projection's derivative after the run. -/
theorem arr14 : (dats m 0 c).arrAt 14 cfg0.N = arr (n := 8192) (c := 2816) (fun T k => dconv A.dgate A.wg T k) := by
  refine (dats m 0 c).arrAt_eq_of_covers 14 _ (by decide +kernel) fun t hf y => ?_
  have hi := (idx t).2.2.2.2.1.2
  have e0 := (Pipeline.Window.rect_emb_val win0_14 t y 0).trans (congrArg (fun z => z * win0_14.size 0 + (y 0).val) (congrFun hi 0))
  have e1 := (Pipeline.Window.rect_emb_val win0_14 t y 1).trans (congrArg (fun z => z * win0_14.size 1 + (y 1).val) (congrFun hi 1))
  have e0' : ((win0_14.rect t).emb y 0).val = 256 * t.val + (y 0).val := e0.trans (by show t.val * 256 + (y 0).val = _; ring)
  have e1' : ((win0_14.rect t).emb y 1).val = (y 1).val := e1.trans (by show 0 * 2816 + (y 1).val = _; ring)
  blk_simp
  rw [after0_14]
  refine cell (out14 H t) y ((win0_14.rect t).emb y) ?_
  rw [e0', e1']

/-- The value taps' derivative after the run. -/
theorem arr15 : (dats m 0 c).arrAt 15 cfg0.N = arr (n := 3) (c := 2816) (fun r k => tap A.dval A.U 8192 r k) := by
  refine (dats m 0 c).arrAt_eq_of_covers 15 _ (by decide +kernel) fun t hf y => ?_
  have hi := (idx t).2.2.2.2.2.1
  have e0 := (Pipeline.Window.rect_emb_val win0_15 t y 0).trans (congrArg (fun z => z * win0_15.size 0 + (y 0).val) (congrFun hi 0))
  have e1 := (Pipeline.Window.rect_emb_val win0_15 t y 1).trans (congrArg (fun z => z * win0_15.size 1 + (y 1).val) (congrFun hi 1))
  have e0' : ((win0_15.rect t).emb y 0).val = (y 0).val := e0.trans (by show 0 * 3 + (y 0).val = _; ring)
  have e1' : ((win0_15.rect t).emb y 1).val = (y 1).val := e1.trans (by show 0 * 2816 + (y 1).val = _; ring)
  blk_simp
  rw [after0_15]
  have hl : t.val = 31 := by have h := (flush0_15 t).1 hf; have hN := pts; have := t.isLt; omega
  have hs : 256 * (t.val + 1) = 8192 := by omega
  have ho := outs H t.val t.isLt
  rw [hs] at ho
  refine cell ho.1 y ((win0_15.rect t).emb y) ?_
  rw [e0', e1']

/-- The gate taps' derivative after the run. -/
theorem arr16 : (dats m 0 c).arrAt 16 cfg0.N = arr (n := 3) (c := 2816) (fun r k => tap A.dgate A.G 8192 r k) := by
  refine (dats m 0 c).arrAt_eq_of_covers 16 _ (by decide +kernel) fun t hf y => ?_
  have hi := (idx t).2.2.2.2.2.2.1
  have e0 := (Pipeline.Window.rect_emb_val win0_16 t y 0).trans (congrArg (fun z => z * win0_16.size 0 + (y 0).val) (congrFun hi 0))
  have e1 := (Pipeline.Window.rect_emb_val win0_16 t y 1).trans (congrArg (fun z => z * win0_16.size 1 + (y 1).val) (congrFun hi 1))
  have e0' : ((win0_16.rect t).emb y 0).val = (y 0).val := e0.trans (by show 0 * 3 + (y 0).val = _; ring)
  have e1' : ((win0_16.rect t).emb y 1).val = (y 1).val := e1.trans (by show 0 * 2816 + (y 1).val = _; ring)
  blk_simp
  rw [after0_16]
  have hl : t.val = 31 := by have h := (flush0_16 t).1 hf; have hN := pts; have := t.isLt; omega
  have hs : 256 * (t.val + 1) = 8192 := by omega
  have ho := outs H t.val t.isLt
  rw [hs] at ho
  refine cell ho.2.1 y ((win0_16.rect t).emb y) ?_
  rw [e0', e1']

/-- The value bias's derivative after the run. -/
theorem arr17 : (dats m 0 c).arrAt 17 cfg0.N = arr (n := 1) (c := 2816) (fun _ k => tot A.dval 8192 k) := by
  refine (dats m 0 c).arrAt_eq_of_covers 17 _ (by decide +kernel) fun t hf y => ?_
  have hi := (idx t).2.2.2.2.2.2.2.1
  have e0 := (Pipeline.Window.rect_emb_val win0_17 t y 0).trans (congrArg (fun z => z * win0_17.size 0 + (y 0).val) (congrFun hi 0))
  have e1 := (Pipeline.Window.rect_emb_val win0_17 t y 1).trans (congrArg (fun z => z * win0_17.size 1 + (y 1).val) (congrFun hi 1))
  have e0' : ((win0_17.rect t).emb y 0).val = (y 0).val := e0.trans (by show 0 * 1 + (y 0).val = _; ring)
  have e1' : ((win0_17.rect t).emb y 1).val = (y 1).val := e1.trans (by show 0 * 2816 + (y 1).val = _; ring)
  blk_simp
  rw [after0_17]
  have hl : t.val = 31 := by have h := (flush0_17 t).1 hf; have hN := pts; have := t.isLt; omega
  have hs : 256 * (t.val + 1) = 8192 := by omega
  have ho := outs H t.val t.isLt
  rw [hs] at ho
  refine cell ho.2.2.1 y ((win0_17.rect t).emb y) ?_
  rw [e1']

/-- The gate bias's derivative after the run. -/
theorem arr18 : (dats m 0 c).arrAt 18 cfg0.N = arr (n := 1) (c := 2816) (fun _ k => tot A.dgate 8192 k) := by
  refine (dats m 0 c).arrAt_eq_of_covers 18 _ (by decide +kernel) fun t hf y => ?_
  have hi := (idx t).2.2.2.2.2.2.2.2
  have e0 := (Pipeline.Window.rect_emb_val win0_18 t y 0).trans (congrArg (fun z => z * win0_18.size 0 + (y 0).val) (congrFun hi 0))
  have e1 := (Pipeline.Window.rect_emb_val win0_18 t y 1).trans (congrArg (fun z => z * win0_18.size 1 + (y 1).val) (congrFun hi 1))
  have e0' : ((win0_18.rect t).emb y 0).val = (y 0).val := e0.trans (by show 0 * 1 + (y 0).val = _; ring)
  have e1' : ((win0_18.rect t).emb y 1).val = (y 1).val := e1.trans (by show 0 * 2816 + (y 1).val = _; ring)
  blk_simp
  rw [after0_18]
  have hl : t.val = 31 := by have h := (flush0_18 t).1 hf; have hN := pts; have := t.isLt; omega
  have hs : 256 * (t.val + 1) = 8192 := by omega
  have ho := outs H t.val t.isLt
  rw [hs] at ho
  refine cell ho.2.2.2 y ((win0_18.rect t).emb y) ?_
  rw [e1']

end Cert.Ffn
-- ==== Proof.FfnCube.lean ====
module

public import proofs.«01_k».proof.Proof.FfnSpec
public import Idealize.ShloMosaic.Lib.IdealHost

@[expose] public section

set_option maxRecDepth 16384

noncomputable section

namespace Cert.Ffn

open Idealize.ShloMosaic Idealize.ShloMosaic.TcCoe

/-! Arrays of reals by sequence, position and channel, and by channel alone. -/

/-- An array of three axes holds the reals `f`. -/
def Cube {p n c : ℕ} (x : (⟨3, ![p, n, c]⟩ : Shape).Idx → EReal) (f : ℕ → ℕ → ℕ → ℝ) : Prop :=
  ∀ (b : Fin p) (e : Fin n) (k : Fin c), x (ix3 b e k) = ((f b.val e.val k.val : ℝ) : EReal)
/-- An array of one axis holds the reals `f`. -/
def Line {c : ℕ} (x : (⟨1, ![c]⟩ : Shape).Idx → EReal) (f : ℕ → ℝ) : Prop := ∀ k : Fin c, x (ix1 k) = ((f k.val : ℝ) : EReal)

section cube
variable {p n c : ℕ} {f g : ℕ → ℕ → ℕ → ℝ}

/-- The reals an array holds may be named otherwise. -/
theorem Cube.congr {x : (⟨3, ![p, n, c]⟩ : Shape).Idx → EReal} (h : Cube x f) (e : ∀ b < p, ∀ a < n, ∀ k < c, f b a k = g b a k) : Cube x g :=
  fun b a k => (h b a k).trans (congrArg _ (e b.val b.isLt a.val a.isLt k.val k.isLt))
/-- A product, entry by entry. -/
theorem Cube.mul {φ : FTy} {x y : FVec Ideal ⟨3, ![p, n, c]⟩ φ} (hx : Cube (p := p) (n := n) (c := c) x f) (hy : Cube (p := p) (n := n) (c := c) y g) : Cube (p := p) (n := n) (c := c) (mulf x y) (fun b a k => f b a k * g b a k) := fun b a k => by
  show (x (ix3 b a k) : EReal) * y (ix3 b a k) = _
  rw [hx b a k, hy b a k, EReal.coe_mul]
/-- A sum. -/
theorem Cube.add {φ : FTy} {x y : FVec Ideal ⟨3, ![p, n, c]⟩ φ} (hx : Cube (p := p) (n := n) (c := c) x f) (hy : Cube (p := p) (n := n) (c := c) y g) : Cube (p := p) (n := n) (c := c) (addf x y) (fun b a k => f b a k + g b a k) := fun b a k => by
  show (x (ix3 b a k) : EReal) + y (ix3 b a k) = _
  rw [hx b a k, hy b a k, EReal.coe_add]
/-- A difference. -/
theorem Cube.sub {φ : FTy} {x y : FVec Ideal ⟨3, ![p, n, c]⟩ φ} (hx : Cube (p := p) (n := n) (c := c) x f) (hy : Cube (p := p) (n := n) (c := c) y g) : Cube (p := p) (n := n) (c := c) (subf x y) (fun b a k => f b a k - g b a k) := fun b a k => by
  show (x (ix3 b a k) : EReal) - y (ix3 b a k) = _
  rw [hx b a k, hy b a k, EReal.coe_sub]
/-- The quotient of one by one more than the exponential of the opposite. -/
theorem Cube.sig {φ : FTy} {x u v : FVec Ideal ⟨3, ![p, n, c]⟩ φ} (hx : Cube (p := p) (n := n) (c := c) x f) (hu : Cube (p := p) (n := n) (c := c) u (fun _ _ _ => 1)) (hv : Cube (p := p) (n := n) (c := c) v (fun _ _ _ => 1)) :
    Cube (p := p) (n := n) (c := c) (Host.divf u (addf v (Host.exp (Host.negf x)))) (fun b a k => sg (f b a k)) := fun b a k => by
  show Ideal.div (u (ix3 b a k) : EReal) ((v (ix3 b a k) : EReal) + Ideal.exp (-(x (ix3 b a k) : EReal))) = _
  rw [hx b a k, hu b a k, hv b a k, ← EReal.coe_neg, Ideal.exp_coe, ← EReal.coe_add, Ideal.div_coe (by positivity), ← EReal.coe_mul]
  congr 1
  unfold sg
  ring
/-- A scalar spread over an array. -/
theorem cube_const {r : ℝ} {x : (⟨0, ![]⟩ : Shape).Idx → EReal} (hx : x ix0 = r) (h : (⟨0, ![]⟩ : Shape).BroadcastsInDim ⟨3, ![p, n, c]⟩ ![]) :
    Cube (p := p) (n := n) (c := c) (broadcastInDim ⟨3, ![p, n, c]⟩ ![] h x) (fun _ _ _ => r) := fun b a k =>
  (ValueIdx.broadcastInDim_scalar_apply h x _).trans hx
/-- Rows split into sequences. -/
theorem Rows.split {m : ℕ} {g : ℕ → ℕ → ℝ} {x : (⟨2, ![m, c]⟩ : Shape).Idx → EReal} (hx : Rows x g) (hm : m = p * n) (h : (⟨2, ![m, c]⟩ : Shape).ShapeCasts ⟨3, ![p, n, c]⟩) :
    Cube (p := p) (n := n) (c := c) (shapeCast ⟨3, ![p, n, c]⟩ x h) (fun b a k => g (b * n + a) k) := fun b a k => by
  have hb : b.val * n + a.val < m := by
    have := a.isLt
    have h1 : (b.val + 1) * n ≤ p * n := Nat.mul_le_mul_right n b.isLt
    rw [Nat.add_mul] at h1; omega
  refine (shapeCast_apply x h (ix3 b a k) (ix2 ⟨_, hb⟩ k) ?_).trans (hx ⟨_, hb⟩ k)
  rw [Shape.rowMajor_val_two, Shape.rowMajor_val_three]
  rfl
/-- Sequences joined into rows. -/
theorem Cube.join {m : ℕ} {x : (⟨3, ![p, n, c]⟩ : Shape).Idx → EReal} (hx : Cube x f) (hm : m = p * n) (h : (⟨3, ![p, n, c]⟩ : Shape).ShapeCasts ⟨2, ![m, c]⟩) :
    Rows (n := m) (c := c) (shapeCast ⟨2, ![m, c]⟩ x h) (fun T k => f (T / n) (T % n) k) := fun a k => by
  have ha := a.isLt
  have hn : 0 < n := Nat.pos_of_ne_zero fun e => by subst e; omega
  have h1 : a.val / n < p := Nat.div_lt_of_lt_mul (by rw [Nat.mul_comm]; omega)
  have h2 : a.val % n < n := Nat.mod_lt _ hn
  refine (shapeCast_apply x h (ix2 a k) (ix3 ⟨_, h1⟩ ⟨_, h2⟩ k) ?_).trans (hx ⟨_, h1⟩ ⟨_, h2⟩ k)
  rw [Shape.rowMajor_val_two, Shape.rowMajor_val_three]
  show (a.val / n * n + a.val % n) * c + k.val = a.val * c + k.val
  rw [Nat.div_add_mod']
/-- Positions cut out of every sequence. -/
theorem Cube.slice {m o : ℕ} {x : (⟨3, ![p, n, c]⟩ : Shape).Idx → EReal} (hx : Cube x f) (h : (⟨3, ![p, n, c]⟩ : Shape).Slices ![0, o, 0] ⟨3, ![p, m, c]⟩) :
    Cube (p := p) (n := m) (c := c) (extractStridedSlice ⟨3, ![p, m, c]⟩ ![0, o, 0] x h) (fun b a k => f b (o + a) k) := fun b a k => by
  have hb : o + a.val < n := by
    have := h.2 (1 : Fin 3); have h1 : o + m ≤ n := this
    have := a.isLt; omega
  refine (extractStridedSlice_apply ![0, o, 0] x h (ix3 b a k) (ix3 b ⟨o + a.val, hb⟩ k) (fun d => ?_)).trans (hx b ⟨o + a.val, hb⟩ k)
  match d with
  | ⟨0, _⟩ => show b.val = 0 + b.val; omega
  | ⟨1, _⟩ => rfl
  | ⟨2, _⟩ => show k.val = 0 + k.val; omega
/-- Positions put in front of every sequence. -/
theorem cube_stack {a0 a1 : ℕ} {f0 f1 : ℕ → ℕ → ℕ → ℝ} {x0 : (⟨3, ![p, a0, c]⟩ : Shape).Idx → EReal} {x1 : (⟨3, ![p, a1, c]⟩ : Shape).Idx → EReal}
    (h0 : Cube x0 f0) (h1 : Cube x1 f1) (hn : n = a0 + a1)
    (h : Shape.Concatenates (([⟨⟨3, ![p, a0, c]⟩, x0⟩, ⟨⟨3, ![p, a1, c]⟩, x1⟩] : List ((s : Shape) × (s.Idx → EReal))).map (·.1)) ⟨3, ![p, n, c]⟩ 1) :
    Cube (p := p) (n := n) (c := c) (concatenate ⟨3, ![p, n, c]⟩ 1 [⟨⟨3, ![p, a0, c]⟩, x0⟩, ⟨⟨3, ![p, a1, c]⟩, x1⟩] h)
      (fun b a k => if a < a0 then f0 b a k else f1 b (a - a0) k) := fun b a k => by
  have ha := a.isLt
  dsimp only
  by_cases b0 : a.val < a0
  · rw [if_pos b0]
    refine (concatenate_apply_piece (t := ⟨3, ![p, n, c]⟩) 1 _ h (ix3 b a k) 0 (by simp) ⟨3, ![p, a0, c]⟩ x0 rfl rfl 0 rfl (ix3 b ⟨a.val, b0⟩ k) (fun d hd => ?_) ?_).trans (h0 b ⟨a.val, b0⟩ k)
    · match d with
      | ⟨0, _⟩ => rfl
      | ⟨1, _⟩ => exact absurd rfl hd
      | ⟨2, _⟩ => rfl
    · show 0 + a.val = a.val; omega
  · rw [if_neg b0]
    refine (concatenate_apply_piece (t := ⟨3, ![p, n, c]⟩) 1 _ h (ix3 b a k) 1 (by simp) ⟨3, ![p, a1, c]⟩ x1 rfl rfl a0 rfl (ix3 b ⟨a.val - a0, by omega⟩ k) (fun d hd => ?_) ?_).trans (h1 b ⟨a.val - a0, by omega⟩ k)
    · match d with
      | ⟨0, _⟩ => rfl
      | ⟨1, _⟩ => exact absurd rfl hd
      | ⟨2, _⟩ => rfl
    · show a0 + (a.val - a0) = a.val; omega
/-- Zeros put around every sequence. -/
theorem Cube.pad {m l r : ℕ} {x : (⟨3, ![p, n, c]⟩ : Shape).Idx → EReal} (hx : Cube x f) {v : (⟨0, ![]⟩ : Shape).Idx → EReal} (hu : 0 < (⟨0, ![]⟩ : Shape).numel) (hv : v (Shape.Idx.first hu) = ((0 : ℝ) : EReal))
    (h : (⟨3, ![p, n, c]⟩ : Shape).Pads ![0, l, 0] ![0, r, 0] ![0, 0, 0] ⟨3, ![p, m, c]⟩) :
    Cube (p := p) (n := m) (c := c) (pad ⟨3, ![p, m, c]⟩ ![0, l, 0] ![0, r, 0] ![0, 0, 0] x v h hu) (fun b a k => if l ≤ a ∧ a - l < n then f b (a - l) k else 0) := fun b a k => by
  dsimp only
  by_cases e : l ≤ a.val ∧ a.val - l < n
  · rw [if_pos e]
    refine (pad_apply_of_inside _ _ _ x v h hu (ix3 b a k) (ix3 b ⟨a.val - l, e.2⟩ k) (fun d => ?_)).trans (hx b ⟨a.val - l, e.2⟩ k)
    match d with
    | ⟨0, _⟩ => show b.val = 0 + b.val * (0 + 1); omega
    | ⟨1, _⟩ => show a.val = l + (a.val - l) * (0 + 1); omega
    | ⟨2, _⟩ => show k.val = 0 + k.val * (0 + 1); omega
  · rw [if_neg e]
    refine (pad_apply_of_not_inside _ _ _ x v h hu (ix3 b a k) ⟨1, by show 1 < 3; omega⟩ ?_).trans hv
    show ¬(l ≤ a.val ∧ (a.val - l) % (0 + 1) = 0 ∧ (a.val - l) / (0 + 1) < n)
    simp only [Nat.zero_add, Nat.mod_one, Nat.div_one, true_and]
    exact e
/-- The sum over sequences and positions. -/
theorem Cube.total {x : FVec Ideal ⟨3, ![p, n, c]⟩ .f32} (hx : Cube (p := p) (n := n) (c := c) x f) {v : (⟨0, ![]⟩ : Shape).Idx → Ideal .f32} (hu : 0 < (⟨0, ![]⟩ : Shape).numel) (hv : v (Shape.Idx.first hu) = ((0 : ℝ) : EReal))
    (h : (⟨3, ![p, n, c]⟩ : Shape).ReducesTo [0, 1] ⟨1, ![c]⟩) :
    Line (c := c) (Host.reduceAdd x v h hu) (fun k => ∑ b ∈ Finset.range p, ∑ a ∈ Finset.range n, f b a k) := fun k => by
  rw [ValueIdx.hostReduceAdd_apply, hv]
  have fib : ∀ i : (⟨3, ![p, n, c]⟩ : Shape).Idx, h.drop i = ix1 k ↔ ∃ q : Fin p × Fin n, ix3 q.1 q.2 k = i := fun i => by
    have dv : (h.drop i 0).val = (i 2).val := rfl
    constructor
    · intro e
      refine ⟨(i 0, i 1), funext fun a => Fin.ext ?_⟩
      have ek : (i 2).val = k.val := dv.symm.trans (congrArg (fun z => (z 0).val) e)
      match a with
      | ⟨0, _⟩ => rfl
      | ⟨1, _⟩ => rfl
      | ⟨2, _⟩ => exact ek.symm
    · rintro ⟨q, rfl⟩
      funext a
      match a with
      | ⟨0, _⟩ => exact Fin.ext dv
  have hs := Finset.sum_filter_eq_sum_of_fiber (fun i => h.drop i = ix1 k) (fun q : Fin p × Fin n => ix3 q.1 q.2 k) (fun _ _ e => Prod.ext (congrFun e 0) (congrFun e 1)) fib x
  show ((0 : ℝ) : EReal) + ∑ i ∈ Finset.univ.filter (fun i => h.drop i = ix1 k), x i = _
  rw [show (∑ i ∈ Finset.univ.filter (fun i => h.drop i = ix1 k), x i : EReal) = _ from hs, EReal.coe_zero, zero_add]
  refine (rsum (ι := Fin p × Fin n) _ (fun q => f q.1.val q.2.val k.val) fun q => hx q.1 q.2 k).trans ?_
  rw [Fintype.sum_prod_type]
  simp only [Finset.sum_range]
end cube

section line
variable {c : ℕ}

/-- One row as a line. -/
theorem Rows.line {f : ℕ → ℕ → ℝ} {x : (⟨2, ![1, c]⟩ : Shape).Idx → EReal} (hx : Rows x f) (h : (⟨2, ![1, c]⟩ : Shape).ShapeCasts ⟨1, ![c]⟩) :
    Line (c := c) (shapeCast ⟨1, ![c]⟩ x h) (fun k => f 0 k) := fun k => by
  refine (shapeCast_apply x h (ix1 k) (ix2 0 k) ?_).trans (hx 0 k)
  rw [Shape.rowMajor_val_two, Shape.rowMajor_val_one]
  show 0 * c + k.val = k.val; omega
/-- A line reshaped. -/
theorem Line.stand {f : ℕ → ℝ} {x : (⟨1, ![c]⟩ : Shape).Idx → EReal} (hx : Line x f) (h : (⟨1, ![c]⟩ : Shape).ShapeCasts ⟨3, ![1, 1, c]⟩) :
    Cube (p := 1) (n := 1) (c := c) (shapeCast ⟨3, ![1, 1, c]⟩ x h) (fun _ _ k => f k) := fun b a k => by
  refine (shapeCast_apply x h (ix3 b a k) (ix1 k) ?_).trans (hx k)
  rw [Shape.rowMajor_val_one, Shape.rowMajor_val_three]
  show k.val = (b.val * 1 + a.val) * c + k.val
  have : b.val = 0 := by omega
  have : a.val = 0 := by omega
  simp [*]
/-- A line spread. -/
theorem Line.lift {f : ℕ → ℝ} {x : (⟨1, ![c]⟩ : Shape).Idx → EReal} (hx : Line x f) (hc : c ≠ 1) (h : (⟨1, ![c]⟩ : Shape).BroadcastsInDim ⟨3, ![1, 1, c]⟩ ![2]) :
    Cube (p := 1) (n := 1) (c := c) (broadcastInDim ⟨3, ![1, 1, c]⟩ ![2] h x) (fun _ _ k => f k) := fun b a k => by
  refine (broadcastInDim_apply _ h x (ix3 b a k) (ix1 k) (fun d => ?_)).trans (hx k)
  match d with
  | ⟨0, _⟩ => exact (if_neg (show ¬(c = 1) from hc)).symm
/-- A line as one row. -/
theorem Line.row {f : ℕ → ℝ} {x : (⟨1, ![c]⟩ : Shape).Idx → EReal} (hx : Line x f) (hc : c ≠ 1) (h : (⟨1, ![c]⟩ : Shape).BroadcastsInDim ⟨2, ![1, c]⟩ ![1]) :
    Rows (n := 1) (c := c) (broadcastInDim ⟨2, ![1, c]⟩ ![1] h x) (fun _ k => f k) := fun a k => by
  refine (broadcastInDim_apply _ h x (ix2 a k) (ix1 k) (fun d => ?_)).trans (hx k)
  match d with
  | ⟨0, _⟩ => exact (if_neg (show ¬(c = 1) from hc)).symm
/-- One row lifted. -/
theorem Rows.lift {f : ℕ → ℕ → ℝ} {x : (⟨2, ![1, c]⟩ : Shape).Idx → EReal} (hx : Rows x f) (hc : c ≠ 1) (h : (⟨2, ![1, c]⟩ : Shape).BroadcastsInDim ⟨3, ![1, 1, c]⟩ ![1, 2]) :
    Cube (p := 1) (n := 1) (c := c) (broadcastInDim ⟨3, ![1, 1, c]⟩ ![1, 2] h x) (fun _ _ k => f 0 k) := fun b a k => by
  refine (broadcastInDim_apply _ h x (ix3 b a k) (ix2 0 k) (fun d => ?_)).trans (hx 0 k)
  match d with
  | ⟨0, _⟩ => rfl
  | ⟨1, _⟩ => exact (if_neg (show ¬(c = 1) from hc)).symm
/-- One row spread over sequences and positions. -/
theorem Cube.spread {p n : ℕ} {f : ℕ → ℕ → ℕ → ℝ} {x : (⟨3, ![1, 1, c]⟩ : Shape).Idx → EReal} (hx : Cube x f) (hc : c ≠ 1) (h : (⟨3, ![1, 1, c]⟩ : Shape).BroadcastsInDim ⟨3, ![p, n, c]⟩ ![0, 1, 2]) :
    Cube (p := p) (n := n) (c := c) (broadcastInDim ⟨3, ![p, n, c]⟩ ![0, 1, 2] h x) (fun _ _ k => f 0 0 k) := fun b a k => by
  refine (broadcastInDim_apply _ h x (ix3 b a k) (ix3 0 0 k) (fun d => ?_)).trans (hx 0 0 k)
  match d with
  | ⟨0, _⟩ => rfl
  | ⟨1, _⟩ => rfl
  | ⟨2, _⟩ => exact (if_neg (show ¬(c = 1) from hc)).symm
/-- One row among rows of zeros. -/
theorem Rows.pad {l r m : ℕ} {f : ℕ → ℕ → ℝ} {x : (⟨2, ![1, c]⟩ : Shape).Idx → EReal} (hx : Rows x f) {v : (⟨0, ![]⟩ : Shape).Idx → EReal} (hu : 0 < (⟨0, ![]⟩ : Shape).numel) (hv : v (Shape.Idx.first hu) = ((0 : ℝ) : EReal))
    (h : (⟨2, ![1, c]⟩ : Shape).Pads ![l, 0] ![r, 0] ![0, 0] ⟨2, ![m, c]⟩) :
    Rows (n := m) (c := c) (pad ⟨2, ![m, c]⟩ ![l, 0] ![r, 0] ![0, 0] x v h hu) (fun a k => if a = l then f 0 k else 0) := fun a k => by
  dsimp only
  by_cases e : a.val = l
  · rw [if_pos e]
    refine (pad_apply_of_inside _ _ _ x v h hu (ix2 a k) (ix2 0 k) (fun d => ?_)).trans (hx 0 k)
    match d with
    | ⟨0, _⟩ => show a.val = l + 0 * (0 + 1); omega
    | ⟨1, _⟩ => show k.val = 0 + k.val * (0 + 1); omega
  · rw [if_neg e]
    refine (pad_apply_of_not_inside _ _ _ x v h hu (ix2 a k) ⟨0, by show 0 < 2; omega⟩ ?_).trans hv
    show ¬(l ≤ a.val ∧ (a.val - l) % (0 + 1) = 0 ∧ (a.val - l) / (0 + 1) < 1)
    simp only [Nat.zero_add, Nat.mod_one, Nat.div_one, true_and]
    omega
end line

end Cert.Ffn
-- ==== Proof.FfnRef.lean ====
module

public import proofs.«01_k».proof.Proof.Gen.Reference2Ideal.Read
public import proofs.«01_k».proof.Proof.FfnCube

@[expose] public section

set_option maxRecDepth 16384

noncomputable section

namespace Cert.Ffn.Ref

open Cert.Reference2Ideal Cert.Reference2Ideal.Gen Cert.Reference2Ideal.Read
open Idealize.ShloMosaic Idealize.ShloMosaic.TcCoe

/-! What the second reference program's arrays hold. -/

/-- An array of tokens by sequence and position. -/
def seq (y : ℕ → ℕ → ℝ) (b a k : ℕ) : ℝ := y (b * 4096 + a) k

/-- The shape every intermediate array has. -/
abbrev C (x : FVec Ideal S2x4096x2816 .f32) (f : ℕ → ℕ → ℕ → ℝ) : Prop := Cube (p := 2) (n := 4096) (c := 2816) x f

/-- A scalar zero. -/
theorem zc (i : S_.Idx) : (constant (F := Ideal) S_ .f32 0x00000000#32) i = ((0 : ℝ) : EReal) := zero_bits
/-- A scalar one. -/
theorem oc (i : S_.Idx) : (constant (F := Ideal) S_ .f32 0x3F800000#32) i = ((1 : ℝ) : EReal) := one_bits

/-- A sum over two sequences is the sum over all tokens. -/
theorem both (f : ℕ → ℝ) : ∑ b ∈ Finset.range 2, ∑ a ∈ Finset.range 4096, f (b * 4096 + a) = ∑ T ∈ Finset.range 8192, f T := by
  rw [show (8192 : ℕ) = 4096 + 4096 from rfl, Finset.sum_range_add, Finset.sum_range_succ, Finset.sum_range_succ, Finset.sum_range_zero, zero_add]
  simp only [Nat.zero_mul, Nat.zero_add, Nat.one_mul]

/-- The tokens one and two back, by sequence. -/
theorem behind {o s : ℕ} (hs : s = 2 - o) (ho : o < 2) {X : ℕ → ℕ → ℝ} {z : FVec Ideal S2x2x2816 .f32} {x : FVec Ideal S2x4096x2816 .f32} (hz : Cube (p := 2) (n := 2) (c := 2816) z (fun _ _ _ => 0)) (hx : C x (seq X))
    (h : S2x4098x2816.Slices ![0, o, 0] S2x4096x2816) :
    C (extractStridedSlice S2x4096x2816 ![0, o, 0] (concatenate S2x4098x2816 1 [⟨S2x2x2816, z⟩, ⟨S2x4096x2816, x⟩] concatenates_S2x2x2816_S2x4096x2816_S2x4098x2816_d1) h)
      (seq fun T k => sh X T k s) := by
  refine Cube.congr (Cube.slice (p := 2) (n := 4098) (c := 2816) (cube_stack (p := 2) (n := 4098) (c := 2816) hz hx rfl concatenates_S2x2x2816_S2x4096x2816_S2x4098x2816_d1) h) fun b hb a ha k _ => ?_
  unfold seq sh
  show _ = if s ≤ (b * 4096 + a) % 4096 then X (b * 4096 + a - s) k else 0
  rw [show (b * 4096 + a) % 4096 = a by omega]
  by_cases e : s ≤ a
  · rw [if_pos e, if_neg (show ¬ o + a < 2 by omega)]
    exact congrArg (fun T => X T k) (by omega)
  · rw [if_neg e, if_pos (show o + a < 2 by omega)]

/-- One tap spread over all tokens. -/
theorem spread {o : ℕ} {W : ℕ → ℕ → ℝ} {w : FVec Ideal S3x2816 .f32} (hw : Rows (n := 3) (c := 2816) w W) (h : S3x2816.Slices ![o, 0] S1x2816) :
    C (broadcastInDim S2x4096x2816 ![0, 1, 2] bcast_S1x1x2816_S2x4096x2816_0_1_2 (broadcastInDim S1x1x2816 ![2] bcast_S2816_S1x1x2816_2 (shapeCast S2816 (extractStridedSlice S1x2816 ![o, 0] w h) shapeCasts_S1x2816_S2816)))
      (fun _ _ k => W o k) :=
  Cube.congr (Cube.spread (c := 2816) (Line.lift (c := 2816) (Rows.line (c := 2816) (Rows.slice (n := 3) (c := 2816) (m := 1) hw h) shapeCasts_S1x2816_S2816) (by omega) bcast_S2816_S1x1x2816_2) (by omega) bcast_S1x1x2816_S2x4096x2816_0_1_2) fun _ _ _ _ k _ => congrArg (fun r => W r k) (Nat.add_zero o)

/-- The bias spread over all tokens. -/
theorem bias {B : ℕ → ℕ → ℝ} {w : FVec Ideal S1x2816 .f32} (hw : Rows (n := 1) (c := 2816) w B) :
    C (broadcastInDim S2x4096x2816 ![0, 1, 2] bcast_S1x1x2816_S2x4096x2816_0_1_2 (broadcastInDim S1x1x2816 ![1, 2] bcast_S1x2816_S1x1x2816_1_2 w))
      (fun _ _ k => B 0 k) :=
  Cube.spread (c := 2816) (Rows.lift (c := 2816) hw (by omega) bcast_S1x2816_S1x1x2816_1_2) (by omega) bcast_S1x1x2816_S2x4096x2816_0_1_2

/-- The convolution. -/
theorem conved {X W B : ℕ → ℕ → ℝ} {x0 x1 x2 w0 w1 w2 d : FVec Ideal S2x4096x2816 .f32} (h0 : C x0 (seq X)) (h1 : C x1 (seq fun T k => sh X T k 1)) (h2 : C x2 (seq fun T k => sh X T k 2))
    (g0 : C w0 fun _ _ k => W 0 k) (g1 : C w1 fun _ _ k => W 1 k) (g2 : C w2 fun _ _ k => W 2 k) (hd : C d fun _ _ k => B 0 k) :
    C (addf (addf (addf (mulf x2 w0) (mulf x1 w1)) (mulf x0 w2)) d) (seq (conv X W B)) := by
  refine Cube.congr (Cube.add (Cube.add (Cube.add (Cube.mul h2 g0) (Cube.mul h1 g1)) (Cube.mul h0 g2)) hd) fun b _ a _ k _ => ?_
  unfold seq conv
  ring

/-- The sum over all tokens, as one row. -/
theorem summed {Y : ℕ → ℕ → ℝ} {y : FVec Ideal S2x4096x2816 .f32} (hy : C y (seq Y)) :
    Rows (n := 1) (c := 2816) (broadcastInDim S1x2816 ![1] bcast_S2816_S1x2816_1 (Host.reduceAdd (shapeCast S1x1x2816 (Host.reduceAdd y (constant S_ .f32 0x00000000#32) reducesTo_S2x4096x2816_S2816_d0_1 h_S_) shapeCasts_S2816_S1x1x2816) (constant S_ .f32 0x00000000#32) reducesTo_S1x1x2816_S2816_d0_1 h_S_))
      (fun _ k => tot Y 8192 k) := by
  refine Rows.congr (Line.row (c := 2816) (Cube.total (p := 1) (n := 1) (c := 2816) (Line.stand (c := 2816) (Cube.total (p := 2) (n := 4096) (c := 2816) hy h_S_ (zc _) reducesTo_S2x4096x2816_S2816_d0_1) shapeCasts_S2816_S1x1x2816) h_S_ (zc _) reducesTo_S1x1x2816_S2816_d0_1) (by omega) bcast_S2816_S1x2816_1) fun a _ k _ => ?_
  unfold seq tot
  rw [Finset.sum_range_one, Finset.sum_range_one]
  exact both fun T => Y T k

/-- The sums of the products with every tap's tokens, as three rows. -/
theorem tapped {Y X : ℕ → ℕ → ℝ} {q0 q1 q2 : FVec Ideal S1x2816 .f32} (h0 : Rows (n := 1) (c := 2816) q0 fun _ k => tot (fun T k => sh X T k 2 * Y T k) 8192 k) (h1 : Rows (n := 1) (c := 2816) q1 fun _ k => tot (fun T k => sh X T k 1 * Y T k) 8192 k) (h2 : Rows (n := 1) (c := 2816) q2 fun _ k => tot (fun T k => X T k * Y T k) 8192 k) :
    Rows (n := 3) (c := 2816) (addf (addf (pad S3x2816 ![2, 0] ![0, 0] ![0, 0] q2 (constant S_ .f32 0x00000000#32) pads_S1x2816_S3x2816_200_000 h_S_) (pad S3x2816 ![1, 0] ![1, 0] ![0, 0] q1 (constant S_ .f32 0x00000000#32) pads_S1x2816_S3x2816_110_000 h_S_)) (pad S3x2816 ![0, 0] ![2, 0] ![0, 0] q0 (constant S_ .f32 0x00000000#32) pads_S1x2816_S3x2816_020_000 h_S_))
      (fun r k => tap Y X 8192 r k) := by
  refine Rows.congr (Rows.add (Rows.add (Rows.pad (c := 2816) (m := 3) h2 h_S_ (zc _) pads_S1x2816_S3x2816_200_000) (Rows.pad (c := 2816) (m := 3) h1 h_S_ (zc _) pads_S1x2816_S3x2816_110_000)) (Rows.pad (c := 2816) (m := 3) h0 h_S_ (zc _) pads_S1x2816_S3x2816_020_000)) fun r hr k _ => ?_
  unfold tap tot
  have : r = 0 ∨ r = 1 ∨ r = 2 := by omega
  rcases this with rfl | rfl | rfl
  · simp only [if_neg (show ¬ (0 : ℕ) = 2 by omega), if_neg (show ¬ (0 : ℕ) = 1 by omega), if_true, zero_add]
    exact Finset.sum_congr rfl fun T _ => mul_comm _ _
  · simp only [if_neg (show ¬ (1 : ℕ) = 2 by omega), if_neg (show ¬ (1 : ℕ) = 0 by omega), if_true, zero_add, add_zero]
    exact Finset.sum_congr rfl fun T _ => mul_comm _ _
  · simp only [if_neg (show ¬ (2 : ℕ) = 1 by omega), if_neg (show ¬ (2 : ℕ) = 0 by omega), if_true, add_zero]
    refine Finset.sum_congr rfl fun T _ => (mul_comm _ _).trans ?_
    unfold sh
    rw [if_pos (Nat.zero_le _)]
    rfl

/-- The convolution run backwards. -/
theorem unconved {Y W : ℕ → ℕ → ℝ} {y w0 w1 w2 : FVec Ideal S2x4096x2816 .f32} (hy : C y (seq Y)) (g0 : C w0 fun _ _ k => W 0 k) (g1 : C w1 fun _ _ k => W 1 k) (g2 : C w2 fun _ _ k => W 2 k) :
    Rows (n := 8192) (c := 2816) (shapeCast S8192x2816 (addf (mulf y w2) (extractStridedSlice S2x4096x2816 ![0, 2, 0] (addf (pad S2x4098x2816 ![0, 1, 0] ![0, 1, 0] ![0, 0, 0] (mulf y w1) (constant S_ .f32 0x00000000#32) pads_S2x4096x2816_S2x4098x2816_000_110_000 h_S_) (pad S2x4098x2816 ![0, 0, 0] ![0, 2, 0] ![0, 0, 0] (mulf y w0) (constant S_ .f32 0x00000000#32) pads_S2x4096x2816_S2x4098x2816_000_020_000 h_S_)) slices_S2x4098x2816_S2x4096x2816_0_2_0)) shapeCasts_S2x4096x2816_S8192x2816)
      (fun T k => dconv Y W T k) := by
  refine Rows.congr (Cube.join (p := 2) (n := 4096) (c := 2816) (Cube.add (Cube.mul hy g2) (Cube.slice (p := 2) (n := 4098) (c := 2816) (Cube.add (Cube.pad (p := 2) (n := 4096) (c := 2816) (m := 4098) (Cube.mul hy g1) h_S_ (zc _) pads_S2x4096x2816_S2x4098x2816_000_110_000) (Cube.pad (p := 2) (n := 4096) (c := 2816) (m := 4098) (Cube.mul hy g0) h_S_ (zc _) pads_S2x4096x2816_S2x4098x2816_000_020_000)) slices_S2x4098x2816_S2x4096x2816_0_2_0)) rfl shapeCasts_S2x4096x2816_S8192x2816) fun T _ k _ => ?_
  have e1 : (if 1 ≤ 2 + T % 4096 ∧ 2 + T % 4096 - 1 < 4096 then seq Y (T / 4096) (2 + T % 4096 - 1) k * W 1 k else 0) = W 1 k * fw Y T k 1 := by
    unfold seq fw
    by_cases e : T % 4096 + 1 < 4096
    · rw [if_pos e, if_pos ⟨by omega, by omega⟩, show T / 4096 * 4096 + (2 + T % 4096 - 1) = T + 1 by omega, mul_comm]
    · rw [if_neg e, if_neg (fun h => e (by omega)), mul_zero]
  have e0 : (if 0 ≤ 2 + T % 4096 ∧ 2 + T % 4096 - 0 < 4096 then seq Y (T / 4096) (2 + T % 4096 - 0) k * W 0 k else 0) = W 0 k * fw Y T k 2 := by
    unfold seq fw
    by_cases e : T % 4096 + 2 < 4096
    · rw [if_pos e, if_pos ⟨by omega, by omega⟩, show T / 4096 * 4096 + (2 + T % 4096 - 0) = T + 2 by omega, mul_comm]
    · rw [if_neg e, if_neg (fun h => e (by omega)), mul_zero]
  have e2 : seq Y (T / 4096) (T % 4096) k = Y T k := by
    unfold seq
    rw [Nat.div_add_mod']
  refine (congrArg₂ (fun u v => seq Y (T / 4096) (T % 4096) k * W 2 k + (u + v)) e1 e0).trans ?_
  rw [e2]
  unfold dconv
  ring

/-- The operands, as arrays of reals. -/
structure Given (A : Args) (x0 x1 : (⟨S8192x2816, .f32⟩ : BufTy).Contents (Elt Ideal)) (x2 : (⟨S8192x1024, .f32⟩ : BufTy).Contents (Elt Ideal)) (x3 : (⟨S2816x1024, .f32⟩ : BufTy).Contents (Elt Ideal))
    (x4 x5 : (⟨S3x2816, .f32⟩ : BufTy).Contents (Elt Ideal)) (x6 x7 : (⟨S1x2816, .f32⟩ : BufTy).Contents (Elt Ideal)) : Prop where
  hU : Rows (n := 8192) (c := 2816) x0 A.U
  hG : Rows (n := 8192) (c := 2816) x1 A.G
  hD : Rows (n := 8192) (c := 1024) x2 A.DX
  hW : Rows (n := 2816) (c := 1024) x3 A.W
  hv : Rows (n := 3) (c := 2816) x4 A.wv
  hg : Rows (n := 3) (c := 2816) x5 A.wg
  hbv : Rows (n := 1) (c := 2816) x6 A.bv
  hbg : Rows (n := 1) (c := 2816) x7 A.bg

section given
variable {A : Args} {x0 x1 : (⟨S8192x2816, .f32⟩ : BufTy).Contents (Elt Ideal)} {x2 : (⟨S8192x1024, .f32⟩ : BufTy).Contents (Elt Ideal)} {x3 : (⟨S2816x1024, .f32⟩ : BufTy).Contents (Elt Ideal)}
    {x4 x5 : (⟨S3x2816, .f32⟩ : BufTy).Contents (Elt Ideal)} {x6 x7 : (⟨S1x2816, .f32⟩ : BufTy).Contents (Elt Ideal)} (H : Given A x0 x1 x2 x3 x4 x5 x6 x7)
include H

/-- The value operand by sequence. -/
theorem v0 : C (val_main_v0 (F := Ideal) x0) (seq A.U) :=
  Rows.split (p := 2) (n := 4096) (c := 2816) H.hU rfl shapeCasts_S8192x2816_S2x4096x2816
/-- The value operand two tokens back. -/
theorem v4 : C (val_main_v4 (F := Ideal) x0) (seq fun T k => sh A.U T k 2) :=
  behind (o := 0) rfl (by omega) (cube_const (p := 2) (n := 2) (c := 2816) (zc _) bcast_S_S2x2x2816) (v0 H) slices_S2x4098x2816_S2x4096x2816_0_0_0
/-- The value operand one token back. -/
theorem v10 : C (val_main_v10 (F := Ideal) x0) (seq fun T k => sh A.U T k 1) :=
  behind (o := 1) rfl (by omega) (cube_const (p := 2) (n := 2) (c := 2816) (zc _) bcast_S_S2x2x2816) (v0 H) slices_S2x4098x2816_S2x4096x2816_0_1_0
/-- Tap 0 of the value convolution. -/
theorem w7 : C (broadcastInDim S2x4096x2816 ![0, 1, 2] bcast_S1x1x2816_S2x4096x2816_0_1_2 (val_main_v7 (F := Ideal) x4)) (fun _ _ k => A.wv 0 k) :=
  spread H.hv slices_S3x2816_S1x2816_0_0
/-- Tap 1 of the value convolution. -/
theorem w13 : C (broadcastInDim S2x4096x2816 ![0, 1, 2] bcast_S1x1x2816_S2x4096x2816_0_1_2 (val_main_v13 (F := Ideal) x4)) (fun _ _ k => A.wv 1 k) :=
  spread H.hv slices_S3x2816_S1x2816_1_0
/-- Tap 2 of the value convolution. -/
theorem w19 : C (broadcastInDim S2x4096x2816 ![0, 1, 2] bcast_S1x1x2816_S2x4096x2816_0_1_2 (val_main_v19 (F := Ideal) x4)) (fun _ _ k => A.wv 2 k) :=
  spread H.hv slices_S3x2816_S1x2816_2_0
/-- The value convolution. -/
theorem v25 : C (val_main_v25 (F := Ideal) x0 x4 x6) (seq (conv A.U A.wv A.bv)) :=
  conved (v0 H) (v10 H) (v4 H) (w7 H) (w13 H) (w19 H) (bias H.hbv)
/-- The gate operand by sequence. -/
theorem v26 : C (val_main_v26 (F := Ideal) x1) (seq A.G) :=
  Rows.split (p := 2) (n := 4096) (c := 2816) H.hG rfl shapeCasts_S8192x2816_S2x4096x2816
/-- The gate operand two tokens back. -/
theorem v30 : C (val_main_v30 (F := Ideal) x1) (seq fun T k => sh A.G T k 2) :=
  behind (o := 0) rfl (by omega) (cube_const (p := 2) (n := 2) (c := 2816) (zc _) bcast_S_S2x2x2816) (v26 H) slices_S2x4098x2816_S2x4096x2816_0_0_0
/-- The gate operand one token back. -/
theorem v36 : C (val_main_v36 (F := Ideal) x1) (seq fun T k => sh A.G T k 1) :=
  behind (o := 1) rfl (by omega) (cube_const (p := 2) (n := 2) (c := 2816) (zc _) bcast_S_S2x2x2816) (v26 H) slices_S2x4098x2816_S2x4096x2816_0_1_0
/-- Tap 0 of the gate convolution. -/
theorem w33 : C (broadcastInDim S2x4096x2816 ![0, 1, 2] bcast_S1x1x2816_S2x4096x2816_0_1_2 (val_main_v33 (F := Ideal) x5)) (fun _ _ k => A.wg 0 k) :=
  spread H.hg slices_S3x2816_S1x2816_0_0
/-- Tap 1 of the gate convolution. -/
theorem w39 : C (broadcastInDim S2x4096x2816 ![0, 1, 2] bcast_S1x1x2816_S2x4096x2816_0_1_2 (val_main_v39 (F := Ideal) x5)) (fun _ _ k => A.wg 1 k) :=
  spread H.hg slices_S3x2816_S1x2816_1_0
/-- Tap 2 of the gate convolution. -/
theorem w45 : C (broadcastInDim S2x4096x2816 ![0, 1, 2] bcast_S1x1x2816_S2x4096x2816_0_1_2 (val_main_v45 (F := Ideal) x5)) (fun _ _ k => A.wg 2 k) :=
  spread H.hg slices_S3x2816_S1x2816_2_0
/-- The gate convolution. -/
theorem v51 : C (val_main_v51 (F := Ideal) x1 x5 x7) (seq (conv A.G A.wg A.bg)) :=
  conved (v26 H) (v36 H) (v30 H) (w33 H) (w39 H) (w45 H) (bias H.hbg)
/-- The gate's logistic function. -/
theorem s52 : C (val_main_v52_2 (F := Ideal) x1 x5 x7) (seq fun T k => sg (A.gate T k)) :=
  Cube.sig (v51 H) (cube_const (p := 2) (n := 4096) (c := 2816) (oc _) bcast_S_S2x4096x2816) (cube_const (p := 2) (n := 4096) (c := 2816) (oc _) bcast_S_S2x4096x2816)
/-- The gradient by row of the gated product. -/
theorem v57 : C (val_main_v57 (F := Ideal) x2 x3) (seq A.da) := fun b a k => by
  have h56 : Cube (p := 2) (n := 4096) (c := 1024) (val_main_v56 (F := Ideal) x2) (fun b a j => A.DX (b * 4096 + a) j) := Rows.split (p := 2) (n := 4096) (c := 1024) H.hD rfl shapeCasts_S8192x1024_S2x4096x1024
  refine (val_main_v57_apply x2 x3 (ix3 b a k)).trans ?_
  refine rsum _ (fun j : Fin 1024 => A.DX (b.val * 4096 + a.val) j.val * A.W k.val j.val) fun j => ?_
  have el : lidx_main_v57 (ix3 b a k) j = ix3 b a j := by
    funext d; match d with
    | ⟨0, _⟩ => rfl
    | ⟨1, _⟩ => rfl
    | ⟨2, _⟩ => rfl
  have er : ridx_main_v57 (ix3 b a k) j = ix2 k j := by
    funext d; match d with
    | ⟨0, _⟩ => rfl
    | ⟨1, _⟩ => rfl
  refine (congrArg₂ (fun u v : EReal => u * v) ((congrArg _ el).trans (h56 b a j)) ((congrArg _ er).trans (H.hW k j))).trans ?_
  exact (EReal.coe_mul _ _).symm
/-- The gradient by row of the value side. -/
theorem v58 : C (val_main_v58 (F := Ideal) x1 x2 x3 x5 x7) (seq A.dval) :=
  Cube.congr (Cube.mul (Cube.mul (v51 H) (s52 H)) (v57 H)) fun b _ a _ k _ => mul_comm _ _
/-- The gradient by row of the gate side. -/
theorem v60 : C (val_main_v60 (F := Ideal) x0 x1 x2 x3 x4 x5 x6 x7) (seq A.dgate) := by
  have h59 := Cube.mul (φ := .f32) (v57 H) (v25 H)
  refine Cube.congr (Cube.add (φ := .f32) (Cube.mul (φ := .f32) h59 (s52 H)) (Cube.mul (φ := .f32) (Cube.mul (φ := .f32) (v51 H) h59) (Cube.mul (φ := .f32) (s52 H) (Cube.sub (φ := .f32) (cube_const (p := 2) (n := 4096) (c := 2816) (oc ix0) bcast_S_S2x4096x2816) (s52 H))))) fun b _ a _ k _ => ?_
  show seq A.da b a k * seq A.val b a k * seq (fun T k => sg (A.gate T k)) b a k + seq A.gate b a k * (seq A.da b a k * seq A.val b a k) * (seq (fun T k => sg (A.gate T k)) b a k * (1 - seq (fun T k => sg (A.gate T k)) b a k)) = seq A.dgate b a k
  unfold seq Args.dgate
  ring

/-- The gradient by the value operand. -/
theorem r135 : Rows (n := 8192) (c := 2816) (val_main_v135 (F := Ideal) x1 x2 x3 x4 x5 x7) (fun T k => dconv A.dval A.wv T k) :=
  unconved (v58 H) (w7 H) (w13 H) (w19 H)
/-- The gradient by the value taps. -/
theorem r128 : Rows (n := 3) (c := 2816) (val_main_v128 (F := Ideal) x0 x1 x2 x3 x5 x7) (fun r k => tap A.dval A.U 8192 r k) :=
  tapped (summed (Cube.mul (v4 H) (v58 H))) (summed (Cube.mul (v10 H) (v58 H))) (summed (Cube.mul (v0 H) (v58 H)))
/-- The gradient by the value bias. -/
theorem r101 : Rows (n := 1) (c := 2816) (val_main_v101 (F := Ideal) x1 x2 x3 x5 x7) (fun _ k => tot A.dval 8192 k) :=
  summed (v58 H)
/-- The gradient by the gate operand. -/
theorem r136 : Rows (n := 8192) (c := 2816) (val_main_v136 (F := Ideal) x0 x1 x2 x3 x4 x5 x6 x7) (fun T k => dconv A.dgate A.wg T k) :=
  unconved (v60 H) (w33 H) (w39 H) (w45 H)
/-- The gradient by the gate taps. -/
theorem r91 : Rows (n := 3) (c := 2816) (val_main_v91 (F := Ideal) x0 x1 x2 x3 x4 x5 x6 x7) (fun r k => tap A.dgate A.G 8192 r k) :=
  tapped (summed (Cube.mul (v30 H) (v60 H))) (summed (Cube.mul (v36 H) (v60 H))) (summed (Cube.mul (v26 H) (v60 H)))
/-- The gradient by the gate bias. -/
theorem r64 : Rows (n := 1) (c := 2816) (val_main_v64 (F := Ideal) x0 x1 x2 x3 x4 x5 x6 x7) (fun _ k => tot A.dgate 8192 k) :=
  summed (v60 H)
end given

end Cert.Ffn.Ref
-- ==== Proof.FfnFin.lean ====
module

public import proofs.«01_k».proof.Proof.FfnKer
public import proofs.«01_k».proof.Proof.FfnRef
public import proofs.«01_k».proof.Proof.Gen.Kernel2Ideal.Value
public import proofs.«01_k».proof.Proof.Gen.Reference2Ideal.Run
public import proofs.«01_k».proof.Proof.Fine

@[expose] public section

set_option maxRecDepth 16384

noncomputable section

namespace Cert.Ffn.Fin

open Idealize.ShloMosaic Idealize.ShloMosaic.TcCoe Idealize.ShloMosaic.Tactic Idealize.SL.Sem
open Cert.Reference2Ideal.Read
open Cert.Pre_all_finite2 (S_ S8192x2816 S8192x1024 S2816x1024 S3x2816 S1x2816)

/-! The second call's value claim: the operands are real under the precondition, and both programs then leave the same arrays. -/

/-- The side conditions of the second precondition's operations. -/
instance pre_facts : Cert.Pre_all_finite2.Facts where
  bcast_S_S8192x2816 := by decide
  reducesTo_S8192x2816_S_d0_1 := by decide
  h_S_ := by decide
  bcast_S_S8192x1024 := by decide
  reducesTo_S8192x1024_S_d0_1 := by decide
  bcast_S_S2816x1024 := by decide
  reducesTo_S2816x1024_S_d0_1 := by decide
  bcast_S_S3x2816 := by decide
  reducesTo_S3x2816_S_d0_1 := by decide
  bcast_S_S1x2816 := by decide
  reducesTo_S1x2816_S_d0_1 := by decide

/-- A scalar has one index. -/
instance : Subsingleton S_.Idx := ⟨fun a b => funext fun x => x.elim0⟩

/-- The real part of an array's entries, by number. -/
def part {n k : ℕ} (x : (⟨2, ![n, k]⟩ : Shape).Idx → EReal) (a b : ℕ) : ℝ :=
  if h : a < n ∧ b < k then EReal.toReal (x (ix2 ⟨a, h.1⟩ ⟨b, h.2⟩)) else 0

/-- An operand whose comparisons are all 1 is real throughout. -/
theorem real {n k : ℕ} (x : FVec Ideal ⟨2, ![n, k]⟩ .f32) (hb : S_.BroadcastsInDim ⟨2, ![n, k]⟩ ![]) (hr : (⟨2, ![n, k]⟩ : Shape).ReducesTo [0, 1] S_) (hu : 0 < S_.numel) (init : S_.Idx → BitVec 1) (j : S_.Idx)
    (e : Host.reduce IntOp.andi (cmpf .olt (Host.absf x) (broadcastInDim ⟨2, ![n, k]⟩ ![] hb (constant (F := Ideal) S_ .f32 0x7F800000#32))) init hr hu j = 1#1) :
    Rows (n := n) (c := k) x (part x) := fun a b => by
  unfold part
  rw [dif_pos ⟨a.isLt, b.isLt⟩]
  exact (Cert.Fine.real_of_olt (x (ix2 a b)) (Host.reduce_andi_all _ init _ _ j e (ix2 a b))).symm

section real
variable (x0 x1 : FVec Ideal S8192x2816 .f32) (x2 : FVec Ideal S8192x1024 .f32) (x3 : FVec Ideal S2816x1024 .f32) (x4 x5 : FVec Ideal S3x2816 .f32) (x6 x7 : FVec Ideal S1x2816 .f32)

/-- The operands' real parts. -/
def args : Args := ⟨part x0, part x1, part x2, part x3, part x4, part x5, part x6, part x7⟩

/-- Under the precondition the operands are arrays of reals. -/
theorem given (j : S_.Idx) (e : Cert.Pre_all_finite2.fn (F := Ideal) x0 x1 x2 x3 x4 x5 x6 x7 j = 1#1) :
    Ref.Given (args x0 x1 x2 x3 x4 x5 x6 x7) x0 x1 x2 x3 x4 x5 x6 x7 := by
  obtain ⟨e, h7⟩ := Cert.Fine.and_one e
  obtain ⟨e, h6⟩ := Cert.Fine.and_one e
  obtain ⟨e, h5⟩ := Cert.Fine.and_one e
  obtain ⟨e, h4⟩ := Cert.Fine.and_one e
  obtain ⟨e, h3⟩ := Cert.Fine.and_one e
  obtain ⟨e, h2⟩ := Cert.Fine.and_one e
  obtain ⟨h0, h1⟩ := Cert.Fine.and_one e
  exact ⟨real x0 _ _ _ _ j h0, real x1 _ _ _ _ j h1, real x2 _ _ _ _ j h2, real x3 _ _ _ _ j h3, real x4 _ _ _ _ j h4, real x5 _ _ _ _ j h5, real x6 _ _ _ _ j h6, real x7 _ _ _ _ j h7⟩
end real

/-- An array of reals is the array of those reals. -/
theorem eq_arr {n k : ℕ} {x : (⟨2, ![n, k]⟩ : Shape).Idx → EReal} {f : ℕ → ℕ → ℝ} (h : Rows x f) : arr (n := n) (c := k) f = x :=
  funext fun i => (Rows.at h i _ _ rfl rfl).symm

section mem
variable (m : (ℓ : Loc Cert.Kernel2Ideal.nD Cert.Kernel2Ideal.τ Cert.Kernel2Ideal.sig) → Buf (Elt Ideal) ℓ) (c : Dev Cert.Kernel2Ideal.nD)

open Cert.Kernel2Ideal Cert.Kernel2Ideal.Gen in
/-- The down projection the call reads is the operand in the short format. -/
theorem v0_eq : V m c main_v0 = (truncf .bf16 (m ((c.tc : Thread nD τ).loc main_arg3) : FVec Ideal Cert.Pre_all_finite2.S2816x1024 .f32) bitsLt_bf16_f32 : FVec Ideal Cert.Pre_all_finite2.S2816x1024 .bf16) := by
  unfold V
  simp only [hostOps0, List.flatten_cons, List.flatten_nil, List.append_nil, List.cons_append, List.nil_append]
  after_reads_simp

/-- Operand 0. -/
abbrev a0 : FVec Ideal S8192x2816 .f32 := m ((c.tc : Thread Cert.Kernel2Ideal.nD Cert.Kernel2Ideal.τ).loc Cert.Kernel2Ideal.main_arg0)
/-- Operand 1. -/
abbrev a1 : FVec Ideal S8192x2816 .f32 := m ((c.tc : Thread Cert.Kernel2Ideal.nD Cert.Kernel2Ideal.τ).loc Cert.Kernel2Ideal.main_arg1)
/-- Operand 2. -/
abbrev a2 : FVec Ideal S8192x1024 .f32 := m ((c.tc : Thread Cert.Kernel2Ideal.nD Cert.Kernel2Ideal.τ).loc Cert.Kernel2Ideal.main_arg2)
/-- Operand 3. -/
abbrev a3 : FVec Ideal S2816x1024 .f32 := m ((c.tc : Thread Cert.Kernel2Ideal.nD Cert.Kernel2Ideal.τ).loc Cert.Kernel2Ideal.main_arg3)
/-- Operand 4. -/
abbrev a4 : FVec Ideal S3x2816 .f32 := m ((c.tc : Thread Cert.Kernel2Ideal.nD Cert.Kernel2Ideal.τ).loc Cert.Kernel2Ideal.main_arg4)
/-- Operand 5. -/
abbrev a5 : FVec Ideal S3x2816 .f32 := m ((c.tc : Thread Cert.Kernel2Ideal.nD Cert.Kernel2Ideal.τ).loc Cert.Kernel2Ideal.main_arg5)
/-- Operand 6. -/
abbrev a6 : FVec Ideal S1x2816 .f32 := m ((c.tc : Thread Cert.Kernel2Ideal.nD Cert.Kernel2Ideal.τ).loc Cert.Kernel2Ideal.main_arg6)
/-- Operand 7. -/
abbrev a7 : FVec Ideal S1x2816 .f32 := m ((c.tc : Thread Cert.Kernel2Ideal.nD Cert.Kernel2Ideal.τ).loc Cert.Kernel2Ideal.main_arg7)

/-- The call reads the operands' reals. -/
theorem holds {A : Args} (H : Ref.Given A (a0 m c) (a1 m c) (a2 m c) (a3 m c) (a4 m c) (a5 m c) (a6 m c) (a7 m c)) : Holds m A c where
  hU := fun a k => (congrFun (Cert.Kernel2Ideal.Gen.V_main_arg0 m c) (ix2 a k)).trans (H.hU a k)
  hG := fun a k => (congrFun (Cert.Kernel2Ideal.Gen.V_main_arg1 m c) (ix2 a k)).trans (H.hG a k)
  hD := fun a k => (congrFun (Cert.Kernel2Ideal.Gen.V_main_arg2 m c) (ix2 a k)).trans (H.hD a k)
  hW := fun a k => (congrFun (v0_eq m c) (ix2 a k)).trans (H.hW a k)
  hv := fun a k => (congrFun (Cert.Kernel2Ideal.Gen.V_main_arg4 m c) (ix2 a k)).trans (H.hv a k)
  hg := fun a k => (congrFun (Cert.Kernel2Ideal.Gen.V_main_arg5 m c) (ix2 a k)).trans (H.hg a k)
  hbv := fun a k => (congrFun (Cert.Kernel2Ideal.Gen.V_main_arg6 m c) (ix2 a k)).trans (H.hbv a k)
  hbg := fun a k => (congrFun (Cert.Kernel2Ideal.Gen.V_main_arg7 m c) (ix2 a k)).trans (H.hbg a k)
end mem

/-- The second reference declares no semaphore. -/
theorem ref_no_sems : Cert.Reference2Ideal.sig.nSem + Cert.Reference2Ideal.sig.nDmaSem = 0 := by decide

/-- The second reference leaves its arguments as they were and every semaphore at zero. -/
theorem ref_frame : Cert.quiescent_Reference2Ideal := fun m ρ _ =>
  (θ_run (Cert.Reference2Ideal.defs (F := Ideal)) _ _).mono (fun r h => ⟨fun c => (h c).2.2.2.2.2.2, Idealize.ShloMosaic.sem_eq_zero_of_no_sems ref_no_sems r.2⟩) (Cert.Reference2Ideal.Value.run (F := Ideal) m ρ)

/-- The value claim: on finite operands the kernel's six gradients are the reference's. -/
theorem value : Cert.algebraic_Kernel2Ideal_Reference2Ideal_pre_all_finite2 := by
  intro m g m' g' hp hag
  refine ⟨fun c => val_main_v135 (F := Ideal) (a1 m c) (a2 m c) (a3 m c) (a4 m c) (a5 m c) (a7 m c), fun c => val_main_v136 (F := Ideal) (a0 m c) (a1 m c) (a2 m c) (a3 m c) (a4 m c) (a5 m c) (a6 m c) (a7 m c), fun c => val_main_v128 (F := Ideal) (a0 m c) (a1 m c) (a2 m c) (a3 m c) (a5 m c) (a7 m c), fun c => val_main_v91 (F := Ideal) (a0 m c) (a1 m c) (a2 m c) (a3 m c) (a4 m c) (a5 m c) (a6 m c) (a7 m c), fun c => val_main_v101 (F := Ideal) (a1 m c) (a2 m c) (a3 m c) (a5 m c) (a7 m c), fun c => val_main_v64 (F := Ideal) (a0 m c) (a1 m c) (a2 m c) (a3 m c) (a4 m c) (a5 m c) (a6 m c) (a7 m c),
    (θ_run _ _ _).mono (fun r h c => ?_) (Cert.Kernel2Ideal.Value.run_blocks m g),
    (θ_run _ _ _).mono (fun r h c => ?_) (Cert.Reference2Ideal.Value.run (F := Ideal) m' g')⟩
  · obtain ⟨k0, k1, k2, k3, k4, k5, ka⟩ := h c
    have G := given _ _ _ _ _ _ _ _ (fun x => x.elim0) (congrFun (hp c) (fun x => x.elim0))
    have H := holds m c G
    exact ⟨k0.trans ((arr13 H).trans (eq_arr (Ref.r135 G))), k1.trans ((arr14 H).trans (eq_arr (Ref.r136 G))), k2.trans ((arr15 H).trans (eq_arr (Ref.r128 G))), k3.trans ((arr16 H).trans (eq_arr (Ref.r91 G))), k4.trans ((arr17 H).trans (eq_arr (Ref.r101 G))), k5.trans ((arr18 H).trans (eq_arr (Ref.r64 G))), ka⟩
  · obtain ⟨e0, e1, e2, e3, e4, e5, e6, e7⟩ := hag c
    obtain ⟨r0, r1, r2, r3, r4, r5, ra⟩ := h c
    refine ⟨r0.trans ((val_main_v135_eq (StableHlo.launchContents m' c)).trans ?_), r1.trans ((val_main_v136_eq (StableHlo.launchContents m' c)).trans ?_), r2.trans ((val_main_v128_eq (StableHlo.launchContents m' c)).trans ?_), r3.trans ((val_main_v91_eq (StableHlo.launchContents m' c)).trans ?_), r4.trans ((val_main_v101_eq (StableHlo.launchContents m' c)).trans ?_), r5.trans ((val_main_v64_eq (StableHlo.launchContents m' c)).trans ?_), ra⟩
    · show val_main_v135 (F := Ideal) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg7)) = _
      rw [e1, e2, e3, e4, e5, e7]
    · show val_main_v136 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
      rw [e0, e1, e2, e3, e4, e5, e6, e7]
    · show val_main_v128 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg7)) = _
      rw [e0, e1, e2, e3, e5, e7]
    · show val_main_v91 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
      rw [e0, e1, e2, e3, e4, e5, e6, e7]
    · show val_main_v101 (F := Ideal) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg7)) = _
      rw [e1, e2, e3, e5, e7]
    · show val_main_v64 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
      rw [e0, e1, e2, e3, e4, e5, e6, e7]

end Cert.Ffn.Fin

end
-- ==== Proof.FfnSame.lean ====
module

public import proofs.«01_k».proof.Defs
public import proofs.«01_k».proof.Proof.Gen.Kernel2
public import proofs.«01_k».proof.Proof.Gen.Kernel2Ideal.Frame

@[expose] public section

set_option maxRecDepth 100000
set_option maxHeartbeats 1000000

noncomputable section

namespace Cert.Ffn.Same

open Idealize.ShloMosaic Idealize.SL.Sem

/-! The second kernel and its idealized form are one text: the run of the latter, at machine numbers, is a run of the former. -/

/-- The two call the same body. -/
theorem bodies : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | ⟨0, _⟩, (t, s) => rfl

/-- The two programs' functions are the same. -/
theorem tables : Cert.Kernel2.defs (F := Bits) = Cert.Kernel2Ideal.defs (F := Bits) :=
  congrArg (fun D => Pipeline.defs (Cert.Kernel2Ideal.pcfgs (F := Bits)) D) bodies

/-- The kernel at machine numbers leaves its arguments as they were and every semaphore at zero. -/
theorem frame : Cert.quiescent_Kernel2 := fun m ρ _ => by
  have h := Cert.Kernel2Ideal.Gen.frame (F := Bits) m ρ
  rw [← tables] at h
  exact h

end Cert.Ffn.Same

end
-- ==== Proof.DownRef.lean ====
module

public import proofs.«01_k».proof.Proof.Gen.Reference3Ideal.Read
public import proofs.«01_k».proof.Proof.FfnRef

@[expose] public section

set_option maxRecDepth 16384

noncomputable section

namespace Cert.Down

open Cert.Reference3Ideal Cert.Reference3Ideal.Gen Cert.Reference3Ideal.Read
open Idealize.ShloMosaic Idealize.ShloMosaic.TcCoe
open Cert.Ffn
open Cert.Ffn.Ref (seq C zc oc behind spread bias conved)

/-! What the third reference program's arrays hold. -/

/-- The gated rows. -/
def gated (A : Args) (T k : ℕ) : ℝ := (A.gate T k * sg (A.gate T k)) * A.val T k
/-- The block's output: the residual and the gated rows' projection. -/
def down (A : Args) (T j : ℕ) : ℝ := A.DX T j + ∑ k : Fin 2816, gated A T k.val * A.W k.val j

/-- The operands, as arrays of reals; the residual is in the place of the derivative at the output. -/
structure Given (A : Args) (x0 x1 : (⟨S8192x2816, .f32⟩ : BufTy).Contents (Elt Ideal)) (x2 x3 : (⟨S3x2816, .f32⟩ : BufTy).Contents (Elt Ideal)) (x4 x5 : (⟨S1x2816, .f32⟩ : BufTy).Contents (Elt Ideal))
    (x6 : (⟨S2816x1024, .f32⟩ : BufTy).Contents (Elt Ideal)) (x7 : (⟨S8192x1024, .f32⟩ : BufTy).Contents (Elt Ideal)) : Prop where
  hU : Rows (n := 8192) (c := 2816) x0 A.U
  hG : Rows (n := 8192) (c := 2816) x1 A.G
  hv : Rows (n := 3) (c := 2816) x2 A.wv
  hg : Rows (n := 3) (c := 2816) x3 A.wg
  hbv : Rows (n := 1) (c := 2816) x4 A.bv
  hbg : Rows (n := 1) (c := 2816) x5 A.bg
  hW : Rows (n := 2816) (c := 1024) x6 A.W
  hR : Rows (n := 8192) (c := 1024) x7 A.DX

section given
variable {A : Args} {x0 x1 : (⟨S8192x2816, .f32⟩ : BufTy).Contents (Elt Ideal)} {x2 x3 : (⟨S3x2816, .f32⟩ : BufTy).Contents (Elt Ideal)} {x4 x5 : (⟨S1x2816, .f32⟩ : BufTy).Contents (Elt Ideal)}
    {x6 : (⟨S2816x1024, .f32⟩ : BufTy).Contents (Elt Ideal)} {x7 : (⟨S8192x1024, .f32⟩ : BufTy).Contents (Elt Ideal)} (H : Given A x0 x1 x2 x3 x4 x5 x6 x7)
include H

/-- The value operand by sequence. -/
theorem v0 : C (val_main_v0 (F := Ideal) x0) (seq A.U) :=
  Rows.split (p := 2) (n := 4096) (c := 2816) H.hU rfl shapeCasts_S8192x2816_S2x4096x2816
/-- The value operand two tokens back. -/
theorem v3 : C (val_main_v3 (F := Ideal) x0) (seq fun T k => sh A.U T k 2) :=
  behind (o := 0) rfl (by omega) (cube_const (p := 2) (n := 2) (c := 2816) (zc _) bcast_S_S2x2x2816) (v0 H) slices_S2x4098x2816_S2x4096x2816_0_0_0
/-- The value operand one token back. -/
theorem v9 : C (val_main_v9 (F := Ideal) x0) (seq fun T k => sh A.U T k 1) :=
  behind (o := 1) rfl (by omega) (cube_const (p := 2) (n := 2) (c := 2816) (zc _) bcast_S_S2x2x2816) (v0 H) slices_S2x4098x2816_S2x4096x2816_0_1_0
/-- The value convolution. -/
theorem v24 : C (val_main_v24 (F := Ideal) x0 x2 x4) (seq A.val) :=
  conved (v0 H) (v9 H) (v3 H) (spread H.hv slices_S3x2816_S1x2816_0_0) (spread H.hv slices_S3x2816_S1x2816_1_0) (spread H.hv slices_S3x2816_S1x2816_2_0) (bias H.hbv)
/-- The gate operand by sequence. -/
theorem v25 : C (val_main_v25 (F := Ideal) x1) (seq A.G) :=
  Rows.split (p := 2) (n := 4096) (c := 2816) H.hG rfl shapeCasts_S8192x2816_S2x4096x2816
/-- The gate operand two tokens back. -/
theorem v28 : C (val_main_v28 (F := Ideal) x1) (seq fun T k => sh A.G T k 2) :=
  behind (o := 0) rfl (by omega) (cube_const (p := 2) (n := 2) (c := 2816) (zc _) bcast_S_S2x2x2816) (v25 H) slices_S2x4098x2816_S2x4096x2816_0_0_0
/-- The gate operand one token back. -/
theorem v34 : C (val_main_v34 (F := Ideal) x1) (seq fun T k => sh A.G T k 1) :=
  behind (o := 1) rfl (by omega) (cube_const (p := 2) (n := 2) (c := 2816) (zc _) bcast_S_S2x2x2816) (v25 H) slices_S2x4098x2816_S2x4096x2816_0_1_0
/-- The gate convolution. -/
theorem v49 : C (val_main_v49 (F := Ideal) x1 x3 x5) (seq A.gate) :=
  conved (v25 H) (v34 H) (v28 H) (spread H.hg slices_S3x2816_S1x2816_0_0) (spread H.hg slices_S3x2816_S1x2816_1_0) (spread H.hg slices_S3x2816_S1x2816_2_0) (bias H.hbg)
/-- The gate's logistic function. -/
theorem s5 : C (val_main_call0_v5 (F := Ideal) x1 x3 x5) (seq fun T k => sg (A.gate T k)) :=
  Cube.sig (v49 H) (cube_const (p := 2) (n := 4096) (c := 2816) (oc _) bcast_S_S2x4096x2816) (cube_const (p := 2) (n := 4096) (c := 2816) (oc _) bcast_S_S2x4096x2816)
/-- The gated rows by sequence. -/
theorem v51 : C (val_main_v51 (F := Ideal) x0 x1 x2 x3 x4 x5) (seq (gated A)) :=
  Cube.mul (φ := .f32) (Cube.mul (φ := .f32) (v49 H) (s5 H)) (v24 H)
/-- The gated rows. -/
theorem r53 : Rows (n := 8192) (c := 2816) (val_main_v53 (F := Ideal) x0 x1 x2 x3 x4 x5) (gated A) := by
  have h : Rows (n := 8192) (c := 2816) (val_main_v52 (F := Ideal) x0 x1 x2 x3 x4 x5) (gated A) :=
    Rows.congr (Cube.join (p := 2) (n := 4096) (c := 2816) (v51 H) rfl shapeCasts_S2x4096x2816_S8192x2816) fun T _ k _ => by
      unfold seq; rw [Nat.div_add_mod']
  exact fun a k => h a k
/-- Their projection by sequence. -/
theorem v54 : Cube (p := 2) (n := 4096) (c := 1024) (val_main_v54 (F := Ideal) x0 x1 x2 x3 x4 x5 x6) (fun b a j => ∑ k : Fin 2816, gated A (b * 4096 + a) k.val * A.W k.val j) := fun b a j => by
  refine (val_main_v54_apply x0 x1 x2 x3 x4 x5 x6 (ix3 b a j)).trans ?_
  refine rsum _ (fun k : Fin 2816 => gated A (b.val * 4096 + a.val) k.val * A.W k.val j.val) fun k => ?_
  have el : lidx_main_v54 (ix3 b a j) k = ix3 b a k := by
    funext d; match d with
    | ⟨0, _⟩ => rfl
    | ⟨1, _⟩ => rfl
    | ⟨2, _⟩ => rfl
  have er : ridx_main_v54 (ix3 b a j) k = ix2 k j := by
    funext d; match d with
    | ⟨0, _⟩ => rfl
    | ⟨1, _⟩ => rfl
  refine (congrArg₂ (fun u v : EReal => u * v) ((congrArg _ el).trans (v51 H b a k)) ((congrArg _ er).trans (H.hW k j))).trans ?_
  exact (EReal.coe_mul _ _).symm
/-- The block's output. -/
theorem r56 : Rows (n := 8192) (c := 1024) (val_main_v56 (F := Ideal) x0 x1 x2 x3 x4 x5 x6 x7) (down A) :=
  Rows.congr (Rows.add (φ := .f32) H.hR (Cube.join (p := 2) (n := 4096) (c := 1024) (v54 H) rfl shapeCasts_S2x4096x1024_S8192x1024)) fun T _ j _ => by
    unfold down; rw [Nat.div_add_mod']
end given

end Cert.Down

end
-- ==== Proof.DownTile.lean ====
module

public import proofs.«01_k».proof.Proof.Gen.Kernel3Ideal.Value
public import proofs.«01_k».proof.Proof.DownRef
public import proofs.«01_k».proof.Proof.FfnPay
public import Idealize.ShloMosaic.Lib.Tactic
public import Idealize.ShloMosaic.Lib.MatmulPlain

@[expose] public section

set_option maxRecDepth 16384

noncomputable section

namespace Cert.Down

open Cert.Kernel3Ideal Cert.Kernel3Ideal.Gen
open Idealize.ShloMosaic Idealize.ShloMosaic.TcCoe Idealize.ShloMosaic.Tactic
open Idealize.SL Idealize.SL.Sem
open Cert.Ffn (Args Rows sh conv sg rsum rows_stack2 zero_bits flag_first)

/-! What one tile of the forward call leaves. -/

/-- A read that starts at the origin of a matrix starts at zero on both axes. -/
theorem hz : (![0, 0] : Fin 2 → Nat) = fun _ => 0 := funext fun a => by fin_cases a <;> rfl

/-- The tile of gated rows that a grid point leaves. -/
theorem out10 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S256x2816 .f32) (harg5 : arg5.IsWhole) (arg6 : Memref sig .tc .vmem S3x2816 .f32) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S256x1024 .f32) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S256x1024 .f32) (harg14 : arg14.IsWhole) (hc0 : cond0_0 i) (hc1 : ¬cond0_1 i) (hc2 : cond0_2 i) (x0 : Vec F S8x2816 .f32) (x1 : Vec F S256x2816 .f32) (x2 : Vec F S8x2816 .f32) (x3 : Vec F S256x2816 .f32) (x4 : Vec F S3x2816 .f32) (x5 : Vec F S3x2816 .f32) (x6 : Vec F S1x2816 .f32) (x7 : Vec F S1x2816 .f32) (x8 : Vec F S2816x1024 .bf16) (x9 : Vec F S256x1024 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9 = k0_pay3 (k0_pay1 i x0 x1 x4 x6) (k0_pay2 i x2) x3 x5 x7 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S8x2816) hz, View.ld_unit_zero (S := S256x2816) hz, View.ld_unit_zero (S := S256x1024) hz, View.ld_unit_zero (S := S2816x1024) hz, View.ld_unit_zero (S := S3x2816) hz, View.ld_unit_zero (S := S1x2816) hz]

/-- The tile of the block's output that a grid point leaves. -/
theorem out11 {F : FTy → Type} [FloatOps F] (c : Dev nD) (i : grid0.Coords) (arg2 : Memref sig .tc .vmem S8x2816 .f32) (harg2 : arg2.IsWhole) (arg3 : Memref sig .tc .vmem S256x2816 .f32) (harg3 : arg3.IsWhole) (arg4 : Memref sig .tc .vmem S8x2816 .f32) (harg4 : arg4.IsWhole) (arg5 : Memref sig .tc .vmem S256x2816 .f32) (harg5 : arg5.IsWhole) (arg6 : Memref sig .tc .vmem S3x2816 .f32) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S256x1024 .f32) (harg11 : arg11.IsWhole) (arg12 : Memref sig .tc .vmem S256x2816 .bf16) (harg12 : arg12.IsWhole) (arg13 : Memref sig .tc .vmem S256x1024 .f32) (harg13 : arg13.IsWhole) (arg14 : Memref sig .tc .vmem S256x1024 .f32) (harg14 : arg14.IsWhole) (hc0 : cond0_0 i) (hc1 : ¬cond0_1 i) (hc2 : cond0_2 i) (x0 : Vec F S8x2816 .f32) (x1 : Vec F S256x2816 .f32) (x2 : Vec F S8x2816 .f32) (x3 : Vec F S256x2816 .f32) (x4 : Vec F S3x2816 .f32) (x5 : Vec F S3x2816 .f32) (x6 : Vec F S1x2816 .f32) (x7 : Vec F S1x2816 .f32) (x8 : Vec F S2816x1024 .bf16) (x9 : Vec F S256x1024 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9 = k0_pay5 (k0_pay1 i x0 x1 x4 x6) (k0_pay2 i x2) x3 x5 x7 x8 x9 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 x8 x9)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S8x2816) hz, View.ld_unit_zero (S := S256x2816) hz, View.ld_unit_zero (S := S256x1024) hz, View.ld_unit_zero (S := S2816x1024) hz, View.ld_unit_zero (S := S3x2816) hz, View.ld_unit_zero (S := S1x2816) hz]
  rw [View.readCov_unit_zero (S := S256x1024) _ hz]

/-- The rows a tile's convolution works on: its own 256 with the 8 before, zeros in their place at a sequence's start. -/
def win (x : ℕ → ℕ → ℝ) (t a k : ℕ) : ℝ :=
  if a < 8 then (if t % 16 = 0 then 0 else x (8 * (32 * t - 1) + a) k) else x (256 * t + (a - 8)) k

/-- A row of them some places back is the token's shifted row. -/
theorem win_sh (x : ℕ → ℕ → ℝ) {t a s : ℕ} (k : ℕ) (ht : t < 32) (ha : a < 256) (hs : s ≤ 2) :
    win x t ((8 + a + 264 - s) % 264) k = sh x (256 * t + a) k s := by
  have e : (8 + a + 264 - s) % 264 = 8 + a - s := by omega
  rw [e]
  unfold win sh
  by_cases c1 : 8 + a - s < 8
  · rw [if_pos c1]
    by_cases c2 : t % 16 = 0
    · rw [if_pos c2, if_neg (by omega)]
    · rw [if_neg c2, if_pos (by omega)]
      congr 1; omega
  · rw [if_neg c1, if_pos (show s ≤ (256 * t + a) % 4096 by omega)]
    congr 1; omega

/-- A row of the tile is the token's own row. -/
theorem win_own (x : ℕ → ℕ → ℝ) {t a : ℕ} (k : ℕ) : win x t (8 + a) k = x (256 * t + a) k := by
  unfold win
  rw [if_neg (by omega)]
  congr 1; omega

/-- The tile's convolution as the body writes it, from the rows before, the tile's rows, the taps and the bias. -/
def convd (p : FVec Ideal S8x2816 .f32) (q : FVec Ideal S256x2816 .f32) (w : FVec Ideal S3x2816 .f32) (b : FVec Ideal S1x2816 .f32) : FVec Ideal S256x2816 .f32 :=
  let x : FVec Ideal S264x2816 .f32 := concatenate S264x2816 0 [⟨S8x2816, p⟩, ⟨S256x2816, q⟩] concatenates_S8x2816_S256x2816_S264x2816_d0
  addf (extractStridedSlice S256x2816 ![8, 0]
    (addf (addf (mulf (broadcastTo S264x2816 (extractStridedSlice S1x2816 ![2, 0] w slices_S3x2816_o2_0_S1x2816) broadcasts_S1x2816_S264x2816) x)
        (mulf (broadcastTo S264x2816 (extractStridedSlice S1x2816 ![1, 0] w slices_S3x2816_o1_0_S1x2816) broadcasts_S1x2816_S264x2816) (dynamicRotate 0 1#32 none x rotates_S264x2816_d0)))
      (mulf (broadcastTo S264x2816 (extractStridedSlice S1x2816 ![0, 0] w slices_S3x2816_o0_0_S1x2816) broadcasts_S1x2816_S264x2816) (dynamicRotate 0 2#32 none x rotates_S264x2816_d0)))
    slices_S264x2816_o8_0_S256x2816) (broadcastTo S256x2816 b broadcasts_S1x2816_S256x2816)

/-- It is the sequence's convolution at the tile's tokens. -/
theorem convd_rows {X W B : ℕ → ℕ → ℝ} {t : ℕ} (ht : t < 32) {p : FVec Ideal S8x2816 .f32} {q : FVec Ideal S256x2816 .f32} {w : FVec Ideal S3x2816 .f32} {b : FVec Ideal S1x2816 .f32}
    (hp : Rows (n := 8) (c := 2816) p (fun a k => if t % 16 = 0 then 0 else X (8 * (32 * t - 1) + a) k)) (hq : Rows (n := 256) (c := 2816) q (fun a k => X (256 * t + a) k))
    (hw : Rows (n := 3) (c := 2816) w W) (hb : Rows (n := 1) (c := 2816) b B) :
    Rows (n := 256) (c := 2816) (convd p q w b) (fun a k => conv X W B (256 * t + a) k) := by
  have hx : Rows (n := 264) (c := 2816) (concatenate (α := EReal) S264x2816 0 [⟨S8x2816, p⟩, ⟨S256x2816, q⟩] concatenates_S8x2816_S256x2816_S264x2816_d0) (win X t) :=
    rows_stack2 hp hq rfl _
  refine Rows.congr (((((hw.slice (m := 1) (o := 2) slices_S3x2816_o2_0_S1x2816).spread (by decide) broadcasts_S1x2816_S264x2816).mul hx).add (((hw.slice (m := 1) (o := 1) slices_S3x2816_o1_0_S1x2816).spread (by decide) broadcasts_S1x2816_S264x2816).mul (hx.rot rotates_S264x2816_d0))).add
    (((hw.slice (m := 1) (o := 0) slices_S3x2816_o0_0_S1x2816).spread (by decide) broadcasts_S1x2816_S264x2816).mul (hx.rot rotates_S264x2816_d0)) |>.slice (m := 256) (o := 8) slices_S264x2816_o8_0_S256x2816 |>.add (hb.spread (by decide) broadcasts_S1x2816_S256x2816)) fun a ha k _ => ?_
  have h1 := win_sh X (s := 1) k ht ha (by omega)
  have h2 := win_sh X (s := 2) k ht ha (by omega)
  show ((W 2 k * win X t (8 + a) k + W 1 k * win X t ((8 + a + 264 - 1) % 264) k) + W 0 k * win X t ((8 + a + 264 - 2) % 264) k) + B 0 k = _
  rw [h1, h2, win_own]
  rfl

/-- The tile's blocks as real arrays. -/
structure Blocks (A : Args) (t : ℕ) (i : grid0.Coords)
    (x0 : FVec Ideal S8x2816 .f32) (x1 : FVec Ideal S256x2816 .f32) (x2 : FVec Ideal S8x2816 .f32) (x3 : FVec Ideal S256x2816 .f32) (x4 x5 : FVec Ideal S3x2816 .f32) (x6 x7 : FVec Ideal S1x2816 .f32)
    (x8 : FVec Ideal S2816x1024 .bf16) (x9 : FVec Ideal S256x1024 .f32) : Prop where
  ht : t < 32
  hi : (i 0).val = t
  h0 : Rows (n := 8) (c := 2816) x0 (fun a k => A.U (8 * (32 * t - 1) + a) k)
  h1 : Rows (n := 256) (c := 2816) x1 (fun a k => A.U (256 * t + a) k)
  h2 : Rows (n := 8) (c := 2816) x2 (fun a k => A.G (8 * (32 * t - 1) + a) k)
  h3 : Rows (n := 256) (c := 2816) x3 (fun a k => A.G (256 * t + a) k)
  h4 : Rows (n := 3) (c := 2816) x4 A.wv
  h5 : Rows (n := 3) (c := 2816) x5 A.wg
  h6 : Rows (n := 1) (c := 2816) x6 A.bv
  h7 : Rows (n := 1) (c := 2816) x7 A.bg
  h8 : Rows (n := 2816) (c := 1024) x8 A.W
  h9 : Rows (n := 256) (c := 1024) x9 (fun a k => A.DX (256 * t + a) k)

/-- The rows before the tile, or zeros at a sequence's start. -/
theorem before {X : ℕ → ℕ → ℝ} {t : ℕ} {i : grid0.Coords} (ht : t < 32) (hi : (i 0).val = t) {x : FVec Ideal S8x2816 .f32} (hx : Rows (n := 8) (c := 2816) x (fun a k => X (8 * (32 * t - 1) + a) k)) :
    Rows (n := 8) (c := 2816) (k0_pay2 (F := Ideal) i x) (fun a k => if t % 16 = 0 then 0 else X (8 * (32 * t - 1) + a) k) := by
  subst hi
  have hf := flag_first ⟨(i 0).val, ht⟩
  intro a k
  refine (congrArg (fun b => (Scalar.select b (broadcast S8x2816 (Scalar.ofBits (F := Ideal) .f32 0x00000000#32)) x : FVec Ideal S8x2816 .f32) (ix2 a k)) hf).trans ?_
  by_cases e : (i 0).val % 16 = 0
  · simp only [if_pos e]
    exact zero_bits
  · simp only [if_neg e]
    exact hx a k

section tile
variable {A : Args} {t : ℕ} {i : grid0.Coords} {x0 : FVec Ideal S8x2816 .f32} {x1 : FVec Ideal S256x2816 .f32} {x2 : FVec Ideal S8x2816 .f32} {x3 : FVec Ideal S256x2816 .f32} {x4 x5 : FVec Ideal S3x2816 .f32} {x6 x7 : FVec Ideal S1x2816 .f32}
    {x8 : FVec Ideal S2816x1024 .bf16} {x9 : FVec Ideal S256x1024 .f32} (B : Blocks A t i x0 x1 x2 x3 x4 x5 x6 x7 x8 x9)
include B

/-- The convolved values of the tile. -/
theorem p1 : Rows (n := 256) (c := 2816) (k0_pay1 (F := Ideal) i x0 x1 x4 x6) (fun a k => A.val (256 * t + a) k) :=
  convd_rows B.ht (before B.ht B.hi B.h0) B.h1 B.h4 B.h6

/-- The tile's gated rows. -/
theorem p3 : Rows (n := 256) (c := 2816) (k0_pay3 (F := Ideal) (k0_pay1 i x0 x1 x4 x6) (k0_pay2 i x2) x3 x5 x7) (fun a k => gated A (256 * t + a) k) := by
  have g := convd_rows B.ht (before B.ht B.hi B.h2) B.h3 B.h5 B.h7
  have h := (g.mul (φ := .f32) (g.logi (φ := .f32))).mul (φ := .f32) (p1 B)
  exact fun a k => h a k

/-- The tile of the block's output. -/
theorem p5 : Rows (n := 256) (c := 1024) (k0_pay5 (F := Ideal) (k0_pay1 i x0 x1 x4 x6) (k0_pay2 i x2) x3 x5 x7 x8 x9) (fun a j => down A (256 * t + a) j) := by
  intro a j
  have ha := p3 B
  unfold k0_pay5 k0_pay4
  dsimp only
  rw [shapeCast_self, shapeCast_self]
  refine (congrArg₂ (fun u v : EReal => u + v) (B.h9 a j) (Ideal.matmul_plain_apply (M := 256) (K := 2816) (N := 1024) none _ _ _ a j)).trans ?_
  refine (congrArg (fun v : EReal => ((A.DX (256 * t + a.val) j.val : ℝ) : EReal) + v) (congrArg₂ (· + ·) (show _ = ((0 : ℝ) : EReal) from zero_bits) (rsum (ι := Fin 2816) _ (fun k => gated A (256 * t + a.val) k.val * A.W k.val j.val) fun k => ?_))).trans ?_
  · exact (congrArg₂ (· * ·) (ha a k) (B.h8 k j)).trans (EReal.coe_mul _ _).symm
  · rw [← EReal.coe_add, zero_add, ← EReal.coe_add]; rfl

end tile

end Cert.Down

end
-- ==== Proof.DownKer.lean ====
module

public import proofs.«01_k».proof.Proof.DownTile
public import proofs.«01_k».proof.Proof.FfnKer
public import Idealize.ShloMosaic.Lib.Pipeline.ValueKit

@[expose] public section

set_option maxRecDepth 16384

noncomputable section

namespace Cert.Down

open Cert.Kernel3Ideal Cert.Kernel3Ideal.Gen
open Idealize.ShloMosaic Idealize.ShloMosaic.TcCoe Idealize.ShloMosaic.Tactic
open Idealize.SL Idealize.SL.Sem
open Cert.Ffn (Args Rows arr cell)

/-! The arrays the forward call leaves, on real operands. -/

/-- The number of grid points. -/
theorem pts : cfg0.N = 32 := (by decide +kernel : grid0.N = 32)

/-- The first grid coordinate is the point's number. -/
theorem coord : ∀ t : Fin cfg0.N, (grid0.coords t 0).val = t.val := (by decide +kernel : ∀ t : Fin grid0.N, (grid0.coords t 0).val = t.val)

/-- Every window's block index at a point. -/
theorem idx : ∀ t : Fin cfg0.N, (win0_0.index t = ![32 * t.val - 1, 0] ∧ win0_1.index t = ![t.val, 0] ∧ win0_2.index t = ![32 * t.val - 1, 0] ∧ win0_3.index t = ![t.val, 0])
    ∧ (win0_4.index t = ![0, 0] ∧ win0_5.index t = ![0, 0] ∧ win0_6.index t = ![0, 0] ∧ win0_7.index t = ![0, 0] ∧ win0_8.index t = ![0, 0])
    ∧ (win0_9.index t = ![t.val, 0] ∧ win0_10.index t = ![t.val, 0] ∧ win0_11.index t = ![t.val, 0]) := (by decide +kernel : ∀ t : Fin grid0.N, _)

variable (m : (ℓ : Loc nD τ sig) → Buf (Elt Ideal) ℓ)

/-- The arrays the call reads hold the operands `A`. -/
structure Holds (A : Args) (c : Dev nD) : Prop where
  hU : Rows (n := 8192) (c := 2816) (V m c main_arg0) A.U
  hG : Rows (n := 8192) (c := 2816) (V m c main_arg1) A.G
  hv : Rows (n := 3) (c := 2816) (V m c main_arg2) A.wv
  hg : Rows (n := 3) (c := 2816) (V m c main_arg3) A.wg
  hbv : Rows (n := 1) (c := 2816) (V m c main_arg4) A.bv
  hbg : Rows (n := 1) (c := 2816) (V m c main_arg5) A.bg
  hW : Rows (n := 2816) (c := 1024) (V m c main_v0) A.W
  hR : Rows (n := 8192) (c := 1024) (V m c main_arg7) A.DX

variable {m} {A : Args} {c : Dev nD} (H : Holds m A c)
include H

/-- The windows' blocks at a point hold the operands' rows. -/
theorem blocks (t : Fin cfg0.N) : Blocks A t.val (grid0.coords t) (iblk m c 0 t) (iblk m c 1 t) (iblk m c 2 t) (iblk m c 3 t) (iblk m c 4 t) (iblk m c 5 t) (iblk m c 6 t) (iblk m c 7 t) (iblk m c 8 t) (iblk m c 9 t) := by
  obtain ⟨⟨i0, i1, i2, i3⟩, ⟨i4, i5, i6, i7, i8⟩, ⟨i9, -, -⟩⟩ := idx t
  refine ⟨Nat.lt_of_lt_of_eq t.isLt pts, coord t, ?_, ?_, ?_, ?_, ?_, ?_, ?_, ?_, ?_, ?_⟩ <;> intro e k
  · exact H.hU.at ((win0_0.rect t).emb (ix2 e k)) _ _ ((Pipeline.Window.rect_emb_val win0_0 t _ 0).trans (by rw [i0]; show (32 * t.val - 1) * 8 + e.val = 8 * (32 * t.val - 1) + e.val; ring)) ((Pipeline.Window.rect_emb_val win0_0 t _ 1).trans (by rw [i0]; show 0 * 2816 + k.val = k.val; omega))
  · exact H.hU.at ((win0_1.rect t).emb (ix2 e k)) _ _ ((Pipeline.Window.rect_emb_val win0_1 t _ 0).trans (by rw [i1]; show t.val * 256 + e.val = 256 * t.val + e.val; ring)) ((Pipeline.Window.rect_emb_val win0_1 t _ 1).trans (by rw [i1]; show 0 * 2816 + k.val = k.val; omega))
  · exact H.hG.at ((win0_2.rect t).emb (ix2 e k)) _ _ ((Pipeline.Window.rect_emb_val win0_2 t _ 0).trans (by rw [i2]; show (32 * t.val - 1) * 8 + e.val = 8 * (32 * t.val - 1) + e.val; ring)) ((Pipeline.Window.rect_emb_val win0_2 t _ 1).trans (by rw [i2]; show 0 * 2816 + k.val = k.val; omega))
  · exact H.hG.at ((win0_3.rect t).emb (ix2 e k)) _ _ ((Pipeline.Window.rect_emb_val win0_3 t _ 0).trans (by rw [i3]; show t.val * 256 + e.val = 256 * t.val + e.val; ring)) ((Pipeline.Window.rect_emb_val win0_3 t _ 1).trans (by rw [i3]; show 0 * 2816 + k.val = k.val; omega))
  · exact H.hv.at ((win0_4.rect t).emb (ix2 e k)) _ _ ((Pipeline.Window.rect_emb_val win0_4 t _ 0).trans (by rw [i4]; show 0 * 3 + e.val = e.val; omega)) ((Pipeline.Window.rect_emb_val win0_4 t _ 1).trans (by rw [i4]; show 0 * 2816 + k.val = k.val; omega))
  · exact H.hg.at ((win0_5.rect t).emb (ix2 e k)) _ _ ((Pipeline.Window.rect_emb_val win0_5 t _ 0).trans (by rw [i5]; show 0 * 3 + e.val = e.val; omega)) ((Pipeline.Window.rect_emb_val win0_5 t _ 1).trans (by rw [i5]; show 0 * 2816 + k.val = k.val; omega))
  · exact H.hbv.at ((win0_6.rect t).emb (ix2 e k)) _ _ ((Pipeline.Window.rect_emb_val win0_6 t _ 0).trans (by rw [i6]; show 0 * 1 + e.val = e.val; omega)) ((Pipeline.Window.rect_emb_val win0_6 t _ 1).trans (by rw [i6]; show 0 * 2816 + k.val = k.val; omega))
  · exact H.hbg.at ((win0_7.rect t).emb (ix2 e k)) _ _ ((Pipeline.Window.rect_emb_val win0_7 t _ 0).trans (by rw [i7]; show 0 * 1 + e.val = e.val; omega)) ((Pipeline.Window.rect_emb_val win0_7 t _ 1).trans (by rw [i7]; show 0 * 2816 + k.val = k.val; omega))
  · exact H.hW.at ((win0_8.rect t).emb (ix2 e k)) _ _ ((Pipeline.Window.rect_emb_val win0_8 t _ 0).trans (by rw [i8]; show 0 * 2816 + e.val = e.val; omega)) ((Pipeline.Window.rect_emb_val win0_8 t _ 1).trans (by rw [i8]; show 0 * 1024 + k.val = k.val; omega))
  · exact H.hR.at ((win0_9.rect t).emb (ix2 e k)) _ _ ((Pipeline.Window.rect_emb_val win0_9 t _ 0).trans (by rw [i9]; show t.val * 256 + e.val = 256 * t.val + e.val; ring)) ((Pipeline.Window.rect_emb_val win0_9 t _ 1).trans (by rw [i9]; show 0 * 1024 + k.val = k.val; omega))

/-- The tile of gated rows after a point. -/
theorem tile10 (t : Fin cfg0.N) : Rows (n := 256) (c := 2816) (outsAt0 m c t).1 (fun a k => gated A (256 * t.val + a) k) := by
  unfold outsAt0; dsimp only; rw [out10]; exact p3 (blocks H t)
/-- The tile of the block's output after a point. -/
theorem tile11 (t : Fin cfg0.N) : Rows (n := 256) (c := 1024) (outsAt0 m c t).2 (fun a j => down A (256 * t.val + a) j) := by
  unfold outsAt0; dsimp only; rw [out11]; exact p5 (blocks H t)

/-- The gated rows after the run. -/
theorem arr10 : (dats m 0 c).arrAt 10 cfg0.N = arr (n := 8192) (c := 2816) (gated A) := by
  refine (dats m 0 c).arrAt_eq_of_covers 10 _ (by decide +kernel) fun t hf y => ?_
  have hi := (idx t).2.2.2.1
  have e0 := (Pipeline.Window.rect_emb_val win0_10 t y 0).trans (congrArg (fun z => z * win0_10.size 0 + (y 0).val) (congrFun hi 0))
  have e1 := (Pipeline.Window.rect_emb_val win0_10 t y 1).trans (congrArg (fun z => z * win0_10.size 1 + (y 1).val) (congrFun hi 1))
  have e0' : ((win0_10.rect t).emb y 0).val = 256 * t.val + (y 0).val := e0.trans (by show t.val * 256 + (y 0).val = _; ring)
  have e1' : ((win0_10.rect t).emb y 1).val = (y 1).val := e1.trans (by show 0 * 2816 + (y 1).val = _; ring)
  blk_simp
  rw [after0_10]
  refine cell (tile10 H t) y ((win0_10.rect t).emb y) ?_
  rw [e0', e1']

/-- The block's output after the run. -/
theorem arr11 : (dats m 0 c).arrAt 11 cfg0.N = arr (n := 8192) (c := 1024) (down A) := by
  refine (dats m 0 c).arrAt_eq_of_covers 11 _ (by decide +kernel) fun t hf y => ?_
  have hi := (idx t).2.2.2.2
  have e0 := (Pipeline.Window.rect_emb_val win0_11 t y 0).trans (congrArg (fun z => z * win0_11.size 0 + (y 0).val) (congrFun hi 0))
  have e1 := (Pipeline.Window.rect_emb_val win0_11 t y 1).trans (congrArg (fun z => z * win0_11.size 1 + (y 1).val) (congrFun hi 1))
  have e0' : ((win0_11.rect t).emb y 0).val = 256 * t.val + (y 0).val := e0.trans (by show t.val * 256 + (y 0).val = _; ring)
  have e1' : ((win0_11.rect t).emb y 1).val = (y 1).val := e1.trans (by show 0 * 1024 + (y 1).val = _; ring)
  blk_simp
  rw [after0_11]
  refine cell (tile11 H t) y ((win0_11.rect t).emb y) ?_
  rw [e0', e1']

end Cert.Down

end
-- ==== Proof.DownFin.lean ====
module

public import proofs.«01_k».proof.Proof.DownKer
public import proofs.«01_k».proof.Proof.FfnFin
public import proofs.«01_k».proof.Proof.Gen.Kernel3Ideal.Value
public import proofs.«01_k».proof.Proof.Gen.Reference3Ideal.Run

@[expose] public section

set_option maxRecDepth 16384

noncomputable section

namespace Cert.Down.Fin

open Idealize.ShloMosaic Idealize.ShloMosaic.TcCoe Idealize.ShloMosaic.Tactic Idealize.SL.Sem
open Cert.Reference3Ideal.Read
open Cert.Ffn (Args Rows arr)
open Cert.Ffn.Fin (part real eq_arr)
open Cert.Pre_all_finite3 (S_ S8192x2816 S8192x1024 S2816x1024 S3x2816 S1x2816)

/-! The third call's value claim: the operands are real under the precondition, and both programs then leave the same arrays. -/

/-- The side conditions of the third precondition's operations. -/
instance pre_facts : Cert.Pre_all_finite3.Facts where
  bcast_S_S8192x2816 := by decide
  reducesTo_S8192x2816_S_d0_1 := by decide
  h_S_ := by decide
  bcast_S_S3x2816 := by decide
  reducesTo_S3x2816_S_d0_1 := by decide
  bcast_S_S1x2816 := by decide
  reducesTo_S1x2816_S_d0_1 := by decide
  bcast_S_S2816x1024 := by decide
  reducesTo_S2816x1024_S_d0_1 := by decide
  bcast_S_S8192x1024 := by decide
  reducesTo_S8192x1024_S_d0_1 := by decide

section real
variable (x0 x1 : FVec Ideal S8192x2816 .f32) (x2 x3 : FVec Ideal S3x2816 .f32) (x4 x5 : FVec Ideal S1x2816 .f32) (x6 : FVec Ideal S2816x1024 .f32) (x7 : FVec Ideal S8192x1024 .f32)

/-- The operands' real parts. -/
def args : Args := ⟨part x0, part x1, part x7, part x6, part x2, part x3, part x4, part x5⟩

/-- Under the precondition the operands are arrays of reals. -/
theorem given (j : S_.Idx) (e : Cert.Pre_all_finite3.fn (F := Ideal) x0 x1 x2 x3 x4 x5 x6 x7 j = 1#1) :
    Given (args x0 x1 x2 x3 x4 x5 x6 x7) x0 x1 x2 x3 x4 x5 x6 x7 := by
  obtain ⟨e, h7⟩ := Cert.Fine.and_one e
  obtain ⟨e, h6⟩ := Cert.Fine.and_one e
  obtain ⟨e, h5⟩ := Cert.Fine.and_one e
  obtain ⟨e, h4⟩ := Cert.Fine.and_one e
  obtain ⟨e, h3⟩ := Cert.Fine.and_one e
  obtain ⟨e, h2⟩ := Cert.Fine.and_one e
  obtain ⟨h0, h1⟩ := Cert.Fine.and_one e
  exact ⟨real x0 _ _ _ _ j h0, real x1 _ _ _ _ j h1, real x2 _ _ _ _ j h2, real x3 _ _ _ _ j h3, real x4 _ _ _ _ j h4, real x5 _ _ _ _ j h5, real x6 _ _ _ _ j h6, real x7 _ _ _ _ j h7⟩
end real

section mem
variable (m : (ℓ : Loc Cert.Kernel3Ideal.nD Cert.Kernel3Ideal.τ Cert.Kernel3Ideal.sig) → Buf (Elt Ideal) ℓ) (c : Dev Cert.Kernel3Ideal.nD)

open Cert.Kernel3Ideal Cert.Kernel3Ideal.Gen in
/-- The down projection the call reads is the operand in the short format. -/
theorem v0_eq : V m c main_v0 = (truncf .bf16 (m ((c.tc : Thread nD τ).loc main_arg6) : FVec Ideal Cert.Pre_all_finite3.S2816x1024 .f32) bitsLt_bf16_f32 : FVec Ideal Cert.Pre_all_finite3.S2816x1024 .bf16) := by
  unfold V
  simp only [hostOps0, List.flatten_cons, List.flatten_nil, List.append_nil, List.cons_append, List.nil_append]
  after_reads_simp

/-- Operand 0. -/
abbrev a0 : FVec Ideal S8192x2816 .f32 := m ((c.tc : Thread Cert.Kernel3Ideal.nD Cert.Kernel3Ideal.τ).loc Cert.Kernel3Ideal.main_arg0)
/-- Operand 1. -/
abbrev a1 : FVec Ideal S8192x2816 .f32 := m ((c.tc : Thread Cert.Kernel3Ideal.nD Cert.Kernel3Ideal.τ).loc Cert.Kernel3Ideal.main_arg1)
/-- Operand 2. -/
abbrev a2 : FVec Ideal S3x2816 .f32 := m ((c.tc : Thread Cert.Kernel3Ideal.nD Cert.Kernel3Ideal.τ).loc Cert.Kernel3Ideal.main_arg2)
/-- Operand 3. -/
abbrev a3 : FVec Ideal S3x2816 .f32 := m ((c.tc : Thread Cert.Kernel3Ideal.nD Cert.Kernel3Ideal.τ).loc Cert.Kernel3Ideal.main_arg3)
/-- Operand 4. -/
abbrev a4 : FVec Ideal S1x2816 .f32 := m ((c.tc : Thread Cert.Kernel3Ideal.nD Cert.Kernel3Ideal.τ).loc Cert.Kernel3Ideal.main_arg4)
/-- Operand 5. -/
abbrev a5 : FVec Ideal S1x2816 .f32 := m ((c.tc : Thread Cert.Kernel3Ideal.nD Cert.Kernel3Ideal.τ).loc Cert.Kernel3Ideal.main_arg5)
/-- Operand 6. -/
abbrev a6 : FVec Ideal S2816x1024 .f32 := m ((c.tc : Thread Cert.Kernel3Ideal.nD Cert.Kernel3Ideal.τ).loc Cert.Kernel3Ideal.main_arg6)
/-- Operand 7. -/
abbrev a7 : FVec Ideal S8192x1024 .f32 := m ((c.tc : Thread Cert.Kernel3Ideal.nD Cert.Kernel3Ideal.τ).loc Cert.Kernel3Ideal.main_arg7)

/-- The call reads the operands' reals. -/
theorem holds {A : Args} (H : Given A (a0 m c) (a1 m c) (a2 m c) (a3 m c) (a4 m c) (a5 m c) (a6 m c) (a7 m c)) : Holds m A c where
  hU := fun a k => (congrFun (Cert.Kernel3Ideal.Gen.V_main_arg0 m c) (ix2 a k)).trans (H.hU a k)
  hG := fun a k => (congrFun (Cert.Kernel3Ideal.Gen.V_main_arg1 m c) (ix2 a k)).trans (H.hG a k)
  hv := fun a k => (congrFun (Cert.Kernel3Ideal.Gen.V_main_arg2 m c) (ix2 a k)).trans (H.hv a k)
  hg := fun a k => (congrFun (Cert.Kernel3Ideal.Gen.V_main_arg3 m c) (ix2 a k)).trans (H.hg a k)
  hbv := fun a k => (congrFun (Cert.Kernel3Ideal.Gen.V_main_arg4 m c) (ix2 a k)).trans (H.hbv a k)
  hbg := fun a k => (congrFun (Cert.Kernel3Ideal.Gen.V_main_arg5 m c) (ix2 a k)).trans (H.hbg a k)
  hW := fun a k => (congrFun (v0_eq m c) (ix2 a k)).trans (H.hW a k)
  hR := fun a k => (congrFun (Cert.Kernel3Ideal.Gen.V_main_arg7 m c) (ix2 a k)).trans (H.hR a k)
end mem

/-- The third reference declares no semaphore. -/
theorem ref_no_sems : Cert.Reference3Ideal.sig.nSem + Cert.Reference3Ideal.sig.nDmaSem = 0 := by decide

/-- The third reference leaves its arguments as they were and every semaphore at zero. -/
theorem ref_frame : Cert.quiescent_Reference3Ideal := fun m ρ _ =>
  (θ_run (Cert.Reference3Ideal.defs (F := Ideal)) _ _).mono (fun r h => ⟨fun c => (h c).2.2, Idealize.ShloMosaic.sem_eq_zero_of_no_sems ref_no_sems r.2⟩) (Cert.Reference3Ideal.Value.run (F := Ideal) m ρ)

/-- The value claim: on finite operands the kernel's gated rows and output are the reference's. -/
theorem value : Cert.algebraic_Kernel3Ideal_Reference3Ideal_pre_all_finite3 := by
  intro m g m' g' hp hag
  refine ⟨fun c => val_main_v53 (F := Ideal) (a0 m c) (a1 m c) (a2 m c) (a3 m c) (a4 m c) (a5 m c), fun c => val_main_v56 (F := Ideal) (a0 m c) (a1 m c) (a2 m c) (a3 m c) (a4 m c) (a5 m c) (a6 m c) (a7 m c),
    (θ_run _ _ _).mono (fun r h c => ?_) (Cert.Kernel3Ideal.Value.run_blocks m g),
    (θ_run _ _ _).mono (fun r h c => ?_) (Cert.Reference3Ideal.Value.run (F := Ideal) m' g')⟩
  · obtain ⟨k0, k1, ka⟩ := h c
    have G := given _ _ _ _ _ _ _ _ (fun x => x.elim0) (congrFun (hp c) (fun x => x.elim0))
    have H := holds m c G
    exact ⟨k0.trans ((arr10 H).trans (eq_arr (r53 G))), k1.trans ((arr11 H).trans (eq_arr (r56 G))), ka⟩
  · obtain ⟨e0, e1, e2, e3, e4, e5, e6, e7⟩ := hag c
    obtain ⟨r0, r1, ra⟩ := h c
    refine ⟨r0.trans ((val_main_v53_eq m' c).trans ?_), r1.trans ((val_main_v56_eq m' c).trans ?_), ra⟩
    · show val_main_v53 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) = _
      rw [e0, e1, e2, e3, e4, e5]
    · show val_main_v56 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) = _
      rw [e0, e1, e2, e3, e4, e5, e6, e7]

end Cert.Down.Fin

end
-- ==== Proof.DownSame.lean ====
module

public import proofs.«01_k».proof.Defs
public import proofs.«01_k».proof.Proof.Gen.Kernel3
public import proofs.«01_k».proof.Proof.Gen.Kernel3Ideal.Frame

@[expose] public section

set_option maxRecDepth 100000
set_option maxHeartbeats 1000000

noncomputable section

namespace Cert.Down.Same

open Idealize.ShloMosaic Idealize.SL.Sem

/-! The third kernel and its idealized form are one text: the run of the latter, at machine numbers, is a run of the former. -/

/-- The two call the same body. -/
theorem bodies : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | ⟨0, _⟩, (t, s) => rfl

/-- The two programs' functions are the same. -/
theorem tables : Cert.Kernel3.defs (F := Bits) = Cert.Kernel3Ideal.defs (F := Bits) :=
  congrArg (fun D => Pipeline.defs (Cert.Kernel3Ideal.pcfgs (F := Bits)) D) bodies

/-- The kernel at machine numbers leaves its arguments as they were and every semaphore at zero. -/
theorem frame : Cert.quiescent_Kernel3 := fun m ρ _ => by
  have h := Cert.Kernel3Ideal.Gen.frame (F := Bits) m ρ
  rw [← tables] at h
  exact h

end Cert.Down.Same

end
-- ==== Proof.UpMem.lean ====
module

public import Idealize.ShloMosaic.Lib.Pipeline.ValueKit
public import Idealize.ShloMosaic.Lib.Pipeline.Value
public import Idealize.ShloMosaic.PureOps.Ideal
public import Idealize.ShloMosaic.Lib.Tactic

@[expose] public section

set_option maxRecDepth 16384

noncomputable section

namespace Cert.Up

open Idealize.ShloMosaic

/-! The layouts that the products with the up projection read through. -/

/-- An array's entry depends only on the numbers of its coordinates. -/
theorem entry {α : Type} {s : Shape} (x : s.Idx → α) (i j : s.Idx) (h : ∀ a, (i a).val = (j a).val) : x i = x j :=
  congrArg x (funext fun a => Fin.ext (h a))

/-- The projection's columns in four parts: entry (p, k, q) is row k of column 1408 p + q. -/
theorem stacked {α : Type} (x : (⟨2, ![1024, 5632]⟩ : Shape).Idx → α) (h1 : (⟨2, ![1024, 5632]⟩ : Shape).ShapeCasts ⟨3, ![1024, 4, 1408]⟩)
    (h2 : (⟨3, ![1024, 4, 1408]⟩ : Shape).Transposes [1, 0, 2] ⟨3, ![4, 1024, 1408]⟩) (p : Fin 4) (k : Fin 1024) (q : Fin 1408) :
    transpose ⟨3, ![4, 1024, 1408]⟩ [1, 0, 2] (shapeCast ⟨3, ![1024, 4, 1408]⟩ x h1) h2 (ix3 p k q) = x (ix2 k ⟨p.val * 1408 + q.val, by omega⟩) := by
  refine (transpose_apply [1, 0, 2] _ h2 _ (ix3 k p q) (fun a => match a with
    | ⟨0, _⟩ => rfl
    | ⟨1, _⟩ => rfl
    | ⟨2, _⟩ => rfl)).trans ?_
  refine shapeCast_apply _ h1 _ (ix2 k ⟨p.val * 1408 + q.val, by omega⟩) ?_
  rw [Shape.rowMajor_val_two, Shape.rowMajor_val_three]
  show k.val * 5632 + (p.val * 1408 + q.val) = (k.val * 4 + p.val) * 1408 + q.val
  ring

/-- A part taken alone, as a matrix. -/
theorem flat {α : Type} {a b : ℕ} (x : (⟨3, ![1, a, b]⟩ : Shape).Idx → α) (h : (⟨3, ![1, a, b]⟩ : Shape).ShapeCasts ⟨2, ![a, b]⟩) (k : Fin a) (q : Fin b) :
    shapeCast ⟨2, ![a, b]⟩ x h (ix2 k q) = x (ix3 0 k q) := by
  refine shapeCast_apply _ h _ (ix3 0 k q) ?_
  rw [Shape.rowMajor_val_two, Shape.rowMajor_val_three]
  show (0 * a + k.val) * b + q.val = k.val * b + q.val
  ring

/-- A matrix, as a part taken alone. -/
theorem alone {α : Type} {a b : ℕ} (x : (⟨2, ![a, b]⟩ : Shape).Idx → α) (h : (⟨2, ![a, b]⟩ : Shape).ShapeCasts ⟨3, ![1, a, b]⟩) (k : Fin a) (q : Fin b) :
    shapeCast ⟨3, ![1, a, b]⟩ x h (ix3 0 k q) = x (ix2 k q) := by
  refine shapeCast_apply _ h _ (ix2 k q) ?_
  rw [Shape.rowMajor_val_two, Shape.rowMajor_val_three]
  show k.val * b + q.val = (0 * a + k.val) * b + q.val
  ring

/-- The bits of zero. -/
theorem zero_bits : (FloatOps.ofBits (F := Ideal) .f32 0x00000000#32 : EReal) = 0 := by
  simpa using Ideal.ofBits_zero

/-- A sum over the whole length is the sum over its four parts of each part's sum. -/
theorem grouped (F : Fin 8192 → EReal) :
    ∑ j : Fin 4, ∑ k : Fin 2048, F ⟨j.val * 2048 + k.val, by omega⟩ = ∑ k : Fin 8192, F k := by
  rw [← Equiv.sum_comp (finProdFinEquiv : Fin 4 × Fin 2048 ≃ Fin (4 * 2048)) F, Fintype.sum_prod_type]
  refine Finset.sum_congr rfl fun j _ => Finset.sum_congr rfl fun k _ => congrArg F (Fin.ext ?_)
  show j.val * 2048 + k.val = k.val + 2048 * j.val
  omega

end Cert.Up

end
-- ==== Proof.Up4.lean ====
module

public import proofs.«01_k».proof.Defs
public import proofs.«01_k».proof.Proof.UpMem
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import Idealize.ShloMosaic.Lib.Tactic
public import Idealize.ShloMosaic.Lib.MatmulPlain
public import Idealize.ShloMosaic.Lib.StableHlo.RunRead

@[expose] public section

set_option maxRecDepth 100000
set_option maxHeartbeats 1000000

noncomputable section

namespace Cert.Up.P4

open Cert.Kernel4Ideal Cert.Kernel4Ideal.Gen Cert.Reference4Ideal.Read
open Idealize.ShloMosaic Idealize.ShloMosaic.TcCoe Idealize.ShloMosaic.Tactic Idealize.SL.Sem
open Cert.Up (entry stacked flat zero_bits)

/-! The fourth program: the values' half of the product with the up projection. -/

/-- A read that starts at the origin of a matrix starts at zero on both axes. -/
theorem hz : (![0, 0] : Fin 2 → Nat) = fun _ => 0 := funext fun a => by fin_cases a <;> rfl
/-- The same with three axes. -/
theorem hz3 : (![0, 0, 0] : Fin 3 → Nat) = fun _ => 0 := funext fun a => by fin_cases a <;> rfl

/-- A tile's entry: the inner product of a row and a column. -/
theorem tile (x : FVec Ideal S1024x1024 .bf16) (w : FVec Ideal S1x1024x1408 .bf16) (a : Fin 1024) (b : Fin 1408) :
    out0_2 (F := Ideal) x w (ix2 a b) = ∑ k : Fin 1024, x (ix2 a k) * w (ix3 0 k b) := by
  unfold out0_2
  rw [View.canon_unit_zero hz]
  unfold k0_pay1
  rw [shapeCast_self, View.ld_unit_zero (S := S1024x1024) hz, View.ld_unit_zero (S := S1x1024x1408) hz3]
  refine (Ideal.matmul_plain_apply (M := 1024) (K := 1024) (N := 1408) none _ _ _ a b).trans ?_
  refine (congrArg₂ (fun u v : EReal => u + v) (show _ = (0 : EReal) from zero_bits) (Finset.sum_congr rfl fun k _ => congrArg (fun v : EReal => x (ix2 a k) * v) (flat w _ k b))).trans ?_
  exact zero_add _

/-- Every window's block index at a point. -/
theorem idx : ∀ t : Fin cfg0.N, win0_0.index t = ![t.val % 8, 0] ∧ win0_1.index t = ![t.val / 8, 0, 0] ∧ win0_2.index t = ![t.val % 8, t.val / 8] :=
  (by decide +kernel : ∀ t : Fin grid0.N, _)

section mem
variable (m : (ℓ : Loc nD τ sig) → Buf (Elt Ideal) ℓ) (c : Dev nD)

/-- The rows given. -/
abbrev a0 : FVec Ideal S8192x1024 .f32 := m ((c.tc : Thread nD τ).loc main_arg0)
/-- The up projection given. -/
abbrev a1 : FVec Ideal S1024x5632 .f32 := m ((c.tc : Thread nD τ).loc main_arg1)

/-- The rows the call reads are those given, in the short format. -/
theorem v3_eq : V m c main_v3 = (truncf .bf16 (a0 m c) bitsLt_bf16_f32 : FVec Ideal S8192x1024 .bf16) := by
  unfold V
  simp only [hostOps0, List.flatten_cons, List.flatten_nil, List.append_nil, List.cons_append, List.nil_append]
  after_reads_simp

/-- The projection the call reads is the one given, in the short format and in four parts. -/
theorem v2_eq : V m c main_v2 = (transpose S4x1024x1408 [1, 0, 2] (shapeCast S1024x4x1408 (truncf .bf16 (a1 m c) bitsLt_bf16_f32 : FVec Ideal S1024x5632 .bf16) shapeCasts_S1024x5632_S1024x4x1408) transposes_S1024x4x1408_S4x1024x1408_1_0_2 : FVec Ideal S4x1024x1408 .bf16) := by
  unfold V
  simp only [hostOps0, List.flatten_cons, List.flatten_nil, List.append_nil, List.cons_append, List.nil_append]
  after_reads_simp
  rfl

/-- The array after the run is the reference's. -/
theorem final : (dats m 0 c).arrAt 2 cfg0.N = val_main_v1 (F := Ideal) (a0 m c) (a1 m c) := by
  refine (dats m 0 c).arrAt_eq_of_covers 2 _ (by decide +kernel) fun t hf y => ?_
  obtain ⟨i0, i1, i2⟩ := idx t
  have ht : t.val < 16 := Nat.lt_of_lt_of_eq t.isLt (by decide +kernel : grid0.N = 16)
  have e0 : ((win0_2.rect t).emb y 0).val = t.val % 8 * 1024 + (y 0).val := (Pipeline.Window.rect_emb_val win0_2 t y 0).trans (by rw [i2]; rfl)
  have e1 : ((win0_2.rect t).emb y 1).val = t.val / 8 * 1408 + (y 1).val := (Pipeline.Window.rect_emb_val win0_2 t y 1).trans (by rw [i2]; rfl)
  blk_simp
  rw [after0_2]
  have hy : y = ix2 (y 0) (y 1) := Shape.idx_ext₂ (n := ![1024, 1408]) rfl rfl
  have hy1 : (y 1).val < 1408 := (y 1).isLt
  refine ((congrArg _ hy).trans (tile _ _ (y 0) (y 1))).trans ?_
  refine Eq.trans ?_ ((val_main_v1_apply (F := Ideal) (a0 m c) (a1 m c) ((win0_2.rect t).emb y)).trans (val_main_v0_apply (a0 m c) (a1 m c) _)).symm
  refine Finset.sum_congr rfl fun k _ => congrArg₂ (fun u v : EReal => u * v) ?_ ?_
  · refine (congrFun (v3_eq m c) ((win0_0.rect t).emb (ix2 (y 0) k))).trans ?_
    refine entry (a0 m c) _ _ fun a => ?_
    match a with
    | ⟨0, _⟩ => exact ((Pipeline.Window.rect_emb_val win0_0 t _ 0).trans (by rw [i0]; rfl)).trans e0.symm
    | ⟨1, _⟩ => exact (Pipeline.Window.rect_emb_val win0_0 t _ 1).trans (by rw [i0]; show 0 * 1024 + k.val = k.val; omega)
  · refine (congrFun (v2_eq m c) ((win0_1.rect t).emb (ix3 0 k (y 1)))).trans ?_
    have hp : (win0_1.rect t).emb (ix3 0 k (y 1)) = ix3 (⟨t.val / 8, by omega⟩ : Fin 4) k (⟨(y 1).val, hy1⟩ : Fin 1408) := funext fun a => Fin.ext (by
      match a with
      | ⟨0, _⟩ => exact (Pipeline.Window.rect_emb_val win0_1 t _ 0).trans (by rw [i1]; show t.val / 8 * 1 + 0 = t.val / 8; omega)
      | ⟨1, _⟩ => exact (Pipeline.Window.rect_emb_val win0_1 t _ 1).trans (by rw [i1]; show 0 * 1024 + k.val = k.val; omega)
      | ⟨2, _⟩ => exact (Pipeline.Window.rect_emb_val win0_1 t _ 2).trans (by rw [i1]; show 0 * 1408 + (y 1).val = (y 1).val; omega))
    refine (congrArg _ hp).trans ((stacked _ shapeCasts_S1024x5632_S1024x4x1408 transposes_S1024x4x1408_S4x1024x1408_1_0_2 _ k _).trans ?_)
    refine entry (a1 m c) _ _ fun a => ?_
    match a with
    | ⟨0, _⟩ => rfl
    | ⟨1, _⟩ => exact e1.symm
end mem

/-- The reference declares no semaphore. -/
theorem ref_no_sems : Cert.Reference4Ideal.sig.nSem + Cert.Reference4Ideal.sig.nDmaSem = 0 := by decide

/-- The reference leaves its arguments as they were and every semaphore at zero. -/
theorem ref_frame : Cert.quiescent_Reference4Ideal := fun m ρ _ =>
  (θ_run (Cert.Reference4Ideal.defs (F := Ideal)) _ _).mono (fun r h => ⟨fun c => (h c).2, Idealize.ShloMosaic.sem_eq_zero_of_no_sems ref_no_sems r.2⟩) (Cert.Reference4Ideal.Value.run (F := Ideal) m ρ)

/-- The value claim: the call's rows are the reference's, whatever the operands. -/
theorem value : Cert.algebraic_Kernel4Ideal_Reference4Ideal := by
  intro m g m' g' hp hag
  refine ⟨fun c => val_main_v1 (F := Ideal) (a0 m c) (a1 m c), (θ_run _ _ _).mono (fun r h c => ?_) (Cert.Kernel4Ideal.Value.run_blocks m g),
    (θ_run _ _ _).mono (fun r h c => ?_) (Cert.Reference4Ideal.Value.run (F := Ideal) m' g')⟩
  · obtain ⟨k0, ka⟩ := h c
    exact ⟨k0.trans (final m c), ka⟩
  · obtain ⟨e0, e1⟩ := hag c
    obtain ⟨r0, ra⟩ := h c
    refine ⟨r0.trans ((val_main_v1_eq _ _).trans ?_), ra⟩
    rw [e0, e1]

/-- The two call the same body. -/
theorem bodies : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | ⟨0, _⟩, (t, s) => rfl

/-- The two programs' functions are the same. -/
theorem tables : Cert.Kernel4.defs (F := Bits) = Cert.Kernel4Ideal.defs (F := Bits) :=
  congrArg (fun D => Pipeline.defs (Cert.Kernel4Ideal.pcfgs (F := Bits)) D) bodies

/-- The kernel at machine numbers leaves its arguments as they were and every semaphore at zero. -/
theorem frame : Cert.quiescent_Kernel4 := fun m ρ _ => by
  have h := Cert.Kernel4Ideal.Gen.frame (F := Bits) m ρ
  rw [← tables] at h
  exact h

end Cert.Up.P4

end
-- ==== Proof.Up5.lean ====
module

public import proofs.«01_k».proof.Defs
public import proofs.«01_k».proof.Proof.UpMem
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import Idealize.ShloMosaic.Lib.Tactic
public import Idealize.ShloMosaic.Lib.MatmulPlain
public import Idealize.ShloMosaic.Lib.StableHlo.RunRead

@[expose] public section

set_option maxRecDepth 100000
set_option maxHeartbeats 1000000

noncomputable section

namespace Cert.Up.P5

open Cert.Kernel5Ideal Cert.Kernel5Ideal.Gen Cert.Reference5Ideal.Read
open Idealize.ShloMosaic Idealize.ShloMosaic.TcCoe Idealize.ShloMosaic.Tactic Idealize.SL.Sem
open Cert.Up (entry stacked flat zero_bits)

/-! The fifth program: the gates' half of the product with the up projection. -/

/-- A read that starts at the origin of a matrix starts at zero on both axes. -/
theorem hz : (![0, 0] : Fin 2 → Nat) = fun _ => 0 := funext fun a => by fin_cases a <;> rfl
/-- The same with three axes. -/
theorem hz3 : (![0, 0, 0] : Fin 3 → Nat) = fun _ => 0 := funext fun a => by fin_cases a <;> rfl

/-- A tile's entry: the inner product of a row and a column. -/
theorem tile (x : FVec Ideal S1024x1024 .bf16) (w : FVec Ideal S1x1024x1408 .bf16) (a : Fin 1024) (b : Fin 1408) :
    out0_2 (F := Ideal) x w (ix2 a b) = ∑ k : Fin 1024, x (ix2 a k) * w (ix3 0 k b) := by
  unfold out0_2
  rw [View.canon_unit_zero hz]
  unfold k0_pay1
  rw [shapeCast_self, View.ld_unit_zero (S := S1024x1024) hz, View.ld_unit_zero (S := S1x1024x1408) hz3]
  refine (Ideal.matmul_plain_apply (M := 1024) (K := 1024) (N := 1408) none _ _ _ a b).trans ?_
  refine (congrArg₂ (fun u v : EReal => u + v) (show _ = (0 : EReal) from zero_bits) (Finset.sum_congr rfl fun k _ => congrArg (fun v : EReal => x (ix2 a k) * v) (flat w _ k b))).trans ?_
  exact zero_add _

/-- Every window's block index at a point. -/
theorem idx : ∀ t : Fin cfg0.N, win0_0.index t = ![t.val % 8, 0] ∧ win0_1.index t = ![2 + t.val / 8, 0, 0] ∧ win0_2.index t = ![t.val % 8, t.val / 8] :=
  (by decide +kernel : ∀ t : Fin grid0.N, _)

section mem
variable (m : (ℓ : Loc nD τ sig) → Buf (Elt Ideal) ℓ) (c : Dev nD)

/-- The rows given. -/
abbrev a0 : FVec Ideal S8192x1024 .f32 := m ((c.tc : Thread nD τ).loc main_arg0)
/-- The up projection given. -/
abbrev a1 : FVec Ideal S1024x5632 .f32 := m ((c.tc : Thread nD τ).loc main_arg1)

/-- The rows the call reads are those given, in the short format. -/
theorem v3_eq : V m c main_v3 = (truncf .bf16 (a0 m c) bitsLt_bf16_f32 : FVec Ideal S8192x1024 .bf16) := by
  unfold V
  simp only [hostOps0, List.flatten_cons, List.flatten_nil, List.append_nil, List.cons_append, List.nil_append]
  after_reads_simp

/-- The projection the call reads is the one given, in the short format and in four parts. -/
theorem v2_eq : V m c main_v2 = (transpose S4x1024x1408 [1, 0, 2] (shapeCast S1024x4x1408 (truncf .bf16 (a1 m c) bitsLt_bf16_f32 : FVec Ideal S1024x5632 .bf16) shapeCasts_S1024x5632_S1024x4x1408) transposes_S1024x4x1408_S4x1024x1408_1_0_2 : FVec Ideal S4x1024x1408 .bf16) := by
  unfold V
  simp only [hostOps0, List.flatten_cons, List.flatten_nil, List.append_nil, List.cons_append, List.nil_append]
  after_reads_simp
  rfl

/-- The array after the run is the reference's. -/
theorem final : (dats m 0 c).arrAt 2 cfg0.N = val_main_v1 (F := Ideal) (a0 m c) (a1 m c) := by
  refine (dats m 0 c).arrAt_eq_of_covers 2 _ (by decide +kernel) fun t hf y => ?_
  obtain ⟨i0, i1, i2⟩ := idx t
  have ht : t.val < 16 := Nat.lt_of_lt_of_eq t.isLt (by decide +kernel : grid0.N = 16)
  have e0 : ((win0_2.rect t).emb y 0).val = t.val % 8 * 1024 + (y 0).val := (Pipeline.Window.rect_emb_val win0_2 t y 0).trans (by rw [i2]; rfl)
  have e1 : ((win0_2.rect t).emb y 1).val = t.val / 8 * 1408 + (y 1).val := (Pipeline.Window.rect_emb_val win0_2 t y 1).trans (by rw [i2]; rfl)
  blk_simp
  rw [after0_2]
  have hy : y = ix2 (y 0) (y 1) := Shape.idx_ext₂ (n := ![1024, 1408]) rfl rfl
  have hy1 : (y 1).val < 1408 := (y 1).isLt
  refine ((congrArg _ hy).trans (tile _ _ (y 0) (y 1))).trans ?_
  refine Eq.trans ?_ ((val_main_v1_apply (F := Ideal) (a0 m c) (a1 m c) ((win0_2.rect t).emb y)).trans (val_main_v0_apply (a0 m c) (a1 m c) _)).symm
  refine Finset.sum_congr rfl fun k _ => congrArg₂ (fun u v : EReal => u * v) ?_ ?_
  · refine (congrFun (v3_eq m c) ((win0_0.rect t).emb (ix2 (y 0) k))).trans ?_
    refine entry (a0 m c) _ _ fun a => ?_
    match a with
    | ⟨0, _⟩ => exact ((Pipeline.Window.rect_emb_val win0_0 t _ 0).trans (by rw [i0]; rfl)).trans e0.symm
    | ⟨1, _⟩ => exact (Pipeline.Window.rect_emb_val win0_0 t _ 1).trans (by rw [i0]; show 0 * 1024 + k.val = k.val; omega)
  · refine (congrFun (v2_eq m c) ((win0_1.rect t).emb (ix3 0 k (y 1)))).trans ?_
    have hp : (win0_1.rect t).emb (ix3 0 k (y 1)) = ix3 (⟨2 + t.val / 8, by omega⟩ : Fin 4) k (⟨(y 1).val, hy1⟩ : Fin 1408) := funext fun a => Fin.ext (by
      match a with
      | ⟨0, _⟩ => exact (Pipeline.Window.rect_emb_val win0_1 t _ 0).trans (by rw [i1]; show (2 + t.val / 8) * 1 + 0 = 2 + t.val / 8; omega)
      | ⟨1, _⟩ => exact (Pipeline.Window.rect_emb_val win0_1 t _ 1).trans (by rw [i1]; show 0 * 1024 + k.val = k.val; omega)
      | ⟨2, _⟩ => exact (Pipeline.Window.rect_emb_val win0_1 t _ 2).trans (by rw [i1]; show 0 * 1408 + (y 1).val = (y 1).val; omega))
    refine (congrArg _ hp).trans ((stacked _ shapeCasts_S1024x5632_S1024x4x1408 transposes_S1024x4x1408_S4x1024x1408_1_0_2 _ k _).trans ?_)
    refine entry (a1 m c) _ _ fun a => ?_
    match a with
    | ⟨0, _⟩ => rfl
    | ⟨1, _⟩ =>
      show (2 + t.val / 8) * 1408 + (y 1).val = 2816 + ((win0_2.rect t).emb y 1).val
      rw [e1]; omega
end mem

/-- The reference declares no semaphore. -/
theorem ref_no_sems : Cert.Reference5Ideal.sig.nSem + Cert.Reference5Ideal.sig.nDmaSem = 0 := by decide

/-- The reference leaves its arguments as they were and every semaphore at zero. -/
theorem ref_frame : Cert.quiescent_Reference5Ideal := fun m ρ _ =>
  (θ_run (Cert.Reference5Ideal.defs (F := Ideal)) _ _).mono (fun r h => ⟨fun c => (h c).2, Idealize.ShloMosaic.sem_eq_zero_of_no_sems ref_no_sems r.2⟩) (Cert.Reference5Ideal.Value.run (F := Ideal) m ρ)

/-- The value claim: the call's rows are the reference's, whatever the operands. -/
theorem value : Cert.algebraic_Kernel5Ideal_Reference5Ideal := by
  intro m g m' g' hp hag
  refine ⟨fun c => val_main_v1 (F := Ideal) (a0 m c) (a1 m c), (θ_run _ _ _).mono (fun r h c => ?_) (Cert.Kernel5Ideal.Value.run_blocks m g),
    (θ_run _ _ _).mono (fun r h c => ?_) (Cert.Reference5Ideal.Value.run (F := Ideal) m' g')⟩
  · obtain ⟨k0, ka⟩ := h c
    exact ⟨k0.trans (final m c), ka⟩
  · obtain ⟨e0, e1⟩ := hag c
    obtain ⟨r0, ra⟩ := h c
    refine ⟨r0.trans ((val_main_v1_eq _ _).trans ?_), ra⟩
    rw [e0, e1]

/-- The two call the same body. -/
theorem bodies : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | ⟨0, _⟩, (t, s) => rfl

/-- The two programs' functions are the same. -/
theorem tables : Cert.Kernel5.defs (F := Bits) = Cert.Kernel5Ideal.defs (F := Bits) :=
  congrArg (fun D => Pipeline.defs (Cert.Kernel5Ideal.pcfgs (F := Bits)) D) bodies

/-- The kernel at machine numbers leaves its arguments as they were and every semaphore at zero. -/
theorem frame : Cert.quiescent_Kernel5 := fun m ρ _ => by
  have h := Cert.Kernel5Ideal.Gen.frame (F := Bits) m ρ
  rw [← tables] at h
  exact h

end Cert.Up.P5

end
-- ==== Proof.Up6.lean ====
module

public import proofs.«01_k».proof.Defs
public import proofs.«01_k».proof.Proof.UpMem
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import Idealize.ShloMosaic.Lib.Tactic
public import Idealize.ShloMosaic.Lib.MatmulPlain
public import Idealize.ShloMosaic.Lib.StableHlo.RunRead

@[expose] public section

set_option maxRecDepth 100000
set_option maxHeartbeats 1000000

noncomputable section

namespace Cert.Up.P6

open Cert.Kernel6Ideal Cert.Kernel6Ideal.Gen Cert.Reference6Ideal.Read
open Idealize.ShloMosaic Idealize.ShloMosaic.TcCoe Idealize.ShloMosaic.Tactic Idealize.SL.Sem
open Cert.Up (entry stacked flat zero_bits)

/-! The sixth program: the derivative at the block's input that comes through the values. -/

/-- A read that starts at the origin of a matrix starts at zero on both axes. -/
theorem hz : (![0, 0] : Fin 2 → Nat) = fun _ => 0 := funext fun a => by fin_cases a <;> rfl

/-- One part's product. -/
theorem half (x : FVec Ideal S1024x1408 .bf16) (w : FVec Ideal S1x1024x1408 .bf16) (a b : Fin 1024) :
    (matmul dot_S1024x1408_S1024x1408_S1024x1024_1_1_0_0_n_n none x (shapeCast S1024x1408 w shapeCasts_S1x1024x1408_S1024x1408 : FVec Ideal S1024x1408 .bf16) (constant S1024x1024 .f32 0x00000000#32) : FVec Ideal S1024x1024 .f32) (ix2 a b)
      = ∑ k : Fin 1408, x (ix2 a k) * w (ix3 0 b k) := by
  refine (Ideal.matmul_transposedRhs_apply (M := 1024) (K := 1408) (N := 1024) none _ _ _ a b).trans ?_
  refine (congrArg₂ (fun u v : EReal => u + v) (show _ = (0 : EReal) from zero_bits) (Finset.sum_congr rfl fun k _ => congrArg (fun v : EReal => x (ix2 a k) * v) (flat w _ b k))).trans ?_
  exact zero_add _

/-- A tile's entry: the inner product of a row and a row of the projection, over its two parts. -/
theorem tile (x : FVec Ideal S1024x2816 .bf16) (w : FVec Ideal S2x1024x1408 .bf16) (a b : Fin 1024) :
    out0_2 (F := Ideal) x w (ix2 a b) = ∑ k : Fin 1408, x (ix2 a (Fin.castAdd 1408 k : Fin 2816)) * w (ix3 0 b k) + ∑ k : Fin 1408, x (ix2 a (Fin.natAdd 1408 k : Fin 2816)) * w (ix3 1 b k) := by
  unfold out0_2
  rw [View.canon_unit_zero hz]
  unfold k0_pay1
  rw [shapeCast_self, shapeCast_self]
  refine (congrArg₂ (fun u v : EReal => u + v) ((congrArg₂ (fun u v : EReal => u + v) (show _ = (0 : EReal) from zero_bits) (half (View.ld (Val := Elt Ideal) (e' := .bf16) x r0_0) (View.ld (Val := Elt Ideal) (e' := .bf16) w r0_1) a b)).trans (zero_add _)) (half (View.ld (Val := Elt Ideal) (e' := .bf16) x r0_2) (View.ld (Val := Elt Ideal) (e' := .bf16) w r0_3) a b)).trans ?_
  refine congrArg₂ (fun u v : EReal => u + v) (Finset.sum_congr rfl fun k _ => congrArg₂ (fun u v : EReal => u * v) ?_ ?_) (Finset.sum_congr rfl fun k _ => congrArg₂ (fun u v : EReal => u * v) ?_ ?_)
  · refine View.ld_unit_apply_of (Val := Elt Ideal) (e := .bf16) x ![0, 0] S1024x1408.size _ (ix2 a k) (ix2 a (Fin.castAdd 1408 k : Fin 2816)) fun d => ?_
    match d with
    | ⟨0, _⟩ => exact (Nat.zero_add _).symm
    | ⟨1, _⟩ => exact (Nat.zero_add _).symm
  · refine View.ld_unit_apply_of (Val := Elt Ideal) (e := .bf16) w ![0, 0, 0] S1x1024x1408.size _ (ix3 0 b k) (ix3 0 b k) fun d => ?_
    match d with
    | ⟨0, _⟩ => rfl
    | ⟨1, _⟩ => exact (Nat.zero_add _).symm
    | ⟨2, _⟩ => exact (Nat.zero_add _).symm
  · refine View.ld_unit_apply_of (Val := Elt Ideal) (e := .bf16) x ![0, 1408] S1024x1408.size _ (ix2 a k) (ix2 a (Fin.natAdd 1408 k : Fin 2816)) fun d => ?_
    match d with
    | ⟨0, _⟩ => exact (Nat.zero_add _).symm
    | ⟨1, _⟩ => rfl
  · refine View.ld_unit_apply_of (Val := Elt Ideal) (e := .bf16) w ![1, 0, 0] S1x1024x1408.size _ (ix3 0 b k) (ix3 1 b k) fun d => ?_
    match d with
    | ⟨0, _⟩ => rfl
    | ⟨1, _⟩ => exact (Nat.zero_add _).symm
    | ⟨2, _⟩ => exact (Nat.zero_add _).symm

/-- Every window's block index at a point. -/
theorem idx : ∀ t : Fin cfg0.N, win0_0.index t = ![t.val, 0] ∧ win0_1.index t = ![0, 0, 0] ∧ win0_2.index t = ![t.val, 0] :=
  (by decide +kernel : ∀ t : Fin grid0.N, _)

section mem
variable (m : (ℓ : Loc nD τ sig) → Buf (Elt Ideal) ℓ) (c : Dev nD)

/-- The derivative given. -/
abbrev a0 : FVec Ideal S8192x2816 .f32 := m ((c.tc : Thread nD τ).loc main_arg0)
/-- The up projection given. -/
abbrev a1 : FVec Ideal S1024x5632 .f32 := m ((c.tc : Thread nD τ).loc main_arg1)

/-- The derivative the call reads is the one given, in the short format. -/
theorem v3_eq : V m c main_v3 = (truncf .bf16 (a0 m c) bitsLt_bf16_f32 : FVec Ideal S8192x2816 .bf16) := by
  unfold V
  simp only [hostOps0, List.flatten_cons, List.flatten_nil, List.append_nil, List.cons_append, List.nil_append]
  after_reads_simp

/-- The projection the call reads is the one given, in the short format and in four parts. -/
theorem v2_eq : V m c main_v2 = (transpose S4x1024x1408 [1, 0, 2] (shapeCast S1024x4x1408 (truncf .bf16 (a1 m c) bitsLt_bf16_f32 : FVec Ideal S1024x5632 .bf16) shapeCasts_S1024x5632_S1024x4x1408) transposes_S1024x4x1408_S4x1024x1408_1_0_2 : FVec Ideal S4x1024x1408 .bf16) := by
  unfold V
  simp only [hostOps0, List.flatten_cons, List.flatten_nil, List.append_nil, List.cons_append, List.nil_append]
  after_reads_simp
  rfl

/-- The array after the run is the reference's. -/
theorem final : (dats m 0 c).arrAt 2 cfg0.N = val_main_v3 (F := Ideal) (a0 m c) (a1 m c) := by
  refine (dats m 0 c).arrAt_eq_of_covers 2 _ (by decide +kernel) fun t hf y => ?_
  obtain ⟨i0, i1, i2⟩ := idx t
  have e0 : ((win0_2.rect t).emb y 0).val = t.val * 1024 + (y 0).val := (Pipeline.Window.rect_emb_val win0_2 t y 0).trans (by rw [i2]; rfl)
  have e1 : ((win0_2.rect t).emb y 1).val = (y 1).val := (Pipeline.Window.rect_emb_val win0_2 t y 1).trans (by rw [i2]; show 0 * 1024 + (y 1).val = (y 1).val; omega)
  blk_simp
  rw [after0_2]
  have hy : y = ix2 (y 0) (y 1) := Shape.idx_ext₂ (n := ![1024, 1024]) rfl rfl
  refine ((congrArg _ hy).trans (tile _ _ (y 0) (y 1))).trans ?_
  refine Eq.trans ?_ ((val_main_v3_apply (a0 m c) (a1 m c) ((win0_2.rect t).emb y)).trans (Fin.sum_univ_add (M := EReal) (a := 1408) (b := 1408) _)).symm
  have hx : ∀ k : Fin 2816, iblk m c 0 t (ix2 (y 0) k) = a0 m c (lidx_main_v3 ((win0_2.rect t).emb y) k) := fun k => by
    refine (congrFun (v3_eq m c) ((win0_0.rect t).emb (ix2 (y 0) k))).trans ?_
    refine entry (a0 m c) _ _ fun a => ?_
    match a with
    | ⟨0, _⟩ => exact ((Pipeline.Window.rect_emb_val win0_0 t _ 0).trans (by rw [i0]; rfl)).trans e0.symm
    | ⟨1, _⟩ => exact (Pipeline.Window.rect_emb_val win0_0 t _ 1).trans (by rw [i0]; show 0 * 2816 + k.val = k.val; omega)
  have hw : ∀ (p : Fin 2) (q : Fin 1408) (k : Fin 2816), k.val = p.val * 1408 + q.val →
      iblk m c 1 t (ix3 p (y 1) q) = val_main_v1 (F := Ideal) (a1 m c) (ridx_main_v3 ((win0_2.rect t).emb y) k) := fun p q k hk => by
    refine (congrFun (v2_eq m c) ((win0_1.rect t).emb (ix3 p (y 1) q))).trans ?_
    have hp : (win0_1.rect t).emb (ix3 p (y 1) q) = ix3 (⟨0 + p.val, by omega⟩ : Fin 4) (y 1) q := funext fun a => Fin.ext (by
      match a with
      | ⟨0, _⟩ => exact (Pipeline.Window.rect_emb_val win0_1 t _ 0).trans (by rw [i1]; rfl)
      | ⟨1, _⟩ => exact (Pipeline.Window.rect_emb_val win0_1 t _ 1).trans (by rw [i1]; show 0 * 1024 + (y 1).val = (y 1).val; omega)
      | ⟨2, _⟩ => exact (Pipeline.Window.rect_emb_val win0_1 t _ 2).trans (by rw [i1]; show 0 * 1408 + q.val = q.val; omega))
    refine (congrArg _ hp).trans ((stacked _ shapeCasts_S1024x5632_S1024x4x1408 transposes_S1024x4x1408_S4x1024x1408_1_0_2 _ (y 1) q).trans ?_)
    refine Eq.trans ?_ (val_main_v1_apply (F := Ideal) (a1 m c) _).symm
    refine entry (a1 m c) _ _ fun a => ?_
    match a with
    | ⟨0, _⟩ => exact e1.symm
    | ⟨1, _⟩ => show (0 + p.val) * 1408 + q.val = k.val; omega
  refine congrArg₂ (fun u v : EReal => u + v) (Finset.sum_congr rfl fun k _ => congrArg₂ (fun u v : EReal => u * v) (hx _) (hw 0 k _ ?_)) (Finset.sum_congr rfl fun k _ => congrArg₂ (fun u v : EReal => u * v) (hx _) (hw 1 k _ ?_))
  · show k.val = 0 * 1408 + k.val; omega
  · show 1408 + k.val = 1 * 1408 + k.val; omega
end mem

/-- The reference declares no semaphore. -/
theorem ref_no_sems : Cert.Reference6Ideal.sig.nSem + Cert.Reference6Ideal.sig.nDmaSem = 0 := by decide

/-- The reference leaves its arguments as they were and every semaphore at zero. -/
theorem ref_frame : Cert.quiescent_Reference6Ideal := fun m ρ _ =>
  (θ_run (Cert.Reference6Ideal.defs (F := Ideal)) _ _).mono (fun r h => ⟨fun c => (h c).2, Idealize.ShloMosaic.sem_eq_zero_of_no_sems ref_no_sems r.2⟩) (Cert.Reference6Ideal.Value.run (F := Ideal) m ρ)

/-- The value claim: the derivative is the reference's, whatever the operands. -/
theorem value : Cert.algebraic_Kernel6Ideal_Reference6Ideal := by
  intro m g m' g' hp hag
  refine ⟨fun c => val_main_v3 (F := Ideal) (a0 m c) (a1 m c), (θ_run _ _ _).mono (fun r h c => ?_) (Cert.Kernel6Ideal.Value.run_blocks m g),
    (θ_run _ _ _).mono (fun r h c => ?_) (Cert.Reference6Ideal.Value.run (F := Ideal) m' g')⟩
  · obtain ⟨k0, ka⟩ := h c
    exact ⟨k0.trans (final m c), ka⟩
  · obtain ⟨e0, e1⟩ := hag c
    obtain ⟨r0, ra⟩ := h c
    refine ⟨r0.trans ((val_main_v3_eq _ _).trans ?_), ra⟩
    rw [e0, e1]

/-- The two call the same body. -/
theorem bodies : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | ⟨0, _⟩, (t, s) => rfl

/-- The two programs' functions are the same. -/
theorem tables : Cert.Kernel6.defs (F := Bits) = Cert.Kernel6Ideal.defs (F := Bits) :=
  congrArg (fun D => Pipeline.defs (Cert.Kernel6Ideal.pcfgs (F := Bits)) D) bodies

/-- The kernel at machine numbers leaves its arguments as they were and every semaphore at zero. -/
theorem frame : Cert.quiescent_Kernel6 := fun m ρ _ => by
  have h := Cert.Kernel6Ideal.Gen.frame (F := Bits) m ρ
  rw [← tables] at h
  exact h

end Cert.Up.P6

end
-- ==== Proof.Up7.lean ====
module

public import proofs.«01_k».proof.Defs
public import proofs.«01_k».proof.Proof.UpMem
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import Idealize.ShloMosaic.Lib.Tactic
public import Idealize.ShloMosaic.Lib.MatmulPlain
public import Idealize.ShloMosaic.Lib.StableHlo.RunRead

@[expose] public section

set_option maxRecDepth 100000
set_option maxHeartbeats 1000000

noncomputable section

namespace Cert.Up.P7

open Cert.Kernel7Ideal Cert.Kernel7Ideal.Gen Cert.Reference7Ideal.Read
open Idealize.ShloMosaic Idealize.ShloMosaic.TcCoe Idealize.ShloMosaic.Tactic Idealize.SL.Sem
open Cert.Up (entry stacked flat zero_bits)

/-! The seventh program: the derivative at the block's input, with what comes through the gates added. -/

/-- A read that starts at the origin of a matrix starts at zero on both axes. -/
theorem hz : (![0, 0] : Fin 2 → Nat) = fun _ => 0 := funext fun a => by fin_cases a <;> rfl

/-- One part's product. -/
theorem half (x : FVec Ideal S1024x1408 .bf16) (w : FVec Ideal S1x1024x1408 .bf16) (a b : Fin 1024) :
    (matmul dot_S1024x1408_S1024x1408_S1024x1024_1_1_0_0_n_n none x (shapeCast S1024x1408 w shapeCasts_S1x1024x1408_S1024x1408 : FVec Ideal S1024x1408 .bf16) (constant S1024x1024 .f32 0x00000000#32) : FVec Ideal S1024x1024 .f32) (ix2 a b)
      = ∑ k : Fin 1408, x (ix2 a k) * w (ix3 0 b k) := by
  refine (Ideal.matmul_transposedRhs_apply (M := 1024) (K := 1408) (N := 1024) none _ _ _ a b).trans ?_
  refine (congrArg₂ (fun u v : EReal => u + v) (show _ = (0 : EReal) from zero_bits) (Finset.sum_congr rfl fun k _ => congrArg (fun v : EReal => x (ix2 a k) * v) (flat w _ b k))).trans ?_
  exact zero_add _

/-- A tile's entry: the inner product of a row and a row of the projection, over its two parts, and what is added. -/
theorem tile (x : FVec Ideal S1024x2816 .bf16) (w : FVec Ideal S2x1024x1408 .bf16) (r : FVec Ideal S1024x1024 .f32) (a b : Fin 1024) :
    out0_3 (F := Ideal) x w r (ix2 a b) = (∑ k : Fin 1408, x (ix2 a (Fin.castAdd 1408 k : Fin 2816)) * w (ix3 0 b k) + ∑ k : Fin 1408, x (ix2 a (Fin.natAdd 1408 k : Fin 2816)) * w (ix3 1 b k)) + r (ix2 a b) := by
  unfold out0_3
  rw [View.canon_unit_zero hz, View.ld_unit_zero (S := S1024x1024) hz]
  unfold k0_pay1
  rw [shapeCast_self, shapeCast_self]
  refine congrArg (fun u : EReal => u + r (ix2 a b)) ?_
  refine (congrArg₂ (fun u v : EReal => u + v) ((congrArg₂ (fun u v : EReal => u + v) (show _ = (0 : EReal) from zero_bits) (half (View.ld (Val := Elt Ideal) (e' := .bf16) x r0_0) (View.ld (Val := Elt Ideal) (e' := .bf16) w r0_1) a b)).trans (zero_add _)) (half (View.ld (Val := Elt Ideal) (e' := .bf16) x r0_2) (View.ld (Val := Elt Ideal) (e' := .bf16) w r0_3) a b)).trans ?_
  refine congrArg₂ (fun u v : EReal => u + v) (Finset.sum_congr rfl fun k _ => congrArg₂ (fun u v : EReal => u * v) ?_ ?_) (Finset.sum_congr rfl fun k _ => congrArg₂ (fun u v : EReal => u * v) ?_ ?_)
  · refine View.ld_unit_apply_of (Val := Elt Ideal) (e := .bf16) x ![0, 0] S1024x1408.size _ (ix2 a k) (ix2 a (Fin.castAdd 1408 k : Fin 2816)) fun d => ?_
    match d with
    | ⟨0, _⟩ => exact (Nat.zero_add _).symm
    | ⟨1, _⟩ => exact (Nat.zero_add _).symm
  · refine View.ld_unit_apply_of (Val := Elt Ideal) (e := .bf16) w ![0, 0, 0] S1x1024x1408.size _ (ix3 0 b k) (ix3 0 b k) fun d => ?_
    match d with
    | ⟨0, _⟩ => rfl
    | ⟨1, _⟩ => exact (Nat.zero_add _).symm
    | ⟨2, _⟩ => exact (Nat.zero_add _).symm
  · refine View.ld_unit_apply_of (Val := Elt Ideal) (e := .bf16) x ![0, 1408] S1024x1408.size _ (ix2 a k) (ix2 a (Fin.natAdd 1408 k : Fin 2816)) fun d => ?_
    match d with
    | ⟨0, _⟩ => exact (Nat.zero_add _).symm
    | ⟨1, _⟩ => rfl
  · refine View.ld_unit_apply_of (Val := Elt Ideal) (e := .bf16) w ![1, 0, 0] S1x1024x1408.size _ (ix3 0 b k) (ix3 1 b k) fun d => ?_
    match d with
    | ⟨0, _⟩ => rfl
    | ⟨1, _⟩ => exact (Nat.zero_add _).symm
    | ⟨2, _⟩ => exact (Nat.zero_add _).symm

/-- Every window's block index at a point. -/
theorem idx : ∀ t : Fin cfg0.N, win0_0.index t = ![t.val, 0] ∧ win0_1.index t = ![1, 0, 0] ∧ win0_2.index t = ![t.val, 0] ∧ win0_3.index t = ![t.val, 0] :=
  (by decide +kernel : ∀ t : Fin grid0.N, _)

section mem
variable (m : (ℓ : Loc nD τ sig) → Buf (Elt Ideal) ℓ) (c : Dev nD)

/-- The derivative given. -/
abbrev a0 : FVec Ideal S8192x2816 .f32 := m ((c.tc : Thread nD τ).loc main_arg0)
/-- The up projection given. -/
abbrev a1 : FVec Ideal S1024x5632 .f32 := m ((c.tc : Thread nD τ).loc main_arg1)

/-- What is added. -/
abbrev a2 : FVec Ideal S8192x1024 .f32 := m ((c.tc : Thread nD τ).loc main_arg2)

/-- The derivative the call reads is the one given, in the short format. -/
theorem v3_eq : V m c main_v3 = (truncf .bf16 (a0 m c) bitsLt_bf16_f32 : FVec Ideal S8192x2816 .bf16) := by
  unfold V
  simp only [hostOps0, List.flatten_cons, List.flatten_nil, List.append_nil, List.cons_append, List.nil_append]
  after_reads_simp

/-- The projection the call reads is the one given, in the short format and in four parts. -/
theorem v2_eq : V m c main_v2 = (transpose S4x1024x1408 [1, 0, 2] (shapeCast S1024x4x1408 (truncf .bf16 (a1 m c) bitsLt_bf16_f32 : FVec Ideal S1024x5632 .bf16) shapeCasts_S1024x5632_S1024x4x1408) transposes_S1024x4x1408_S4x1024x1408_1_0_2 : FVec Ideal S4x1024x1408 .bf16) := by
  unfold V
  simp only [hostOps0, List.flatten_cons, List.flatten_nil, List.append_nil, List.cons_append, List.nil_append]
  after_reads_simp
  rfl

/-- The array after the run is the reference's. -/
theorem final : (dats m 0 c).arrAt 3 cfg0.N = val_main_v4 (F := Ideal) (a0 m c) (a1 m c) (a2 m c) := by
  refine (dats m 0 c).arrAt_eq_of_covers 3 _ (by decide +kernel) fun t hf y => ?_
  obtain ⟨i0, i1, i3, i2⟩ := idx t
  have e0 : ((win0_3.rect t).emb y 0).val = t.val * 1024 + (y 0).val := (Pipeline.Window.rect_emb_val win0_3 t y 0).trans (by rw [i2]; rfl)
  have e1 : ((win0_3.rect t).emb y 1).val = (y 1).val := (Pipeline.Window.rect_emb_val win0_3 t y 1).trans (by rw [i2]; show 0 * 1024 + (y 1).val = (y 1).val; omega)
  blk_simp
  rw [after0_3]
  have hy : y = ix2 (y 0) (y 1) := Shape.idx_ext₂ (n := ![1024, 1024]) rfl rfl
  refine ((congrArg _ hy).trans (tile _ _ _ (y 0) (y 1))).trans ?_
  have hr : iblk m c 2 t (ix2 (y 0) (y 1)) = a2 m c ((win0_3.rect t).emb y) := by
    refine (congrFun (V_main_arg2 m c) ((win0_2.rect t).emb (ix2 (y 0) (y 1)))).trans ?_
    refine entry (a2 m c) _ _ fun a => ?_
    match a with
    | ⟨0, _⟩ => exact ((Pipeline.Window.rect_emb_val win0_2 t _ 0).trans (by rw [i3]; rfl)).trans e0.symm
    | ⟨1, _⟩ => exact ((Pipeline.Window.rect_emb_val win0_2 t _ 1).trans (by rw [i3]; show 0 * 1024 + (y 1).val = (y 1).val; omega)).trans e1.symm
  refine (add_comm (G := EReal) _ _).trans ?_
  refine (congrArg₂ (fun u v : EReal => u + v) hr ?_).trans (val_main_v4_apply (F := Ideal) (a0 m c) (a1 m c) (a2 m c) ((win0_3.rect t).emb y)).symm
  refine Eq.trans ?_ ((val_main_v3_apply (a0 m c) (a1 m c) ((win0_3.rect t).emb y)).trans (Fin.sum_univ_add (M := EReal) (a := 1408) (b := 1408) _)).symm
  have hx : ∀ k : Fin 2816, iblk m c 0 t (ix2 (y 0) k) = a0 m c (lidx_main_v3 ((win0_3.rect t).emb y) k) := fun k => by
    refine (congrFun (v3_eq m c) ((win0_0.rect t).emb (ix2 (y 0) k))).trans ?_
    refine entry (a0 m c) _ _ fun a => ?_
    match a with
    | ⟨0, _⟩ => exact ((Pipeline.Window.rect_emb_val win0_0 t _ 0).trans (by rw [i0]; rfl)).trans e0.symm
    | ⟨1, _⟩ => exact (Pipeline.Window.rect_emb_val win0_0 t _ 1).trans (by rw [i0]; show 0 * 2816 + k.val = k.val; omega)
  have hw : ∀ (p : Fin 2) (q : Fin 1408) (k : Fin 2816), k.val = p.val * 1408 + q.val →
      iblk m c 1 t (ix3 p (y 1) q) = val_main_v1 (F := Ideal) (a1 m c) (ridx_main_v3 ((win0_3.rect t).emb y) k) := fun p q k hk => by
    refine (congrFun (v2_eq m c) ((win0_1.rect t).emb (ix3 p (y 1) q))).trans ?_
    have hp : (win0_1.rect t).emb (ix3 p (y 1) q) = ix3 (⟨2 + p.val, by omega⟩ : Fin 4) (y 1) q := funext fun a => Fin.ext (by
      match a with
      | ⟨0, _⟩ => exact (Pipeline.Window.rect_emb_val win0_1 t _ 0).trans (by rw [i1]; rfl)
      | ⟨1, _⟩ => exact (Pipeline.Window.rect_emb_val win0_1 t _ 1).trans (by rw [i1]; show 0 * 1024 + (y 1).val = (y 1).val; omega)
      | ⟨2, _⟩ => exact (Pipeline.Window.rect_emb_val win0_1 t _ 2).trans (by rw [i1]; show 0 * 1408 + q.val = q.val; omega))
    refine (congrArg _ hp).trans ((stacked _ shapeCasts_S1024x5632_S1024x4x1408 transposes_S1024x4x1408_S4x1024x1408_1_0_2 _ (y 1) q).trans ?_)
    refine Eq.trans ?_ (val_main_v1_apply (F := Ideal) (a1 m c) _).symm
    refine entry (a1 m c) _ _ fun a => ?_
    match a with
    | ⟨0, _⟩ => exact e1.symm
    | ⟨1, _⟩ => show (2 + p.val) * 1408 + q.val = 2816 + k.val; omega
  refine congrArg₂ (fun u v : EReal => u + v) (Finset.sum_congr rfl fun k _ => congrArg₂ (fun u v : EReal => u * v) (hx _) (hw 0 k _ ?_)) (Finset.sum_congr rfl fun k _ => congrArg₂ (fun u v : EReal => u * v) (hx _) (hw 1 k _ ?_))
  · show k.val = 0 * 1408 + k.val; omega
  · show 1408 + k.val = 1 * 1408 + k.val; omega
end mem

/-- The reference declares no semaphore. -/
theorem ref_no_sems : Cert.Reference7Ideal.sig.nSem + Cert.Reference7Ideal.sig.nDmaSem = 0 := by decide

/-- The reference leaves its arguments as they were and every semaphore at zero. -/
theorem ref_frame : Cert.quiescent_Reference7Ideal := fun m ρ _ =>
  (θ_run (Cert.Reference7Ideal.defs (F := Ideal)) _ _).mono (fun r h => ⟨fun c => (h c).2, Idealize.ShloMosaic.sem_eq_zero_of_no_sems ref_no_sems r.2⟩) (Cert.Reference7Ideal.Value.run (F := Ideal) m ρ)

/-- The value claim: the derivative is the reference's, whatever the operands. -/
theorem value : Cert.algebraic_Kernel7Ideal_Reference7Ideal := by
  intro m g m' g' hp hag
  refine ⟨fun c => val_main_v4 (F := Ideal) (a0 m c) (a1 m c) (a2 m c), (θ_run _ _ _).mono (fun r h c => ?_) (Cert.Kernel7Ideal.Value.run_blocks m g),
    (θ_run _ _ _).mono (fun r h c => ?_) (Cert.Reference7Ideal.Value.run (F := Ideal) m' g')⟩
  · obtain ⟨k0, ka⟩ := h c
    exact ⟨k0.trans (final m c), ka⟩
  · obtain ⟨e0, e1, e2⟩ := hag c
    obtain ⟨r0, ra⟩ := h c
    refine ⟨r0.trans ((val_main_v4_eq _ _ _).trans ?_), ra⟩
    rw [e0, e1, e2]

/-- The two call the same body. -/
theorem bodies : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | ⟨0, _⟩, (t, s) => rfl

/-- The two programs' functions are the same. -/
theorem tables : Cert.Kernel7.defs (F := Bits) = Cert.Kernel7Ideal.defs (F := Bits) :=
  congrArg (fun D => Pipeline.defs (Cert.Kernel7Ideal.pcfgs (F := Bits)) D) bodies

/-- The kernel at machine numbers leaves its arguments as they were and every semaphore at zero. -/
theorem frame : Cert.quiescent_Kernel7 := fun m ρ _ => by
  have h := Cert.Kernel7Ideal.Gen.frame (F := Bits) m ρ
  rw [← tables] at h
  exact h

end Cert.Up.P7

end
-- ==== Proof.Up8.lean ====
module

public import proofs.«01_k».proof.Defs
public import proofs.«01_k».proof.Proof.UpMem
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import Idealize.ShloMosaic.Lib.Tactic
public import Idealize.ShloMosaic.Lib.MatmulPlain
public import Idealize.ShloMosaic.Lib.StableHlo.RunRead
public import Idealize.ShloMosaic.Lib.Pipeline.ValueKit.Acc

@[expose] public section

set_option maxRecDepth 100000
set_option maxHeartbeats 1000000

noncomputable section

namespace Cert.Up.P8

open Cert.Kernel8Ideal Cert.Kernel8Ideal.Gen Cert.Reference8Ideal.Read
open Idealize.ShloMosaic Idealize.ShloMosaic.TcCoe Idealize.ShloMosaic.Tactic Idealize.SL.Sem
open Cert.Up (entry grouped zero_bits)

/-! The eighth program: the derivative at the down projection. -/

/-- A read that starts at the origin of a matrix starts at zero on both axes. -/
theorem hz : (![0, 0] : Fin 2 → Nat) = fun _ => 0 := funext fun a => by fin_cases a <;> rfl

/-- One point's product: the rows' columns against each other. -/
theorem part (v0 : FVec Ideal S2048x1408 .bf16) (v2 : FVec Ideal S2048x1024 .f32) (a : Fin 1408) (b : Fin 1024) :
    k0_pay1 (F := Ideal) v0 v2 (ix2 a b) = ∑ k : Fin 2048, v0 (ix2 k a) * v2 (ix2 k b) := by
  unfold k0_pay1
  rw [shapeCast_self]
  refine (Ideal.matmul_apply dot_S2048x1408_S2048x1024_S1408x1024_0_0_1_1_n_n none _ _ _ _).trans ?_
  rw [← Equiv.sum_comp (ValueIdx.contrEquiv1 dot_S2048x1408_S2048x1024_S1408x1024_0_0_1_1_n_n 2048 rfl rfl).symm]
  refine (congrArg₂ (fun u v : EReal => u + v) (show _ = (0 : EReal) from zero_bits) (Finset.sum_congr rfl fun k _ => ?_)).trans (zero_add _)
  have hk := ValueIdx.contrEquiv1_symm_val dot_S2048x1408_S2048x1024_S1408x1024_0_0_1_1_n_n 2048 rfl rfl k
  refine congrArg₂ (fun u v : EReal => u * v) (entry v0 _ _ fun d => ?_) (entry v2 _ _ fun d => ?_)
  · match d with
    | ⟨0, _⟩ => exact (dot_S2048x1408_S2048x1024_S1408x1024_0_0_1_1_n_n.lhsIdx_val_of_single rfl _ _).trans hk
    | ⟨1, _⟩ =>
      show (dot_S2048x1408_S2048x1024_S1408x1024_0_0_1_1_n_n.lhsIdx (ix2 a b) _ 1).val = a.val
      unfold DotDims.lhsIdx
      rw [dif_neg (show ¬(1 : Fin S2048x1408.rank) ∈ dot_S2048x1408_S2048x1024_S1408x1024_0_0_1_1_n_n.lhsBatch by decide), dif_pos (show (1 : Fin S2048x1408.rank) ∈ dot_S2048x1408_S2048x1024_S1408x1024_0_0_1_1_n_n.lhsNonContracting by decide)]
      rfl
  · match d with
    | ⟨0, _⟩ => exact (dot_S2048x1408_S2048x1024_S1408x1024_0_0_1_1_n_n.rhsIdx_val_of_single rfl _ _).trans hk
    | ⟨1, _⟩ =>
      show (dot_S2048x1408_S2048x1024_S1408x1024_0_0_1_1_n_n.rhsIdx (ix2 a b) _ 1).val = b.val
      unfold DotDims.rhsIdx
      rw [dif_neg (show ¬(1 : Fin S2048x1024.rank) ∈ dot_S2048x1408_S2048x1024_S1408x1024_0_0_1_1_n_n.rhsBatch by decide), dif_pos (show (1 : Fin S2048x1024.rank) ∈ dot_S2048x1408_S2048x1024_S1408x1024_0_0_1_1_n_n.rhsNonContracting by decide)]
      rfl

/-- Every window's block index at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

section mem
variable (m : (ℓ : Loc nD τ sig) → Buf (Elt Ideal) ℓ) (c : Dev nD)

/-- The gated rows given. -/
abbrev a0 : FVec Ideal S8192x2816 .f32 := m ((c.tc : Thread nD τ).loc main_arg0)
/-- The derivative given. -/
abbrev a1 : FVec Ideal S8192x1024 .f32 := m ((c.tc : Thread nD τ).loc main_arg1)

/-- The gated rows the call reads are those given, in the short format. -/
theorem v0_eq : V m c main_v0 = (truncf .bf16 (a0 m c) bitsLt_bf16_f32 : FVec Ideal S8192x2816 .bf16) := by
  unfold V
  simp only [hostOps0, List.flatten_cons, List.flatten_nil, List.append_nil, List.cons_append, List.nil_append]
  after_reads_simp

/-- What point `n` adds at a place of its block: the inner product over that point's rows. -/
def term (a : Fin 1408) (b : Fin 1024) (n : ℕ) : EReal :=
  ∑ k : Fin 2048, a0 m c (ix2 (⟨n % 4 * 2048 + k.val, by omega⟩ : Fin 8192) (⟨n / 4 % 2 * 1408 + a.val, by omega⟩ : Fin 2816)) * a1 m c (ix2 (⟨n % 4 * 2048 + k.val, by omega⟩ : Fin 8192) b)

/-- A point's product is its term. -/
theorem part_eq (t : Fin cfg0.N) (a : Fin 1408) (b : Fin 1024) :
    k0_pay1 (F := Ideal) (iblk m c 0 t) (iblk m c 1 t) (ix2 a b) = term m c a b t.val := by
  obtain ⟨i0, i1, -⟩ := idx t
  have ht : t.val < 8 := lt_of_lt_of_eq t.isLt (show cfg0.N = 8 from N_0)
  refine (part _ _ a b).trans (Finset.sum_congr rfl fun k _ => congrArg₂ (fun u v : EReal => u * v) ?_ ?_)
  · refine (congrFun (v0_eq m c) ((win0_0.rect t).emb (ix2 k a))).trans ?_
    refine entry (a0 m c) _ _ fun d => ?_
    match d with
    | ⟨0, _⟩ => exact (Pipeline.Window.rect_emb_val win0_0 t _ 0).trans (by rw [i0]; rfl)
    | ⟨1, _⟩ => exact (Pipeline.Window.rect_emb_val win0_0 t _ 1).trans (by rw [i0]; show t.val / 4 * 1408 + a.val = t.val / 4 % 2 * 1408 + a.val; omega)
  · refine (congrFun (V_main_arg1 m c) ((win0_1.rect t).emb (ix2 k b))).trans ?_
    refine entry (a1 m c) _ _ fun d => ?_
    match d with
    | ⟨0, _⟩ => exact (Pipeline.Window.rect_emb_val win0_1 t _ 0).trans (by rw [i1]; rfl)
    | ⟨1, _⟩ => exact (Pipeline.Window.rect_emb_val win0_1 t _ 1).trans (by rw [i1]; show 0 * 1024 + b.val = b.val; omega)

/-- The accumulator after a block's first point. -/
theorem acc_first (t : Fin cfg0.N) (h : t.val % 4 = 0) (a : Fin 1408) (b : Fin 1024) :
    (outsAt0 m c t.val t.isLt).2 (ix2 a b) = (0 : EReal) + term m c a b t.val := by
  refine Eq.trans ?_ ((part_eq m c t a b).trans (zero_add _).symm)
  rw [outsAt0_A m c t h (by omega) (by omega)]
  frame_out
  unfold k0_pay2
  rw [shapeCast_self]

/-- The accumulator after any other point. -/
theorem acc_next (t : Fin cfg0.N) (h : ¬t.val % 4 = 0) (a : Fin 1408) (b : Fin 1024) :
    (outsAt0 m c t.val t.isLt).2 (ix2 a b) = (outsAt0 m c (t.val - 1) (Nat.lt_of_le_of_lt (Nat.sub_le _ _) t.isLt)).2 (ix2 a b) + term m c a b t.val := by
  refine Eq.trans ?_ (congrArg (fun v : EReal => (outsAt0 m c (t.val - 1) (Nat.lt_of_le_of_lt (Nat.sub_le _ _) t.isLt)).2 (ix2 a b) + v) (part_eq m c t a b))
  by_cases h3 : t.val % 4 = 3
  · rw [outsAt0_C m c t h (by omega) h3]
    frame_out
    unfold k0_pay3
    rw [shapeCast_self]
    exact congrArg (fun v : FVec Ideal S1408x1024 .f32 => addf v (k0_pay1 (F := Ideal) (iblk m c 0 t) (iblk m c 1 t)) (ix2 a b)) ((Memref.isWhole_whole _).read_unread _)
  · rw [outsAt0_B m c t h (by omega) h3]
    frame_out
    unfold k0_pay3
    rw [shapeCast_self]
    exact congrArg (fun v : FVec Ideal S1408x1024 .f32 => addf v (k0_pay1 (F := Ideal) (iblk m c 0 t) (iblk m c 1 t)) (ix2 a b)) ((Memref.isWhole_whole _).read_unread _)

/-- At a block's last point the block written is the accumulator. -/
theorem out_last (t : Fin cfg0.N) (h : t.val % 4 = 3) (a : Fin 1408) (b : Fin 1024) :
    (outsAt0 m c t.val t.isLt).1 (ix2 a b) = (outsAt0 m c t.val t.isLt).2 (ix2 a b) := by
  rw [outsAt0_C m c t (by omega) (by omega) h]
  frame_out
  unfold k0_pay4
  rfl

/-- The array after the run is the reference's. -/
theorem final : (dats m 0 c).arrAt 2 cfg0.N = val_main_v4 (F := Ideal) (a0 m c) (a1 m c) := by
  refine (dats m 0 c).arrAt_eq_of_covers 2 _ (by decide +kernel) fun t hf y => ?_
  have hm : t.val % 4 = 3 := (flush0_2 t).mp hf
  have ht : t.val < 8 := lt_of_lt_of_eq t.isLt (show cfg0.N = 8 from N_0)
  obtain ⟨-, -, i2⟩ := idx t
  have e0 : ((win0_2.rect t).emb y 0).val = t.val / 4 * 1408 + (y 0).val := (Pipeline.Window.rect_emb_val win0_2 t y 0).trans (by rw [i2]; rfl)
  have e1 : ((win0_2.rect t).emb y 1).val = (y 1).val := (Pipeline.Window.rect_emb_val win0_2 t y 1).trans (by rw [i2]; show 0 * 1024 + (y 1).val = (y 1).val; omega)
  blk_simp
  rw [after0_2]
  have hy : y = ix2 (y 0) (y 1) := Shape.idx_ext₂ (n := ![1408, 1024]) rfl rfl
  refine ((congrArg _ hy).trans (out_last m c t hm (y 0) (y 1))).trans ?_
  refine (Pipeline.eq_sum_of_reset_step_of_mod (M := EReal) (fun n h => (outsAt0 m c n h).2 (ix2 (y 0) (y 1))) 4 0 (term m c (y 0) (y 1))
    (fun s h => acc_first m c s h _ _) (fun s h => acc_next m c s h _ _) t hm).trans ?_
  refine (zero_add _).trans ((Finset.sum_range _).trans ?_)
  refine Eq.trans ?_ ((congrArg (fun v : EReal => v) (val_main_v4_apply (F := Ideal) (a0 m c) (a1 m c) ((win0_2.rect t).emb y))).trans
    ((val_main_v3_apply (F := Ideal) (a0 m c) (a1 m c) ((win0_2.rect t).emb y)).trans
      ((val_main_v2_apply (a0 m c) (a1 m c) _).trans (grouped _).symm))).symm
  refine Finset.sum_congr rfl fun j _ => Finset.sum_congr rfl fun k _ => (mul_comm (G := EReal) _ _).trans (congrArg₂ (fun u v : EReal => u * v) (entry (a1 m c) _ _ fun d => ?_) (entry (a0 m c) _ _ fun d => ?_))
  · match d with
    | ⟨0, _⟩ => show (4 * (t.val / 4) + j.val) % 4 * 2048 + k.val = j.val * 2048 + k.val; omega
    | ⟨1, _⟩ => exact e1.symm
  · match d with
    | ⟨0, _⟩ => show (4 * (t.val / 4) + j.val) % 4 * 2048 + k.val = j.val * 2048 + k.val; omega
    | ⟨1, _⟩ =>
      refine Eq.trans ?_ e0.symm
      show (4 * (t.val / 4) + j.val) / 4 % 2 * 1408 + (y 0).val = t.val / 4 * 1408 + (y 0).val
      omega
end mem

/-- The reference declares no semaphore. -/
theorem ref_no_sems : Cert.Reference8Ideal.sig.nSem + Cert.Reference8Ideal.sig.nDmaSem = 0 := by decide

/-- The reference leaves its arguments as they were and every semaphore at zero. -/
theorem ref_frame : Cert.quiescent_Reference8Ideal := fun m ρ _ =>
  (θ_run (Cert.Reference8Ideal.defs (F := Ideal)) _ _).mono (fun r h => ⟨fun c => (h c).2, Idealize.ShloMosaic.sem_eq_zero_of_no_sems ref_no_sems r.2⟩) (Cert.Reference8Ideal.Value.run (F := Ideal) m ρ)

/-- The value claim: the derivative is the reference's, whatever the operands. -/
theorem value : Cert.algebraic_Kernel8Ideal_Reference8Ideal := by
  intro m g m' g' hp hag
  refine ⟨fun c => val_main_v4 (F := Ideal) (a0 m c) (a1 m c), (θ_run _ _ _).mono (fun r h c => ?_) (Cert.Kernel8Ideal.Value.run_blocks m g),
    (θ_run _ _ _).mono (fun r h c => ?_) (Cert.Reference8Ideal.Value.run (F := Ideal) m' g')⟩
  · obtain ⟨k0, ka⟩ := h c
    exact ⟨k0.trans (final m c), ka⟩
  · obtain ⟨e0, e1⟩ := hag c
    obtain ⟨r0, ra⟩ := h c
    refine ⟨r0.trans ((val_main_v4_eq _ _).trans ?_), ra⟩
    rw [e0, e1]

/-- The two call the same body. -/
theorem bodies : Cert.Kernel8.defs₀ (F := Bits) = Cert.Kernel8Ideal.defs₀ (F := Bits) := by
  unfold Cert.Kernel8.defs₀ Cert.Kernel8Ideal.defs₀
  refine congrArg Defs.onTc (funext fun l => funext fun a => ?_)
  match l, a with
  | ⟨0, _⟩, (t, s) => rfl

/-- The two programs' functions are the same. -/
theorem tables : Cert.Kernel8.defs (F := Bits) = Cert.Kernel8Ideal.defs (F := Bits) :=
  congrArg (fun D => Pipeline.defs (Cert.Kernel8Ideal.pcfgs (F := Bits)) D) bodies

/-- The kernel at machine numbers leaves its arguments as they were and every semaphore at zero. -/
theorem frame : Cert.quiescent_Kernel8 := fun m ρ _ => by
  have h := Cert.Kernel8Ideal.Gen.frame (F := Bits) m ρ
  rw [← tables] at h
  exact h

end Cert.Up.P8

end
-- ==== Proof.Up9.lean ====
module

public import proofs.«01_k».proof.Defs
public import proofs.«01_k».proof.Proof.UpMem
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import Idealize.ShloMosaic.Lib.Tactic
public import Idealize.ShloMosaic.Lib.MatmulPlain
public import Idealize.ShloMosaic.Lib.StableHlo.RunRead
public import Idealize.ShloMosaic.Lib.Pipeline.ValueKit.Acc

@[expose] public section

set_option maxRecDepth 100000
set_option maxHeartbeats 1000000

noncomputable section

namespace Cert.Up.P9

open Cert.Kernel9Ideal Cert.Kernel9Ideal.Gen Cert.Reference9Ideal.Read
open Idealize.ShloMosaic Idealize.ShloMosaic.TcCoe Idealize.ShloMosaic.Tactic Idealize.SL.Sem
open Cert.Up (entry alone grouped zero_bits)

/-! The ninth program: the derivative at the gates' half of the up projection. -/

/-- A read that starts at the origin of a matrix starts at zero on both axes. -/
theorem hz : (![0, 0] : Fin 2 → Nat) = fun _ => 0 := funext fun a => by fin_cases a <;> rfl

/-- One point's product: the rows' columns against each other. -/
theorem part (v0 : FVec Ideal S2048x1024 .bf16) (v2 : FVec Ideal S2048x1408 .bf16) (a : Fin 1024) (b : Fin 1408) :
    k0_pay1 (F := Ideal) v0 v2 (ix2 a b) = ∑ k : Fin 2048, v0 (ix2 k a) * v2 (ix2 k b) := by
  unfold k0_pay1
  rw [shapeCast_self, shapeCast_self]
  refine (Ideal.matmul_apply dot_S2048x1024_S2048x1408_S1024x1408_0_0_1_1_n_n none _ _ _ _).trans ?_
  rw [← Equiv.sum_comp (ValueIdx.contrEquiv1 dot_S2048x1024_S2048x1408_S1024x1408_0_0_1_1_n_n 2048 rfl rfl).symm]
  refine (congrArg₂ (fun u v : EReal => u + v) (show _ = (0 : EReal) from zero_bits) (Finset.sum_congr rfl fun k _ => ?_)).trans (zero_add _)
  have hk := ValueIdx.contrEquiv1_symm_val dot_S2048x1024_S2048x1408_S1024x1408_0_0_1_1_n_n 2048 rfl rfl k
  refine congrArg₂ (fun u v : EReal => u * v) (entry v0 _ _ fun d => ?_) (entry v2 _ _ fun d => ?_)
  · match d with
    | ⟨0, _⟩ => exact (dot_S2048x1024_S2048x1408_S1024x1408_0_0_1_1_n_n.lhsIdx_val_of_single rfl _ _).trans hk
    | ⟨1, _⟩ =>
      show (dot_S2048x1024_S2048x1408_S1024x1408_0_0_1_1_n_n.lhsIdx (ix2 a b) _ 1).val = a.val
      unfold DotDims.lhsIdx
      rw [dif_neg (show ¬(1 : Fin S2048x1024.rank) ∈ dot_S2048x1024_S2048x1408_S1024x1408_0_0_1_1_n_n.lhsBatch by decide), dif_pos (show (1 : Fin S2048x1024.rank) ∈ dot_S2048x1024_S2048x1408_S1024x1408_0_0_1_1_n_n.lhsNonContracting by decide)]
      rfl
  · match d with
    | ⟨0, _⟩ => exact (dot_S2048x1024_S2048x1408_S1024x1408_0_0_1_1_n_n.rhsIdx_val_of_single rfl _ _).trans hk
    | ⟨1, _⟩ =>
      show (dot_S2048x1024_S2048x1408_S1024x1408_0_0_1_1_n_n.rhsIdx (ix2 a b) _ 1).val = b.val
      unfold DotDims.rhsIdx
      rw [dif_neg (show ¬(1 : Fin S2048x1408.rank) ∈ dot_S2048x1024_S2048x1408_S1024x1408_0_0_1_1_n_n.rhsBatch by decide), dif_pos (show (1 : Fin S2048x1408.rank) ∈ dot_S2048x1024_S2048x1408_S1024x1408_0_0_1_1_n_n.rhsNonContracting by decide)]
      rfl

/-- Every window's block index at a point. -/
theorem idx : ∀ t : Fin cfg0.N, win0_0.index t = ![t.val % 4, 0] ∧ win0_1.index t = ![t.val % 4, t.val / 4] ∧ win0_2.index t = ![2 + t.val / 4, 0, 0] :=
  (by decide +kernel : ∀ t : Fin grid0.N, _)

section mem
variable (m : (ℓ : Loc nD τ sig) → Buf (Elt Ideal) ℓ) (c : Dev nD)

/-- The rows given. -/
abbrev a0 : FVec Ideal S8192x1024 .f32 := m ((c.tc : Thread nD τ).loc main_arg0)
/-- The derivative given. -/
abbrev a1 : FVec Ideal S8192x2816 .f32 := m ((c.tc : Thread nD τ).loc main_arg1)
/-- The four slots given. -/
abbrev a2 : FVec Ideal S4x1024x1408 .bf16 := m ((c.tc : Thread nD τ).loc main_arg2)

/-- The rows the call reads are those given, in the short format. -/
theorem v0_eq : V m c main_v0 = (truncf .bf16 (a0 m c) bitsLt_bf16_f32 : FVec Ideal S8192x1024 .bf16) := by
  unfold V
  simp only [hostOps0, List.flatten_cons, List.flatten_nil, List.append_nil, List.cons_append, List.nil_append]
  after_reads_simp

/-- The derivative the call reads is the one given, in the short format. -/
theorem v1_eq : V m c main_v1 = (truncf .bf16 (a1 m c) bitsLt_bf16_f32 : FVec Ideal S8192x2816 .bf16) := by
  unfold V
  simp only [hostOps0, List.flatten_cons, List.flatten_nil, List.append_nil, List.cons_append, List.nil_append]
  after_reads_simp

/-- The slots the call finds are those given. -/
theorem v2_eq : V m c main_v2 = a2 m c := by
  unfold V
  simp only [hostOps0, List.flatten_cons, List.flatten_nil, List.append_nil, List.cons_append, List.nil_append]
  after_reads_simp
  rfl

/-- What point `n` adds at a place of its block: the inner product over that point's rows. -/
def term (a : Fin 1024) (b : Fin 1408) (n : ℕ) : EReal :=
  ∑ k : Fin 2048, a0 m c (ix2 (⟨n % 4 * 2048 + k.val, by omega⟩ : Fin 8192) a) * a1 m c (ix2 (⟨n % 4 * 2048 + k.val, by omega⟩ : Fin 8192) (⟨n / 4 % 2 * 1408 + b.val, by omega⟩ : Fin 2816))

/-- A point's product is its term. -/
theorem part_eq (t : Fin cfg0.N) (a : Fin 1024) (b : Fin 1408) :
    k0_pay1 (F := Ideal) (iblk m c 0 t) (iblk m c 1 t) (ix2 a b) = term m c a b t.val := by
  obtain ⟨i0, i1, -⟩ := idx t
  have ht : t.val < 8 := lt_of_lt_of_eq t.isLt (show cfg0.N = 8 from N_0)
  refine (part _ _ a b).trans (Finset.sum_congr rfl fun k _ => congrArg₂ (fun u v : EReal => u * v) ?_ ?_)
  · refine (congrFun (v0_eq m c) ((win0_0.rect t).emb (ix2 k a))).trans ?_
    refine entry (a0 m c) _ _ fun d => ?_
    match d with
    | ⟨0, _⟩ => exact (Pipeline.Window.rect_emb_val win0_0 t _ 0).trans (by rw [i0]; rfl)
    | ⟨1, _⟩ => exact (Pipeline.Window.rect_emb_val win0_0 t _ 1).trans (by rw [i0]; show 0 * 1024 + a.val = a.val; omega)
  · refine (congrFun (v1_eq m c) ((win0_1.rect t).emb (ix2 k b))).trans ?_
    refine entry (a1 m c) _ _ fun d => ?_
    match d with
    | ⟨0, _⟩ => exact (Pipeline.Window.rect_emb_val win0_1 t _ 0).trans (by rw [i1]; rfl)
    | ⟨1, _⟩ => exact (Pipeline.Window.rect_emb_val win0_1 t _ 1).trans (by rw [i1]; show t.val / 4 * 1408 + b.val = t.val / 4 % 2 * 1408 + b.val; omega)

/-- The accumulator after a block's first point. -/
theorem acc_first (t : Fin cfg0.N) (h : t.val % 4 = 0) (a : Fin 1024) (b : Fin 1408) :
    (outsAt0 m c t.val t.isLt).2 (ix2 a b) = (0 : EReal) + term m c a b t.val := by
  refine Eq.trans ?_ ((part_eq m c t a b).trans (zero_add _).symm)
  rw [outsAt0_A m c t h (by omega) (by omega)]
  frame_out
  unfold k0_pay2
  rw [shapeCast_self]

/-- The accumulator after any other point. -/
theorem acc_next (t : Fin cfg0.N) (h : ¬t.val % 4 = 0) (a : Fin 1024) (b : Fin 1408) :
    (outsAt0 m c t.val t.isLt).2 (ix2 a b) = (outsAt0 m c (t.val - 1) (Nat.lt_of_le_of_lt (Nat.sub_le _ _) t.isLt)).2 (ix2 a b) + term m c a b t.val := by
  refine Eq.trans ?_ (congrArg (fun v : EReal => (outsAt0 m c (t.val - 1) (Nat.lt_of_le_of_lt (Nat.sub_le _ _) t.isLt)).2 (ix2 a b) + v) (part_eq m c t a b))
  by_cases h3 : t.val % 4 = 3
  · rw [outsAt0_C m c t h (by omega) h3]
    frame_out
    unfold k0_pay3
    rw [shapeCast_self]
    exact congrArg (fun v : FVec Ideal S1024x1408 .f32 => addf v (k0_pay1 (F := Ideal) (iblk m c 0 t) (iblk m c 1 t)) (ix2 a b)) ((Memref.isWhole_whole _).read_unread _)
  · rw [outsAt0_B m c t h (by omega) h3]
    frame_out
    unfold k0_pay3
    rw [shapeCast_self]
    exact congrArg (fun v : FVec Ideal S1024x1408 .f32 => addf v (k0_pay1 (F := Ideal) (iblk m c 0 t) (iblk m c 1 t)) (ix2 a b)) ((Memref.isWhole_whole _).read_unread _)

/-- At a block's last point the block written is the accumulator. -/
theorem out_last (t : Fin cfg0.N) (h : t.val % 4 = 3) (a : Fin 1024) (b : Fin 1408) :
    (outsAt0 m c t.val t.isLt).1 (ix3 0 a b) = (outsAt0 m c t.val t.isLt).2 (ix2 a b) := by
  rw [outsAt0_C m c t (by omega) (by omega) h]
  frame_out
  unfold k0_pay4
  exact alone _ _ a b

/-- What the reference has in its third and fourth slots. -/
theorem ref_right (i : S4x1024x1408.Idx) (h : 2 ≤ (i 0).val) :
    val_main_v8 (F := Ideal) (a0 m c) (a1 m c) (a2 m c) i
      = ∑ k : Fin 8192, a1 m c (ix2 k (⟨((i 0).val - 2) * 1408 + (i 2).val, by have h0 : (i 0).val < 4 := (i 0).isLt; have h2 : (i 2).val < 1408 := (i 2).isLt; omega⟩ : Fin 2816)) * a0 m c (ix2 k (i 1)) := by
  have h0 : (i 0).val < 4 := (i 0).isLt
  have h1 : (i 1).val < 1024 := (i 1).isLt
  have h2 : (i 2).val < 1408 := (i 2).isLt
  unfold val_main_v8
  refine (concatenate_pair_apply_right (t := S4x1024x1408) (s₁ := Cert.Reference9Ideal.S2x1024x1408) (s₂ := Cert.Reference9Ideal.S2x1024x1408) 0 _ _ _ i rfl rfl (ix3 (⟨(i 0).val - 2, by omega⟩ : Fin 2) (i 1) (i 2)) (fun d hd => ?_) ?_).trans ?_
  · match d with
    | ⟨0, _⟩ => exact absurd rfl hd
    | ⟨1, _⟩ => rfl
    | ⟨2, _⟩ => rfl
  · show (i 0).val - 2 + 2 = (i 0).val; omega
  refine (val_main_v7_apply (F := Ideal) (a0 m c) (a1 m c) _).trans ((val_main_v6_apply (F := Ideal) (a0 m c) (a1 m c) _).trans
    ((val_main_v5_apply (F := Ideal) (a0 m c) (a1 m c) _).trans ((val_main_v3_apply (F := Ideal) (a0 m c) (a1 m c) _).trans ((val_main_v2_apply (a0 m c) (a1 m c) _).trans ?_))))
  refine Finset.sum_congr rfl fun k _ => congrArg₂ (fun u v : EReal => u * v) (entry (a1 m c) _ _ fun d => ?_) (entry (a0 m c) _ _ fun d => ?_)
  · match d with
    | ⟨0, _⟩ => rfl
    | ⟨1, _⟩ => show (((i 1).val * 2 + ((i 0).val - 2)) * 1408 + (i 2).val) % 2816 = ((i 0).val - 2) * 1408 + (i 2).val; omega
  · match d with
    | ⟨0, _⟩ => rfl
    | ⟨1, _⟩ => show (((i 1).val * 2 + ((i 0).val - 2)) * 1408 + (i 2).val) / 2816 = (i 1).val; omega

/-- What the reference has in its first two slots. -/
theorem ref_left (i : S4x1024x1408.Idx) (h : (i 0).val < 2) :
    val_main_v8 (F := Ideal) (a0 m c) (a1 m c) (a2 m c) i = a2 m c i := by
  unfold val_main_v8
  refine (concatenate_pair_apply_left (t := S4x1024x1408) (s₁ := Cert.Reference9Ideal.S2x1024x1408) (s₂ := Cert.Reference9Ideal.S2x1024x1408) 0 _ _ _ i rfl (ix3 (⟨(i 0).val, h⟩ : Fin 2) (i 1) (i 2)) (fun d => ?_)).trans ?_
  · match d with
    | ⟨0, _⟩ => rfl
    | ⟨1, _⟩ => rfl
    | ⟨2, _⟩ => rfl
  refine (val_main_v4_apply (F := Ideal) (a2 m c) _).trans (congrArg (a2 m c) (funext fun d => Fin.ext ?_))
  match d with
  | ⟨0, _⟩ => rfl
  | ⟨1, _⟩ => rfl
  | ⟨2, _⟩ => rfl

/-- A block written back is the reference's. -/
theorem block (t : Fin cfg0.N) (hf : (cfg0.win 2).flush t = true) :
    (dats m 0 c).flushed 2 t = ((cfg0.win 2).blk t).view.read (Elt Ideal) (val_main_v8 (F := Ideal) (a0 m c) (a1 m c) (a2 m c)) := by
  funext y
  have hm : t.val % 4 = 3 := (flush0_2 t).mp hf
  have ht : t.val < 8 := lt_of_lt_of_eq t.isLt (show cfg0.N = 8 from N_0)
  have hy0 : (y 0).val = 0 := by have : (y 0).val < 1 := (y 0).isLt; omega
  obtain ⟨-, -, i2⟩ := idx t
  have e0 : ((win0_2.rect t).emb y 0).val = 2 + t.val / 4 := (Pipeline.Window.rect_emb_val win0_2 t y 0).trans (by rw [i2]; show (2 + t.val / 4) * 1 + (y 0).val = 2 + t.val / 4; omega)
  have e1 : ((win0_2.rect t).emb y 1).val = (y 1).val := (Pipeline.Window.rect_emb_val win0_2 t y 1).trans (by rw [i2]; show 0 * 1024 + (y 1).val = (y 1).val; omega)
  have e2 : ((win0_2.rect t).emb y 2).val = (y 2).val := (Pipeline.Window.rect_emb_val win0_2 t y 2).trans (by rw [i2]; show 0 * 1408 + (y 2).val = (y 2).val; omega)
  blk_simp
  rw [after0_2]
  have hy : y = ix3 0 (y 1) (y 2) := funext fun d => Fin.ext (by
    match d with
    | ⟨0, _⟩ => exact hy0
    | ⟨1, _⟩ => rfl
    | ⟨2, _⟩ => rfl)
  refine ((congrArg _ hy).trans (out_last m c t hm (y 1) (y 2))).trans ?_
  refine (Pipeline.eq_sum_of_reset_step_of_mod (M := EReal) (fun n h => (outsAt0 m c n h).2 (ix2 (y 1) (y 2))) 4 0 (term m c (y 1) (y 2))
    (fun s h => acc_first m c s h _ _) (fun s h => acc_next m c s h _ _) t hm).trans ?_
  refine (zero_add _).trans ((Finset.sum_range _).trans ?_)
  refine Eq.trans ?_ ((ref_right m c ((win0_2.rect t).emb y) (by rw [e0]; omega)).trans (grouped _).symm).symm
  refine Finset.sum_congr rfl fun j _ => Finset.sum_congr rfl fun k _ => (mul_comm (G := EReal) _ _).trans (congrArg₂ (fun u v : EReal => u * v) (entry (a1 m c) _ _ fun d => ?_) (entry (a0 m c) _ _ fun d => ?_))
  · match d with
    | ⟨0, _⟩ => show (4 * (t.val / 4) + j.val) % 4 * 2048 + k.val = j.val * 2048 + k.val; omega
    | ⟨1, _⟩ =>
      show (4 * (t.val / 4) + j.val) / 4 % 2 * 1408 + (y 2).val = (((win0_2.rect t).emb y 0).val - 2) * 1408 + ((win0_2.rect t).emb y 2).val
      rw [e0, e2]; omega
  · match d with
    | ⟨0, _⟩ => show (4 * (t.val / 4) + j.val) % 4 * 2048 + k.val = j.val * 2048 + k.val; omega
    | ⟨1, _⟩ => exact e1.symm

/-- A slot from the third on is in a block that is written back. -/
theorem covered (i : S4x1024x1408.Idx) (h : 2 ≤ (i 0).val) :
    ∃ t : Fin cfg0.N, (cfg0.win 2).flush t = true ∧ i ∈ ((cfg0.win 2).blk t).view.set := by
  have h0 : (i 0).val < 4 := (i 0).isLt
  have ht : 4 * ((i 0).val - 2) + 3 < cfg0.N := lt_of_lt_of_eq (show 4 * ((i 0).val - 2) + 3 < 8 by omega) (show cfg0.N = 8 from N_0).symm
  refine ⟨⟨4 * ((i 0).val - 2) + 3, ht⟩, (flush0_2 _).mpr (show (4 * ((i 0).val - 2) + 3) % 4 = 3 by omega), ?_⟩
  obtain ⟨-, -, i2⟩ := idx ⟨4 * ((i 0).val - 2) + 3, ht⟩
  have he : ((cfg0.win 2).blk ⟨4 * ((i 0).val - 2) + 3, ht⟩).view.emb (ix3 (0 : Fin 1) (i 1) (i 2)) = i := funext fun d => Fin.ext (by
    match d with
    | ⟨0, _⟩ => exact (Pipeline.Window.rect_emb_val win0_2 _ (ix3 (0 : Fin 1) (i 1) (i 2)) 0).trans (by rw [i2]; show (2 + (4 * ((i 0).val - 2) + 3) / 4) * 1 + 0 = (i 0).val; omega)
    | ⟨1, _⟩ => exact (Pipeline.Window.rect_emb_val win0_2 _ (ix3 (0 : Fin 1) (i 1) (i 2)) 1).trans (by rw [i2]; show 0 * 1024 + (i 1).val = (i 1).val; omega)
    | ⟨2, _⟩ => exact (Pipeline.Window.rect_emb_val win0_2 _ (ix3 (0 : Fin 1) (i 1) (i 2)) 2).trans (by rw [i2]; show 0 * 1408 + (i 2).val = (i 2).val; omega))
  have hm := ((cfg0.win 2).blk ⟨4 * ((i 0).val - 2) + 3, ht⟩).view.emb_mem_set (ix3 (0 : Fin 1) (i 1) (i 2))
  rwa [he] at hm

/-- The array after the run is the reference's. -/
theorem final : (dats m 0 c).arrAt 2 cfg0.N = val_main_v8 (F := Ideal) (a0 m c) (a1 m c) (a2 m c) := by
  refine funext fun i => ((dats m 0 c).arrAt_eq_piecewise 2 _ (block m c) i).trans ?_
  split
  · rfl
  · rename_i hn
    have hi : (i 0).val < 2 := Nat.lt_of_not_le fun h => hn (covered i h)
    exact (congrFun (A_eq m c 2) i).trans ((congrFun (v2_eq m c) i).trans (ref_left m c i hi).symm)
end mem

/-- The reference declares no semaphore. -/
theorem ref_no_sems : Cert.Reference9Ideal.sig.nSem + Cert.Reference9Ideal.sig.nDmaSem = 0 := by decide

/-- The reference leaves its arguments as they were and every semaphore at zero. -/
theorem ref_frame : Cert.quiescent_Reference9Ideal := fun m ρ _ =>
  (θ_run (Cert.Reference9Ideal.defs (F := Ideal)) _ _).mono (fun r h => ⟨fun c => (h c).2, Idealize.ShloMosaic.sem_eq_zero_of_no_sems ref_no_sems r.2⟩) (Cert.Reference9Ideal.Value.run (F := Ideal) m ρ)

/-- The value claim: the derivative is the reference's, whatever the operands. -/
theorem value : Cert.algebraic_Kernel9Ideal_Reference9Ideal := by
  intro m g m' g' hp hag
  refine ⟨fun c => val_main_v8 (F := Ideal) (a0 m c) (a1 m c) (a2 m c), (θ_run _ _ _).mono (fun r h c => ?_) (Cert.Kernel9Ideal.Value.run_blocks m g),
    (θ_run _ _ _).mono (fun r h c => ?_) (Cert.Reference9Ideal.Value.run (F := Ideal) m' g')⟩
  · obtain ⟨k0, ka⟩ := h c
    exact ⟨k0.trans (final m c), ka⟩
  · obtain ⟨e0, e1, e2⟩ := hag c
    obtain ⟨r0, ra⟩ := h c
    refine ⟨r0.trans ((val_main_v8_eq _ _ _).trans ?_), ra⟩
    rw [e0, e1, e2]

/-- The two call the same body. -/
theorem bodies : Cert.Kernel9.defs₀ (F := Bits) = Cert.Kernel9Ideal.defs₀ (F := Bits) := by
  unfold Cert.Kernel9.defs₀ Cert.Kernel9Ideal.defs₀
  refine congrArg Defs.onTc (funext fun l => funext fun a => ?_)
  match l, a with
  | ⟨0, _⟩, (t, s) => rfl

/-- The two programs' functions are the same. -/
theorem tables : Cert.Kernel9.defs (F := Bits) = Cert.Kernel9Ideal.defs (F := Bits) :=
  congrArg (fun D => Pipeline.defs (Cert.Kernel9Ideal.pcfgs (F := Bits)) D) bodies

/-- The kernel at machine numbers leaves its arguments as they were and every semaphore at zero. -/
theorem frame : Cert.quiescent_Kernel9 := fun m ρ _ => by
  have h := Cert.Kernel9Ideal.Gen.frame (F := Bits) m ρ
  rw [← tables] at h
  exact h

end Cert.Up.P9

end
-- ==== Proof.lean ====
module

public import proofs.«01_k».proof.Defs
public import proofs.«01_k».proof.Proof.Body
public import proofs.«01_k».proof.Proof.Out
public import proofs.«01_k».proof.Proof.Fine
public import proofs.«01_k».proof.Proof.FfnFin
public import proofs.«01_k».proof.Proof.FfnSame
public import proofs.«01_k».proof.Proof.Gen.Kernel2
public import proofs.«01_k».proof.Proof.DownFin
public import proofs.«01_k».proof.Proof.DownSame
public import proofs.«01_k».proof.Proof.Gen.Kernel3
public import proofs.«01_k».proof.Proof.Up4
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import proofs.«01_k».proof.Proof.Up5
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.Up6
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.Up7
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.Up8
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import proofs.«01_k».proof.Proof.Up9
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import Idealize.ShloMosaic.Adequacy
public import Idealize.ShloMosaic.Init

@[expose] public section

noncomputable section

namespace Cert.Proof

open Idealize.ShloMosaic Idealize.SL.Sem

/-- The kernel at machine numbers leaves its arguments as they were and every semaphore at zero. -/
theorem frame_kernel : Cert.quiescent_Kernel := fun m ρ _ => Cert.Kernel.Body.frame m ρ

/-- The idealized kernel's run, its results forgotten. -/
theorem frame_ideal : Cert.quiescent_KernelIdeal := fun m ρ _ =>
  (θ_run (Cert.KernelIdeal.defs (F := Ideal)) _ _).mono (fun _ h => ⟨fun c => (h.1 c).2, h.2⟩) (Cert.KernelIdeal.Run.run_vals m ρ)

/-- The same under the precondition. -/
theorem frame_ideal_pre : Cert.quiescent_KernelIdeal_pre_all_finite := fun m ρ _ => frame_ideal m ρ trivial

/-- The reference leaves its arguments as they were and every semaphore at zero. -/
theorem frame_ref : Cert.quiescent_ReferenceIdeal := fun m ρ _ => Cert.Fine.ref_frame m ρ

/-- The same under the precondition. -/
theorem frame_ref_pre : Cert.quiescent_ReferenceIdeal_pre_all_finite := fun m ρ _ => Cert.Fine.ref_frame m ρ

/-- The mask's constant stands for minus infinity. -/
theorem mask : Cert.preserves_Kernel_KernelIdeal :=
  IdealRules.named_const.statement Cert.KernelIdeal.κ "mask" .f32 0xF149F2CA#32 ⊥ rfl

/-- The second kernel has no rule applied: its idealized form's run, at machine numbers, is its own. -/
theorem frame_kernel2 : Cert.quiescent_Kernel2 := Cert.Ffn.Same.frame

/-- The second kernel over the extended reals leaves its arguments as they were and every semaphore at zero. -/
theorem frame_ideal2 : Cert.quiescent_Kernel2Ideal := fun m ρ _ => Cert.Kernel2Ideal.Gen.frame (F := Ideal) m ρ

/-- The same under the precondition. -/
theorem frame_ideal2_pre : Cert.quiescent_Kernel2Ideal_pre_all_finite2 := fun m ρ _ => frame_ideal2 m ρ trivial

/-- The second reference's frame under the precondition. -/
theorem frame_ref2_pre : Cert.quiescent_Reference2Ideal_pre_all_finite2 := fun m ρ _ => Cert.Ffn.Fin.ref_frame m ρ trivial

/-- The second kernel's idealized form replaces nothing. -/
theorem same : Cert.preserves_Kernel2_Kernel2Ideal := trivial

/-- The third kernel at machine numbers: its idealized form's run is its own. -/
theorem frame_kernel3 : Cert.quiescent_Kernel3 := Cert.Down.Same.frame

/-- The third kernel over the extended reals leaves its arguments as they were and every semaphore at zero. -/
theorem frame_ideal3 : Cert.quiescent_Kernel3Ideal := fun m ρ _ => Cert.Kernel3Ideal.Gen.frame (F := Ideal) m ρ

/-- The same under the precondition. -/
theorem frame_ideal3_pre : Cert.quiescent_Kernel3Ideal_pre_all_finite3 := fun m ρ _ => frame_ideal3 m ρ trivial

/-- The third reference's frame under the precondition. -/
theorem frame_ref3_pre : Cert.quiescent_Reference3Ideal_pre_all_finite3 := fun m ρ _ => Cert.Down.Fin.ref_frame m ρ trivial

/-- The third kernel's idealized form replaces nothing. -/
theorem same3 : Cert.preserves_Kernel3_Kernel3Ideal := trivial

/-- The fourth kernel over the extended reals leaves its arguments as they were and every semaphore at zero. -/
theorem frame_ideal4 : Cert.quiescent_Kernel4Ideal := fun m ρ _ => Cert.Kernel4Ideal.Gen.frame (F := Ideal) m ρ

/-- The fourth kernel's idealized form replaces nothing. -/
theorem same4 : Cert.preserves_Kernel4_Kernel4Ideal := trivial

/-- The fifth kernel over the extended reals leaves its arguments as they were and every semaphore at zero. -/
theorem frame_ideal5 : Cert.quiescent_Kernel5Ideal := fun m ρ _ => Cert.Kernel5Ideal.Gen.frame (F := Ideal) m ρ

/-- The fifth kernel's idealized form replaces nothing. -/
theorem same5 : Cert.preserves_Kernel5_Kernel5Ideal := trivial

/-- The sixth kernel over the extended reals leaves its arguments as they were and every semaphore at zero. -/
theorem frame_ideal6 : Cert.quiescent_Kernel6Ideal := fun m ρ _ => Cert.Kernel6Ideal.Gen.frame (F := Ideal) m ρ

/-- The sixth kernel's idealized form replaces nothing. -/
theorem same6 : Cert.preserves_Kernel6_Kernel6Ideal := trivial

/-- The seventh kernel over the extended reals leaves its arguments as they were and every semaphore at zero. -/
theorem frame_ideal7 : Cert.quiescent_Kernel7Ideal := fun m ρ _ => Cert.Kernel7Ideal.Gen.frame (F := Ideal) m ρ

/-- The seventh kernel's idealized form replaces nothing. -/
theorem same7 : Cert.preserves_Kernel7_Kernel7Ideal := trivial

/-- The eighth kernel over the extended reals leaves its arguments as they were and every semaphore at zero. -/
theorem frame_ideal8 : Cert.quiescent_Kernel8Ideal := fun m ρ _ => Cert.Kernel8Ideal.Gen.frame (F := Ideal) m ρ

/-- The eighth kernel's idealized form replaces nothing. -/
theorem same8 : Cert.preserves_Kernel8_Kernel8Ideal := trivial

/-- The ninth kernel over the extended reals leaves its arguments as they were and every semaphore at zero. -/
theorem frame_ideal9 : Cert.quiescent_Kernel9Ideal := fun m ρ _ => Cert.Kernel9Ideal.Gen.frame (F := Ideal) m ρ

/-- The ninth kernel's idealized form replaces nothing. -/
theorem same9 : Cert.preserves_Kernel9_Kernel9Ideal := trivial

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Fine.pre_facts, Cert.Ffn.Fin.pre_facts, Cert.Down.Fin.pre_facts,
    frame_kernel, frame_ideal, frame_ideal_pre, frame_ref, frame_ref_pre, frame_kernel2, frame_ideal2, frame_ideal2_pre,
    Cert.Ffn.Fin.ref_frame, frame_ref2_pre, frame_kernel3, frame_ideal3, frame_ideal3_pre, Cert.Down.Fin.ref_frame, frame_ref3_pre,
    Cert.Up.P4.frame, frame_ideal4, Cert.Up.P4.ref_frame,
    Cert.Up.P5.frame, frame_ideal5, Cert.Up.P5.ref_frame,
    Cert.Up.P6.frame, frame_ideal6, Cert.Up.P6.ref_frame,
    Cert.Up.P7.frame, frame_ideal7, Cert.Up.P7.ref_frame,
    Cert.Up.P8.frame, frame_ideal8, Cert.Up.P8.ref_frame,
    Cert.Up.P9.frame, frame_ideal9, Cert.Up.P9.ref_frame,
    mask, Cert.Fine.value, same, Cert.Ffn.Fin.value, same3, Cert.Down.Fin.value,
    same4, Cert.Up.P4.value,
    same5, Cert.Up.P5.value,
    same6, Cert.Up.P6.value,
    same7, Cert.Up.P7.value,
    same8, Cert.Up.P8.value,
    same9, Cert.Up.P9.value⟩

end Cert.Proof

end
